-- ==== Defs.lean ====
def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_in_proj_finite [hPre_in_proj_finite : Cert.Pre_in_proj_finite.Facts] (m : (ℓ : Loc Cert.InProjIdeal.nD Cert.InProjIdeal.τ Cert.InProjIdeal.sig) → Buf (Elt Ideal) ℓ) : Prop :=
  ∀ c : Dev Cert.InProjIdeal.nD,
    (Cert.Pre_in_proj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).1 = (fun _ => 1#1)
    ∧ (Cert.Pre_in_proj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).2.1 = (fun _ => 1#1)
    ∧ (Cert.Pre_in_proj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).2.2.1 = (fun _ => 1#1)
    ∧ (Cert.Pre_in_proj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).2.2.2.1 = (fun _ => 1#1)
    ∧ (Cert.Pre_in_proj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).2.2.2.2.1 = (fun _ => 1#1)
    ∧ (Cert.Pre_in_proj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).2.2.2.2.2.1 = (fun _ => 1#1)
    ∧ (Cert.Pre_in_proj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).2.2.2.2.2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_in_proj_finite [hPre_in_proj_finite : Cert.Pre_in_proj_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.2.1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.2.2.1 = (fun _ => 1#1)
    ∧ (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.2.2.2 = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_mixer_finite [hPre_mixer_finite : Cert.Pre_mixer_finite.Facts] (m : (ℓ : Loc Cert.MixerIdeal.nD Cert.MixerIdeal.τ Cert.MixerIdeal.sig) → Buf (Elt Ideal) ℓ) : Prop :=
  ∀ c : Dev Cert.MixerIdeal.nD,
    (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).1 = (fun _ => 1#1)
    ∧ (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).2.1 = (fun _ => 1#1)
    ∧ (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).2.2.1 = (fun _ => 1#1)
    ∧ (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).2.2.2.1 = (fun _ => 1#1)
    ∧ (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).2.2.2.2.1 = (fun _ => 1#1)
    ∧ (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).2.2.2.2.2.1 = (fun _ => 1#1)
    ∧ (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).2.2.2.2.2.2.1 = (fun _ => 1#1)
    ∧ (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).2.2.2.2.2.2.2.1 = (fun _ => 1#1)
    ∧ (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).2.2.2.2.2.2.2.2.1 = (fun _ => 1#1)
    ∧ (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).2.2.2.2.2.2.2.2.2.1 = (fun _ => 1#1)
    ∧ (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10))).2.2.2.2.2.2.2.2.2.2 = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_mixer_finite [hPre_mixer_finite : Cert.Pre_mixer_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).1 = (fun _ => 1#1)
    ∧ (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).2.1 = (fun _ => 1#1)
    ∧ (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).2.2.1 = (fun _ => 1#1)
    ∧ (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).2.2.2.1 = (fun _ => 1#1)
    ∧ (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).2.2.2.2.1 = (fun _ => 1#1)
    ∧ (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).2.2.2.2.2.1 = (fun _ => 1#1)
    ∧ (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).2.2.2.2.2.2.1 = (fun _ => 1#1)
    ∧ (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).2.2.2.2.2.2.2.1 = (fun _ => 1#1)
    ∧ (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).2.2.2.2.2.2.2.2.1 = (fun _ => 1#1)
    ∧ (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).2.2.2.2.2.2.2.2.2.1 = (fun _ => 1#1)
    ∧ (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10))).2.2.2.2.2.2.2.2.2.2 = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_mix_fwd_finite [hPre_mix_fwd_finite : Cert.Pre_mix_fwd_finite.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_mix_fwd_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).1 = (fun _ => 1#1)
    ∧ (Cert.Pre_mix_fwd_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).2 = (fun _ => 1#1)

def Pre_MixFwdRefIdeal (m : (ℓ : Loc Cert.MixFwdRefIdeal.nD Cert.MixFwdRefIdeal.τ Cert.MixFwdRefIdeal.sig) → Buf (Elt Ideal) ℓ) : Prop :=
  True

def Pre_MixFwdRefIdeal_mix_fwd_finite [hPre_mix_fwd_finite : Cert.Pre_mix_fwd_finite.Facts] (m : (ℓ : Loc Cert.MixFwdRefIdeal.nD Cert.MixFwdRefIdeal.τ Cert.MixFwdRefIdeal.sig) → Buf (Elt Ideal) ℓ) : Prop :=
  ∀ c : Dev Cert.MixFwdRefIdeal.nD,
    (Cert.Pre_mix_fwd_finite.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10))).1 = (fun _ => 1#1)
    ∧ (Cert.Pre_mix_fwd_finite.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10))).2 = (fun _ => 1#1)

def Pre_MemKvFwd (m : (ℓ : Loc Cert.MemKvFwd.nD Cert.MemKvFwd.τ Cert.MemKvFwd.sig) → Buf (Elt Bits) ℓ) : Prop :=
  True

def Pre_MemKvFwdIdeal (m : (ℓ : Loc Cert.MemKvFwdIdeal.nD Cert.MemKvFwdIdeal.τ Cert.MemKvFwdIdeal.sig) → Buf (Elt Ideal) ℓ) : Prop :=
  True

def Pre_MemKvFwdRefIdeal (m : (ℓ : Loc Cert.MemKvFwdRefIdeal.nD Cert.MemKvFwdRefIdeal.τ Cert.MemKvFwdRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_InProjFwd (m : (ℓ : Loc Cert.InProjFwd.nD Cert.InProjFwd.τ Cert.InProjFwd.sig) → Buf (Elt Bits) ℓ) : Prop :=
  True

def Pre_InProjFwdIdeal (m : (ℓ : Loc Cert.InProjFwdIdeal.nD Cert.InProjFwdIdeal.τ Cert.InProjFwdIdeal.sig) → Buf (Elt Ideal) ℓ) : Prop :=
  True

def Pre_InProjFwdRefIdeal (m : (ℓ : Loc Cert.InProjFwdRefIdeal.nD Cert.InProjFwdRefIdeal.τ Cert.InProjFwdRefIdeal.sig) → Buf (Elt Ideal) ℓ) : Prop :=
  True

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradRefIdeal (m : (ℓ : Loc Cert.WeightGradRefIdeal.nD Cert.WeightGradRefIdeal.τ Cert.WeightGradRefIdeal.sig) → Buf (Elt Ideal) ℓ) : Prop :=
  True

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjIdeal_pre_in_proj_finite [hInProjIdeal : Cert.InProjIdeal.Facts] [hPre_in_proj_finite : Cert.Pre_in_proj_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_in_proj_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_InProjRefIdeal_pre_in_proj_finite [hInProjRefIdeal : Cert.InProjRefIdeal.Facts] [hPre_in_proj_finite : Cert.Pre_in_proj_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_in_proj_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ r.2.sem = fun _ => 0)

def quiescent_MixerIdeal_pre_mixer_finite [hMixerIdeal : Cert.MixerIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_mixer_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10))
      ∧ r.2.sem = fun _ => 0)

def quiescent_MixerRefIdeal_pre_mixer_finite [hMixerRefIdeal : Cert.MixerRefIdeal.Facts] [hPre_mixer_finite : Cert.Pre_mixer_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_mixer_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ r.2.sem = fun _ => 0)

def quiescent_MixFwdIdeal_pre_mix_fwd_finite [hMixFwdIdeal : Cert.MixFwdIdeal.Facts] [hPre_mix_fwd_finite : Cert.Pre_mix_fwd_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_mix_fwd_finite m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10))
      ∧ r.2.sem = fun _ => 0)

def quiescent_MixFwdRefIdeal_pre_mix_fwd_finite [hMixFwdRefIdeal : Cert.MixFwdRefIdeal.Facts] [hPre_mix_fwd_finite : Cert.Pre_mix_fwd_finite.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal_mix_fwd_finite m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10))
      ∧ r.2.sem = fun _ => 0)

def quiescent_MemKvFwd [hMemKvFwd : Cert.MemKvFwd.Facts] : Prop :=
  ∀ (m : (ℓ : Loc Cert.MemKvFwd.nD Cert.MemKvFwd.τ Cert.MemKvFwd.sig) → Buf (Elt Bits) ℓ) (g : Dev Cert.MemKvFwd.nD → PrngReg), Pre_MemKvFwd m →
    θ_run (Cert.MemKvFwd.defs (F := Bits)) (onTc (τ := Cert.MemKvFwd.τ) (Cert.MemKvFwd.main (F := Bits))) ⟨m, fun _ => 0, g⟩ (fun r => (∀ c : Dev Cert.MemKvFwd.nD,
      r.2.mem ((c.tc : Thread Cert.MemKvFwd.nD Cert.MemKvFwd.τ).loc Cert.MemKvFwd.main_arg0) = m ((c.tc : Thread Cert.MemKvFwd.nD Cert.MemKvFwd.τ).loc Cert.MemKvFwd.main_arg0)
      ∧ r.2.mem ((c.tc : Thread Cert.MemKvFwd.nD Cert.MemKvFwd.τ).loc Cert.MemKvFwd.main_arg1) = m ((c.tc : Thread Cert.MemKvFwd.nD Cert.MemKvFwd.τ).loc Cert.MemKvFwd.main_arg1)
      ∧ r.2.mem ((c.tc : Thread Cert.MemKvFwd.nD Cert.MemKvFwd.τ).loc Cert.MemKvFwd.main_arg2) = m ((c.tc : Thread Cert.MemKvFwd.nD Cert.MemKvFwd.τ).loc Cert.MemKvFwd.main_arg2))
      ∧ r.2.sem = fun _ => 0)

def quiescent_MemKvFwdIdeal [hMemKvFwdIdeal : Cert.MemKvFwdIdeal.Facts] : Prop :=
  ∀ (m : (ℓ : Loc Cert.MemKvFwdIdeal.nD Cert.MemKvFwdIdeal.τ Cert.MemKvFwdIdeal.sig) → Buf (Elt Ideal) ℓ) (g : Dev Cert.MemKvFwdIdeal.nD → PrngReg), Pre_MemKvFwdIdeal m →
    θ_run (Cert.MemKvFwdIdeal.defs (F := Ideal)) (onTc (τ := Cert.MemKvFwdIdeal.τ) (Cert.MemKvFwdIdeal.main (F := Ideal))) ⟨m, fun _ => 0, g⟩ (fun r => (∀ c : Dev Cert.MemKvFwdIdeal.nD,
      r.2.mem ((c.tc : Thread Cert.MemKvFwdIdeal.nD Cert.MemKvFwdIdeal.τ).loc Cert.MemKvFwdIdeal.main_arg0) = m ((c.tc : Thread Cert.MemKvFwdIdeal.nD Cert.MemKvFwdIdeal.τ).loc Cert.MemKvFwdIdeal.main_arg0)
      ∧ r.2.mem ((c.tc : Thread Cert.MemKvFwdIdeal.nD Cert.MemKvFwdIdeal.τ).loc Cert.MemKvFwdIdeal.main_arg1) = m ((c.tc : Thread Cert.MemKvFwdIdeal.nD Cert.MemKvFwdIdeal.τ).loc Cert.MemKvFwdIdeal.main_arg1)
      ∧ r.2.mem ((c.tc : Thread Cert.MemKvFwdIdeal.nD Cert.MemKvFwdIdeal.τ).loc Cert.MemKvFwdIdeal.main_arg2) = m ((c.tc : Thread Cert.MemKvFwdIdeal.nD Cert.MemKvFwdIdeal.τ).loc Cert.MemKvFwdIdeal.main_arg2))
      ∧ r.2.sem = fun _ => 0)

def quiescent_MemKvFwdRefIdeal [hMemKvFwdRefIdeal : Cert.MemKvFwdRefIdeal.Facts] : Prop :=
  ∀ (m : (ℓ : Loc Cert.MemKvFwdRefIdeal.nD Cert.MemKvFwdRefIdeal.τ Cert.MemKvFwdRefIdeal.sig) → Buf (Elt Ideal) ℓ) (g : Dev Cert.MemKvFwdRefIdeal.nD → PrngReg), Pre_MemKvFwdRefIdeal m →
    θ_run (Cert.MemKvFwdRefIdeal.defs (F := Ideal)) (onTc (τ := Cert.MemKvFwdRefIdeal.τ) (Cert.MemKvFwdRefIdeal.main (F := Ideal))) ⟨m, fun _ => 0, g⟩ (fun r => (∀ c : Dev Cert.MemKvFwdRefIdeal.nD,
      r.2.mem ((c.tc : Thread Cert.MemKvFwdRefIdeal.nD Cert.MemKvFwdRefIdeal.τ).loc Cert.MemKvFwdRefIdeal.main_arg0) = m ((c.tc : Thread Cert.MemKvFwdRefIdeal.nD Cert.MemKvFwdRefIdeal.τ).loc Cert.MemKvFwdRefIdeal.main_arg0)
      ∧ r.2.mem ((c.tc : Thread Cert.MemKvFwdRefIdeal.nD Cert.MemKvFwdRefIdeal.τ).loc Cert.MemKvFwdRefIdeal.main_arg1) = m ((c.tc : Thread Cert.MemKvFwdRefIdeal.nD Cert.MemKvFwdRefIdeal.τ).loc Cert.MemKvFwdRefIdeal.main_arg1)
      ∧ r.2.mem ((c.tc : Thread Cert.MemKvFwdRefIdeal.nD Cert.MemKvFwdRefIdeal.τ).loc Cert.MemKvFwdRefIdeal.main_arg2) = m ((c.tc : Thread Cert.MemKvFwdRefIdeal.nD Cert.MemKvFwdRefIdeal.τ).loc Cert.MemKvFwdRefIdeal.main_arg2))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1))
      ∧ r.2.sem = fun _ => 0)

def quiescent_InProjFwd [hInProjFwd : Cert.InProjFwd.Facts] : Prop :=
  ∀ (m : (ℓ : Loc Cert.InProjFwd.nD Cert.InProjFwd.τ Cert.InProjFwd.sig) → Buf (Elt Bits) ℓ) (g : Dev Cert.InProjFwd.nD → PrngReg), Pre_InProjFwd m →
    θ_run (Cert.InProjFwd.defs (F := Bits)) (onTc (τ := Cert.InProjFwd.τ) (Cert.InProjFwd.main (F := Bits))) ⟨m, fun _ => 0, g⟩ (fun r => (∀ c : Dev Cert.InProjFwd.nD,
      r.2.mem ((c.tc : Thread Cert.InProjFwd.nD Cert.InProjFwd.τ).loc Cert.InProjFwd.main_arg0) = m ((c.tc : Thread Cert.InProjFwd.nD Cert.InProjFwd.τ).loc Cert.InProjFwd.main_arg0)
      ∧ r.2.mem ((c.tc : Thread Cert.InProjFwd.nD Cert.InProjFwd.τ).loc Cert.InProjFwd.main_arg1) = m ((c.tc : Thread Cert.InProjFwd.nD Cert.InProjFwd.τ).loc Cert.InProjFwd.main_arg1)
      ∧ r.2.mem ((c.tc : Thread Cert.InProjFwd.nD Cert.InProjFwd.τ).loc Cert.InProjFwd.main_arg2) = m ((c.tc : Thread Cert.InProjFwd.nD Cert.InProjFwd.τ).loc Cert.InProjFwd.main_arg2)
      ∧ r.2.mem ((c.tc : Thread Cert.InProjFwd.nD Cert.InProjFwd.τ).loc Cert.InProjFwd.main_arg3) = m ((c.tc : Thread Cert.InProjFwd.nD Cert.InProjFwd.τ).loc Cert.InProjFwd.main_arg3))
      ∧ r.2.sem = fun _ => 0)

def quiescent_InProjFwdIdeal [hInProjFwdIdeal : Cert.InProjFwdIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg), Pre_InProjFwdIdeal m →
    θ_run (Cert.InProjFwdIdeal.defs (F := Ideal)) (onTc (τ := Cert.InProjFwdIdeal.τ) (Cert.InProjFwdIdeal.main (F := Ideal))) ⟨m, fun _ => 0, g⟩ (fun r => (∀ c : Dev Cert.InProjFwdIdeal.nD,
      r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
      ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
      ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2)
      ∧ r.2.mem ((c.tc : Thread Cert.InProjFwdIdeal.nD Cert.InProjFwdIdeal.τ).loc Cert.InProjFwdIdeal.main_arg3) = m ((c.tc : Thread Cert.InProjFwdIdeal.nD Cert.InProjFwdIdeal.τ).loc Cert.InProjFwdIdeal.main_arg3))
      ∧ r.2.sem = fun _ => 0)

def quiescent_InProjFwdRefIdeal [hInProjFwdRefIdeal : Cert.InProjFwdRefIdeal.Facts] : Prop :=
  ∀ (m : (ℓ : Loc Cert.InProjFwdRefIdeal.nD Cert.InProjFwdRefIdeal.τ Cert.InProjFwdRefIdeal.sig) → Buf (Elt Ideal) ℓ) (g : Dev Cert.InProjFwdRefIdeal.nD → PrngReg), Pre_InProjFwdRefIdeal m →
    θ_run (Cert.InProjFwdRefIdeal.defs (F := Ideal)) (onTc (τ := Cert.InProjFwdRefIdeal.τ) (Cert.InProjFwdRefIdeal.main (F := Ideal))) ⟨m, fun _ => 0, g⟩ (fun r => (∀ c : Dev Cert.InProjFwdRefIdeal.nD,
      r.2.mem ((c.tc : Thread Cert.InProjFwdRefIdeal.nD Cert.InProjFwdRefIdeal.τ).loc Cert.InProjFwdRefIdeal.main_arg0) = m ((c.tc : Thread Cert.InProjFwdRefIdeal.nD Cert.InProjFwdRefIdeal.τ).loc Cert.InProjFwdRefIdeal.main_arg0)
      ∧ r.2.mem ((c.tc : Thread Cert.InProjFwdRefIdeal.nD Cert.InProjFwdRefIdeal.τ).loc Cert.InProjFwdRefIdeal.main_arg1) = m ((c.tc : Thread Cert.InProjFwdRefIdeal.nD Cert.InProjFwdRefIdeal.τ).loc Cert.InProjFwdRefIdeal.main_arg1)
      ∧ r.2.mem ((c.tc : Thread Cert.InProjFwdRefIdeal.nD Cert.InProjFwdRefIdeal.τ).loc Cert.InProjFwdRefIdeal.main_arg2) = m ((c.tc : Thread Cert.InProjFwdRefIdeal.nD Cert.InProjFwdRefIdeal.τ).loc Cert.InProjFwdRefIdeal.main_arg2)
      ∧ r.2.mem ((c.tc : Thread Cert.InProjFwdRefIdeal.nD Cert.InProjFwdRefIdeal.τ).loc Cert.InProjFwdRefIdeal.main_arg3) = m ((c.tc : Thread Cert.InProjFwdRefIdeal.nD Cert.InProjFwdRefIdeal.τ).loc Cert.InProjFwdRefIdeal.main_arg3))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1)
      ∧ r.2.mem ((c.tc : Thread Cert.WeightGrad.nD Cert.WeightGrad.τ).loc Cert.WeightGrad.main_arg2) = m ((c.tc : Thread Cert.WeightGrad.nD Cert.WeightGrad.τ).loc Cert.WeightGrad.main_arg2))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1)
      ∧ r.2.mem ((c.tc : Thread Cert.WeightGradIdeal.nD Cert.WeightGradIdeal.τ).loc Cert.WeightGradIdeal.main_arg2) = m ((c.tc : Thread Cert.WeightGradIdeal.nD Cert.WeightGradIdeal.τ).loc Cert.WeightGradIdeal.main_arg2))
      ∧ r.2.sem = fun _ => 0)

def quiescent_WeightGradRefIdeal [hWeightGradRefIdeal : Cert.WeightGradRefIdeal.Facts] : Prop :=
  ∀ (m : (ℓ : Loc Cert.WeightGradRefIdeal.nD Cert.WeightGradRefIdeal.τ Cert.WeightGradRefIdeal.sig) → Buf (Elt Ideal) ℓ) (g : Dev Cert.WeightGradRefIdeal.nD → PrngReg), Pre_WeightGradRefIdeal m →
    θ_run (Cert.WeightGradRefIdeal.defs (F := Ideal)) (onTc (τ := Cert.WeightGradRefIdeal.τ) (Cert.WeightGradRefIdeal.main (F := Ideal))) ⟨m, fun _ => 0, g⟩ (fun r => (∀ c : Dev Cert.WeightGradRefIdeal.nD,
      r.2.mem ((c.tc : Thread Cert.WeightGradRefIdeal.nD Cert.WeightGradRefIdeal.τ).loc Cert.WeightGradRefIdeal.main_arg0) = m ((c.tc : Thread Cert.WeightGradRefIdeal.nD Cert.WeightGradRefIdeal.τ).loc Cert.WeightGradRefIdeal.main_arg0)
      ∧ r.2.mem ((c.tc : Thread Cert.WeightGradRefIdeal.nD Cert.WeightGradRefIdeal.τ).loc Cert.WeightGradRefIdeal.main_arg1) = m ((c.tc : Thread Cert.WeightGradRefIdeal.nD Cert.WeightGradRefIdeal.τ).loc Cert.WeightGradRefIdeal.main_arg1)
      ∧ r.2.mem ((c.tc : Thread Cert.WeightGradRefIdeal.nD Cert.WeightGradRefIdeal.τ).loc Cert.WeightGradRefIdeal.main_arg2) = m ((c.tc : Thread Cert.WeightGradRefIdeal.nD Cert.WeightGradRefIdeal.τ).loc Cert.WeightGradRefIdeal.main_arg2))
      ∧ r.2.sem = fun _ => 0)

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v1_0)) (v1 : (c : Dev Cert.MemKvIdeal.nD) → Buf (Elt Ideal) ((c.tc : Thread Cert.MemKvIdeal.nD Cert.MemKvIdeal.τ).loc Cert.MemKvIdeal.main_v1_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1_0) = v0 c
          ∧ r.2.mem ((c.tc : Thread Cert.MemKvIdeal.nD Cert.MemKvIdeal.τ).loc Cert.MemKvIdeal.main_v1_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v20) = v0 c
          ∧ r.2.mem ((c.tc : Thread Cert.MemKvRefIdeal.nD Cert.MemKvRefIdeal.τ).loc Cert.MemKvRefIdeal.main_v18) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Mlp_MlpIdeal : Prop :=
  True

def algebraic_MlpIdeal_MlpRefIdeal_pre_mlp_finite [hMlpIdeal : Cert.MlpIdeal.Facts] [hMlpRefIdeal : Cert.MlpRefIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v4_0)) (v1 : (c : Dev Cert.MlpIdeal.nD) → Buf (Elt Ideal) ((c.tc : Thread Cert.MlpIdeal.nD Cert.MlpIdeal.τ).loc Cert.MlpIdeal.main_v4_1)) (v2 : (c : Dev Cert.MlpIdeal.nD) → Buf (Elt Ideal) ((c.tc : Thread Cert.MlpIdeal.nD Cert.MlpIdeal.τ).loc Cert.MlpIdeal.main_v4_2)) (v3 : (c : Dev Cert.MlpIdeal.nD) → Buf (Elt Ideal) ((c.tc : Thread Cert.MlpIdeal.nD Cert.MlpIdeal.τ).loc Cert.MlpIdeal.main_v4_3)) (v4 : (c : Dev Cert.MlpIdeal.nD) → Buf (Elt Ideal) ((c.tc : Thread Cert.MlpIdeal.nD Cert.MlpIdeal.τ).loc Cert.MlpIdeal.main_v4_4)) (v5 : (c : Dev Cert.MlpIdeal.nD) → Buf (Elt Ideal) ((c.tc : Thread Cert.MlpIdeal.nD Cert.MlpIdeal.τ).loc Cert.MlpIdeal.main_v4_5)) (v6 : (c : Dev Cert.MlpIdeal.nD) → Buf (Elt Ideal) ((c.tc : Thread Cert.MlpIdeal.nD Cert.MlpIdeal.τ).loc Cert.MlpIdeal.main_v4_6)) (v7 : (c : Dev Cert.MlpIdeal.nD) → Buf (Elt Ideal) ((c.tc : Thread Cert.MlpIdeal.nD Cert.MlpIdeal.τ).loc Cert.MlpIdeal.main_v4_7)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4_0) = v0 c
          ∧ r.2.mem ((c.tc : Thread Cert.MlpIdeal.nD Cert.MlpIdeal.τ).loc Cert.MlpIdeal.main_v4_1) = v1 c
          ∧ r.2.mem ((c.tc : Thread Cert.MlpIdeal.nD Cert.MlpIdeal.τ).loc Cert.MlpIdeal.main_v4_2) = v2 c
          ∧ r.2.mem ((c.tc : Thread Cert.MlpIdeal.nD Cert.MlpIdeal.τ).loc Cert.MlpIdeal.main_v4_3) = v3 c
          ∧ r.2.mem ((c.tc : Thread Cert.MlpIdeal.nD Cert.MlpIdeal.τ).loc Cert.MlpIdeal.main_v4_4) = v4 c
          ∧ r.2.mem ((c.tc : Thread Cert.MlpIdeal.nD Cert.MlpIdeal.τ).loc Cert.MlpIdeal.main_v4_5) = v5 c
          ∧ r.2.mem ((c.tc : Thread Cert.MlpIdeal.nD Cert.MlpIdeal.τ).loc Cert.MlpIdeal.main_v4_6) = v6 c
          ∧ r.2.mem ((c.tc : Thread Cert.MlpIdeal.nD Cert.MlpIdeal.τ).loc Cert.MlpIdeal.main_v4_7) = v7 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v103) = v0 c
          ∧ r.2.mem ((c.tc : Thread Cert.MlpRefIdeal.nD Cert.MlpRefIdeal.τ).loc Cert.MlpRefIdeal.main_v104) = v1 c
          ∧ r.2.mem ((c.tc : Thread Cert.MlpRefIdeal.nD Cert.MlpRefIdeal.τ).loc Cert.MlpRefIdeal.main_v105) = v2 c
          ∧ r.2.mem ((c.tc : Thread Cert.MlpRefIdeal.nD Cert.MlpRefIdeal.τ).loc Cert.MlpRefIdeal.main_v106) = v3 c
          ∧ r.2.mem ((c.tc : Thread Cert.MlpRefIdeal.nD Cert.MlpRefIdeal.τ).loc Cert.MlpRefIdeal.main_v102) = v4 c
          ∧ r.2.mem ((c.tc : Thread Cert.MlpRefIdeal.nD Cert.MlpRefIdeal.τ).loc Cert.MlpRefIdeal.main_v85) = v5 c
          ∧ r.2.mem ((c.tc : Thread Cert.MlpRefIdeal.nD Cert.MlpRefIdeal.τ).loc Cert.MlpRefIdeal.main_v61) = v6 c
          ∧ r.2.mem ((c.tc : Thread Cert.MlpRefIdeal.nD Cert.MlpRefIdeal.τ).loc Cert.MlpRefIdeal.main_v107) = v7 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_InProj_InProjIdeal : Prop :=
  True

def algebraic_InProjIdeal_InProjRefIdeal_pre_in_proj_finite [hInProjIdeal : Cert.InProjIdeal.Facts] [hInProjRefIdeal : Cert.InProjRefIdeal.Facts] [hPre_in_proj_finite : Cert.Pre_in_proj_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_in_proj_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v42_0)) (v1 : (c : Dev Cert.InProjIdeal.nD) → Buf (Elt Ideal) ((c.tc : Thread Cert.InProjIdeal.nD Cert.InProjIdeal.τ).loc Cert.InProjIdeal.main_v42_1)) (v2 : (c : Dev Cert.InProjIdeal.nD) → Buf (Elt Ideal) ((c.tc : Thread Cert.InProjIdeal.nD Cert.InProjIdeal.τ).loc Cert.InProjIdeal.main_v42_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v42_0) = v0 c
          ∧ r.2.mem ((c.tc : Thread Cert.InProjIdeal.nD Cert.InProjIdeal.τ).loc Cert.InProjIdeal.main_v42_1) = v1 c
          ∧ r.2.mem ((c.tc : Thread Cert.InProjIdeal.nD Cert.InProjIdeal.τ).loc Cert.InProjIdeal.main_v42_3) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v155) = v0 c
          ∧ r.2.mem ((c.tc : Thread Cert.InProjRefIdeal.nD Cert.InProjRefIdeal.τ).loc Cert.InProjRefIdeal.main_v157) = v1 c
          ∧ r.2.mem ((c.tc : Thread Cert.InProjRefIdeal.nD Cert.InProjRefIdeal.τ).loc Cert.InProjRefIdeal.main_v158) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8))

def preserves_Mixer_MixerIdeal : Prop :=
  True

def algebraic_MixerIdeal_MixerRefIdeal_pre_mixer_finite [hMixerIdeal : Cert.MixerIdeal.Facts] [hMixerRefIdeal : Cert.MixerRefIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_mixer_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)) →
    ∃ (v0 : (c : Dev Cert.MixerIdeal.nD) → Buf (Elt Ideal) ((c.tc : Thread Cert.MixerIdeal.nD Cert.MixerIdeal.τ).loc Cert.MixerIdeal.main_v140_0)) (v1 : (c : Dev Cert.MixerIdeal.nD) → Buf (Elt Ideal) ((c.tc : Thread Cert.MixerIdeal.nD Cert.MixerIdeal.τ).loc Cert.MixerIdeal.main_v140_1)) (v2 : (c : Dev Cert.MixerIdeal.nD) → Buf (Elt Ideal) ((c.tc : Thread Cert.MixerIdeal.nD Cert.MixerIdeal.τ).loc Cert.MixerIdeal.main_v140_2)) (v3 : (c : Dev Cert.MixerIdeal.nD) → Buf (Elt Ideal) ((c.tc : Thread Cert.MixerIdeal.nD Cert.MixerIdeal.τ).loc Cert.MixerIdeal.main_v140_3)) (v4 : (c : Dev Cert.MixerIdeal.nD) → Buf (Elt Ideal) ((c.tc : Thread Cert.MixerIdeal.nD Cert.MixerIdeal.τ).loc Cert.MixerIdeal.main_v140_4)) (v5 : (c : Dev Cert.MixerIdeal.nD) → Buf (Elt Ideal) ((c.tc : Thread Cert.MixerIdeal.nD Cert.MixerIdeal.τ).loc Cert.MixerIdeal.main_v140_5)) (v6 : (c : Dev Cert.MixerIdeal.nD) → Buf (Elt Ideal) ((c.tc : Thread Cert.MixerIdeal.nD Cert.MixerIdeal.τ).loc Cert.MixerIdeal.main_v140_6)) (v7 : (c : Dev Cert.MixerIdeal.nD) → Buf (Elt Ideal) ((c.tc : Thread Cert.MixerIdeal.nD Cert.MixerIdeal.τ).loc Cert.MixerIdeal.main_v140_7)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v140_0) = v0 c
          ∧ r.2.mem ((c.tc : Thread Cert.MixerIdeal.nD Cert.MixerIdeal.τ).loc Cert.MixerIdeal.main_v140_1) = v1 c
          ∧ r.2.mem ((c.tc : Thread Cert.MixerIdeal.nD Cert.MixerIdeal.τ).loc Cert.MixerIdeal.main_v140_2) = v2 c
          ∧ r.2.mem ((c.tc : Thread Cert.MixerIdeal.nD Cert.MixerIdeal.τ).loc Cert.MixerIdeal.main_v140_3) = v3 c
          ∧ r.2.mem ((c.tc : Thread Cert.MixerIdeal.nD Cert.MixerIdeal.τ).loc Cert.MixerIdeal.main_v140_4) = v4 c
          ∧ r.2.mem ((c.tc : Thread Cert.MixerIdeal.nD Cert.MixerIdeal.τ).loc Cert.MixerIdeal.main_v140_5) = v5 c
          ∧ r.2.mem ((c.tc : Thread Cert.MixerIdeal.nD Cert.MixerIdeal.τ).loc Cert.MixerIdeal.main_v140_6) = v6 c
          ∧ r.2.mem ((c.tc : Thread Cert.MixerIdeal.nD Cert.MixerIdeal.τ).loc Cert.MixerIdeal.main_v140_7) = v7 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v285) = v0 c
          ∧ r.2.mem ((c.tc : Thread Cert.MixerRefIdeal.nD Cert.MixerRefIdeal.τ).loc Cert.MixerRefIdeal.main_v210) = v1 c
          ∧ r.2.mem ((c.tc : Thread Cert.MixerRefIdeal.nD Cert.MixerRefIdeal.τ).loc Cert.MixerRefIdeal.main_v287) = v2 c
          ∧ r.2.mem ((c.tc : Thread Cert.MixerRefIdeal.nD Cert.MixerRefIdeal.τ).loc Cert.MixerRefIdeal.main_v289) = v3 c
          ∧ r.2.mem ((c.tc : Thread Cert.MixerRefIdeal.nD Cert.MixerRefIdeal.τ).loc Cert.MixerRefIdeal.main_v236) = v4 c
          ∧ r.2.mem ((c.tc : Thread Cert.MixerRefIdeal.nD Cert.MixerRefIdeal.τ).loc Cert.MixerRefIdeal.main_v268) = v5 c
          ∧ r.2.mem ((c.tc : Thread Cert.MixerRefIdeal.nD Cert.MixerRefIdeal.τ).loc Cert.MixerRefIdeal.main_v131) = v6 c
          ∧ r.2.mem ((c.tc : Thread Cert.MixerRefIdeal.nD Cert.MixerRefIdeal.τ).loc Cert.MixerRefIdeal.main_v290) = v7 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10))

def preserves_MixFwd_MixFwdIdeal : Prop :=
  True

def algebraic_MixFwdIdeal_MixFwdRefIdeal_pre_mix_fwd_finite [hMixFwdIdeal : Cert.MixFwdIdeal.Facts] [hMixFwdRefIdeal : Cert.MixFwdRefIdeal.Facts] [hPre_mix_fwd_finite : Cert.Pre_mix_fwd_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal_mix_fwd_finite m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)) →
    ∃ (v0 : (c : Dev Cert.MixFwdIdeal.nD) → Buf (Elt Ideal) ((c.tc : Thread Cert.MixFwdIdeal.nD Cert.MixFwdIdeal.τ).loc Cert.MixFwdIdeal.main_v3_0)) (v1 : (c : Dev Cert.MixFwdIdeal.nD) → Buf (Elt Ideal) ((c.tc : Thread Cert.MixFwdIdeal.nD Cert.MixFwdIdeal.τ).loc Cert.MixFwdIdeal.main_v3_1)) (v2 : (c : Dev Cert.MixFwdIdeal.nD) → Buf (Elt Ideal) ((c.tc : Thread Cert.MixFwdIdeal.nD Cert.MixFwdIdeal.τ).loc Cert.MixFwdIdeal.main_v3_2)) (v3 : (c : Dev Cert.MixFwdIdeal.nD) → Buf (Elt Ideal) ((c.tc : Thread Cert.MixFwdIdeal.nD Cert.MixFwdIdeal.τ).loc Cert.MixFwdIdeal.main_v3_3)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v3_0) = v0 c
          ∧ r.2.mem ((c.tc : Thread Cert.MixFwdIdeal.nD Cert.MixFwdIdeal.τ).loc Cert.MixFwdIdeal.main_v3_1) = v1 c
          ∧ r.2.mem ((c.tc : Thread Cert.MixFwdIdeal.nD Cert.MixFwdIdeal.τ).loc Cert.MixFwdIdeal.main_v3_2) = v2 c
          ∧ r.2.mem ((c.tc : Thread Cert.MixFwdIdeal.nD Cert.MixFwdIdeal.τ).loc Cert.MixFwdIdeal.main_v3_3) = v3 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v48) = v0 c
          ∧ r.2.mem ((c.tc : Thread Cert.MixFwdRefIdeal.nD Cert.MixFwdRefIdeal.τ).loc Cert.MixFwdRefIdeal.main_v87) = v1 c
          ∧ r.2.mem ((c.tc : Thread Cert.MixFwdRefIdeal.nD Cert.MixFwdRefIdeal.τ).loc Cert.MixFwdRefIdeal.main_v86) = v2 c
          ∧ r.2.mem ((c.tc : Thread Cert.MixFwdRefIdeal.nD Cert.MixFwdRefIdeal.τ).loc Cert.MixFwdRefIdeal.main_v100) = v3 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10))

def preserves_MemKvFwd_MemKvFwdIdeal : Prop :=
  True

def algebraic_MemKvFwdIdeal_MemKvFwdRefIdeal [hMemKvFwdIdeal : Cert.MemKvFwdIdeal.Facts] [hMemKvFwdRefIdeal : Cert.MemKvFwdRefIdeal.Facts] : Prop :=
  ∀ (m : (ℓ : Loc Cert.MemKvFwdIdeal.nD Cert.MemKvFwdIdeal.τ Cert.MemKvFwdIdeal.sig) → Buf (Elt Ideal) ℓ) (g : Dev Cert.MemKvFwdIdeal.nD → PrngReg)
    (m' : (ℓ : Loc Cert.MemKvFwdRefIdeal.nD Cert.MemKvFwdRefIdeal.τ Cert.MemKvFwdRefIdeal.sig) → Buf (Elt Ideal) ℓ) (g' : Dev Cert.MemKvFwdRefIdeal.nD → PrngReg), Pre_MemKvFwdIdeal m →
    (∀ c : Dev Cert.MemKvFwdIdeal.nD,
      m' ((c.tc : Thread Cert.MemKvFwdRefIdeal.nD Cert.MemKvFwdRefIdeal.τ).loc Cert.MemKvFwdRefIdeal.main_arg0) = m ((c.tc : Thread Cert.MemKvFwdIdeal.nD Cert.MemKvFwdIdeal.τ).loc Cert.MemKvFwdIdeal.main_arg0)
      ∧ m' ((c.tc : Thread Cert.MemKvFwdRefIdeal.nD Cert.MemKvFwdRefIdeal.τ).loc Cert.MemKvFwdRefIdeal.main_arg1) = m ((c.tc : Thread Cert.MemKvFwdIdeal.nD Cert.MemKvFwdIdeal.τ).loc Cert.MemKvFwdIdeal.main_arg1)
      ∧ m' ((c.tc : Thread Cert.MemKvFwdRefIdeal.nD Cert.MemKvFwdRefIdeal.τ).loc Cert.MemKvFwdRefIdeal.main_arg2) = m ((c.tc : Thread Cert.MemKvFwdIdeal.nD Cert.MemKvFwdIdeal.τ).loc Cert.MemKvFwdIdeal.main_arg2)) →
    ∃ (v0 : (c : Dev Cert.MemKvFwdIdeal.nD) → Buf (Elt Ideal) ((c.tc : Thread Cert.MemKvFwdIdeal.nD Cert.MemKvFwdIdeal.τ).loc Cert.MemKvFwdIdeal.main_v2_0)) (v1 : (c : Dev Cert.MemKvFwdIdeal.nD) → Buf (Elt Ideal) ((c.tc : Thread Cert.MemKvFwdIdeal.nD Cert.MemKvFwdIdeal.τ).loc Cert.MemKvFwdIdeal.main_v2_1)),
      θ_run (Cert.MemKvFwdIdeal.defs (F := Ideal)) (onTc (τ := Cert.MemKvFwdIdeal.τ) (Cert.MemKvFwdIdeal.main (F := Ideal))) ⟨m, fun _ => 0, g⟩ (fun r => ∀ c : Dev Cert.MemKvFwdIdeal.nD,
          r.2.mem ((c.tc : Thread Cert.MemKvFwdIdeal.nD Cert.MemKvFwdIdeal.τ).loc Cert.MemKvFwdIdeal.main_v2_0) = v0 c
          ∧ r.2.mem ((c.tc : Thread Cert.MemKvFwdIdeal.nD Cert.MemKvFwdIdeal.τ).loc Cert.MemKvFwdIdeal.main_v2_1) = v1 c
          ∧ r.2.mem ((c.tc : Thread Cert.MemKvFwdIdeal.nD Cert.MemKvFwdIdeal.τ).loc Cert.MemKvFwdIdeal.main_arg0) = m ((c.tc : Thread Cert.MemKvFwdIdeal.nD Cert.MemKvFwdIdeal.τ).loc Cert.MemKvFwdIdeal.main_arg0)
          ∧ r.2.mem ((c.tc : Thread Cert.MemKvFwdIdeal.nD Cert.MemKvFwdIdeal.τ).loc Cert.MemKvFwdIdeal.main_arg1) = m ((c.tc : Thread Cert.MemKvFwdIdeal.nD Cert.MemKvFwdIdeal.τ).loc Cert.MemKvFwdIdeal.main_arg1)
          ∧ r.2.mem ((c.tc : Thread Cert.MemKvFwdIdeal.nD Cert.MemKvFwdIdeal.τ).loc Cert.MemKvFwdIdeal.main_arg2) = m ((c.tc : Thread Cert.MemKvFwdIdeal.nD Cert.MemKvFwdIdeal.τ).loc Cert.MemKvFwdIdeal.main_arg2))
      ∧ θ_run (Cert.MemKvFwdRefIdeal.defs (F := Ideal)) (onTc (τ := Cert.MemKvFwdRefIdeal.τ) (Cert.MemKvFwdRefIdeal.main (F := Ideal))) ⟨m', fun _ => 0, g'⟩ (fun r => ∀ c : Dev Cert.MemKvFwdRefIdeal.nD,
          r.2.mem ((c.tc : Thread Cert.MemKvFwdRefIdeal.nD Cert.MemKvFwdRefIdeal.τ).loc Cert.MemKvFwdRefIdeal.main_v12) = v0 c
          ∧ r.2.mem ((c.tc : Thread Cert.MemKvFwdRefIdeal.nD Cert.MemKvFwdRefIdeal.τ).loc Cert.MemKvFwdRefIdeal.main_v26) = v1 c
          ∧ r.2.mem ((c.tc : Thread Cert.MemKvFwdRefIdeal.nD Cert.MemKvFwdRefIdeal.τ).loc Cert.MemKvFwdRefIdeal.main_arg0) = m' ((c.tc : Thread Cert.MemKvFwdRefIdeal.nD Cert.MemKvFwdRefIdeal.τ).loc Cert.MemKvFwdRefIdeal.main_arg0)
          ∧ r.2.mem ((c.tc : Thread Cert.MemKvFwdRefIdeal.nD Cert.MemKvFwdRefIdeal.τ).loc Cert.MemKvFwdRefIdeal.main_arg1) = m' ((c.tc : Thread Cert.MemKvFwdRefIdeal.nD Cert.MemKvFwdRefIdeal.τ).loc Cert.MemKvFwdRefIdeal.main_arg1)
          ∧ r.2.mem ((c.tc : Thread Cert.MemKvFwdRefIdeal.nD Cert.MemKvFwdRefIdeal.τ).loc Cert.MemKvFwdRefIdeal.main_arg2) = m' ((c.tc : Thread Cert.MemKvFwdRefIdeal.nD Cert.MemKvFwdRefIdeal.τ).loc Cert.MemKvFwdRefIdeal.main_arg2))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)) →
    ∃ (v0 : (c : Dev Cert.PreNormIdeal.nD) → Buf (Elt Ideal) ((c.tc : Thread Cert.PreNormIdeal.nD Cert.PreNormIdeal.τ).loc Cert.PreNormIdeal.main_v1)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v1) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v12) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1))

def preserves_InProjFwd_InProjFwdIdeal : Prop :=
  True

def algebraic_InProjFwdIdeal_InProjFwdRefIdeal [hInProjFwdIdeal : Cert.InProjFwdIdeal.Facts] [hInProjFwdRefIdeal : Cert.InProjFwdRefIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg)
    (m' : (ℓ : Loc Cert.InProjFwdRefIdeal.nD Cert.InProjFwdRefIdeal.τ Cert.InProjFwdRefIdeal.sig) → Buf (Elt Ideal) ℓ) (g' : Dev Cert.InProjFwdRefIdeal.nD → PrngReg), Pre_InProjFwdIdeal m →
    (∀ c : Dev Cert.InProjFwdIdeal.nD,
      m' ((c.tc : Thread Cert.InProjFwdRefIdeal.nD Cert.InProjFwdRefIdeal.τ).loc Cert.InProjFwdRefIdeal.main_arg0) = m ((c.tc : Thread Cert.InProjFwdIdeal.nD Cert.InProjFwdIdeal.τ).loc Cert.InProjFwdIdeal.main_arg0)
      ∧ m' ((c.tc : Thread Cert.InProjFwdRefIdeal.nD Cert.InProjFwdRefIdeal.τ).loc Cert.InProjFwdRefIdeal.main_arg1) = m ((c.tc : Thread Cert.InProjFwdIdeal.nD Cert.InProjFwdIdeal.τ).loc Cert.InProjFwdIdeal.main_arg1)
      ∧ m' ((c.tc : Thread Cert.InProjFwdRefIdeal.nD Cert.InProjFwdRefIdeal.τ).loc Cert.InProjFwdRefIdeal.main_arg2) = m ((c.tc : Thread Cert.InProjFwdIdeal.nD Cert.InProjFwdIdeal.τ).loc Cert.InProjFwdIdeal.main_arg2)
      ∧ m' ((c.tc : Thread Cert.InProjFwdRefIdeal.nD Cert.InProjFwdRefIdeal.τ).loc Cert.InProjFwdRefIdeal.main_arg3) = m ((c.tc : Thread Cert.InProjFwdIdeal.nD Cert.InProjFwdIdeal.τ).loc Cert.InProjFwdIdeal.main_arg3)) →
    ∃ (v0 : (c : Dev Cert.InProjFwdIdeal.nD) → Buf (Elt Ideal) ((c.tc : Thread Cert.InProjFwdIdeal.nD Cert.InProjFwdIdeal.τ).loc Cert.InProjFwdIdeal.main_v41_0)) (v1 : (c : Dev Cert.InProjFwdIdeal.nD) → Buf (Elt Ideal) ((c.tc : Thread Cert.InProjFwdIdeal.nD Cert.InProjFwdIdeal.τ).loc Cert.InProjFwdIdeal.main_v41_1)) (v2 : (c : Dev Cert.InProjFwdIdeal.nD) → Buf (Elt Ideal) ((c.tc : Thread Cert.InProjFwdIdeal.nD Cert.InProjFwdIdeal.τ).loc Cert.InProjFwdIdeal.main_v41_2)) (v3 : (c : Dev Cert.InProjFwdIdeal.nD) → Buf (Elt Ideal) ((c.tc : Thread Cert.InProjFwdIdeal.nD Cert.InProjFwdIdeal.τ).loc Cert.InProjFwdIdeal.main_v41_3)) (v4 : (c : Dev Cert.InProjFwdIdeal.nD) → Buf (Elt Ideal) ((c.tc : Thread Cert.InProjFwdIdeal.nD Cert.InProjFwdIdeal.τ).loc Cert.InProjFwdIdeal.main_v41_4)),
      θ_run (Cert.InProjFwdIdeal.defs (F := Ideal)) (onTc (τ := Cert.InProjFwdIdeal.τ) (Cert.InProjFwdIdeal.main (F := Ideal))) ⟨m, fun _ => 0, g⟩ (fun r => ∀ c : Dev Cert.InProjFwdIdeal.nD,
          r.2.mem ((c.tc : Thread Cert.InProjFwdIdeal.nD Cert.InProjFwdIdeal.τ).loc Cert.InProjFwdIdeal.main_v41_0) = v0 c
          ∧ r.2.mem ((c.tc : Thread Cert.InProjFwdIdeal.nD Cert.InProjFwdIdeal.τ).loc Cert.InProjFwdIdeal.main_v41_1) = v1 c
          ∧ r.2.mem ((c.tc : Thread Cert.InProjFwdIdeal.nD Cert.InProjFwdIdeal.τ).loc Cert.InProjFwdIdeal.main_v41_2) = v2 c
          ∧ r.2.mem ((c.tc : Thread Cert.InProjFwdIdeal.nD Cert.InProjFwdIdeal.τ).loc Cert.InProjFwdIdeal.main_v41_3) = v3 c
          ∧ r.2.mem ((c.tc : Thread Cert.InProjFwdIdeal.nD Cert.InProjFwdIdeal.τ).loc Cert.InProjFwdIdeal.main_v41_4) = v4 c
          ∧ r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
          ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
          ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2)
          ∧ r.2.mem ((c.tc : Thread Cert.InProjFwdIdeal.nD Cert.InProjFwdIdeal.τ).loc Cert.InProjFwdIdeal.main_arg3) = m ((c.tc : Thread Cert.InProjFwdIdeal.nD Cert.InProjFwdIdeal.τ).loc Cert.InProjFwdIdeal.main_arg3))
      ∧ θ_run (Cert.InProjFwdRefIdeal.defs (F := Ideal)) (onTc (τ := Cert.InProjFwdRefIdeal.τ) (Cert.InProjFwdRefIdeal.main (F := Ideal))) ⟨m', fun _ => 0, g'⟩ (fun r => ∀ c : Dev Cert.InProjFwdRefIdeal.nD,
          r.2.mem ((c.tc : Thread Cert.InProjFwdRefIdeal.nD Cert.InProjFwdRefIdeal.τ).loc Cert.InProjFwdRefIdeal.main_v81) = v0 c
          ∧ r.2.mem ((c.tc : Thread Cert.InProjFwdRefIdeal.nD Cert.InProjFwdRefIdeal.τ).loc Cert.InProjFwdRefIdeal.main_v82) = v1 c
          ∧ r.2.mem ((c.tc : Thread Cert.InProjFwdRefIdeal.nD Cert.InProjFwdRefIdeal.τ).loc Cert.InProjFwdRefIdeal.main_v83) = v2 c
          ∧ r.2.mem ((c.tc : Thread Cert.InProjFwdRefIdeal.nD Cert.InProjFwdRefIdeal.τ).loc Cert.InProjFwdRefIdeal.main_v85) = v3 c
          ∧ r.2.mem ((c.tc : Thread Cert.InProjFwdRefIdeal.nD Cert.InProjFwdRefIdeal.τ).loc Cert.InProjFwdRefIdeal.main_v87) = v4 c
          ∧ r.2.mem ((c.tc : Thread Cert.InProjFwdRefIdeal.nD Cert.InProjFwdRefIdeal.τ).loc Cert.InProjFwdRefIdeal.main_arg0) = m' ((c.tc : Thread Cert.InProjFwdRefIdeal.nD Cert.InProjFwdRefIdeal.τ).loc Cert.InProjFwdRefIdeal.main_arg0)
          ∧ r.2.mem ((c.tc : Thread Cert.InProjFwdRefIdeal.nD Cert.InProjFwdRefIdeal.τ).loc Cert.InProjFwdRefIdeal.main_arg1) = m' ((c.tc : Thread Cert.InProjFwdRefIdeal.nD Cert.InProjFwdRefIdeal.τ).loc Cert.InProjFwdRefIdeal.main_arg1)
          ∧ r.2.mem ((c.tc : Thread Cert.InProjFwdRefIdeal.nD Cert.InProjFwdRefIdeal.τ).loc Cert.InProjFwdRefIdeal.main_arg2) = m' ((c.tc : Thread Cert.InProjFwdRefIdeal.nD Cert.InProjFwdRefIdeal.τ).loc Cert.InProjFwdRefIdeal.main_arg2)
          ∧ r.2.mem ((c.tc : Thread Cert.InProjFwdRefIdeal.nD Cert.InProjFwdRefIdeal.τ).loc Cert.InProjFwdRefIdeal.main_arg3) = m' ((c.tc : Thread Cert.InProjFwdRefIdeal.nD Cert.InProjFwdRefIdeal.τ).loc Cert.InProjFwdRefIdeal.main_arg3))

def preserves_WeightGrad_WeightGradIdeal : Prop :=
  True

def algebraic_WeightGradIdeal_WeightGradRefIdeal [hWeightGradIdeal : Cert.WeightGradIdeal.Facts] [hWeightGradRefIdeal : Cert.WeightGradRefIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradRefIdeal.nD Cert.WeightGradRefIdeal.τ Cert.WeightGradRefIdeal.sig) → Buf (Elt Ideal) ℓ) (g' : Dev Cert.WeightGradRefIdeal.nD → PrngReg), Pre_WeightGradIdeal m →
    (∀ c : Dev Cert.WeightGradIdeal.nD,
      m' ((c.tc : Thread Cert.WeightGradRefIdeal.nD Cert.WeightGradRefIdeal.τ).loc Cert.WeightGradRefIdeal.main_arg0) = m ((c.tc : Thread Cert.WeightGradIdeal.nD Cert.WeightGradIdeal.τ).loc Cert.WeightGradIdeal.main_arg0)
      ∧ m' ((c.tc : Thread Cert.WeightGradRefIdeal.nD Cert.WeightGradRefIdeal.τ).loc Cert.WeightGradRefIdeal.main_arg1) = m ((c.tc : Thread Cert.WeightGradIdeal.nD Cert.WeightGradIdeal.τ).loc Cert.WeightGradIdeal.main_arg1)
      ∧ m' ((c.tc : Thread Cert.WeightGradRefIdeal.nD Cert.WeightGradRefIdeal.τ).loc Cert.WeightGradRefIdeal.main_arg2) = m ((c.tc : Thread Cert.WeightGradIdeal.nD Cert.WeightGradIdeal.τ).loc Cert.WeightGradIdeal.main_arg2)) →
    ∃ (v0 : (c : Dev Cert.WeightGradIdeal.nD) → Buf (Elt Ideal) ((c.tc : Thread Cert.WeightGradIdeal.nD Cert.WeightGradIdeal.τ).loc Cert.WeightGradIdeal.main_v3)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v3) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1)
          ∧ r.2.mem ((c.tc : Thread Cert.WeightGradIdeal.nD Cert.WeightGradIdeal.τ).loc Cert.WeightGradIdeal.main_arg2) = m ((c.tc : Thread Cert.WeightGradIdeal.nD Cert.WeightGradIdeal.τ).loc Cert.WeightGradIdeal.main_arg2))
      ∧ θ_run (Cert.WeightGradRefIdeal.defs (F := Ideal)) (onTc (τ := Cert.WeightGradRefIdeal.τ) (Cert.WeightGradRefIdeal.main (F := Ideal))) ⟨m', fun _ => 0, g'⟩ (fun r => ∀ c : Dev Cert.WeightGradRefIdeal.nD,
          r.2.mem ((c.tc : Thread Cert.WeightGradRefIdeal.nD Cert.WeightGradRefIdeal.τ).loc Cert.WeightGradRefIdeal.main_v4) = v0 c
          ∧ r.2.mem ((c.tc : Thread Cert.WeightGradRefIdeal.nD Cert.WeightGradRefIdeal.τ).loc Cert.WeightGradRefIdeal.main_arg0) = m' ((c.tc : Thread Cert.WeightGradRefIdeal.nD Cert.WeightGradRefIdeal.τ).loc Cert.WeightGradRefIdeal.main_arg0)
          ∧ r.2.mem ((c.tc : Thread Cert.WeightGradRefIdeal.nD Cert.WeightGradRefIdeal.τ).loc Cert.WeightGradRefIdeal.main_arg1) = m' ((c.tc : Thread Cert.WeightGradRefIdeal.nD Cert.WeightGradRefIdeal.τ).loc Cert.WeightGradRefIdeal.main_arg1)
          ∧ r.2.mem ((c.tc : Thread Cert.WeightGradRefIdeal.nD Cert.WeightGradRefIdeal.τ).loc Cert.WeightGradRefIdeal.main_arg2) = m' ((c.tc : Thread Cert.WeightGradRefIdeal.nD Cert.WeightGradRefIdeal.τ).loc Cert.WeightGradRefIdeal.main_arg2))

def Claim : Prop :=
  ∃ (hMemKv : Cert.MemKv.Facts) (hMemKvIdeal : Cert.MemKvIdeal.Facts) (hMemKvRefIdeal : Cert.MemKvRefIdeal.Facts) (hMlp : Cert.Mlp.Facts) (hMlpIdeal : Cert.MlpIdeal.Facts) (hMlpRefIdeal : Cert.MlpRefIdeal.Facts) (hInProj : Cert.InProj.Facts) (hInProjIdeal : Cert.InProjIdeal.Facts) (hInProjRefIdeal : Cert.InProjRefIdeal.Facts) (hMixer : Cert.Mixer.Facts) (hMixerIdeal : Cert.MixerIdeal.Facts) (hMixerRefIdeal : Cert.MixerRefIdeal.Facts) (hMixFwd : Cert.MixFwd.Facts) (hMixFwdIdeal : Cert.MixFwdIdeal.Facts) (hMixFwdRefIdeal : Cert.MixFwdRefIdeal.Facts) (hMemKvFwd : Cert.MemKvFwd.Facts) (hMemKvFwdIdeal : Cert.MemKvFwdIdeal.Facts) (hMemKvFwdRefIdeal : Cert.MemKvFwdRefIdeal.Facts) (hPreNorm : Cert.PreNorm.Facts) (hPreNormIdeal : Cert.PreNormIdeal.Facts) (hPreNormRefIdeal : Cert.PreNormRefIdeal.Facts) (hInProjFwd : Cert.InProjFwd.Facts) (hInProjFwdIdeal : Cert.InProjFwdIdeal.Facts) (hInProjFwdRefIdeal : Cert.InProjFwdRefIdeal.Facts) (hWeightGrad : Cert.WeightGrad.Facts) (hWeightGradIdeal : Cert.WeightGradIdeal.Facts) (hWeightGradRefIdeal : Cert.WeightGradRefIdeal.Facts) (hPre_mlp_finite : Cert.Pre_mlp_finite.Facts) (hPre_in_proj_finite : Cert.Pre_in_proj_finite.Facts) (hPre_mixer_finite : Cert.Pre_mixer_finite.Facts) (hPre_mix_fwd_finite : Cert.Pre_mix_fwd_finite.Facts),
    quiescent_MemKv (hMemKv := hMemKv)
    ∧ quiescent_MemKvIdeal (hMemKvIdeal := hMemKvIdeal)
    ∧ quiescent_MemKvRefIdeal (hMemKvRefIdeal := hMemKvRefIdeal)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_InProj (hInProj := hInProj)
    ∧ quiescent_InProjIdeal (hInProjIdeal := hInProjIdeal)
    ∧ quiescent_InProjIdeal_pre_in_proj_finite (hInProjIdeal := hInProjIdeal) (hPre_in_proj_finite := hPre_in_proj_finite)
    ∧ quiescent_InProjRefIdeal (hInProjRefIdeal := hInProjRefIdeal)
    ∧ quiescent_InProjRefIdeal_pre_in_proj_finite (hInProjRefIdeal := hInProjRefIdeal) (hPre_in_proj_finite := hPre_in_proj_finite)
    ∧ quiescent_Mixer (hMixer := hMixer)
    ∧ quiescent_MixerIdeal (hMixerIdeal := hMixerIdeal)
    ∧ quiescent_MixerIdeal_pre_mixer_finite (hMixerIdeal := hMixerIdeal) (hPre_mixer_finite := hPre_mixer_finite)
    ∧ quiescent_MixerRefIdeal (hMixerRefIdeal := hMixerRefIdeal)
    ∧ quiescent_MixerRefIdeal_pre_mixer_finite (hMixerRefIdeal := hMixerRefIdeal) (hPre_mixer_finite := hPre_mixer_finite)
    ∧ quiescent_MixFwd (hMixFwd := hMixFwd)
    ∧ quiescent_MixFwdIdeal (hMixFwdIdeal := hMixFwdIdeal)
    ∧ quiescent_MixFwdIdeal_pre_mix_fwd_finite (hMixFwdIdeal := hMixFwdIdeal) (hPre_mix_fwd_finite := hPre_mix_fwd_finite)
    ∧ quiescent_MixFwdRefIdeal (hMixFwdRefIdeal := hMixFwdRefIdeal)
    ∧ quiescent_MixFwdRefIdeal_pre_mix_fwd_finite (hMixFwdRefIdeal := hMixFwdRefIdeal) (hPre_mix_fwd_finite := hPre_mix_fwd_finite)
    ∧ quiescent_MemKvFwd (hMemKvFwd := hMemKvFwd)
    ∧ quiescent_MemKvFwdIdeal (hMemKvFwdIdeal := hMemKvFwdIdeal)
    ∧ quiescent_MemKvFwdRefIdeal (hMemKvFwdRefIdeal := hMemKvFwdRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_InProjFwd (hInProjFwd := hInProjFwd)
    ∧ quiescent_InProjFwdIdeal (hInProjFwdIdeal := hInProjFwdIdeal)
    ∧ quiescent_InProjFwdRefIdeal (hInProjFwdRefIdeal := hInProjFwdRefIdeal)
    ∧ quiescent_WeightGrad (hWeightGrad := hWeightGrad)
    ∧ quiescent_WeightGradIdeal (hWeightGradIdeal := hWeightGradIdeal)
    ∧ quiescent_WeightGradRefIdeal (hWeightGradRefIdeal := hWeightGradRefIdeal)
    ∧ preserves_MemKv_MemKvIdeal
    ∧ algebraic_MemKvIdeal_MemKvRefIdeal (hMemKvIdeal := hMemKvIdeal) (hMemKvRefIdeal := hMemKvRefIdeal)
    ∧ preserves_Mlp_MlpIdeal
    ∧ algebraic_MlpIdeal_MlpRefIdeal_pre_mlp_finite (hMlpIdeal := hMlpIdeal) (hMlpRefIdeal := hMlpRefIdeal) (hPre_mlp_finite := hPre_mlp_finite)
    ∧ preserves_InProj_InProjIdeal
    ∧ algebraic_InProjIdeal_InProjRefIdeal_pre_in_proj_finite (hInProjIdeal := hInProjIdeal) (hInProjRefIdeal := hInProjRefIdeal) (hPre_in_proj_finite := hPre_in_proj_finite)
    ∧ preserves_Mixer_MixerIdeal
    ∧ algebraic_MixerIdeal_MixerRefIdeal_pre_mixer_finite (hMixerIdeal := hMixerIdeal) (hMixerRefIdeal := hMixerRefIdeal) (hPre_mixer_finite := hPre_mixer_finite)
    ∧ preserves_MixFwd_MixFwdIdeal
    ∧ algebraic_MixFwdIdeal_MixFwdRefIdeal_pre_mix_fwd_finite (hMixFwdIdeal := hMixFwdIdeal) (hMixFwdRefIdeal := hMixFwdRefIdeal) (hPre_mix_fwd_finite := hPre_mix_fwd_finite)
    ∧ preserves_MemKvFwd_MemKvFwdIdeal
    ∧ algebraic_MemKvFwdIdeal_MemKvFwdRefIdeal (hMemKvFwdIdeal := hMemKvFwdIdeal) (hMemKvFwdRefIdeal := hMemKvFwdRefIdeal)
    ∧ preserves_PreNorm_PreNormIdeal
    ∧ algebraic_PreNormIdeal_PreNormRefIdeal (hPreNormIdeal := hPreNormIdeal) (hPreNormRefIdeal := hPreNormRefIdeal)
    ∧ preserves_InProjFwd_InProjFwdIdeal
    ∧ algebraic_InProjFwdIdeal_InProjFwdRefIdeal (hInProjFwdIdeal := hInProjFwdIdeal) (hInProjFwdRefIdeal := hInProjFwdRefIdeal)
    ∧ preserves_WeightGrad_WeightGradIdeal
    ∧ algebraic_WeightGradIdeal_WeightGradRefIdeal (hWeightGradIdeal := hWeightGradIdeal) (hWeightGradRefIdeal := hWeightGradRefIdeal)
-- ==== Pre_in_proj_finite.lean ====
abbrev S4096x1024 : Shape := ⟨2, ![4096, 1024]⟩
abbrev S1x1024 : Shape := ⟨2, ![1, 1024]⟩
abbrev S1024x2560 : Shape := ⟨2, ![1024, 2560]⟩
abbrev S4096x512 : Shape := ⟨2, ![4096, 512]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2560 : S_.BroadcastsInDim S1024x2560 (![] : Fin 0 → Fin S1024x2560.rank)
  bcast_S_S4096x512 : S_.BroadcastsInDim S4096x512 (![] : Fin 0 → Fin S4096x512.rank)

variable [Facts]

def fn_part1 {F : FTy → Type} [FloatOps F] (main_arg6 : FVec F S4096x1024 .f32) (main_v2 : IVec S4096x1024 1) (main_v5 : IVec S1x1024 1) (main_v8 : IVec S1024x2560 1) (main_v11 : IVec S4096x512 1) (main_v14 : IVec S4096x512 1) (main_v17 : IVec S4096x512 1) : IVec S4096x1024 1 × IVec S1x1024 1 × IVec S1024x2560 1 × IVec S4096x512 1 × IVec S4096x512 1 × IVec S4096x512 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x1024 .f32) (main_arg1 : FVec F S1x1024 .f32) (main_arg2 : FVec F S1024x2560 .f32) (main_arg3 : FVec F S4096x512 .f32) (main_arg4 : FVec F S4096x512 .f32) (main_arg5 : FVec F S4096x512 .f32) (main_arg6 : FVec F S4096x1024 .f32) (main_arg7 : FVec F S4096x1024 .f32) (main_arg8 : IVec S4096 32) : IVec S4096x1024 1 × IVec S1x1024 1 × IVec S1024x2560 1 × IVec S4096x512 1 × IVec S4096x512 1 × IVec S4096x512 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2560 .f32 := Host.absf main_arg2
  let main_cst_1 : FVec F S_ .f32 := constant S_ .f32 0x7F800000#32
  let main_v7 : FVec F S1024x2560 .f32 := broadcastInDim S1024x2560 ![] bcast_S_S1024x2560 main_cst_1
  let main_v8 : IVec S1024x2560 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S4096x512 .f32 := Host.absf main_arg5
  let main_cst_4 : FVec F S_ .f32 := constant S_ .f32 0x7F800000#32
  let main_v16 : FVec F S4096x512 .f32 := broadcastInDim S4096x512 ![] bcast_S_S4096x512 main_cst_4
  let main_v17 : IVec S4096x512 1 := cmpf .olt main_v15 main_v16
  fn_part1 (F := F) main_arg6 main_v2 main_v5 main_v8 main_v11 main_v14 main_v17
-- ==== Pre_mix_fwd_finite.lean ====
abbrev S4096x512 : Shape := ⟨2, ![4096, 512]⟩
abbrev S4096x768 : Shape := ⟨2, ![4096, 768]⟩
abbrev S4096x256 : Shape := ⟨2, ![4096, 256]⟩
abbrev S256x512 : Shape := ⟨2, ![256, 512]⟩
abbrev S3x256 : Shape := ⟨2, ![3, 256]⟩
abbrev S1x512 : Shape := ⟨2, ![1, 512]⟩
abbrev S1x256 : Shape := ⟨2, ![1, 256]⟩
abbrev S1024x1024 : Shape := ⟨2, ![1024, 1024]⟩
abbrev S1x1024 : Shape := ⟨2, ![1, 1024]⟩
abbrev S4096x1024 : Shape := ⟨2, ![4096, 1024]⟩
abbrev S_ : Shape := ⟨0, ![]⟩

class Facts : Prop where
  bcast_S_S4096x256 : S_.BroadcastsInDim S4096x256 (![] : Fin 0 → Fin S4096x256.rank)
  bcast_S_S256x512 : S_.BroadcastsInDim S256x512 (![] : Fin 0 → Fin S256x512.rank)

variable [Facts]

def fn {F : FTy → Type} [FloatOps F] (main_arg0 : FVec F S4096x512 .f32) (main_arg1 : FVec F S4096x768 .f32) (main_arg2 : FVec F S4096x256 .f32) (main_arg3 : FVec F S256x512 .f32) (main_arg4 : FVec F S3x256 .f32) (main_arg5 : FVec F S1x512 .f32) (main_arg6 : FVec F S1x256 .f32) (main_arg7 : FVec F S1x256 .f32) (main_arg8 : FVec F S1024x1024 .f32) (main_arg9 : FVec F S1x1024 .f32) (main_arg10 : FVec F S4096x1024 .f32) : IVec S4096x256 1 × IVec S256x512 1 :=
  let main_v0 : FVec F S4096x256 .f32 := Host.absf main_arg2
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S256x512 .f32 := Host.absf main_arg3
  let main_cst_0 : FVec F S_ .f32 := constant S_ .f32 0x7F800000#32
  let main_v4 : FVec F S256x512 .f32 := broadcastInDim S256x512 ![] bcast_S_S256x512 main_cst_0
  let main_v5 : IVec S256x512 1 := cmpf .olt main_v3 main_v4
  (main_v2, main_v5)
-- ==== Pre_mixer_finite.lean ====
abbrev S4096x512 : Shape := ⟨2, ![4096, 512]⟩
abbrev S4096x768 : Shape := ⟨2, ![4096, 768]⟩
abbrev S4096x256 : Shape := ⟨2, ![4096, 256]⟩
abbrev S256x512 : Shape := ⟨2, ![256, 512]⟩
abbrev S3x256 : Shape := ⟨2, ![3, 256]⟩
abbrev S1x512 : Shape := ⟨2, ![1, 512]⟩
abbrev S1x256 : Shape := ⟨2, ![1, 256]⟩
abbrev S1024x1024 : Shape := ⟨2, ![1024, 1024]⟩
abbrev S1x1024 : Shape := ⟨2, ![1, 1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  bcast_S_S4096x768 : S_.BroadcastsInDim S4096x768 (![] : Fin 0 → Fin S4096x768.rank)
  bcast_S_S4096x256 : S_.BroadcastsInDim S4096x256 (![] : Fin 0 → Fin S4096x256.rank)
  bcast_S_S256x512 : S_.BroadcastsInDim S256x512 (![] : Fin 0 → Fin S256x512.rank)
  bcast_S_S3x256 : S_.BroadcastsInDim S3x256 (![] : Fin 0 → Fin S3x256.rank)
  bcast_S_S1x512 : S_.BroadcastsInDim S1x512 (![] : Fin 0 → Fin S1x512.rank)
  bcast_S_S1x256 : S_.BroadcastsInDim S1x256 (![] : Fin 0 → Fin S1x256.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S4096x1024 : S_.BroadcastsInDim S4096x1024 (![] : Fin 0 → Fin S4096x1024.rank)

variable [Facts]

def fn_part1 {F : FTy → Type} [FloatOps F] (main_arg6 : FVec F S1x256 .f32) (main_arg7 : FVec F S1x256 .f32) (main_arg8 : FVec F S1024x1024 .f32) (main_arg9 : FVec F S1x1024 .f32) (main_arg10 : FVec F S4096x1024 .f32) (main_v2 : IVec S4096x512 1) (main_v5 : IVec S4096x768 1) (main_v8 : IVec S4096x256 1) (main_v11 : IVec S256x512 1) (main_v14 : IVec S3x256 1) (main_v17 : IVec S1x512 1) : IVec S4096x512 1 × IVec S4096x768 1 × IVec S4096x256 1 × IVec S256x512 1 × IVec S3x256 1 × IVec S1x512 1 × IVec S1x256 1 × IVec S1x256 1 × IVec S1024x1024 1 × IVec S1x1024 1 × IVec S4096x1024 1 :=
  let main_v18 : FVec F S1x256 .f32 := Host.absf main_arg6
  let main_cst_5 : FVec F S_ .f32 := constant S_ .f32 0x7F800000#32
  let main_v19 : FVec F S1x256 .f32 := broadcastInDim S1x256 ![] bcast_S_S1x256 main_cst_5
  let main_v20 : IVec S1x256 1 := cmpf .olt main_v18 main_v19
  let main_v21 : FVec F S1x256 .f32 := Host.absf main_arg7
  let main_cst_6 : FVec F S_ .f32 := constant S_ .f32 0x7F800000#32
  let main_v22 : FVec F S1x256 .f32 := broadcastInDim S1x256 ![] bcast_S_S1x256 main_cst_6
  let main_v23 : IVec S1x256 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  let main_v27 : FVec F S1x1024 .f32 := Host.absf main_arg9
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_v30 : FVec F S4096x1024 .f32 := Host.absf main_arg10
  let main_cst_9 : FVec F S_ .f32 := constant S_ .f32 0x7F800000#32
  let main_v31 : FVec F S4096x1024 .f32 := broadcastInDim S4096x1024 ![] bcast_S_S4096x1024 main_cst_9
  let main_v32 : IVec S4096x1024 1 := cmpf .olt main_v30 main_v31
  (main_v2, main_v5, main_v8, main_v11, main_v14, main_v17, main_v20, main_v23, main_v26, main_v29, main_v32)

def fn {F : FTy → Type} [FloatOps F] (main_arg0 : FVec F S4096x512 .f32) (main_arg1 : FVec F S4096x768 .f32) (main_arg2 : FVec F S4096x256 .f32) (main_arg3 : FVec F S256x512 .f32) (main_arg4 : FVec F S3x256 .f32) (main_arg5 : FVec F S1x512 .f32) (main_arg6 : FVec F S1x256 .f32) (main_arg7 : FVec F S1x256 .f32) (main_arg8 : FVec F S1024x1024 .f32) (main_arg9 : FVec F S1x1024 .f32) (main_arg10 : FVec F S4096x1024 .f32) : IVec S4096x512 1 × IVec S4096x768 1 × IVec S4096x256 1 × IVec S256x512 1 × IVec S3x256 1 × IVec S1x512 1 × IVec S1x256 1 × IVec S1x256 1 × IVec S1024x1024 1 × IVec S1x1024 1 × IVec S4096x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x768 .f32 := Host.absf main_arg1
  let main_cst_0 : FVec F S_ .f32 := constant S_ .f32 0x7F800000#32
  let main_v4 : FVec F S4096x768 .f32 := broadcastInDim S4096x768 ![] bcast_S_S4096x768 main_cst_0
  let main_v5 : IVec S4096x768 1 := cmpf .olt main_v3 main_v4
  let main_v6 : FVec F S4096x256 .f32 := Host.absf main_arg2
  let main_cst_1 : FVec F S_ .f32 := constant S_ .f32 0x7F800000#32
  let main_v7 : FVec F S4096x256 .f32 := broadcastInDim S4096x256 ![] bcast_S_S4096x256 main_cst_1
  let main_v8 : IVec S4096x256 1 := cmpf .olt main_v6 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_v12 : FVec F S3x256 .f32 := Host.absf main_arg4
  let main_cst_3 : FVec F S_ .f32 := constant S_ .f32 0x7F800000#32
  let main_v13 : FVec F S3x256 .f32 := broadcastInDim S3x256 ![] bcast_S_S3x256 main_cst_3
  let main_v14 : IVec S3x256 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_arg7 main_arg8 main_arg9 main_arg10 main_v2 main_v5 main_v8 main_v11 main_v14 main_v17
-- ==== Pre_mlp_finite.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x4096 : S_.BroadcastsInDim S1024x4096 (![] : Fin 0 → Fin S1024x4096.rank)

variable [Facts]

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1024x4096 .f32) (main_arg5 : FVec F S4096x1024 .f32) : IVec S4096x1024 1 × IVec S4096x1024 1 × IVec S1x1024 1 × IVec S1x1024 1 × IVec S1024x4096 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x4096 .f32 := Host.absf main_arg4
  let main_cst_3 : FVec F S_ .f32 := constant S_ .f32 0x7F800000#32
  let main_v13 : FVec F S1024x4096 .f32 := broadcastInDim S1024x4096 ![] bcast_S_S1024x4096 main_cst_3
  let main_v14 : IVec S1024x4096 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== MemKv.lean ====
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S2x4x128x512 : Shape := ⟨4, ![2, 4, 128, 512]⟩
abbrev S256 : Shape := ⟨1, ![256]⟩
abbrev S256x1 : Shape := ⟨2, ![256, 1]⟩
abbrev S256x128 : Shape := ⟨2, ![256, 128]⟩
abbrev S128x512 : Shape := ⟨2, ![128, 512]⟩
abbrev S1x1x128x512 : Shape := ⟨4, ![1, 1, 128, 512]⟩
abbrev S1024 : Shape := ⟨1, ![1024]⟩

abbrev nBuf : Space → Nat
  | .hbm => 7
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .f32⟩
  | .hbm, ⟨3, _⟩ => ⟨S256x512, .f32⟩
  | .hbm, ⟨4, _⟩ => ⟨S1024x512, .bf16⟩
  | .hbm, ⟨5, _⟩ => ⟨S2x4x128x512, .f32⟩
  | .hbm, ⟨6, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S256x512, .f32⟩
  | .local _ .vmem, ⟨4, _⟩ => ⟨S2x4x128x512, .f32⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MemKvRefIdeal.lean ====
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S_ : Shape := ⟨0, ![]⟩
abbrev S256 : Shape := ⟨1, ![256]⟩
abbrev S256x1 : Shape := ⟨2, ![256, 1]⟩
abbrev S512x1024 : Shape := ⟨2, ![512, 1024]⟩
abbrev S1024 : Shape := ⟨1, ![1024]⟩
abbrev S4x2x128x512 : Shape := ⟨4, ![4, 2, 128, 512]⟩
abbrev S2x4x128x512 : Shape := ⟨4, ![2, 4, 128, 512]⟩

abbrev nBuf : Space → Nat
  | .hbm => 29
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .f32⟩
  | .hbm, ⟨3, _⟩ => ⟨S256x512, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x512, .f32⟩
  | .hbm, ⟨20, _⟩ => ⟨S512x1024, .f32⟩
  | .hbm, ⟨21, _⟩ => ⟨S1024x512, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4x2x128x512, .f32⟩
  | .hbm, ⟨28, _⟩ => ⟨S2x4x128x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Mlp.lean ====
abbrev S4096x1024 : Shape := ⟨2, ![4096, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1x1 : Shape := ⟨2, ![1, 1]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1 : Shape := ⟨1, ![1]⟩
abbrev S1024 : Shape := ⟨1, ![1024]⟩

abbrev nBuf : Space → Nat
  | .hbm => 18
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S4096x1024, .bf16⟩
  | .hbm, ⟨10, _⟩ => ⟨S4096x1024, .bf16⟩
  | .hbm, ⟨11, _⟩ => ⟨S4096x4096, .bf16⟩
  | .hbm, ⟨12, _⟩ => ⟨S4096x4096, .bf16⟩
  | .hbm, ⟨13, _⟩ => ⟨S4096x1024, .bf16⟩
  | .hbm, ⟨14, _⟩ => ⟨S4096x1024, .f32⟩
  | .hbm, ⟨15, _⟩ => ⟨S1x1024, .f32⟩
  | .hbm, ⟨16, _⟩ => ⟨S1x1024, .f32⟩
  | .hbm, ⟨17, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S4x1024x1024, .bf16⟩
  | .local _ .vmem, ⟨7, _⟩ => ⟨S4096x1024, .bf16⟩
  | .local _ .vmem, ⟨8, _⟩ => ⟨S256x1024, .bf16⟩
  | .local _ .vmem, ⟨9, _⟩ => ⟨S256x1024, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S1x1, .f32⟩
  | .local _ .vmem, ⟨21, _⟩ => ⟨S256x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlpRefIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024, .f32⟩
  | 4 => ⟨S1024x4096, .f32⟩
  | 5 => ⟨S4096x1024, .f32⟩
  | 6 => ⟨S_, .f32⟩
  | 7 => ⟨S4096x4096, .f32⟩
  | 8 => ⟨S_, .f32⟩
  | 9 => ⟨S4096x1024, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S4096x1024, .f32⟩
  | 28 => ⟨S4096x1024, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S_, .f32⟩
  | 35 => ⟨S4096x4096, .f32⟩
  | 36 => ⟨S4096x4096, .i1⟩
  | 37 => ⟨S_, .f32⟩
  | 38 => ⟨S4096x4096, .f32⟩
  | 39 => ⟨S4096x4096, .f32⟩
  | 40 => ⟨S_, .f32⟩
  | 41 => ⟨S4096x4096, .f32⟩
  | 42 => ⟨S4096x4096, .f32⟩
  | 43 => ⟨S4096x1024, .f32⟩
  | 44 => ⟨S4096x1024, .f32⟩
  | 45 => ⟨S4096x1024, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S_, .f32⟩
  | 71 => ⟨S4096, .f32⟩
  | 72 => ⟨S_, .f32⟩
  | 73 => ⟨S4096, .f32⟩
  | 74 => ⟨S4096, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S4096, .f32⟩
  | 83 => ⟨S_, .f32⟩
  | 84 => ⟨S4096, .f32⟩
  | 85 => ⟨S4096, .f32⟩
  | 86 => ⟨S4096x1024, .f32⟩
  | 87 => ⟨S4096x1024, .f32⟩
  | 88 => ⟨S4096x1024, .f32⟩
  | 89 => ⟨S_, .f32⟩
  | 90 => ⟨S1024, .f32⟩
  | 91 => ⟨S1x1024, .f32⟩
  | 92 => ⟨S4096x1024, .f32⟩
  | 93 => ⟨S4096x1024, .f32⟩
  | 94 => ⟨S4096x1024, .f32⟩
  | 95 => ⟨S_, .f32⟩
  | 96 => ⟨S4096, .f32⟩
  | 97 => ⟨S4096x1, .f32⟩
  | 98 => ⟨S4096x1024, .f32⟩
  | 99 => ⟨S4096x1024, .f32⟩
  | 100 => ⟨S4096x1, .f32⟩
  | 101 => ⟨S_, .f32⟩
  | 102 => ⟨S4096x1, .f32⟩
  | 103 => ⟨S4096x1, .f32⟩
  | 104 => ⟨S_, .f32⟩
  | 105 => ⟨S4096, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x4096, .f32⟩
  | 112 => ⟨S4096x4096, .f32⟩
  | 113 => ⟨S_, .f32⟩
  | 114 => ⟨S4096x4096, .f32⟩
  | 115 => ⟨S4096x4096, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S4096x1024, .f32⟩
  | 123 => ⟨S4096x1024, .f32⟩
  | 124 => ⟨S_, .f32⟩
  | 125 => ⟨S4096, .f32⟩
  | 126 => ⟨S4096x1, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .bf16⟩
  | 14 => ⟨S4096x4096, .bf16⟩
  | 15 => ⟨S4096x4096, .bf16⟩
  | 16 => ⟨S4096x1024, .bf16⟩
  | 17 => ⟨S1x1, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_cst_14 : Ref sig .tc := ⟨.hbm, 72, rfl⟩
abbrev main_v49 : Ref sig .tc := ⟨.hbm, 73, rfl⟩
abbrev main_v50 : Ref sig .tc := ⟨.hbm, 74, rfl⟩
abbrev main_cst_15 : Ref sig .tc := ⟨.hbm, 75, rfl⟩
abbrev main_v51 : Ref sig .tc := ⟨.hbm, 76, rfl⟩
abbrev main_cst_16 : Ref sig .tc := ⟨.hbm, 77, rfl⟩
abbrev main_v52 : Ref sig .tc := ⟨.hbm, 78, rfl⟩
abbrev main_cst_17 : Ref sig .tc := ⟨.hbm, 79, rfl⟩
abbrev main_cst_18 : Ref sig .tc := ⟨.hbm, 80, rfl⟩
abbrev main_v53 : Ref sig .tc := ⟨.hbm, 81, rfl⟩
abbrev main_v54 : Ref sig .tc := ⟨.hbm, 82, rfl⟩
abbrev main_cst_19 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_20 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_21 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_22 : Ref sig .tc := ⟨.hbm, 101, rfl⟩
abbrev main_v70 : Ref sig .tc := ⟨.hbm, 102, rfl⟩
abbrev main_v71 : Ref sig .tc := ⟨.hbm, 103, rfl⟩
abbrev main_cst_23 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_24 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_25 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_26 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_27 : Ref sig .tc := ⟨.hbm, 131, rfl⟩
abbrev main_v95 : Ref sig .tc := ⟨.hbm, 132, rfl⟩
abbrev main_v96 : Ref sig .tc := ⟨.hbm, 133, rfl⟩
abbrev main_cst_28 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩

abbrev nD : Nat := 1
abbrev τ : Topo := Topo.v7x

variable {F : FTy → Type} [FloatOps F]
-- ==== InProj.lean ====
abbrev S4096x1024 : Shape := ⟨2, ![4096, 1024]⟩
abbrev S1x1024 : Shape := ⟨2, ![1, 1024]⟩
abbrev S1024x2560 : Shape := ⟨2, ![1024, 2560]⟩
abbrev S4096x512 : Shape := ⟨2, ![4096, 512]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S8x128 : Shape := ⟨2, ![8, 128]⟩
abbrev S1024x4x640 : Shape := ⟨3, ![1024, 4, 640]⟩
abbrev S4x1024x640 : Shape := ⟨3, ![4, 1024, 640]⟩
abbrev S2x4x512x640 : Shape := ⟨4, ![2, 4, 512, 640]⟩
abbrev S16x1024 : Shape := ⟨2, ![16, 1024]⟩
abbrev S512x512 : Shape := ⟨2, ![512, 512]⟩
abbrev S512x1024 : Shape := ⟨2, ![512, 1024]⟩
abbrev S512x128 : Shape := ⟨2, ![512, 128]⟩
abbrev S512x2560 : Shape := ⟨2, ![512, 2560]⟩
abbrev S4 : Shape := ⟨1, ![4]⟩
abbrev S1 : Shape := ⟨1, ![1]⟩
abbrev S1024x640 : Shape := ⟨2, ![1024, 640]⟩
abbrev S1x1024x640 : Shape := ⟨3, ![1, 1024, 640]⟩
abbrev S16x128 : Shape := ⟨2, ![16, 128]⟩
abbrev S256x128 : Shape := ⟨2, ![256, 128]⟩
abbrev S256x512 : Shape := ⟨2, ![256, 512]⟩
abbrev S256x1024 : Shape := ⟨2, ![256, 1024]⟩
abbrev S256x2560 : Shape := ⟨2, ![256, 2560]⟩
abbrev S256 : Shape := ⟨1, ![256]⟩
abbrev S256x1 : Shape := ⟨2, ![256, 1]⟩
abbrev S1024 : Shape := ⟨1, ![1024]⟩
abbrev S1024x512 : Shape := ⟨2, ![1024, 512]⟩
abbrev S1x1x512x512 : Shape := ⟨4, ![1, 1, 512, 512]⟩
abbrev S1x1x512x128 : Shape := ⟨4, ![1, 1, 512, 128]⟩
abbrev S1x1x512x384 : Shape := ⟨4, ![1, 1, 512, 384]⟩
abbrev S512x384 : Shape := ⟨2, ![512, 384]⟩
abbrev S1x1x512x256 : Shape := ⟨4, ![1, 1, 512, 256]⟩
abbrev S512x256 : Shape := ⟨2, ![512, 256]⟩

abbrev nBuf : Space → Nat
  | .hbm => 62
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S4096, .i32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S1x4096x1x32, .f32⟩
  | .hbm, ⟨29, _⟩ => ⟨S1x4096x4x32, .f32⟩
  | .hbm, ⟨30, _⟩ => ⟨S4096x128, .f32⟩
  | .hbm, ⟨31, _⟩ => ⟨S4096x32, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S_, .f32⟩
  | .hbm, ⟨37, _⟩ => ⟨S8x128, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1024x2560, .bf16⟩
  | .hbm, ⟨55, _⟩ => ⟨S1024x4x640, .bf16⟩
  | .hbm, ⟨56, _⟩ => ⟨S4x1024x640, .bf16⟩
  | .hbm, ⟨57, _⟩ => ⟨S4096x1024, .bf16⟩
  | .hbm, ⟨58, _⟩ => ⟨S4096x1024, .f32⟩
  | .hbm, ⟨59, _⟩ => ⟨S2x4x512x640, .f32⟩
  | .hbm, ⟨60, _⟩ => ⟨S1x1024, .f32⟩
  | .hbm, ⟨61, _⟩ => ⟨S16x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S2x4x512x640, .f32⟩
  | .local _ .vmem, ⟨22, _⟩ => ⟨S1x1024, .f32⟩
  | .local _ .vmem, ⟨23, _⟩ => ⟨S16x1024, .f32⟩
  | .local _ .vmem, ⟨24, _⟩ => ⟨S512x2560, .bf16⟩
  | .local _ .vmem, ⟨25, _⟩ => ⟨S1024x2560, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42_0 : Ref sig .tc := ⟨.hbm, 58, rfl⟩
abbrev main_v42_1 : Ref sig .tc := ⟨.hbm, 59, rfl⟩
abbrev main_v42_2 : Ref sig .tc := ⟨.hbm, 60, rfl⟩
abbrev main_v42_3 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v728 : BitVec 1 := Scalar.cmpi .eq arg0 c7_i32
  let v729 : BitVec 32 := Scalar.extui v728
  let c0_i32_415 : BitVec 32 := 0#32
  let v730 : BitVec 1 := Scalar.cmpi .ne v729 c0_i32_415
  v730

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x4x512x640 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InProjRefIdeal.lean ====
abbrev S4096x1024 : Shape := ⟨2, ![4096, 1024]⟩
abbrev S1x1024 : Shape := ⟨2, ![1, 1024]⟩
abbrev S1024x2560 : Shape := ⟨2, ![1024, 2560]⟩
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S4096x2560 : Shape := ⟨2, ![4096, 2560]⟩
abbrev S4096x8x64 : Shape := ⟨3, ![4096, 8, 64]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S2560x1024 : Shape := ⟨2, ![2560, 1024]⟩
abbrev S1024 : Shape := ⟨1, ![1024]⟩
abbrev S2x512x4x640 : Shape := ⟨4, ![2, 512, 4, 640]⟩
abbrev S2x4x512x640 : Shape := ⟨4, ![2, 4, 512, 640]⟩
abbrev S16x1024 : Shape := ⟨2, ![16, 1024]⟩

abbrev nBuf : Space → Nat
  | .hbm => 194
  | .vmem => 0
  | .smem => 0
  | _ => 0

abbrev hbmTy0_0 (i : Nat) : BufTy := match i % 128 with
  | 0 => ⟨S4096x1024, .f32⟩
  | 1 => ⟨S1x1024, .f32⟩
  | 2 => ⟨S1024x2560, .f32⟩
  | 3 => ⟨S4096x512, .f32⟩
  | 4 => ⟨S4096x512, .f32⟩
  | 5 => ⟨S4096x512, .f32⟩
  | 6 => ⟨S4096x1024, .f32⟩
  | 7 => ⟨S4096x1024, .f32⟩
  | 8 => ⟨S4096, .i32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S4096x1024, .f32⟩
  | 27 => ⟨S4096x1024, .f32⟩
  | 28 => ⟨S4096x2560, .f32⟩
  | 29 => ⟨S4096x512, .f32⟩
  | 30 => ⟨S4096x8x64, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S32, .f32⟩
  | 39 => ⟨S_, .f32⟩
  | 40 => ⟨S32, .f32⟩
  | 41 => ⟨S32, .f32⟩
  | 42 => ⟨S4096, .f32⟩
  | 43 => ⟨S4096x1, .f32⟩
  | 44 => ⟨S1x32, .f32⟩
  | 45 => ⟨S4096x32, .f32⟩
  | 46 => ⟨S4096x32, .f32⟩
  | 47 => ⟨S4096x32, .f32⟩
  | 48 => ⟨S4096x32, .f32⟩
  | 49 => ⟨S4096x1x32, .f32⟩
  | 50 => ⟨S4096x32, .f32⟩
  | 51 => ⟨S4096x1x32, .f32⟩
  | 52 => ⟨S4096x8x32, .f32⟩
  | 53 => ⟨S4096x8x32, .f32⟩
  | 54 => ⟨S4096x8x32, .f32⟩
  | 55 => ⟨S4096x8x32, .f32⟩
  | 56 => ⟨S4096x8x32, .f32⟩
  | 57 => ⟨S4096x8x32, .f32⟩
  | 58 => ⟨S4096x8x32, .f32⟩
  | 59 => ⟨S4096x8x32, .f32⟩
  | 60 => ⟨S4096x8x32, .f32⟩
  | 61 => ⟨S4096x8x32, .f32⟩
  | 62 => ⟨S4096x8x32, .f32⟩
  | 63 => ⟨S4096x8x32, .f32⟩
  | 64 => ⟨S4096x8x64, .f32⟩
  | 65 => ⟨S_, .f32⟩
  | 66 => ⟨S4096x8x64, .f32⟩
  | 67 => ⟨S4096x8x64, .f32⟩
  | 68 => ⟨S4096x512, .f32⟩
  | 69 => ⟨S4096x8x64, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S32, .f32⟩
  | 78 => ⟨S_, .f32⟩
  | 79 => ⟨S32, .f32⟩
  | 80 => ⟨S32, .f32⟩
  | 81 => ⟨S4096, .f32⟩
  | 82 => ⟨S4096x1, .f32⟩
  | 83 => ⟨S1x32, .f32⟩
  | 84 => ⟨S4096x32, .f32⟩
  | 85 => ⟨S4096x32, .f32⟩
  | 86 => ⟨S4096x32, .f32⟩
  | 87 => ⟨S4096x32, .f32⟩
  | 88 => ⟨S4096x1x32, .f32⟩
  | 89 => ⟨S4096x32, .f32⟩
  | 90 => ⟨S4096x1x32, .f32⟩
  | 91 => ⟨S4096x8x32, .f32⟩
  | 92 => ⟨S4096x8x32, .f32⟩
  | 93 => ⟨S4096x8x32, .f32⟩
  | 94 => ⟨S4096x8x32, .f32⟩
  | 95 => ⟨S4096x8x32, .f32⟩
  | 96 => ⟨S4096x8x32, .f32⟩
  | 97 => ⟨S4096x8x32, .f32⟩
  | 98 => ⟨S4096x8x32, .f32⟩
  | 99 => ⟨S4096x8x32, .f32⟩
  | 100 => ⟨S4096x8x32, .f32⟩
  | 101 => ⟨S4096x8x32, .f32⟩
  | 102 => ⟨S4096x8x32, .f32⟩
  | 103 => ⟨S4096x8x64, .f32⟩
  | 104 => ⟨S4096x512, .f32⟩
  | 105 => ⟨S4096x512, .f32⟩
  | 106 => ⟨S4096x512, .f32⟩
  | 107 => ⟨S4096x1024, .f32⟩
  | 108 => ⟨S_, .f32⟩
  | 109 => ⟨S4096x2560, .f32⟩
  | 110 => ⟨S_, .f32⟩
  | 111 => ⟨S4096x2560, .f32⟩
  | 112 => ⟨S4096x2560, .f32⟩
  | 113 => ⟨S4096x8x64, .f32⟩
  | 114 => ⟨S4096x8x64, .f32⟩
  | 115 => ⟨S4096x8x32, .f32⟩
  | 116 => ⟨S4096x8x32, .f32⟩
  | 117 => ⟨S4096x8x32, .f32⟩
  | 118 => ⟨S4096x8x32, .f32⟩
  | 119 => ⟨S4096x8x32, .f32⟩
  | 120 => ⟨S4096x8x32, .f32⟩
  | 121 => ⟨S4096x8x32, .f32⟩
  | 122 => ⟨S4096x8x32, .f32⟩
  | 123 => ⟨S4096x8x32, .f32⟩
  | 124 => ⟨S4096x8x32, .f32⟩
  | 125 => ⟨S4096x8x32, .f32⟩
  | 126 => ⟨S4096x8x32, .f32⟩
  | 127 => ⟨S4096x8x32, .f32⟩
  | _ => ⟨S4096x1024, .f32⟩

abbrev hbmTy0_1 (i : Nat) : BufTy := match i % 128 with
  | 0 => ⟨S_, .f32⟩
  | 1 => ⟨S4096x8x64, .f32⟩
  | 2 => ⟨S_, .f32⟩
  | 3 => ⟨S4096x8x64, .f32⟩
  | 4 => ⟨S4096x8x64, .f32⟩
  | 5 => ⟨S4096x512, .f32⟩
  | 6 => ⟨S_, .f32⟩
  | 7 => ⟨S4096x2560, .f32⟩
  | 8 => ⟨S4096x2560, .f32⟩
  | 9 => ⟨S_, .f32⟩
  | 10 => ⟨S4096x8x64, .f32⟩
  | 11 => ⟨S4096x8x64, .f32⟩
  | 12 => ⟨S4096x8x32, .f32⟩
  | 13 => ⟨S4096x8x32, .f32⟩
  | 14 => ⟨S4096x8x32, .f32⟩
  | 15 => ⟨S4096x8x32, .f32⟩
  | 16 => ⟨S4096x8x32, .f32⟩
  | 17 => ⟨S4096x8x32, .f32⟩
  | 18 => ⟨S4096x8x32, .f32⟩
  | 19 => ⟨S4096x8x32, .f32⟩
  | 20 => ⟨S4096x8x32, .f32⟩
  | 21 => ⟨S4096x8x32, .f32⟩
  | 22 => ⟨S4096x8x32, .f32⟩
  | 23 => ⟨S4096x8x32, .f32⟩
  | 24 => ⟨S4096x8x32, .f32⟩
  | 25 => ⟨S_, .f32⟩
  | 26 => ⟨S4096x8x64, .f32⟩
  | 27 => ⟨S_, .f32⟩
  | 28 => ⟨S4096x8x64, .f32⟩
  | 29 => ⟨S4096x8x64, .f32⟩
  | 30 => ⟨S4096x512, .f32⟩
  | 31 => ⟨S_, .f32⟩
  | 32 => ⟨S4096x2560, .f32⟩
  | 33 => ⟨S4096x2560, .f32⟩
  | 34 => ⟨S2560x1024, .f32⟩
  | 35 => ⟨S1024x2560, .f32⟩
  | 36 => ⟨S4096x1024, .f32⟩
  | 37 => ⟨S4096x1024, .f32⟩
  | 38 => ⟨S_, .f32⟩
  | 39 => ⟨S1024, .f32⟩
  | 40 => ⟨S1x1024, .f32⟩
  | 41 => ⟨S4096x1024, .f32⟩
  | 42 => ⟨S4096x1024, .f32⟩
  | 43 => ⟨S4096x1024, .f32⟩
  | 44 => ⟨S_, .f32⟩
  | 45 => ⟨S4096, .f32⟩
  | 46 => ⟨S4096x1, .f32⟩
  | 47 => ⟨S4096x1024, .f32⟩
  | 48 => ⟨S4096x1024, .f32⟩
  | 49 => ⟨S4096x1024, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S2x512x4x640, .f32⟩
  | 62 => ⟨S2x4x512x640, .f32⟩
  | 63 => ⟨S_, .i32⟩
  | 64 => ⟨S_, .f32⟩
  | 65 => ⟨S16x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_10 : Ref sig .tc := ⟨.hbm, 108, rfl⟩
abbrev main_v88 : Ref sig .tc := ⟨.hbm, 109, rfl⟩
abbrev main_cst_11 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_12 : Ref sig .tc := ⟨.hbm, 128, rfl⟩
abbrev main_v106 : Ref sig .tc := ⟨.hbm, 129, rfl⟩
abbrev main_cst_13 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_14 : Ref sig .tc := ⟨.hbm, 134, rfl⟩
abbrev main_v110 : Ref sig .tc := ⟨.hbm, 135, rfl⟩
abbrev main_v111 : Ref sig .tc := ⟨.hbm, 136, rfl⟩
abbrev main_cst_15 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_16 : Ref sig .tc := ⟨.hbm, 153, rfl⟩
abbrev main_v127 : Ref sig .tc := ⟨.hbm, 154, rfl⟩
abbrev main_cst_17 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_18 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_cst_19 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_cst_20 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_21 : Ref sig .tc := ⟨.hbm, 179, rfl⟩
abbrev main_v148 : Ref sig .tc := ⟨.hbm, 180, rfl⟩
abbrev main_v149 : Ref sig .tc := ⟨.hbm, 181, rfl⟩
abbrev main_cst_22 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_c : Ref sig .tc := ⟨.hbm, 191, rfl⟩
abbrev main_call0_v0 : Ref sig .tc := ⟨.hbm, 192, rfl⟩
abbrev main_v158 : Ref sig .tc := ⟨.hbm, 193, rfl⟩

abbrev nD : Nat := 1
abbrev τ : Topo := Topo.v7x

variable {F : FTy → Type} [FloatOps F]
-- ==== Mixer.lean ====
abbrev S4096x512 : Shape := ⟨2, ![4096, 512]⟩
abbrev S4096x768 : Shape := ⟨2, ![4096, 768]⟩
abbrev S4096x256 : Shape := ⟨2, ![4096, 256]⟩
abbrev S256x512 : Shape := ⟨2, ![256, 512]⟩
abbrev S3x256 : Shape := ⟨2, ![3, 256]⟩
abbrev S1x512 : Shape := ⟨2, ![1, 512]⟩
abbrev S1x256 : Shape := ⟨2, ![1, 256]⟩
abbrev S1024x1024 : Shape := ⟨2, ![1024, 1024]⟩
abbrev S1x1024 : Shape := ⟨2, ![1, 1024]⟩
abbrev S4096x1024 : Shape := ⟨2, ![4096, 1024]⟩
abbrev S4096x64 : Shape := ⟨2, ![4096, 64]⟩
abbrev S256x64 : Shape := ⟨2, ![256, 64]⟩
abbrev S_ : Shape := ⟨0, ![]⟩
abbrev S4096 : Shape := ⟨1, ![4096]⟩
abbrev S4096x1 : Shape := ⟨2, ![4096, 1]⟩
abbrev S2x256 : Shape := ⟨2, ![2, 256]⟩
abbrev S4098x256 : Shape := ⟨2, ![4098, 256]⟩
abbrev S256 : Shape := ⟨1, ![256]⟩
abbrev S8x128 : Shape := ⟨2, ![8, 128]⟩
abbrev S2x4x128x1024 : Shape := ⟨4, ![2, 4, 128, 1024]⟩
abbrev S512x1024 : Shape := ⟨2, ![512, 1024]⟩
abbrev S512x512 : Shape := ⟨2, ![512, 512]⟩
abbrev S512x256 : Shape := ⟨2, ![512, 256]⟩
abbrev S512x768 : Shape := ⟨2, ![512, 768]⟩
abbrev S8x768 : Shape := ⟨2, ![8, 768]⟩
abbrev S8x256 : Shape := ⟨2, ![8, 256]⟩
abbrev S512 : Shape := ⟨1, ![512]⟩
abbrev S512x1 : Shape := ⟨2, ![512, 1]⟩
abbrev S1024 : Shape := ⟨1, ![1024]⟩
abbrev S1x1x128x1024 : Shape := ⟨4, ![1, 1, 128, 1024]⟩
abbrev S128x1024 : Shape := ⟨2, ![128, 1024]⟩
abbrev S512x64 : Shape := ⟨2, ![512, 64]⟩

abbrev nBuf : Space → Nat
  | .hbm => 182
  | .vmem => 33
  | .smem => 0
  | _ => 0

abbrev hbmTy0_0 (i : Nat) : BufTy := match i % 128 with
  | 0 => ⟨S4096x512, .f32⟩
  | 1 => ⟨S4096x768, .f32⟩
  | 2 => ⟨S4096x256, .f32⟩
  | 3 => ⟨S256x512, .f32⟩
  | 4 => ⟨S3x256, .f32⟩
  | 5 => ⟨S1x512, .f32⟩
  | 6 => ⟨S1x256, .f32⟩
  | 7 => ⟨S1x256, .f32⟩
  | 8 => ⟨S1024x1024, .f32⟩
  | 9 => ⟨S1x1024, .f32⟩
  | 10 => ⟨S4096x1024, .f32⟩
  | 11 => ⟨S4096x256, .bf16⟩
  | 12 => ⟨S256x512, .bf16⟩
  | 13 => ⟨S1024x1024, .bf16⟩
  | 14 => ⟨S4096x64, .bf16⟩
  | 15 => ⟨S256x64, .bf16⟩
  | 16 => ⟨S4096x256, .f32⟩
  | 17 => ⟨S_, .f32⟩
  | 18 => ⟨S4096x256, .f32⟩
  | 19 => ⟨S4096x256, .f32⟩
  | 20 => ⟨S_, .f32⟩
  | 21 => ⟨S4096, .f32⟩
  | 22 => ⟨S4096x1, .f32⟩
  | 23 => ⟨S4096x256, .f32⟩
  | 24 => ⟨S4096x256, .f32⟩
  | 25 => ⟨S4096x256, .f32⟩
  | 26 => ⟨S4096x256, .bf16⟩
  | 27 => ⟨S256x64, .bf16⟩
  | 28 => ⟨S4096x64, .f32⟩
  | 29 => ⟨S_, .f32⟩
  | 30 => ⟨S4096, .f32⟩
  | 31 => ⟨S4096x1, .f32⟩
  | 32 => ⟨S4096x64, .f32⟩
  | 33 => ⟨S4096x64, .f32⟩
  | 34 => ⟨S4096x64, .bf16⟩
  | 35 => ⟨S256x64, .bf16⟩
  | 36 => ⟨S4096x256, .f32⟩
  | 37 => ⟨S_, .f32⟩
  | 38 => ⟨S4096x256, .f32⟩
  | 39 => ⟨S4096x256, .f32⟩
  | 40 => ⟨S_, .f32⟩
  | 41 => ⟨S4096, .f32⟩
  | 42 => ⟨S4096x1, .f32⟩
  | 43 => ⟨S4096x256, .f32⟩
  | 44 => ⟨S4096x256, .f32⟩
  | 45 => ⟨S4096x256, .f32⟩
  | 46 => ⟨S4096x256, .bf16⟩
  | 47 => ⟨S256x64, .bf16⟩
  | 48 => ⟨S4096x64, .f32⟩
  | 49 => ⟨S_, .f32⟩
  | 50 => ⟨S4096, .f32⟩
  | 51 => ⟨S4096x1, .f32⟩
  | 52 => ⟨S4096x64, .f32⟩
  | 53 => ⟨S4096x64, .f32⟩
  | 54 => ⟨S4096x64, .bf16⟩
  | 55 => ⟨S256x64, .bf16⟩
  | 56 => ⟨S4096x256, .f32⟩
  | 57 => ⟨S_, .f32⟩
  | 58 => ⟨S4096x256, .f32⟩
  | 59 => ⟨S4096x256, .f32⟩
  | 60 => ⟨S_, .f32⟩
  | 61 => ⟨S4096, .f32⟩
  | 62 => ⟨S4096x1, .f32⟩
  | 63 => ⟨S4096x256, .f32⟩
  | 64 => ⟨S4096x256, .f32⟩
  | 65 => ⟨S4096x256, .f32⟩
  | 66 => ⟨S4096x256, .bf16⟩
  | 67 => ⟨S256x64, .bf16⟩
  | 68 => ⟨S4096x64, .f32⟩
  | 69 => ⟨S_, .f32⟩
  | 70 => ⟨S4096, .f32⟩
  | 71 => ⟨S4096x1, .f32⟩
  | 72 => ⟨S4096x64, .f32⟩
  | 73 => ⟨S4096x64, .f32⟩
  | 74 => ⟨S4096x64, .bf16⟩
  | 75 => ⟨S256x64, .bf16⟩
  | 76 => ⟨S4096x256, .f32⟩
  | 77 => ⟨S_, .f32⟩
  | 78 => ⟨S4096x256, .f32⟩
  | 79 => ⟨S4096x256, .f32⟩
  | 80 => ⟨S_, .f32⟩
  | 81 => ⟨S4096, .f32⟩
  | 82 => ⟨S4096x1, .f32⟩
  | 83 => ⟨S4096x256, .f32⟩
  | 84 => ⟨S4096x256, .f32⟩
  | 85 => ⟨S4096x256, .f32⟩
  | 86 => ⟨S4096x256, .bf16⟩
  | 87 => ⟨S256x64, .bf16⟩
  | 88 => ⟨S4096x64, .f32⟩
  | 89 => ⟨S_, .f32⟩
  | 90 => ⟨S4096, .f32⟩
  | 91 => ⟨S4096x1, .f32⟩
  | 92 => ⟨S4096x64, .f32⟩
  | 93 => ⟨S4096x64, .f32⟩
  | 94 => ⟨S4096x256, .f32⟩
  | 95 => ⟨S4096x256, .f32⟩
  | 96 => ⟨S4096x256, .f32⟩
  | 97 => ⟨S4096x256, .f32⟩
  | 98 => ⟨S4096x256, .f32⟩
  | 99 => ⟨S_, .f32⟩
  | 100 => ⟨S2x256, .f32⟩
  | 101 => ⟨S4098x256, .f32⟩
  | 102 => ⟨S4096x256, .f32⟩
  | 103 => ⟨S1x256, .f32⟩
  | 104 => ⟨S256, .f32⟩
  | 105 => ⟨S1x256, .f32⟩
  | 106 => ⟨S4096x256, .f32⟩
  | 107 => ⟨S4096x256, .f32⟩
  | 108 => ⟨S4096x256, .f32⟩
  | 109 => ⟨S1x256, .f32⟩
  | 110 => ⟨S256, .f32⟩
  | 111 => ⟨S1x256, .f32⟩
  | 112 => ⟨S4096x256, .f32⟩
  | 113 => ⟨S4096x256, .f32⟩
  | 114 => ⟨S4096x256, .f32⟩
  | 115 => ⟨S4096x256, .f32⟩
  | 116 => ⟨S1x256, .f32⟩
  | 117 => ⟨S256, .f32⟩
  | 118 => ⟨S1x256, .f32⟩
  | 119 => ⟨S4096x256, .f32⟩
  | 120 => ⟨S4096x256, .f32⟩
  | 121 => ⟨S4096x256, .f32⟩
  | 122 => ⟨S4096x256, .f32⟩
  | 123 => ⟨S4096x512, .f32⟩
  | 124 => ⟨S_, .f32⟩
  | 125 => ⟨S4096, .f32⟩
  | 126 => ⟨S4096x1, .f32⟩
  | 127 => ⟨S_, .f32⟩
  | _ => ⟨S4096x512, .f32⟩

abbrev hbmTy0_1 (i : Nat) : BufTy := match i % 128 with
  | 0 => ⟨S4096x1, .f32⟩
  | 1 => ⟨S4096x1, .f32⟩
  | 2 => ⟨S_, .f32⟩
  | 3 => ⟨S4096x1, .f32⟩
  | 4 => ⟨S4096x1, .f32⟩
  | 5 => ⟨S4096x1, .f32⟩
  | 6 => ⟨S4096x512, .f32⟩
  | 7 => ⟨S4096x512, .f32⟩
  | 8 => ⟨S4096x512, .f32⟩
  | 9 => ⟨S4096x512, .f32⟩
  | 10 => ⟨S4096x256, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x256, .f32⟩
  | 22 => ⟨S4096x256, .f32⟩
  | 23 => ⟨S4096x256, .f32⟩
  | 24 => ⟨S4096x256, .f32⟩
  | 25 => ⟨S4096x256, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x1, .f32⟩
  | 36 => ⟨S4096x256, .f32⟩
  | 37 => ⟨S4096x256, .f32⟩
  | 38 => ⟨S4096x256, .f32⟩
  | 39 => ⟨S4096x256, .f32⟩
  | 40 => ⟨S4096x1024, .f32⟩
  | 41 => ⟨S4096x1024, .bf16⟩
  | 42 => ⟨S4096x1024, .f32⟩
  | 43 => ⟨S1x1024, .f32⟩
  | 44 => ⟨S_, .f32⟩
  | 45 => ⟨S8x128, .f32⟩
  | 46 => ⟨S2x4x128x1024, .f32⟩
  | 47 => ⟨S4096x512, .f32⟩
  | 48 => ⟨S4096x512, .f32⟩
  | 49 => ⟨S4096x1024, .bf16⟩
  | 50 => ⟨S256x512, .f32⟩
  | 51 => ⟨S3x256, .f32⟩
  | 52 => ⟨S1x1024, .f32⟩
  | 53 => ⟨S1x1024, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S512x768, .f32⟩
  | .local _ .vmem, ⟨11, _⟩ => ⟨S512x768, .f32⟩
  | .local _ .vmem, ⟨12, _⟩ => ⟨S8x768, .f32⟩
  | .local _ .vmem, ⟨13, _⟩ => ⟨S8x768, .f32⟩
  | .local _ .vmem, ⟨14, _⟩ => ⟨S512x256, .bf16⟩
  | .local _ .vmem, ⟨15, _⟩ => ⟨S512x256, .bf16⟩
  | .local _ .vmem, ⟨16, _⟩ => ⟨S256x512, .bf16⟩
  | .local _ .vmem, ⟨17, _⟩ => ⟨S3x256, .f32⟩
  | .local _ .vmem, ⟨18, _⟩ => ⟨S1x1024, .f32⟩
  | .local _ .vmem, ⟨19, _⟩ => ⟨S1024x1024, .bf16⟩
  | .local _ .vmem, ⟨20, _⟩ => ⟨S1x1024, .f32⟩
  | .local _ .vmem, ⟨21, _⟩ => ⟨S2x4x128x1024, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x1024, .bf16⟩
  | .local _ .vmem, ⟨27, _⟩ => ⟨S512x1024, .bf16⟩
  | .local _ .vmem, ⟨28, _⟩ => ⟨S256x512, .f32⟩
  | .local _ .vmem, ⟨29, _⟩ => ⟨S3x256, .f32⟩
  | .local _ .vmem, ⟨30, _⟩ => ⟨S1x1024, .f32⟩
  | .local _ .vmem, ⟨31, _⟩ => ⟨S1x1024, .f32⟩
  | .local _ .vmem, ⟨32, _⟩ => ⟨S8x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_12 : Ref sig .tc := ⟨.hbm, 124, rfl⟩
abbrev main_v100 : Ref sig .tc := ⟨.hbm, 125, rfl⟩
abbrev main_v101 : Ref sig .tc := ⟨.hbm, 126, rfl⟩
abbrev main_cst_13 : Ref sig .tc := ⟨.hbm, 127, rfl⟩
abbrev main_v102 : Ref sig .tc := ⟨.hbm, 128, rfl⟩
abbrev main_v103 : Ref sig .tc := ⟨.hbm, 129, rfl⟩
abbrev main_cst_14 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_15 : Ref sig .tc := ⟨.hbm, 139, rfl⟩
abbrev main_v112 : Ref sig .tc := ⟨.hbm, 140, rfl⟩
abbrev main_v113 : Ref sig .tc := ⟨.hbm, 141, rfl⟩
abbrev main_cst_16 : Ref sig .tc := ⟨.hbm, 142, rfl⟩
abbrev main_v114 : Ref sig .tc := ⟨.hbm, 143, rfl⟩
abbrev main_v115 : Ref sig .tc := ⟨.hbm, 144, rfl⟩
abbrev main_cst_17 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_18 : Ref sig .tc := ⟨.hbm, 154, rfl⟩
abbrev main_v124 : Ref sig .tc := ⟨.hbm, 155, rfl⟩
abbrev main_v125 : Ref sig .tc := ⟨.hbm, 156, rfl⟩
abbrev main_cst_19 : Ref sig .tc := ⟨.hbm, 157, rfl⟩
abbrev main_v126 : Ref sig .tc := ⟨.hbm, 158, rfl⟩
abbrev main_v127 : Ref sig .tc := ⟨.hbm, 159, rfl⟩
abbrev main_cst_20 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_21 : Ref sig .tc := ⟨.hbm, 172, rfl⟩
abbrev main_v139 : Ref sig .tc := ⟨.hbm, 173, rfl⟩
abbrev main_v140_0 : Ref sig .tc := ⟨.hbm, 174, rfl⟩
abbrev main_v140_1 : Ref sig .tc := ⟨.hbm, 175, rfl⟩
abbrev main_v140_2 : Ref sig .tc := ⟨.hbm, 176, rfl⟩
abbrev main_v140_3 : Ref sig .tc := ⟨.hbm, 177, rfl⟩
abbrev main_v140_4 : Ref sig .tc := ⟨.hbm, 178, rfl⟩
abbrev main_v140_5 : Ref sig .tc := ⟨.hbm, 179, rfl⟩
abbrev main_v140_6 : Ref sig .tc := ⟨.hbm, 180, rfl⟩
abbrev main_v140_7 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem19_0 : DmaSem sig := 30
abbrev cc0_sem20_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x4x128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S256x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MixerRefIdeal.lean ====
abbrev S4096x512 : Shape := ⟨2, ![4096, 512]⟩
abbrev S4096x768 : Shape := ⟨2, ![4096, 768]⟩
abbrev S4096x256 : Shape := ⟨2, ![4096, 256]⟩
abbrev S256x512 : Shape := ⟨2, ![256, 512]⟩
abbrev S3x256 : Shape := ⟨2, ![3, 256]⟩
abbrev S1x512 : Shape := ⟨2, ![1, 512]⟩
abbrev S1x256 : Shape := ⟨2, ![1, 256]⟩
abbrev S1024x1024 : Shape := ⟨2, ![1024, 1024]⟩
abbrev S1x1024 : Shape := ⟨2, ![1, 1024]⟩
abbrev S4096x1024 : Shape := ⟨2, ![4096, 1024]⟩
abbrev S_ : Shape := ⟨0, ![]⟩
abbrev S2x256 : Shape := ⟨2, ![2, 256]⟩
abbrev S4098x256 : Shape := ⟨2, ![4098, 256]⟩
abbrev S256 : Shape := ⟨1, ![256]⟩
abbrev S4096x4x64 : Shape := ⟨3, ![4096, 4, 64]⟩
abbrev S256x256 : Shape := ⟨2, ![256, 256]⟩
abbrev S256x4x64 : Shape := ⟨3, ![256, 4, 64]⟩
abbrev S4x4096x256 : Shape := ⟨3, ![4, 4096, 256]⟩
abbrev S4x4096 : Shape := ⟨2, ![4, 4096]⟩
abbrev S4x4096x1 : Shape := ⟨3, ![4, 4096, 1]⟩
abbrev S4x64x4096 : Shape := ⟨3, ![4, 64, 4096]⟩
abbrev S4096 : Shape := ⟨1, ![4096]⟩
abbrev S4096x1 : Shape := ⟨2, ![4096, 1]⟩
abbrev S1024 : Shape := ⟨1, ![1024]⟩
abbrev S512 : Shape := ⟨1, ![512]⟩
abbrev S4x64x256 : Shape := ⟨3, ![4, 64, 256]⟩
abbrev S4x256x64 : Shape := ⟨3, ![4, 256, 64]⟩
abbrev S4x4096x64 : Shape := ⟨3, ![4, 4096, 64]⟩
abbrev S4096x8x64 : Shape := ⟨3, ![4096, 8, 64]⟩
abbrev S4096x8 : Shape := ⟨2, ![4096, 8]⟩
abbrev S4096x8x1 : Shape := ⟨3, ![4096, 8, 1]⟩
abbrev S4x2x128x1024 : Shape := ⟨4, ![4, 2, 128, 1024]⟩
abbrev S2x4x128x1024 : Shape := ⟨4, ![2, 4, 128, 1024]⟩

abbrev nBuf : Space → Nat
  | .hbm => 366
  | .vmem => 0
  | .smem => 0
  | _ => 0

abbrev hbmTy0_0 (i : Nat) : BufTy := match i % 128 with
  | 0 => ⟨S4096x512, .f32⟩
  | 1 => ⟨S4096x768, .f32⟩
  | 2 => ⟨S4096x256, .f32⟩
  | 3 => ⟨S256x512, .f32⟩
  | 4 => ⟨S3x256, .f32⟩
  | 5 => ⟨S1x512, .f32⟩
  | 6 => ⟨S1x256, .f32⟩
  | 7 => ⟨S1x256, .f32⟩
  | 8 => ⟨S1024x1024, .f32⟩
  | 9 => ⟨S1x1024, .f32⟩
  | 10 => ⟨S4096x1024, .f32⟩
  | 11 => ⟨S4096x256, .f32⟩
  | 12 => ⟨S4096x256, .f32⟩
  | 13 => ⟨S4096x256, .f32⟩
  | 14 => ⟨S4096x256, .f32⟩
  | 15 => ⟨S_, .f32⟩
  | 16 => ⟨S2x256, .f32⟩
  | 17 => ⟨S4098x256, .f32⟩
  | 18 => ⟨S_, .f32⟩
  | 19 => ⟨S2x256, .f32⟩
  | 20 => ⟨S4096x256, .f32⟩
  | 21 => ⟨S1x256, .f32⟩
  | 22 => ⟨S256, .f32⟩
  | 23 => ⟨S1x256, .f32⟩
  | 24 => ⟨S4096x256, .f32⟩
  | 25 => ⟨S4096x256, .f32⟩
  | 26 => ⟨S4096x256, .f32⟩
  | 27 => ⟨S1x256, .f32⟩
  | 28 => ⟨S256, .f32⟩
  | 29 => ⟨S1x256, .f32⟩
  | 30 => ⟨S4096x256, .f32⟩
  | 31 => ⟨S4096x256, .f32⟩
  | 32 => ⟨S4096x256, .f32⟩
  | 33 => ⟨S4096x256, .f32⟩
  | 34 => ⟨S1x256, .f32⟩
  | 35 => ⟨S256, .f32⟩
  | 36 => ⟨S1x256, .f32⟩
  | 37 => ⟨S4096x256, .f32⟩
  | 38 => ⟨S4096x256, .f32⟩
  | 39 => ⟨S4096x256, .f32⟩
  | 40 => ⟨S4096x256, .f32⟩
  | 41 => ⟨S4096x4x64, .f32⟩
  | 42 => ⟨S256x256, .f32⟩
  | 43 => ⟨S256x256, .f32⟩
  | 44 => ⟨S256x4x64, .f32⟩
  | 45 => ⟨S256x4x64, .f32⟩
  | 46 => ⟨S4x4096x256, .f32⟩
  | 47 => ⟨S_, .f32⟩
  | 48 => ⟨S4x4096x256, .f32⟩
  | 49 => ⟨S4x4096x256, .f32⟩
  | 50 => ⟨S_, .f32⟩
  | 51 => ⟨S4x4096, .f32⟩
  | 52 => ⟨S4x4096x1, .f32⟩
  | 53 => ⟨S4x4096x256, .f32⟩
  | 54 => ⟨S4x4096x256, .i1⟩
  | 55 => ⟨S4x4096x256, .f32⟩
  | 56 => ⟨S_, .f32⟩
  | 57 => ⟨S4x4096, .f32⟩
  | 58 => ⟨S_, .f32⟩
  | 59 => ⟨S4x4096, .f32⟩
  | 60 => ⟨S4x4096, .f32⟩
  | 61 => ⟨S_, .f32⟩
  | 62 => ⟨S4x4096, .f32⟩
  | 63 => ⟨S4x4096, .i1⟩
  | 64 => ⟨S_, .f32⟩
  | 65 => ⟨S4x4096, .f32⟩
  | 66 => ⟨S4x4096, .i1⟩
  | 67 => ⟨S_, .f32⟩
  | 68 => ⟨S4x4096, .f32⟩
  | 69 => ⟨S_, .f32⟩
  | 70 => ⟨S4x4096, .f32⟩
  | 71 => ⟨S_, .f32⟩
  | 72 => ⟨S4x4096, .f32⟩
  | 73 => ⟨S4x4096, .f32⟩
  | 74 => ⟨S4x4096, .f32⟩
  | 75 => ⟨S4x4096x1, .f32⟩
  | 76 => ⟨S4x4096x256, .f32⟩
  | 77 => ⟨S4x4096x256, .f32⟩
  | 78 => ⟨S4x4096x256, .f32⟩
  | 79 => ⟨S_, .f32⟩
  | 80 => ⟨S4x4096, .f32⟩
  | 81 => ⟨S4x4096x1, .f32⟩
  | 82 => ⟨S4x4096x256, .f32⟩
  | 83 => ⟨S4x4096x256, .f32⟩
  | 84 => ⟨S4x4096x1, .f32⟩
  | 85 => ⟨S_, .f32⟩
  | 86 => ⟨S4x4096x1, .f32⟩
  | 87 => ⟨S4x4096x1, .f32⟩
  | 88 => ⟨S4x64x4096, .f32⟩
  | 89 => ⟨S4096x4x64, .f32⟩
  | 90 => ⟨S4096x256, .f32⟩
  | 91 => ⟨S4096x512, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096x1, .f32⟩
  | 100 => ⟨S4096x1, .f32⟩
  | 101 => ⟨S4096x1, .f32⟩
  | 102 => ⟨S4096x1, .f32⟩
  | 103 => ⟨S_, .f32⟩
  | 104 => ⟨S4096x1, .f32⟩
  | 105 => ⟨S4096x1, .f32⟩
  | 106 => ⟨S4096x512, .f32⟩
  | 107 => ⟨S4096x512, .f32⟩
  | 108 => ⟨S4096x512, .f32⟩
  | 109 => ⟨S4096x512, .f32⟩
  | 110 => ⟨S4096x256, .f32⟩
  | 111 => ⟨S_, .f32⟩
  | 112 => ⟨S4096, .f32⟩
  | 113 => ⟨S4096x1, .f32⟩
  | 114 => ⟨S_, .f32⟩
  | 115 => ⟨S4096x1, .f32⟩
  | 116 => ⟨S4096x1, .f32⟩
  | 117 => ⟨S_, .f32⟩
  | 118 => ⟨S4096x1, .f32⟩
  | 119 => ⟨S4096x1, .f32⟩
  | 120 => ⟨S4096x1, .f32⟩
  | 121 => ⟨S4096x1, .f32⟩
  | 122 => ⟨S_, .f32⟩
  | 123 => ⟨S4096x1, .f32⟩
  | 124 => ⟨S4096x1, .f32⟩
  | 125 => ⟨S4096x256, .f32⟩
  | 126 => ⟨S4096x256, .f32⟩
  | 127 => ⟨S4096x256, .f32⟩
  | _ => ⟨S4096x512, .f32⟩

abbrev hbmTy0_1 (i : Nat) : BufTy := match i % 128 with
  | 0 => ⟨S4096x256, .f32⟩
  | 1 => ⟨S4096x256, .f32⟩
  | 2 => ⟨S_, .f32⟩
  | 3 => ⟨S4096, .f32⟩
  | 4 => ⟨S4096x1, .f32⟩
  | 5 => ⟨S_, .f32⟩
  | 6 => ⟨S4096x1, .f32⟩
  | 7 => ⟨S4096x1, .f32⟩
  | 8 => ⟨S_, .f32⟩
  | 9 => ⟨S4096x1, .f32⟩
  | 10 => ⟨S4096x1, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x256, .f32⟩
  | 17 => ⟨S4096x256, .f32⟩
  | 18 => ⟨S4096x256, .f32⟩
  | 19 => ⟨S4096x256, .f32⟩
  | 20 => ⟨S4096x1024, .f32⟩
  | 21 => ⟨S4096x1024, .f32⟩
  | 22 => ⟨S4096x1024, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S_, .f32⟩
  | 30 => ⟨S4096x1, .f32⟩
  | 31 => ⟨S4096x1, .f32⟩
  | 32 => ⟨S4096x1, .f32⟩
  | 33 => ⟨S4096x1, .f32⟩
  | 34 => ⟨S_, .f32⟩
  | 35 => ⟨S4096x1, .f32⟩
  | 36 => ⟨S4096x1, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S_, .f32⟩
  | 43 => ⟨S1024, .f32⟩
  | 44 => ⟨S1x1024, .f32⟩
  | 45 => ⟨S4096x1024, .f32⟩
  | 46 => ⟨S4096x1024, .f32⟩
  | 47 => ⟨S4096x1024, .f32⟩
  | 48 => ⟨S_, .f32⟩
  | 49 => ⟨S4096, .f32⟩
  | 50 => ⟨S4096x1, .f32⟩
  | 51 => ⟨S4096x1024, .f32⟩
  | 52 => ⟨S4096x1024, .f32⟩
  | 53 => ⟨S4096x1, .f32⟩
  | 54 => ⟨S_, .f32⟩
  | 55 => ⟨S4096x1, .f32⟩
  | 56 => ⟨S4096x1, .f32⟩
  | 57 => ⟨S_, .f32⟩
  | 58 => ⟨S4096, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S1024x1024, .f32⟩
  | 65 => ⟨S1024x1024, .f32⟩
  | 66 => ⟨S4096x1024, .f32⟩
  | 67 => ⟨S4096x512, .f32⟩
  | 68 => ⟨S4096x256, .f32⟩
  | 69 => ⟨S4096x256, .f32⟩
  | 70 => ⟨S4096x256, .f32⟩
  | 71 => ⟨S_, .f32⟩
  | 72 => ⟨S256, .f32⟩
  | 73 => ⟨S1x256, .f32⟩
  | 74 => ⟨S4096x256, .f32⟩
  | 75 => ⟨S4096x256, .f32⟩
  | 76 => ⟨S4096x256, .f32⟩
  | 77 => ⟨S_, .f32⟩
  | 78 => ⟨S4096, .f32⟩
  | 79 => ⟨S4096x1, .f32⟩
  | 80 => ⟨S4096x256, .f32⟩
  | 81 => ⟨S4096x256, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096, .f32⟩
  | 88 => ⟨S4096x256, .f32⟩
  | 89 => ⟨S4096x256, .f32⟩
  | 90 => ⟨S4096x256, .f32⟩
  | 91 => ⟨S4096x256, .f32⟩
  | 92 => ⟨S4096x256, .f32⟩
  | 93 => ⟨S4096x256, .f32⟩
  | 94 => ⟨S_, .f32⟩
  | 95 => ⟨S256, .f32⟩
  | 96 => ⟨S1x256, .f32⟩
  | 97 => ⟨S4096x256, .f32⟩
  | 98 => ⟨S4096x256, .f32⟩
  | 99 => ⟨S4096x256, .f32⟩
  | 100 => ⟨S_, .f32⟩
  | 101 => ⟨S4096, .f32⟩
  | 102 => ⟨S4096x1, .f32⟩
  | 103 => ⟨S4096x256, .f32⟩
  | 104 => ⟨S4096x256, .f32⟩
  | 105 => ⟨S4096x1, .f32⟩
  | 106 => ⟨S_, .f32⟩
  | 107 => ⟨S4096x1, .f32⟩
  | 108 => ⟨S4096x1, .f32⟩
  | 109 => ⟨S_, .f32⟩
  | 110 => ⟨S4096, .f32⟩
  | 111 => ⟨S4096x256, .f32⟩
  | 112 => ⟨S4096x256, .f32⟩
  | 113 => ⟨S4096x256, .f32⟩
  | 114 => ⟨S4096x256, .f32⟩
  | 115 => ⟨S4096x256, .f32⟩
  | 116 => ⟨S4096x512, .f32⟩
  | 117 => ⟨S_, .f32⟩
  | 118 => ⟨S512, .f32⟩
  | 119 => ⟨S1x512, .f32⟩
  | 120 => ⟨S4096x512, .f32⟩
  | 121 => ⟨S4096x512, .f32⟩
  | 122 => ⟨S4096x512, .f32⟩
  | 123 => ⟨S_, .f32⟩
  | 124 => ⟨S4096, .f32⟩
  | 125 => ⟨S4096x1, .f32⟩
  | 126 => ⟨S4096x512, .f32⟩
  | 127 => ⟨S4096x512, .f32⟩
  | _ => ⟨S4096x512, .f32⟩

abbrev hbmTy0_2 (i : Nat) : BufTy := match i % 128 with
  | 0 => ⟨S4096x1, .f32⟩
  | 1 => ⟨S_, .f32⟩
  | 2 => ⟨S4096x1, .f32⟩
  | 3 => ⟨S4096x1, .f32⟩
  | 4 => ⟨S_, .f32⟩
  | 5 => ⟨S4096, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S4096x4x64, .f32⟩
  | 12 => ⟨S4x64x4096, .f32⟩
  | 13 => ⟨S4x4096x256, .f32⟩
  | 14 => ⟨S4x64x256, .f32⟩
  | 15 => ⟨S256x4x64, .f32⟩
  | 16 => ⟨S4x4096x256, .f32⟩
  | 17 => ⟨S4x4096x256, .f32⟩
  | 18 => ⟨S4x4096x256, .f32⟩
  | 19 => ⟨S_, .f32⟩
  | 20 => ⟨S4x4096, .f32⟩
  | 21 => ⟨S4x4096x1, .f32⟩
  | 22 => ⟨S4x4096x1, .f32⟩
  | 23 => ⟨S4x4096x256, .f32⟩
  | 24 => ⟨S4x4096x256, .f32⟩
  | 25 => ⟨S_, .f32⟩
  | 26 => ⟨S4x4096, .f32⟩
  | 27 => ⟨S4x4096x256, .f32⟩
  | 28 => ⟨S4x4096x256, .f32⟩
  | 29 => ⟨S4x4096x256, .f32⟩
  | 30 => ⟨S_, .f32⟩
  | 31 => ⟨S4x4096x256, .f32⟩
  | 32 => ⟨S4x4096x256, .f32⟩
  | 33 => ⟨S4x256x64, .f32⟩
  | 34 => ⟨S256x4x64, .f32⟩
  | 35 => ⟨S4x4096x64, .f32⟩
  | 36 => ⟨S4096x4x64, .f32⟩
  | 37 => ⟨S256x256, .f32⟩
  | 38 => ⟨S256x256, .f32⟩
  | 39 => ⟨S256x512, .f32⟩
  | 40 => ⟨S4096x256, .f32⟩
  | 41 => ⟨S4096x256, .f32⟩
  | 42 => ⟨S4096x256, .f32⟩
  | 43 => ⟨S4096x256, .f32⟩
  | 44 => ⟨S_, .f32⟩
  | 45 => ⟨S256, .f32⟩
  | 46 => ⟨S1x256, .f32⟩
  | 47 => ⟨S4096x256, .f32⟩
  | 48 => ⟨S4096x256, .f32⟩
  | 49 => ⟨S_, .f32⟩
  | 50 => ⟨S256, .f32⟩
  | 51 => ⟨S1x256, .f32⟩
  | 52 => ⟨S_, .f32⟩
  | 53 => ⟨S3x256, .f32⟩
  | 54 => ⟨S_, .f32⟩
  | 55 => ⟨S4098x256, .f32⟩
  | 56 => ⟨S4096x256, .f32⟩
  | 57 => ⟨S_, .f32⟩
  | 58 => ⟨S256, .f32⟩
  | 59 => ⟨S1x256, .f32⟩
  | 60 => ⟨S4096x256, .f32⟩
  | 61 => ⟨S4096x256, .f32⟩
  | 62 => ⟨S_, .f32⟩
  | 63 => ⟨S256, .f32⟩
  | 64 => ⟨S1x256, .f32⟩
  | 65 => ⟨S_, .f32⟩
  | 66 => ⟨S3x256, .f32⟩
  | 67 => ⟨S3x256, .f32⟩
  | 68 => ⟨S_, .f32⟩
  | 69 => ⟨S4098x256, .f32⟩
  | 70 => ⟨S4098x256, .f32⟩
  | 71 => ⟨S4096x256, .f32⟩
  | 72 => ⟨S_, .f32⟩
  | 73 => ⟨S256, .f32⟩
  | 74 => ⟨S1x256, .f32⟩
  | 75 => ⟨S4096x256, .f32⟩
  | 76 => ⟨S4096x256, .f32⟩
  | 77 => ⟨S_, .f32⟩
  | 78 => ⟨S256, .f32⟩
  | 79 => ⟨S1x256, .f32⟩
  | 80 => ⟨S_, .f32⟩
  | 81 => ⟨S3x256, .f32⟩
  | 82 => ⟨S3x256, .f32⟩
  | 83 => ⟨S_, .f32⟩
  | 84 => ⟨S4098x256, .f32⟩
  | 85 => ⟨S4098x256, .f32⟩
  | 86 => ⟨S2x256, .f32⟩
  | 87 => ⟨S4096x256, .f32⟩
  | 88 => ⟨S4096x256, .f32⟩
  | 89 => ⟨S4096x256, .f32⟩
  | 90 => ⟨S_, .f32⟩
  | 91 => ⟨S4096x768, .f32⟩
  | 92 => ⟨S_, .f32⟩
  | 93 => ⟨S4096x768, .f32⟩
  | 94 => ⟨S4096x768, .f32⟩
  | 95 => ⟨S_, .f32⟩
  | 96 => ⟨S4096x768, .f32⟩
  | 97 => ⟨S4096x768, .f32⟩
  | 98 => ⟨S4096x512, .f32⟩
  | 99 => ⟨S4096x8x64, .f32⟩
  | 100 => ⟨S_, .f32⟩
  | 101 => ⟨S4096x8, .f32⟩
  | 102 => ⟨S4096x8x1, .f32⟩
  | 103 => ⟨S4x2x128x1024, .f32⟩
  | 104 => ⟨S2x4x128x1024, .f32⟩
  | 105 => ⟨S4096x8x64, .f32⟩
  | 106 => ⟨S4096x512, .f32⟩
  | 107 => ⟨S4096x1024, .f32⟩
  | 108 => ⟨S4096x1024, .bf16⟩
  | 109 => ⟨S1x1024, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_1 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_16 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_19 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_cst_21 : Ref sig .tc := ⟨.hbm, 133, rfl⟩
abbrev main_v100 : Ref sig .tc := ⟨.hbm, 134, rfl⟩
abbrev main_v101 : Ref sig .tc := ⟨.hbm, 135, rfl⟩
abbrev main_cst_22 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_23 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_24 : Ref sig .tc := ⟨.hbm, 151, rfl⟩
abbrev main_v115 : Ref sig .tc := ⟨.hbm, 152, rfl⟩
abbrev main_v116 : Ref sig .tc := ⟨.hbm, 153, rfl⟩
abbrev main_cst_25 : Ref sig .tc := ⟨.hbm, 154, rfl⟩
abbrev main_v117 : Ref sig .tc := ⟨.hbm, 155, rfl⟩
abbrev main_v118 : Ref sig .tc := ⟨.hbm, 156, rfl⟩
abbrev main_cst_26 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_27 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_28 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_29 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_30 : Ref sig .tc := ⟨.hbm, 182, rfl⟩
abbrev main_v140 : Ref sig .tc := ⟨.hbm, 183, rfl⟩
abbrev main_v141 : Ref sig .tc := ⟨.hbm, 184, rfl⟩
abbrev main_cst_31 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_32 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_33 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_34 : Ref sig .tc := ⟨.hbm, 211, rfl⟩
abbrev main_v165 : Ref sig .tc := ⟨.hbm, 212, rfl⟩
abbrev main_v166 : Ref sig .tc := ⟨.hbm, 213, rfl⟩
abbrev main_cst_35 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_36 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_cst_37 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_38 : Ref sig .tc := ⟨.hbm, 234, rfl⟩
abbrev main_v184 : Ref sig .tc := ⟨.hbm, 235, rfl⟩
abbrev main_v185 : Ref sig .tc := ⟨.hbm, 236, rfl⟩
abbrev main_cst_39 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_cst_40 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_cst_41 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_cst_42 : Ref sig .tc := ⟨.hbm, 257, rfl⟩
abbrev main_v203 : Ref sig .tc := ⟨.hbm, 258, rfl⟩
abbrev main_v204 : Ref sig .tc := ⟨.hbm, 259, rfl⟩
abbrev main_cst_43 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_cst_44 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_cst_45 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_cst_46 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_cst_47 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_cst_48 : Ref sig .tc := ⟨.hbm, 305, rfl⟩
abbrev main_v245 : Ref sig .tc := ⟨.hbm, 306, rfl⟩
abbrev main_v246 : Ref sig .tc := ⟨.hbm, 307, rfl⟩
abbrev main_cst_49 : Ref sig .tc := ⟨.hbm, 308, rfl⟩
abbrev main_v247 : Ref sig .tc := ⟨.hbm, 309, rfl⟩
abbrev main_cst_50 : Ref sig .tc := ⟨.hbm, 310, rfl⟩
abbrev main_v248 : Ref sig .tc := ⟨.hbm, 311, rfl⟩
abbrev main_v249 : Ref sig .tc := ⟨.hbm, 312, rfl⟩
abbrev main_cst_51 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_cst_52 : Ref sig .tc := ⟨.hbm, 318, rfl⟩
abbrev main_v254 : Ref sig .tc := ⟨.hbm, 319, rfl⟩
abbrev main_v255 : Ref sig .tc := ⟨.hbm, 320, rfl⟩
abbrev main_cst_53 : Ref sig .tc := ⟨.hbm, 321, rfl⟩
abbrev main_v256 : Ref sig .tc := ⟨.hbm, 322, rfl⟩
abbrev main_v257 : Ref sig .tc := ⟨.hbm, 323, rfl⟩
abbrev main_cst_54 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_cst_55 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_cst_56 : Ref sig .tc := ⟨.hbm, 333, rfl⟩
abbrev main_v265 : Ref sig .tc := ⟨.hbm, 334, rfl⟩
abbrev main_v266 : Ref sig .tc := ⟨.hbm, 335, rfl⟩
abbrev main_cst_57 : Ref sig .tc := ⟨.hbm, 336, rfl⟩
abbrev main_v267 : Ref sig .tc := ⟨.hbm, 337, rfl⟩
abbrev main_v268 : Ref sig .tc := ⟨.hbm, 338, rfl⟩
abbrev main_cst_58 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_cst_59 : Ref sig .tc := ⟨.hbm, 346, rfl⟩
abbrev main_v275 : Ref sig .tc := ⟨.hbm, 347, rfl⟩
abbrev main_cst_60 : Ref sig .tc := ⟨.hbm, 348, rfl⟩
abbrev main_v276 : Ref sig .tc := ⟨.hbm, 349, rfl⟩
abbrev main_v277 : Ref sig .tc := ⟨.hbm, 350, rfl⟩
abbrev main_cst_61 : Ref sig .tc := ⟨.hbm, 351, rfl⟩
abbrev main_v278 : Ref sig .tc := ⟨.hbm, 352, rfl⟩
abbrev main_v279 : Ref sig .tc := ⟨.hbm, 353, rfl⟩
abbrev main_v280 : Ref sig .tc := ⟨.hbm, 354, rfl⟩
abbrev main_v281 : Ref sig .tc := ⟨.hbm, 355, rfl⟩
abbrev main_cst_62 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩

abbrev nD : Nat := 1
abbrev τ : Topo := Topo.v7x

variable {F : FTy → Type} [FloatOps F]
-- ==== MixFwd.lean ====
abbrev S4096x512 : Shape := ⟨2, ![4096, 512]⟩
abbrev S4096x768 : Shape := ⟨2, ![4096, 768]⟩
abbrev S4096x256 : Shape := ⟨2, ![4096, 256]⟩
abbrev S256x512 : Shape := ⟨2, ![256, 512]⟩
abbrev S3x256 : Shape := ⟨2, ![3, 256]⟩
abbrev S1x512 : Shape := ⟨2, ![1, 512]⟩
abbrev S1x256 : Shape := ⟨2, ![1, 256]⟩
abbrev S1024x1024 : Shape := ⟨2, ![1024, 1024]⟩
abbrev S1x1024 : Shape := ⟨2, ![1, 1024]⟩
abbrev S4096x1024 : Shape := ⟨2, ![4096, 1024]⟩
abbrev S512x512 : Shape := ⟨2, ![512, 512]⟩
abbrev S512x768 : Shape := ⟨2, ![512, 768]⟩
abbrev S8x768 : Shape := ⟨2, ![8, 768]⟩
abbrev S512x256 : Shape := ⟨2, ![512, 256]⟩
abbrev S512x1024 : Shape := ⟨2, ![512, 1024]⟩
abbrev S8x256 : Shape := ⟨2, ![8, 256]⟩
abbrev S512x64 : Shape := ⟨2, ![512, 64]⟩
abbrev S256x64 : Shape := ⟨2, ![256, 64]⟩
abbrev S512 : Shape := ⟨1, ![512]⟩
abbrev S512x1 : Shape := ⟨2, ![512, 1]⟩

abbrev nBuf : Space → Nat
  | .hbm => 18
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S4096x768, .f32⟩
  | .hbm, ⟨2, _⟩ => ⟨S4096x256, .f32⟩
  | .hbm, ⟨3, _⟩ => ⟨S256x512, .f32⟩
  | .hbm, ⟨4, _⟩ => ⟨S3x256, .f32⟩
  | .hbm, ⟨5, _⟩ => ⟨S1x512, .f32⟩
  | .hbm, ⟨6, _⟩ => ⟨S1x256, .f32⟩
  | .hbm, ⟨7, _⟩ => ⟨S1x256, .f32⟩
  | .hbm, ⟨8, _⟩ => ⟨S1024x1024, .f32⟩
  | .hbm, ⟨9, _⟩ => ⟨S1x1024, .f32⟩
  | .hbm, ⟨10, _⟩ => ⟨S4096x1024, .f32⟩
  | .hbm, ⟨11, _⟩ => ⟨S4096x256, .bf16⟩
  | .hbm, ⟨12, _⟩ => ⟨S256x512, .bf16⟩
  | .hbm, ⟨13, _⟩ => ⟨S1024x1024, .bf16⟩
  | .hbm, ⟨14, _⟩ => ⟨S4096x256, .f32⟩
  | .hbm, ⟨15, _⟩ => ⟨S4096x1024, .bf16⟩
  | .hbm, ⟨16, _⟩ => ⟨S4096x1024, .f32⟩
  | .hbm, ⟨17, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x768, .f32⟩
  | .local _ .vmem, ⟨3, _⟩ => ⟨S512x768, .f32⟩
  | .local _ .vmem, ⟨4, _⟩ => ⟨S8x768, .f32⟩
  | .local _ .vmem, ⟨5, _⟩ => ⟨S8x768, .f32⟩
  | .local _ .vmem, ⟨6, _⟩ => ⟨S512x256, .bf16⟩
  | .local _ .vmem, ⟨7, _⟩ => ⟨S512x256, .bf16⟩
  | .local _ .vmem, ⟨8, _⟩ => ⟨S256x512, .bf16⟩
  | .local _ .vmem, ⟨9, _⟩ => ⟨S3x256, .f32⟩
  | .local _ .vmem, ⟨10, _⟩ => ⟨S1x512, .f32⟩
  | .local _ .vmem, ⟨11, _⟩ => ⟨S1x256, .f32⟩
  | .local _ .vmem, ⟨12, _⟩ => ⟨S1x256, .f32⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x256, .f32⟩
  | .local _ .vmem, ⟨18, _⟩ => ⟨S512x256, .f32⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixFwdRefIdeal.lean ====
abbrev S4096x512 : Shape := ⟨2, ![4096, 512]⟩
abbrev S4096x768 : Shape := ⟨2, ![4096, 768]⟩
abbrev S4096x256 : Shape := ⟨2, ![4096, 256]⟩
abbrev S256x512 : Shape := ⟨2, ![256, 512]⟩
abbrev S3x256 : Shape := ⟨2, ![3, 256]⟩
abbrev S1x512 : Shape := ⟨2, ![1, 512]⟩
abbrev S1x256 : Shape := ⟨2, ![1, 256]⟩
abbrev S1024x1024 : Shape := ⟨2, ![1024, 1024]⟩
abbrev S1x1024 : Shape := ⟨2, ![1, 1024]⟩
abbrev S4096x1024 : Shape := ⟨2, ![4096, 1024]⟩
abbrev S_ : Shape := ⟨0, ![]⟩
abbrev S2x256 : Shape := ⟨2, ![2, 256]⟩
abbrev S4098x256 : Shape := ⟨2, ![4098, 256]⟩
abbrev S256 : Shape := ⟨1, ![256]⟩
abbrev S4096x4x64 : Shape := ⟨3, ![4096, 4, 64]⟩
abbrev S256x256 : Shape := ⟨2, ![256, 256]⟩
abbrev S256x4x64 : Shape := ⟨3, ![256, 4, 64]⟩
abbrev S4x4096x256 : Shape := ⟨3, ![4, 4096, 256]⟩
abbrev S4x4096 : Shape := ⟨2, ![4, 4096]⟩
abbrev S4x4096x1 : Shape := ⟨3, ![4, 4096, 1]⟩
abbrev S4x64x4096 : Shape := ⟨3, ![4, 64, 4096]⟩
abbrev S4096 : Shape := ⟨1, ![4096]⟩
abbrev S4096x1 : Shape := ⟨2, ![4096, 1]⟩

abbrev nBuf : Space → Nat
  | .hbm => 129
  | .vmem => 0
  | .smem => 0
  | _ => 0

abbrev hbmTy0_0 (i : Nat) : BufTy := match i % 128 with
  | 0 => ⟨S4096x512, .f32⟩
  | 1 => ⟨S4096x768, .f32⟩
  | 2 => ⟨S4096x256, .f32⟩
  | 3 => ⟨S256x512, .f32⟩
  | 4 => ⟨S3x256, .f32⟩
  | 5 => ⟨S1x512, .f32⟩
  | 6 => ⟨S1x256, .f32⟩
  | 7 => ⟨S1x256, .f32⟩
  | 8 => ⟨S1024x1024, .f32⟩
  | 9 => ⟨S1x1024, .f32⟩
  | 10 => ⟨S4096x1024, .f32⟩
  | 11 => ⟨S4096x256, .f32⟩
  | 12 => ⟨S4096x256, .f32⟩
  | 13 => ⟨S4096x256, .f32⟩
  | 14 => ⟨S4096x256, .f32⟩
  | 15 => ⟨S_, .f32⟩
  | 16 => ⟨S2x256, .f32⟩
  | 17 => ⟨S4098x256, .f32⟩
  | 18 => ⟨S4096x256, .f32⟩
  | 19 => ⟨S1x256, .f32⟩
  | 20 => ⟨S256, .f32⟩
  | 21 => ⟨S1x256, .f32⟩
  | 22 => ⟨S4096x256, .f32⟩
  | 23 => ⟨S4096x256, .f32⟩
  | 24 => ⟨S4096x256, .f32⟩
  | 25 => ⟨S1x256, .f32⟩
  | 26 => ⟨S256, .f32⟩
  | 27 => ⟨S1x256, .f32⟩
  | 28 => ⟨S4096x256, .f32⟩
  | 29 => ⟨S4096x256, .f32⟩
  | 30 => ⟨S4096x256, .f32⟩
  | 31 => ⟨S4096x256, .f32⟩
  | 32 => ⟨S1x256, .f32⟩
  | 33 => ⟨S256, .f32⟩
  | 34 => ⟨S1x256, .f32⟩
  | 35 => ⟨S4096x256, .f32⟩
  | 36 => ⟨S4096x256, .f32⟩
  | 37 => ⟨S4096x256, .f32⟩
  | 38 => ⟨S4096x256, .f32⟩
  | 39 => ⟨S4096x4x64, .f32⟩
  | 40 => ⟨S256x256, .f32⟩
  | 41 => ⟨S256x256, .f32⟩
  | 42 => ⟨S256x4x64, .f32⟩
  | 43 => ⟨S256x4x64, .f32⟩
  | 44 => ⟨S4x4096x256, .f32⟩
  | 45 => ⟨S_, .f32⟩
  | 46 => ⟨S4x4096x256, .f32⟩
  | 47 => ⟨S4x4096x256, .f32⟩
  | 48 => ⟨S_, .f32⟩
  | 49 => ⟨S4x4096, .f32⟩
  | 50 => ⟨S_, .f32⟩
  | 51 => ⟨S4x4096, .f32⟩
  | 52 => ⟨S4x4096, .f32⟩
  | 53 => ⟨S4x4096x1, .f32⟩
  | 54 => ⟨S4x4096x256, .f32⟩
  | 55 => ⟨S4x4096x256, .f32⟩
  | 56 => ⟨S4x4096x256, .f32⟩
  | 57 => ⟨S_, .f32⟩
  | 58 => ⟨S4x4096, .f32⟩
  | 59 => ⟨S4x4096x1, .f32⟩
  | 60 => ⟨S4x4096x256, .f32⟩
  | 61 => ⟨S4x4096x256, .f32⟩
  | 62 => ⟨S4x64x4096, .f32⟩
  | 63 => ⟨S4096x4x64, .f32⟩
  | 64 => ⟨S4096x256, .f32⟩
  | 65 => ⟨S4096x512, .f32⟩
  | 66 => ⟨S_, .f32⟩
  | 67 => ⟨S4096, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x1, .f32⟩
  | 76 => ⟨S4096x512, .f32⟩
  | 77 => ⟨S4096x512, .f32⟩
  | 78 => ⟨S4096x512, .f32⟩
  | 79 => ⟨S4096x512, .f32⟩
  | 80 => ⟨S4096x256, .f32⟩
  | 81 => ⟨S_, .f32⟩
  | 82 => ⟨S4096, .f32⟩
  | 83 => ⟨S4096x1, .f32⟩
  | 84 => ⟨S_, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x1, .f32⟩
  | 91 => ⟨S4096x256, .f32⟩
  | 92 => ⟨S4096x256, .f32⟩
  | 93 => ⟨S4096x256, .f32⟩
  | 94 => ⟨S4096x256, .f32⟩
  | 95 => ⟨S4096x256, .f32⟩
  | 96 => ⟨S_, .f32⟩
  | 97 => ⟨S4096, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096x1, .f32⟩
  | 104 => ⟨S4096x1, .f32⟩
  | 105 => ⟨S4096x1, .f32⟩
  | 106 => ⟨S4096x256, .f32⟩
  | 107 => ⟨S4096x256, .f32⟩
  | 108 => ⟨S4096x256, .f32⟩
  | 109 => ⟨S4096x256, .f32⟩
  | 110 => ⟨S4096x1024, .f32⟩
  | 111 => ⟨S4096x1024, .f32⟩
  | 112 => ⟨S4096x1024, .bf16⟩
  | 113 => ⟨S4096x1024, .f32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096x1, .f32⟩
  | 122 => ⟨S4096x1, .f32⟩
  | 123 => ⟨S4096x1, .f32⟩
  | 124 => ⟨S4096x1024, .f32⟩
  | 125 => ⟨S4096x1024, .f32⟩
  | 126 => ⟨S4096x1024, .f32⟩
  | 127 => ⟨S4096x1024, .f32⟩
  | _ => ⟨S4096x512, .f32⟩

abbrev hbmTy0_1 (i : Nat) : BufTy := match i % 128 with
  | 0 => ⟨S4096x1024, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_0 : Ref sig .tc := ⟨.hbm, 45, rfl⟩
abbrev main_v33 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_4 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_7 : Ref sig .tc := ⟨.hbm, 81, rfl⟩
abbrev main_v62 : Ref sig .tc := ⟨.hbm, 82, rfl⟩
abbrev main_v63 : Ref sig .tc := ⟨.hbm, 83, rfl⟩
abbrev main_cst_8 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_10 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_13 : Ref sig .tc := ⟨.hbm, 114, rfl⟩
abbrev main_v89 : Ref sig .tc := ⟨.hbm, 115, rfl⟩
abbrev main_v90 : Ref sig .tc := ⟨.hbm, 116, rfl⟩
abbrev main_cst_14 : Ref sig .tc := ⟨.hbm, 117, rfl⟩
abbrev main_v91 : Ref sig .tc := ⟨.hbm, 118, rfl⟩
abbrev main_v92 : Ref sig .tc := ⟨.hbm, 119, rfl⟩
abbrev main_cst_15 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩

abbrev nD : Nat := 1
abbrev τ : Topo := Topo.v7x

variable {F : FTy → Type} [FloatOps F]
-- ==== MemKvFwd.lean ====
abbrev S256x1024 : Shape := ⟨2, ![256, 1024]⟩
abbrev S1x1024 : Shape := ⟨2, ![1, 1024]⟩
abbrev S1024x512 : Shape := ⟨2, ![1024, 512]⟩
abbrev S_ : Shape := ⟨0, ![]⟩
abbrev S8x128 : Shape := ⟨2, ![8, 128]⟩
abbrev S256x512 : Shape := ⟨2, ![256, 512]⟩
abbrev S256 : Shape := ⟨1, ![256]⟩
abbrev S256x1 : Shape := ⟨2, ![256, 1]⟩

abbrev nBuf : Space → Nat
  | .hbm => 8
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .f32⟩
  | .hbm, ⟨3, _⟩ => ⟨S1024x512, .bf16⟩
  | .hbm, ⟨4, _⟩ => ⟨S_, .f32⟩
  | .hbm, ⟨5, _⟩ => ⟨S8x128, .f32⟩
  | .hbm, ⟨6, _⟩ => ⟨S256x1024, .bf16⟩
  | .hbm, ⟨7, _⟩ => ⟨S256x512, .bf16⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S256x1024, .bf16⟩
  | .local _ .vmem, ⟨4, _⟩ => ⟨S256x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MemKvFwdRefIdeal.lean ====
abbrev S256x1024 : Shape := ⟨2, ![256, 1024]⟩
abbrev S1x1024 : Shape := ⟨2, ![1, 1024]⟩
abbrev S1024x512 : Shape := ⟨2, ![1024, 512]⟩
abbrev S_ : Shape := ⟨0, ![]⟩
abbrev S256 : Shape := ⟨1, ![256]⟩
abbrev S256x1 : Shape := ⟨2, ![256, 1]⟩
abbrev S256x512 : Shape := ⟨2, ![256, 512]⟩

abbrev nBuf : Space → Nat
  | .hbm => 36
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .bf16⟩
  | .hbm, ⟨19, _⟩ => ⟨S256x1024, .f32⟩
  | .hbm, ⟨20, _⟩ => ⟨S_, .f32⟩
  | .hbm, ⟨21, _⟩ => ⟨S256, .f32⟩
  | .hbm, ⟨22, _⟩ => ⟨S256x1, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x512, .f32⟩
  | .hbm, ⟨35, _⟩ => ⟨S256x512, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== PreNorm.lean ====
abbrev S4096x1024 : Shape := ⟨2, ![4096, 1024]⟩
abbrev S1x1024 : Shape := ⟨2, ![1, 1024]⟩
abbrev S_ : Shape := ⟨0, ![]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S_, .f32⟩
  | .hbm, ⟨3, _⟩ => ⟨S8x128, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== InProjFwd.lean ====
abbrev S4096x1024 : Shape := ⟨2, ![4096, 1024]⟩
abbrev S1x1024 : Shape := ⟨2, ![1, 1024]⟩
abbrev S1024x2560 : Shape := ⟨2, ![1024, 2560]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1024x4x640 : Shape := ⟨3, ![1024, 4, 640]⟩
abbrev S4x1024x640 : Shape := ⟨3, ![4, 1024, 640]⟩
abbrev S8x128 : Shape := ⟨2, ![8, 128]⟩
abbrev S4096x512 : Shape := ⟨2, ![4096, 512]⟩
abbrev S4096x768 : Shape := ⟨2, ![4096, 768]⟩
abbrev S4096x256 : Shape := ⟨2, ![4096, 256]⟩
abbrev S512x1024 : Shape := ⟨2, ![512, 1024]⟩
abbrev S512x128 : Shape := ⟨2, ![512, 128]⟩
abbrev S512x512 : Shape := ⟨2, ![512, 512]⟩
abbrev S512x768 : Shape := ⟨2, ![512, 768]⟩
abbrev S512x256 : Shape := ⟨2, ![512, 256]⟩
abbrev S512x2560 : Shape := ⟨2, ![512, 2560]⟩
abbrev S4 : Shape := ⟨1, ![4]⟩
abbrev S1 : Shape := ⟨1, ![1]⟩
abbrev S1024x640 : Shape := ⟨2, ![1024, 640]⟩
abbrev S1x1024x640 : Shape := ⟨3, ![1, 1024, 640]⟩
abbrev S16x128 : Shape := ⟨2, ![16, 128]⟩

abbrev nBuf : Space → Nat
  | .hbm => 57
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S4096, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4096, .f32⟩
  | .hbm, ⟨16, _⟩ => ⟨S4096x1, .f32⟩
  | .hbm, ⟨17, _⟩ => ⟨S1x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S1x4096x1x32, .f32⟩
  | .hbm, ⟨24, _⟩ => ⟨S1x4096x4x32, .f32⟩
  | .hbm, ⟨25, _⟩ => ⟨S4096x128, .f32⟩
  | .hbm, ⟨26, _⟩ => ⟨S4096x32, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S1024x2560, .bf16⟩
  | .hbm, ⟨32, _⟩ => ⟨S1024x4x640, .bf16⟩
  | .hbm, ⟨33, _⟩ => ⟨S4x1024x640, .bf16⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S_, .f32⟩
  | .hbm, ⟨51, _⟩ => ⟨S8x128, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x768, .f32⟩
  | .hbm, ⟨56, _⟩ => ⟨S4096x256, .bf16⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x768, .f32⟩
  | .local _ .vmem, ⟨13, _⟩ => ⟨S512x768, .f32⟩
  | .local _ .vmem, ⟨14, _⟩ => ⟨S512x256, .bf16⟩
  | .local _ .vmem, ⟨15, _⟩ => ⟨S512x256, .bf16⟩
  | .local _ .vmem, ⟨16, _⟩ => ⟨S512x2560, .f32⟩
  | .local _ .vmem, ⟨17, _⟩ => ⟨S1024x2560, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41_0 : Ref sig .tc := ⟨.hbm, 52, rfl⟩
abbrev main_v41_1 : Ref sig .tc := ⟨.hbm, 53, rfl⟩
abbrev main_v41_2 : Ref sig .tc := ⟨.hbm, 54, rfl⟩
abbrev main_v41_3 : Ref sig .tc := ⟨.hbm, 55, rfl⟩
abbrev main_v41_4 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InProjFwdRefIdeal.lean ====
abbrev S4096x1024 : Shape := ⟨2, ![4096, 1024]⟩
abbrev S1x1024 : Shape := ⟨2, ![1, 1024]⟩
abbrev S1024x2560 : Shape := ⟨2, ![1024, 2560]⟩
abbrev S4096 : Shape := ⟨1, ![4096]⟩
abbrev S_ : Shape := ⟨0, ![]⟩
abbrev S4096x1 : Shape := ⟨2, ![4096, 1]⟩
abbrev S4096x2560 : Shape := ⟨2, ![4096, 2560]⟩
abbrev S4096x512 : Shape := ⟨2, ![4096, 512]⟩
abbrev S4096x8x64 : Shape := ⟨3, ![4096, 8, 64]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x768 : Shape := ⟨2, ![4096, 768]⟩
abbrev S4096x256 : Shape := ⟨2, ![4096, 256]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S4096, .i32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2560, .f32⟩
  | .hbm, ⟨20, _⟩ => ⟨S4096x512, .f32⟩
  | .hbm, ⟨21, _⟩ => ⟨S4096x8x64, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S4096, .f32⟩
  | .hbm, ⟨34, _⟩ => ⟨S4096x1, .f32⟩
  | .hbm, ⟨35, _⟩ => ⟨S1x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x1x32, .f32⟩
  | .hbm, ⟨41, _⟩ => ⟨S4096x32, .f32⟩
  | .hbm, ⟨42, _⟩ => ⟨S4096x1x32, .f32⟩
  | .hbm, ⟨43, _⟩ => ⟨S4096x8x32, .f32⟩
  | .hbm, ⟨44, _⟩ => ⟨S4096x8x32, .f32⟩
  | .hbm, ⟨45, _⟩ => ⟨S4096x8x32, .f32⟩
  | .hbm, ⟨46, _⟩ => ⟨S4096x8x32, .f32⟩
  | .hbm, ⟨47, _⟩ => ⟨S4096x8x32, .f32⟩
  | .hbm, ⟨48, _⟩ => ⟨S4096x8x32, .f32⟩
  | .hbm, ⟨49, _⟩ => ⟨S4096x8x32, .f32⟩
  | .hbm, ⟨50, _⟩ => ⟨S4096x8x32, .f32⟩
  | .hbm, ⟨51, _⟩ => ⟨S4096x8x32, .f32⟩
  | .hbm, ⟨52, _⟩ => ⟨S4096x8x32, .f32⟩
  | .hbm, ⟨53, _⟩ => ⟨S4096x8x32, .f32⟩
  | .hbm, ⟨54, _⟩ => ⟨S4096x8x32, .f32⟩
  | .hbm, ⟨55, _⟩ => ⟨S4096x8x64, .f32⟩
  | .hbm, ⟨56, _⟩ => ⟨S_, .f32⟩
  | .hbm, ⟨57, _⟩ => ⟨S4096x8x64, .f32⟩
  | .hbm, ⟨58, _⟩ => ⟨S4096x8x64, .f32⟩
  | .hbm, ⟨59, _⟩ => ⟨S4096x512, .f32⟩
  | .hbm, ⟨60, _⟩ => ⟨S4096x8x64, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S4096, .f32⟩
  | .hbm, ⟨73, _⟩ => ⟨S4096x1, .f32⟩
  | .hbm, ⟨74, _⟩ => ⟨S1x32, .f32⟩
  | .hbm, ⟨75, _⟩ => ⟨S4096x32, .f32⟩
  | .hbm, ⟨76, _⟩ => ⟨S4096x32, .f32⟩
  | .hbm, ⟨77, _⟩ => ⟨S4096x32, .f32⟩
  | .hbm, ⟨78, _⟩ => ⟨S4096x32, .f32⟩
  | .hbm, ⟨79, _⟩ => ⟨S4096x1x32, .f32⟩
  | .hbm, ⟨80, _⟩ => ⟨S4096x32, .f32⟩
  | .hbm, ⟨81, _⟩ => ⟨S4096x1x32, .f32⟩
  | .hbm, ⟨82, _⟩ => ⟨S4096x8x32, .f32⟩
  | .hbm, ⟨83, _⟩ => ⟨S4096x8x32, .f32⟩
  | .hbm, ⟨84, _⟩ => ⟨S4096x8x32, .f32⟩
  | .hbm, ⟨85, _⟩ => ⟨S4096x8x32, .f32⟩
  | .hbm, ⟨86, _⟩ => ⟨S4096x8x32, .f32⟩
  | .hbm, ⟨87, _⟩ => ⟨S4096x8x32, .f32⟩
  | .hbm, ⟨88, _⟩ => ⟨S4096x8x32, .f32⟩
  | .hbm, ⟨89, _⟩ => ⟨S4096x8x32, .f32⟩
  | .hbm, ⟨90, _⟩ => ⟨S4096x8x32, .f32⟩
  | .hbm, ⟨91, _⟩ => ⟨S4096x8x32, .f32⟩
  | .hbm, ⟨92, _⟩ => ⟨S4096x8x32, .f32⟩
  | .hbm, ⟨93, _⟩ => ⟨S4096x8x32, .f32⟩
  | .hbm, ⟨94, _⟩ => ⟨S4096x8x64, .f32⟩
  | .hbm, ⟨95, _⟩ => ⟨S4096x512, .f32⟩
  | .hbm, ⟨96, _⟩ => ⟨S4096x512, .f32⟩
  | .hbm, ⟨97, _⟩ => ⟨S4096x512, .f32⟩
  | .hbm, ⟨98, _⟩ => ⟨S4096x1024, .f32⟩
  | .hbm, ⟨99, _⟩ => ⟨S4096x768, .f32⟩
  | .hbm, ⟨100, _⟩ => ⟨S4096x256, .f32⟩
  | .hbm, ⟨101, _⟩ => ⟨S4096x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩

abbrev nD : Nat := 1
abbrev τ : Topo := Topo.v7x

variable {F : FTy → Type} [FloatOps F]
-- ==== WeightGrad.lean ====
abbrev S4096x4096 : Shape := ⟨2, ![4096, 4096]⟩
abbrev S4096x1024 : Shape := ⟨2, ![4096, 1024]⟩
abbrev S_ : Shape := ⟨0, ![]⟩
abbrev S8x128 : Shape := ⟨2, ![8, 128]⟩
abbrev S2x4x512x1024 : Shape := ⟨4, ![2, 4, 512, 1024]⟩
abbrev S2x1x512x1024 : Shape := ⟨4, ![2, 1, 512, 1024]⟩
abbrev S1024x1024 : Shape := ⟨2, ![1024, 1024]⟩
abbrev S512x1024 : Shape := ⟨2, ![512, 1024]⟩
abbrev S1x1x512x1024 : Shape := ⟨4, ![1, 1, 512, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S_, .f32⟩
  | .hbm, ⟨6, _⟩ => ⟨S8x128, .f32⟩
  | .hbm, ⟨7, _⟩ => ⟨S2x4x512x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S2x1x512x1024, .f32⟩
  | .local _ .vmem, ⟨4, _⟩ => ⟨S2x1x512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WeightGradRefIdeal.lean ====
abbrev S4096x4096 : Shape := ⟨2, ![4096, 4096]⟩
abbrev S4096x1024 : Shape := ⟨2, ![4096, 1024]⟩
abbrev S1024x4096 : Shape := ⟨2, ![1024, 4096]⟩
abbrev S4x2x512x1024 : Shape := ⟨4, ![4, 2, 512, 1024]⟩
abbrev S2x4x512x1024 : Shape := ⟨4, ![2, 4, 512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S4096x1024, .f32⟩
  | .hbm, ⟨6, _⟩ => ⟨S4x2x512x1024, .f32⟩
  | .hbm, ⟨7, _⟩ => ⟨S2x4x512x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Reals.lean ====
module

public import Idealize.ShloMosaic.Lib.Claim
public import Idealize.ShloMosaic.Lib.Pointwise

@[expose] public section

noncomputable section

open Idealize.ShloMosaic

/-! Extended reals that are real numbers, and the gradient of the root-mean-square norm over them. -/

namespace Cert.Reals

/-- The extended real `a` is a real number. -/
def Re (a : EReal) : Prop := ∃ r : ℝ, a = (r : EReal)

theorem Re.coe (r : ℝ) : Re (r : EReal) := ⟨r, rfl⟩
theorem Re.zero : Re 0 := ⟨0, rfl⟩
theorem Re.add {a b : EReal} (ha : Re a) (hb : Re b) : Re (a + b) := by
  obtain ⟨x, rfl⟩ := ha; obtain ⟨y, rfl⟩ := hb; exact ⟨x + y, (EReal.coe_add x y).symm⟩
theorem Re.sub {a b : EReal} (ha : Re a) (hb : Re b) : Re (a - b) := by
  obtain ⟨x, rfl⟩ := ha; obtain ⟨y, rfl⟩ := hb; exact ⟨x - y, (EReal.coe_sub x y).symm⟩
theorem Re.mul {a b : EReal} (ha : Re a) (hb : Re b) : Re (a * b) := by
  obtain ⟨x, rfl⟩ := ha; obtain ⟨y, rfl⟩ := hb; exact ⟨x * y, (EReal.coe_mul x y).symm⟩
theorem Re.max {a b : EReal} (ha : Re a) (hb : Re b) : Re (max a b) := by
  rcases max_choice a b with h | h <;> rw [h] <;> assumption

/-- A finite sum of real numbers, moved inside the inclusion. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

theorem Re.sum {ι : Type*} (s : Finset ι) {f : ι → EReal} (h : ∀ i, Re (f i)) : Re (∑ i ∈ s, f i) := by
  choose g hg using h
  exact ⟨∑ i ∈ s, g i, by rw [← coe_sum]; exact Finset.sum_congr rfl fun i _ => hg i⟩

/-- A real factor moves inside a sum of reals. -/
theorem mul_sum_re {ι : Type*} (s : Finset ι) {a : EReal} {f : ι → EReal} (ha : Re a) (h : ∀ i, Re (f i)) : a * ∑ i ∈ s, f i = ∑ i ∈ s, a * f i := by
  obtain ⟨r, rfl⟩ := ha
  choose g hg using h
  simp only [hg, ← EReal.coe_mul, coe_sum, Finset.mul_sum]

/-- Division of two reals off zero. -/
theorem div_coe_coe (x y : ℝ) (h : y ≠ 0) : Ideal.div (x : EReal) (y : EReal) = ((x / y : ℝ) : EReal) := by
  rw [Ideal.div, if_neg (by exact_mod_cast h), ← EReal.coe_inv, ← EReal.coe_mul, div_eq_mul_inv]

theorem Re.div {a b : EReal} (ha : Re a) (hb : Re b) (h0 : b ≠ 0) : Re (Ideal.div a b) := by
  obtain ⟨x, rfl⟩ := ha; obtain ⟨y, rfl⟩ := hb
  exact ⟨x / y, div_coe_coe x y (by exact_mod_cast h0)⟩

theorem rsqrt_pos (x : ℝ) (h : 0 < x) : Ideal.rsqrt (x : EReal) = (((Real.sqrt x)⁻¹ : ℝ) : EReal) := by
  rw [Ideal.rsqrt_coe, if_neg (not_lt.2 h.le), if_neg h.ne']

theorem bits_1024 : Ideal.ofBits .f32 0x44800000#32 = ((1024 : ℝ) : EReal) := by
  simp [Ideal.ofBits, Ideal.ieee, -EReal.coe_mul]; norm_num
theorem bits_512 : Ideal.ofBits .f32 0x44000000#32 = ((512 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_inv_1024 : Ideal.ofBits .f32 0x3A800000#32 = ((1 / 1024 : ℝ) : EReal) := by
  simp [Ideal.ofBits, Ideal.ieee, -EReal.coe_mul]; norm_num
theorem bits_eps : ∃ e : ℝ, 0 < e ∧ Ideal.ofBits .f32 0x358637BD#32 = (e : EReal) := by
  refine ⟨_, ?_, by simp [Ideal.ofBits, Ideal.ieee, -EReal.coe_mul]; rfl⟩
  norm_num
theorem bits_top : Ideal.ofBits .f32 0x7F800000#32 = ⊤ := by
  simp [Ideal.ofBits, Ideal.ieee]

/-- What the finiteness precondition says of one element. -/
theorem re_of_abs_lt {a : EReal} (h : Ideal.cmp .olt (max a (-a)) (Ideal.ofBits .f32 0x7F800000#32) = 1#1) : Re a := by
  rw [bits_top] at h
  induction a with
  | bot => simp [Ideal.cmp] at h
  | top => simp [Ideal.cmp] at h
  | coe x => exact Re.coe x

/-! ### The norm of a row and its gradient -/

section Rms
variable {n : ℕ}

/-- The reciprocal root mean square of a row, `w` the row's width and `e` the small constant. -/
def rr (w e : EReal) (x : Fin n → EReal) : EReal := Ideal.rsqrt (Ideal.div (∑ l, x l * x l) w + e)

/-- The normalised row. -/
def hat (w e : EReal) (x : Fin n → EReal) (k : Fin n) : EReal := x k * rr w e x

/-- The norm's gradient as a kernel computes it: `r (d − x̂ · mean (x̂ d))`, `d` the cotangent times the gain. -/
def back (w e : EReal) (x d : Fin n → EReal) (k : Fin n) : EReal :=
  rr w e x * (d k - hat w e x k * Ideal.div (∑ l, hat w e x l * d l) w)

/-- The factor the derivative of the mean square hands every element: `(∑ x d) · (−½ r / (mean x² + e)) / w`. -/
def gradMean (w e : EReal) (x d : Fin n → EReal) : EReal :=
  Ideal.div ((∑ l, x l * d l) * (Ideal.ofBits .f32 0xBF000000#32
    * Ideal.div (rr w e x) (Ideal.div (∑ l, x l * x l) w + e))) w

variable {w e : EReal} (hw : ∃ r : ℝ, 0 < r ∧ w = (r : EReal)) (he : ∃ r : ℝ, 0 < r ∧ e = (r : EReal))
include hw he

/-- The mean square plus the small constant is a positive real. -/
theorem var_coe (x : Fin n → EReal) (hx : ∀ k, Re (x k)) : ∃ v : ℝ, 0 < v ∧ Ideal.div (∑ l, x l * x l) w + e = (v : EReal) := by
  obtain ⟨W, hW, rfl⟩ := hw; obtain ⟨E, hE, rfl⟩ := he
  choose X hX using hx
  refine ⟨(∑ l, X l * X l) / W + E, add_pos_of_nonneg_of_pos (div_nonneg (Finset.sum_nonneg fun i _ => mul_self_nonneg _) hW.le) hE, ?_⟩
  simp only [hX, ← EReal.coe_mul, coe_sum]
  rw [div_coe_coe _ _ hW.ne', EReal.coe_add]

theorem Re.rr {x : Fin n → EReal} (hx : ∀ k, Re (x k)) : Re (Reals.rr w e x) := by
  obtain ⟨v, hv, h⟩ := var_coe hw he x hx
  rw [Reals.rr, h, rsqrt_pos v hv]; exact Re.coe _

theorem Re.hat {x : Fin n → EReal} (hx : ∀ k, Re (x k)) (k : Fin n) : Re (Reals.hat w e x k) :=
  (hx k).mul (Re.rr hw he hx)

theorem Re.back {x d : Fin n → EReal} (hx : ∀ k, Re (x k)) (hd : ∀ k, Re (d k)) (k : Fin n) : Re (Reals.back w e x d k) := by
  have hw' : Re w ∧ w ≠ 0 := by
    obtain ⟨W, hW, rfl⟩ := hw; exact ⟨Re.coe W, by exact_mod_cast hW.ne'⟩
  exact (Re.rr hw he hx).mul ((hd k).sub ((Re.hat hw he hx k).mul
    ((Re.sum _ fun l => (Re.hat hw he hx l).mul (hd l)).div hw'.1 hw'.2)))

/-- The two forms of the norm's gradient are one real number. -/
theorem back_eq {x d : Fin n → EReal} (hx : ∀ k, Re (x k)) (hd : ∀ k, Re (d k)) (k : Fin n) :
    d k * rr w e x + x k * gradMean w e x d + gradMean w e x d * x k = back w e x d k := by
  obtain ⟨v, hv, hvar⟩ := var_coe hw he x hx
  obtain ⟨W, hW, rfl⟩ := hw
  choose X hX using hx
  choose D hD using hd
  have hr : rr (W : EReal) e x = (((Real.sqrt v)⁻¹ : ℝ) : EReal) := by rw [rr, hvar, rsqrt_pos v hv]
  have hs : gradMean (W : EReal) e x d = (((∑ l, X l * D l) * (-(1 / 2) * ((Real.sqrt v)⁻¹ / v)) / W : ℝ) : EReal) := by
    rw [gradMean, hvar, hr, div_coe_coe _ _ hv.ne', bits_neg_half]
    simp only [hX, hD, ← EReal.coe_mul, coe_sum]
    rw [div_coe_coe _ _ hW.ne']
  have hb : back (W : EReal) e x d k = (((Real.sqrt v)⁻¹ * (D k - X k * (Real.sqrt v)⁻¹ * ((∑ l, X l * (Real.sqrt v)⁻¹ * D l) / W)) : ℝ) : EReal) := by
    simp only [back, hat, hr, hX, hD, ← EReal.coe_mul, coe_sum]
    rw [div_coe_coe _ _ hW.ne', ← EReal.coe_mul, ← EReal.coe_sub, ← EReal.coe_mul]
  rw [hb, hr, hs, hX, hD, ← EReal.coe_mul, ← EReal.coe_mul, ← EReal.coe_mul, ← EReal.coe_add, ← EReal.coe_add]
  congr 1
  have hsq : (Real.sqrt v)⁻¹ * (Real.sqrt v)⁻¹ = v⁻¹ := by rw [← mul_inv, Real.mul_self_sqrt hv.le]
  have hsum : ∑ l, X l * (Real.sqrt v)⁻¹ * D l = (Real.sqrt v)⁻¹ * ∑ l, X l * D l := by
    rw [Finset.mul_sum]; exact Finset.sum_congr rfl fun l _ => by ring
  rw [hsum]
  generalize ∑ l, X l * D l = S
  generalize (Real.sqrt v)⁻¹ = q at hsq ⊢
  have : q * (D k - X k * q * (q * S / W)) = D k * q - X k * q * (q * q) * S / W := by ring
  rw [this, hsq]
  ring

end Rms

end Cert.Reals

end
-- ==== Proof.MlpSpec.lean ====
module

public import proofs.«01_k».proof.Proof.Reals

@[expose] public section

noncomputable section

open Idealize.ShloMosaic Cert.Reals

/-! The MLP half of the layer and its gradients, one row at a time, over the Ideal numbers: the row `x`, its target `t`, the two gains
`g`, `p` and the two weights `U`, `D`. -/

namespace Cert.MlpSpec

abbrev width : EReal := Ideal.ofBits .f32 0x44800000#32
abbrev eps : EReal := Ideal.ofBits .f32 0x358637BD#32

theorem width_pos : ∃ r : ℝ, 0 < r ∧ width = (r : EReal) := ⟨1024, by norm_num, bits_1024⟩

variable (x t g p : Fin 1024 → EReal) (U : Fin 1024 → Fin 4096 → EReal) (D : Fin 4096 → Fin 1024 → EReal)

/-- The normalised input of the MLP. -/
def h2 (k : Fin 1024) : EReal := hat width eps x k * g k
/-- The rectified hidden unit of a row `h`. -/
def act (h : Fin 1024 → EReal) (j : Fin 4096) : EReal := max (∑ k, h k * U k j) 0
/-- Its square. -/
def f (j : Fin 4096) : EReal := act U (h2 x g) j * act U (h2 x g) j
/-- The MLP's output before its norm. -/
def f2 (l : Fin 1024) : EReal := ∑ j, f x g U j * D j l
/-- The layer's output minus the target. -/
def err (l : Fin 1024) : EReal := x l + hat width eps (f2 x g U D) l * p l - t l
/-- The row's part of the loss. -/
def loss : EReal := Ideal.div (∑ l, err x t g p U D l * err x t g p U D l) width
/-- The cotangent of the layer's output. -/
def dx2 (l : Fin 1024) : EReal := err x t g p U D l * Ideal.ofBits .f32 0x3A800000#32
/-- The cotangent of the MLP's output before its norm. -/
def df2 (l : Fin 1024) : EReal := back width eps (f2 x g U D) (fun k => dx2 x t g p U D k * p k) l
/-- The cotangent of the hidden units before rectifying and squaring. -/
def du (j : Fin 4096) : EReal := Ideal.ofBits .f32 0x40000000#32 * act U (h2 x g) j * ∑ l, df2 x t g p U D l * D j l
/-- The cotangent of the normalised input. -/
def dh2 (k : Fin 1024) : EReal := ∑ j, du x t g p U D j * U k j
/-- The cotangent of the row. -/
def dx1 (k : Fin 1024) : EReal := dx2 x t g p U D k + back width eps x (fun l => dh2 x t g p U D l * g l) k

variable {x t g p U D} (hx : ∀ k, Re (x k)) (ht : ∀ k, Re (t k)) (hg : ∀ k, Re (g k)) (hp : ∀ k, Re (p k))
  (hU : ∀ k j, Re (U k j)) (hD : ∀ j l, Re (D j l))
include hx hg hU

theorem re_act (j : Fin 4096) : Re (act U (h2 x g) j) :=
  (Re.sum _ fun k => ((Re.hat width_pos bits_eps hx k).mul (hg k)).mul (hU k j)).max Re.zero

include hD

theorem re_f2 (l : Fin 1024) : Re (f2 x g U D l) :=
  Re.sum _ fun j => ((re_act hx hg hU j).mul (re_act hx hg hU j)).mul (hD j l)

include ht hp

theorem re_dx2 (l : Fin 1024) : Re (dx2 x t g p U D l) :=
  (((hx l).add ((Re.hat width_pos bits_eps (re_f2 hx hg hU hD) l).mul (hp l))).sub (ht l)).mul (bits_inv_1024 ▸ Re.coe _)

theorem re_df2 (l : Fin 1024) : Re (df2 x t g p U D l) :=
  Re.back width_pos bits_eps (re_f2 hx hg hU hD) (fun k => (re_dx2 hx ht hg hp hU hD k).mul (hp k)) l

theorem re_dh2 (k : Fin 1024) : Re (dh2 x t g p U D k) :=
  Re.sum _ fun j => (((bits_2 ▸ Re.coe _ : Re (Ideal.ofBits .f32 0x40000000#32)).mul (re_act hx hg hU j)).mul
    (Re.sum _ fun l => (re_df2 hx ht hg hp hU hD l).mul (hD j l))).mul (hU k j)

theorem re_loss : Re (loss x t g p U D) :=
  (Re.sum _ fun l => (((hx l).add ((Re.hat width_pos bits_eps (re_f2 hx hg hU hD) l).mul (hp l))).sub (ht l)).mul
    (((hx l).add ((Re.hat width_pos bits_eps (re_f2 hx hg hU hD) l).mul (hp l))).sub (ht l))).div
    (by rw [width, bits_1024]; exact Re.coe _) (by rw [width, bits_1024]; norm_num)

omit hx hg hU hD ht hp

/-! The eight results, as arrays of the whole call's shapes. -/

/-- Row `i` of an array of rows; the gain of a `1 × 1024` array; a weight as a function of its indices. -/
abbrev xr {n : ℕ} (X : FVec Ideal ⟨2, ![n, 1024]⟩ .f32) (i : Fin n) : Fin 1024 → EReal := fun k => X (ix2 i k)
abbrev gr (G : FVec Ideal ⟨2, ![1, 1024]⟩ .f32) : Fin 1024 → EReal := fun k => G (ix2 0 k)
abbrev um (U : FVec Ideal ⟨2, ![1024, 4096]⟩ .f32) : Fin 1024 → Fin 4096 → EReal := fun k j => U (ix2 k j)
abbrev dm (D : FVec Ideal ⟨2, ![4096, 1024]⟩ .f32) : Fin 4096 → Fin 1024 → EReal := fun j l => D (ix2 j l)

variable (X T : FVec Ideal ⟨2, ![4096, 1024]⟩ .f32) (G P : FVec Ideal ⟨2, ![1, 1024]⟩ .f32) (V : FVec Ideal ⟨2, ![1024, 4096]⟩ .f32)
  (W : FVec Ideal ⟨2, ![4096, 1024]⟩ .f32)

def H2 : FVec Ideal ⟨2, ![4096, 1024]⟩ .bf16 := fun y => h2 (xr X (y 0)) (gr G) (y 1)
def FF : FVec Ideal ⟨2, ![4096, 4096]⟩ .bf16 := fun y => f (xr X (y 0)) (gr G) (um V) (y 1)
def DU : FVec Ideal ⟨2, ![4096, 4096]⟩ .bf16 := fun y => du (xr X (y 0)) (xr T (y 0)) (gr G) (gr P) (um V) (dm W) (y 1)
def DF2 : FVec Ideal ⟨2, ![4096, 1024]⟩ .bf16 := fun y => df2 (xr X (y 0)) (xr T (y 0)) (gr G) (gr P) (um V) (dm W) (y 1)
def DX1 : FVec Ideal ⟨2, ![4096, 1024]⟩ .f32 := fun y => dx1 (xr X (y 0)) (xr T (y 0)) (gr G) (gr P) (um V) (dm W) (y 1)
def DGpre : FVec Ideal ⟨2, ![1, 1024]⟩ .f32 := fun y => ∑ i : Fin 4096,
  dh2 (xr X i) (xr T i) (gr G) (gr P) (um V) (dm W) (y 1) * hat width eps (xr X i) (y 1)
def DGpost : FVec Ideal ⟨2, ![1, 1024]⟩ .f32 := fun y => ∑ i : Fin 4096,
  dx2 (xr X i) (xr T i) (gr G) (gr P) (um V) (dm W) (y 1) * hat width eps (f2 (xr X i) (gr G) (um V) (dm W)) (y 1)
def LOSS : FVec Ideal ⟨2, ![1, 1]⟩ .f32 := fun _ => ∑ i : Fin 4096,
  Ideal.ofBits .f32 0x3F000000#32 * loss (xr X i) (xr T i) (gr G) (gr P) (um V) (dm W)

end Cert.MlpSpec

end
-- ==== Proof.PreNormValue.lean ====
module

public import proofs.«01_k».proof.Proof.MlpSpec
public import proofs.«01_k».proof.Proof.Gen.PreNormIdeal.Value
public import proofs.«01_k».proof.Proof.Gen.PreNormRefIdeal.Run
public import proofs.«01_k».proof.Defs
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem Cert.Reals Cert.MlpSpec

/-! The layer's first norm: every row divided by its root mean square, times the gain. -/

namespace Cert.PreNormIdeal.Value

open Cert.PreNormIdeal Cert.PreNormIdeal.Gen

variable (m : (ℓ : Loc nD τ sig) → Buf (Elt Ideal) ℓ)

/-- The normalised rows with their gain. -/
def HN (X : FVec Ideal S4096x1024 .f32) (G : FVec Ideal S1x1024 .f32) : FVec Ideal S4096x1024 .bf16 :=
  fun y => h2 (xr X (y 0)) (gr G) (y 1)

theorem idx : ∀ t : Fin cfg0.N, win0_0.index t = ![t.val, 0] ∧ win0_1.index t = ![0, 0] ∧ win0_2.index t = ![t.val, 0] :=
  (by decide +kernel : ∀ t : Fin grid0.N, _)

/-- Row `r` of the block at point `t`. -/
abbrev row (t : Fin cfg0.N) (r : Fin 512) : Fin 4096 := ⟨t.val * 512 + r.val, by have h : t.val < 8 := t.isLt; omega⟩

variable (c : Dev nD) (t : Fin cfg0.N)

theorem blkX (r : Fin 512) (k : Fin 1024) : iblk m c 0 t (ix2 r k) = m ((c : Thread nD τ).loc main_arg0) (ix2 (row t r) k) := by
  blk_point [iblk, V, idx t]
theorem blkG (z : Fin 1) (k : Fin 1024) : iblk m c 1 t (ix2 z k) = m ((c : Thread nD τ).loc main_arg1) (ix2 z k) := by
  blk_point [iblk, V, idx t]

theorem emb2 (r : Fin 512) (k : Fin 1024) : ((View.whole main_v1).slice (win0_2.rect t)).emb (ix2 r k) = ix2 (row t r) k := by
  blk_ext [idx t]

/-- One block of rows, normalised. -/
theorem p1_at (X : FVec Ideal S512x1024 .f32) (G : FVec Ideal S1x1024 .f32) (r : Fin 512) (k : Fin 1024) :
    k0_pay1 (F := Ideal) X G (ix2 r k) = h2 (xr X r) (gr G) k := by
  pointwise [k0_pay1, h2, hat, rr, width, eps]

theorem final2 : (dats m 0 c).arrAt 2 (cfgs 0).N
    = HN (m ((c : Thread nD τ).loc main_arg0)) (m ((c : Thread nD τ).loc main_arg1)) := by
  refine (dats m 0 c).arrAt_eq_of_covers 2 _ (by decide +kernel) fun t hf y => ?_
  blk_simp
  rw [after0_2]
  simp only [outsAt0]
  idx_vars y
  rw [emb2]
  frame_out
  refine (p1_at _ _ _ _).trans ?_
  unfold HN
  rw [show xr (iblk m c 0 t) y0 = xr (m ((c : Thread nD τ).loc main_arg0)) (row t y0) from funext fun k => blkX m c t y0 k,
    show gr (iblk m c 1 t) = gr (m ((c : Thread nD τ).loc main_arg1)) from funext fun k => blkG m c t 0 k]
  rfl

end Cert.PreNormIdeal.Value

namespace Cert.PreNormRefIdeal.Value

open Cert.PreNormRefIdeal Cert.PreNormRefIdeal.Gen

/-- The reference's run with its result read index by index. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = Cert.PreNormIdeal.Value.HN (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (run m ρ)
  generalize m ((c.tc : Thread nD τ).loc main_arg0) = X
  generalize m ((c.tc : Thread nD τ).loc main_arg1) = G
  funext y
  idx_vars y
  pointwise [Cert.PreNormIdeal.Value.HN, h2, hat, rr, width, eps]

end Cert.PreNormRefIdeal.Value

namespace Cert.Proof

/-- The plain program runs to the end, leaves its arguments and declares no counter. -/
theorem preNormRef_quiescent : Cert.quiescent_PreNormRefIdeal := fun m g _ =>
  (θ_run _ _ _).mono (fun r h => ⟨fun c => (h c).2, sem_eq_zero_of_no_sems rfl _⟩) (Cert.PreNormRefIdeal.Value.run_read m g)

/-- The layer's first norm and the plain norm end with the same array. -/
theorem preNorm_algebraic : Cert.algebraic_PreNormIdeal_PreNormRefIdeal := by
  intro m g m' g' _ hagree
  refine ⟨_, (θ_run _ _ _).mono (fun r h c => ⟨(h c).1.trans (Cert.PreNormIdeal.Value.final2 m c), (h c).2⟩)
      (Cert.PreNormIdeal.Value.run_blocks m g), ?_⟩
  refine (θ_run _ _ _).mono (fun r h c => ?_) (Cert.PreNormRefIdeal.Value.run_read m' g')
  obtain ⟨h0, h1⟩ := hagree c
  obtain ⟨k0, k⟩ := h c
  rw [h0, h1] at k0
  exact ⟨k0, k⟩

end Cert.Proof

end
-- ==== Proof.WeightGradValue.lean ====
module

public import proofs.«01_k».proof.Proof.Gen.WeightGradIdeal.Value
public import proofs.«01_k».proof.Proof.Gen.WeightGradRefIdeal.Run
public import proofs.«01_k».proof.Defs
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

/-! The gradient of the second MLP weight: the activation, transposed, times the cotangent of its product. -/

namespace Cert.WeightGradIdeal.Value

open Cert.WeightGradIdeal Cert.WeightGradIdeal.Gen

variable (m : (ℓ : Loc nD τ sig) → Buf (Elt Ideal) ℓ)

/-- The weight's gradient: `∑ s, a s k · d s e`, the row of the weight at `k = 1024 y₁ + 512 y₀ + y₂`. -/
def GW (A : FVec Ideal S4096x4096 .f32) (D : FVec Ideal S4096x1024 .f32) : FVec Ideal S2x4x512x1024 .f32 :=
  fun y => ∑ s : Fin 4096, A (ix2 s ⟨(y 1).val * 1024 + (y 0).val * 512 + (y 2).val, by
    have h0 : (y 0).val < 2 := (y 0).isLt
    have h1 : (y 1).val < 4 := (y 1).isLt
    have h2 : (y 2).val < 512 := (y 2).isLt
    omega⟩) * D (ix2 s (y 3))

theorem idx : ∀ t : Fin cfg0.N, win0_0.index t = ![0, t.val] ∧ win0_1.index t = ![0, 0] ∧ win0_2.index t = ![0, t.val, 0, 0] :=
  (by decide +kernel : ∀ t : Fin grid0.N, _)

/-- Column `k` of the activation's block at point `t`. -/
abbrev col (t : Fin cfg0.N) (k : Fin 1024) : Fin 4096 := ⟨t.val * 1024 + k.val, by have h : t.val < 4 := t.isLt; omega⟩

variable (c : Dev nD) (t : Fin cfg0.N)

theorem blkA (s : Fin 4096) (k : Fin 1024) : iblk m c 0 t (ix2 s k) = m ((c : Thread nD τ).loc main_arg0) (ix2 s (col t k)) := by
  blk_point [iblk, V, idx t]
theorem blkD (s : Fin 4096) (e : Fin 1024) : iblk m c 1 t (ix2 s e) = m ((c : Thread nD τ).loc main_arg2) (ix2 s e) := by
  blk_point [iblk, V, idx t]

theorem emb2 (h : Fin 2) (z : Fin 1) (r : Fin 512) (e : Fin 1024) :
    ((View.whole main_v3).slice (win0_2.rect t)).emb (ix4 h z r e) = ix4 h (⟨t.val, t.isLt⟩ : Fin 4) r e := by
  blk_ext [idx t]

/-- The upper half of one block of the product. -/
theorem p2_at (A D : FVec Ideal S4096x1024 .bf16) (z z' : Fin 1) (r : Fin 512) (e : Fin 1024) :
    k0_pay2 (F := Ideal) A D (ix4 z z' r e) = ∑ s : Fin 4096, A (ix2 s ⟨r.val, by omega⟩) * D (ix2 s e) := by
  pointwise [k0_pay2, k0_pay1]

/-- The lower half of one block of the product. -/
theorem p3_at (A D : FVec Ideal S4096x1024 .bf16) (z z' : Fin 1) (r : Fin 512) (e : Fin 1024) :
    k0_pay3 (F := Ideal) A D (ix4 z z' r e) = ∑ s : Fin 4096, A (ix2 s ⟨512 + r.val, by omega⟩) * D (ix2 s e) := by
  pointwise [k0_pay3, k0_pay1]

/-- One block of the gradient, as the call's body leaves it at point `t`. -/
theorem out_at (y : S2x1x512x1024.Idx) : outsAt0 m c t y
    = GW (m ((c : Thread nD τ).loc main_arg0)) (m ((c : Thread nD τ).loc main_arg2)) (ix4 (y 0) (⟨t.val, t.isLt⟩ : Fin 4) (y 2) (y 3)) := by
  simp only [outsAt0]
  frame_out
  canon_tiles x h using (View.cover_of_tiledBy _ ![1, 1, 512, 1024] (by sl_kernel_rfl) y)
  all_goals idx_vars x
  · refine (p3_at _ _ _ _ _ _).trans (Finset.sum_congr rfl fun s _ => ?_)
    rw [blkA, blkD]
    exact congrArg₂ _ (congrArg _ (congrArg (ix2 s) (Fin.ext (by simp only [ix4]; show t.val * 1024 + (512 + x2.val) = t.val * 1024 + (y 0).val * 512 + (y 2).val; omega))))
      (congrArg _ (congrArg (ix2 s) (Fin.ext h3.symm)))
  · refine (p2_at _ _ _ _ _ _).trans (Finset.sum_congr rfl fun s _ => ?_)
    rw [blkA, blkD]
    exact congrArg₂ _ (congrArg _ (congrArg (ix2 s) (Fin.ext (by simp only [ix4]; show t.val * 1024 + x2.val = t.val * 1024 + (y 0).val * 512 + (y 2).val; omega))))
      (congrArg _ (congrArg (ix2 s) (Fin.ext h3.symm)))

theorem final2 : (dats m 0 c).arrAt 2 (cfgs 0).N
    = GW (m ((c : Thread nD τ).loc main_arg0)) (m ((c : Thread nD τ).loc main_arg2)) := by
  refine (dats m 0 c).arrAt_eq_of_covers 2 _ (by decide +kernel) fun t hf y => ?_
  blk_simp
  rw [after0_2, out_at]
  idx_vars y
  rw [emb2]

end Cert.WeightGradIdeal.Value

namespace Cert.WeightGradRefIdeal.Value

open Cert.WeightGradRefIdeal Cert.WeightGradRefIdeal.Gen

/-- The reference's run with its result read index by index. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = Cert.WeightGradIdeal.Value.GW (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  generalize m ((c.tc : Thread nD τ).loc main_arg0) = A
  generalize m ((c.tc : Thread nD τ).loc main_arg2) = D
  funext y
  pointwise [Cert.WeightGradIdeal.Value.GW]
  exact Finset.sum_congr rfl fun _ _ => mul_comm (G := EReal) _ _

end Cert.WeightGradRefIdeal.Value

namespace Cert.Proof

/-- The plain program runs to the end, leaves its arguments and declares no counter. -/
theorem weightGradRef_quiescent : Cert.quiescent_WeightGradRefIdeal := fun m g _ =>
  (θ_run _ _ _).mono (fun r h => ⟨fun c => (h c).2, sem_eq_zero_of_no_sems rfl _⟩) (Cert.WeightGradRefIdeal.Value.run_read m g)

/-- The weight's gradient call and the derivative of the plain product end with the same array. -/
theorem weightGrad_algebraic : Cert.algebraic_WeightGradIdeal_WeightGradRefIdeal := by
  intro m g m' g' _ hagree
  refine ⟨_, (θ_run _ _ _).mono (fun r h c => ⟨(h c).1.trans (Cert.WeightGradIdeal.Value.final2 m c), (h c).2⟩)
      (Cert.WeightGradIdeal.Value.run_blocks m g), ?_⟩
  refine (θ_run _ _ _).mono (fun r h c => ?_) (Cert.WeightGradRefIdeal.Value.run_read m' g')
  obtain ⟨h0, h1, h2⟩ := hagree c
  obtain ⟨k0, k⟩ := h c
  rw [h0, h2] at k0
  exact ⟨k0, k⟩

end Cert.Proof

end
-- ==== Proof.InProjSpec.lean ====
module

public import proofs.«01_k».proof.Proof.MlpSpec

@[expose] public section

noncomputable section

open Idealize.ShloMosaic Cert.Reals Cert.MlpSpec

/-! The gradient of the layer's normalised input projection, one row at a time, over the Ideal numbers: the row `x` at position `p`, the
norm's gain `g`, the weight `W`, and the cotangents of the scaled rotated query, the rotated key, the value and the rest of the row's
projection. -/

namespace Cert.InProjSpec

/-- The rotary angle of position `p` in lane `j` of a half head. -/
def ang (p : BitVec 32) (j : Fin 32) : EReal := (FloatOps.sitofp (F := Ideal) .f32 p : EReal)
  * Ideal.pow (Ideal.ofBits .f32 0x461C4000#32)
    (-Ideal.div ((FloatOps.sitofp (F := Ideal) .f32 (BitVec.ofNat 32 j.val) : EReal) * Ideal.ofBits .f32 0x40000000#32) (Ideal.ofBits .f32 0x42800000#32))

/-- The lane of a half head that column `e` belongs to. -/
abbrev lane {n : ℕ} (e : Fin n) : Fin 32 := ⟨e.val % 32, Nat.mod_lt _ (by norm_num)⟩

/-- The transpose of the rotary embedding of eight heads of 64, applied to a row of cotangents. -/
def turn (p : BitVec 32) (d : Fin 512 → EReal) (e : Fin 512) : EReal :=
  if h : e.val % 64 < 32 then d e * Ideal.cos (ang p (lane e)) + d ⟨e.val + 32, by omega⟩ * Ideal.sin (ang p (lane e))
  else d e * Ideal.cos (ang p (lane e)) - d ⟨e.val - 32, by omega⟩ * Ideal.sin (ang p (lane e))

variable (x g : Fin 1024 → EReal) (p : BitVec 32) (W : Fin 1024 → Fin 2560 → EReal) (q k v : Fin 512 → EReal) (r : Fin 1024 → EReal)

/-- The cotangent of the row's projection: query, key, value, rest. -/
def dproj (e : Fin 2560) : EReal :=
  if h : e.val < 512 then turn p (fun l => q l * Ideal.ofBits .f32 0x3E000000#32) ⟨e.val, h⟩
  else if h : e.val < 1024 then turn p k ⟨e.val - 512, by omega⟩
  else if h : e.val < 1536 then v ⟨e.val - 1024, by omega⟩
  else r ⟨e.val - 1536, by omega⟩

/-- The cotangent of the normalised row. -/
def dh (l : Fin 1024) : EReal := ∑ e, dproj p q k v r e * W l e

/-- The cotangent of the row, without what passes the layer by. -/
def dx (l : Fin 1024) : EReal := back width eps x (fun l => dh p W q k v r l * g l) l

theorem bits_10000 : Re (Ideal.ofBits .f32 0x461C4000#32) := by
  simp [Ideal.ofBits, Ideal.ieee, -EReal.coe_mul]; exact Re.coe _
theorem bits_64 : Ideal.ofBits .f32 0x42800000#32 = ((64 : ℝ) : EReal) := by
  simp [Ideal.ofBits, Ideal.ieee, -EReal.coe_mul]; norm_num
theorem bits_eighth : Re (Ideal.ofBits .f32 0x3E000000#32) := by
  simp [Ideal.ofBits, Ideal.ieee, -EReal.coe_mul]; exact Re.coe _

theorem re_int (b : BitVec 32) : Re (FloatOps.sitofp (F := Ideal) .f32 b : EReal) := Re.coe _
theorem re_neg {a : EReal} (h : Re a) : Re (-a) := by obtain ⟨r, rfl⟩ := h; exact ⟨-r, (EReal.coe_neg r).symm⟩
theorem re_pow {a b : EReal} (ha : Re a) (hb : Re b) : Re (Ideal.pow a b) := by
  obtain ⟨x, rfl⟩ := ha; obtain ⟨y, rfl⟩ := hb; exact ⟨_, rfl⟩
theorem re_cos {a : EReal} (h : Re a) : Re (Ideal.cos a) := by obtain ⟨r, rfl⟩ := h; exact Re.coe _
theorem re_sin {a : EReal} (h : Re a) : Re (Ideal.sin a) := by obtain ⟨r, rfl⟩ := h; exact Re.coe _

theorem re_ang (j : Fin 32) : Re (ang p j) :=
  (re_int p).mul (re_pow bits_10000 (re_neg (((re_int _).mul (bits_2 ▸ Re.coe _)).div (bits_64 ▸ Re.coe _) (by rw [bits_64]; norm_num))))

theorem re_turn {d : Fin 512 → EReal} (hd : ∀ e, Re (d e)) (e : Fin 512) : Re (turn p d e) := by
  have hc := re_cos (re_ang p (lane e))
  have hs := re_sin (re_ang p (lane e))
  unfold turn
  split
  · exact ((hd _).mul hc).add ((hd _).mul hs)
  · exact ((hd _).mul hc).sub ((hd _).mul hs)

variable {W q k v r} (hW : ∀ l e, Re (W l e)) (hq : ∀ e, Re (q e)) (hk : ∀ e, Re (k e)) (hv : ∀ e, Re (v e)) (hr : ∀ e, Re (r e))
include hW hq hk hv hr

theorem re_dh (l : Fin 1024) : Re (dh p W q k v r l) := by
  refine Re.sum _ fun e => Re.mul ?_ (hW l e)
  unfold dproj
  split
  · exact re_turn p (fun l => (hq l).mul bits_eighth) _
  · split
    · exact re_turn p hk _
    · split
      · exact hv _
      · exact hr _

omit hW hq hk hv hr

/-! The three results, as arrays of the whole call's shapes. -/

abbrev qr (Q : FVec Ideal ⟨2, ![4096, 512]⟩ .f32) (i : Fin 4096) : Fin 512 → EReal := fun e => Q (ix2 i e)
abbrev wm (V : FVec Ideal ⟨2, ![1024, 2560]⟩ .f32) : Fin 1024 → Fin 2560 → EReal := fun l e => V (ix2 l e)

variable (X E : FVec Ideal ⟨2, ![4096, 1024]⟩ .f32) (G : FVec Ideal ⟨2, ![1, 1024]⟩ .f32) (A : FVec Ideal ⟨2, ![1024, 2560]⟩ .f32)
  (Q K V : FVec Ideal ⟨2, ![4096, 512]⟩ .f32) (R : FVec Ideal ⟨2, ![4096, 1024]⟩ .f32) (P : IVec ⟨1, ![4096]⟩ 32)

/-- Row `i`'s cotangent of the projection, and of the normalised row. -/
abbrev dprojA (i : Fin 4096) : Fin 2560 → EReal := dproj (P (ix1 i)) (qr Q i) (qr K i) (qr V i) (xr R i)
abbrev dhA (i : Fin 4096) : Fin 1024 → EReal := dh (P (ix1 i)) (wm A) (qr Q i) (qr K i) (qr V i) (xr R i)

def DX : FVec Ideal ⟨2, ![4096, 1024]⟩ .f32 := fun y =>
  xr E (y 0) (y 1) + dx (xr X (y 0)) (gr G) (P (ix1 (y 0))) (wm A) (qr Q (y 0)) (qr K (y 0)) (qr V (y 0)) (xr R (y 0)) (y 1)
/-- The weight's gradient, its 1024 × 2560 entries as two row halves by four column quarters. -/
def GW : FVec Ideal ⟨4, ![2, 4, 512, 640]⟩ .f32 := fun y => ∑ i : Fin 4096,
  h2 (xr X i) (gr G) ⟨(y 0).val * 512 + (y 2).val, by have := (y 0).isLt; have := (y 2).isLt; simp at *; omega⟩
    * dprojA Q K V R P i ⟨(y 1).val * 640 + (y 3).val, by have := (y 1).isLt; have := (y 3).isLt; simp at *; omega⟩
def dgA (l : Fin 1024) : EReal := ∑ i : Fin 4096, dhA A Q K V R P i l * hat width eps (xr X i) l
/-- The gain's gradient in row 0 of sixteen, the others zero. -/
def SMALL : FVec Ideal ⟨2, ![16, 1024]⟩ .f32 := fun y => if (y 0).val = 0 then dgA X A Q K V R P (y 1) else 0

end Cert.InProjSpec

end
-- ==== Proof.InProjTiles.lean ====
module

public import proofs.«01_k».proof.Proof.Gen.InProjIdeal.Value
public import proofs.«01_k».proof.Proof.InProjSpec
public import Idealize.ShloMosaic.Lib.Pipeline.ValueKit
public import Idealize.ShloMosaic.Lib.Pointwise

@[expose] public section

set_option maxRecDepth 16384

noncomputable section

open Idealize.ShloMosaic Idealize.ShloMosaic.TcCoe Cert.Reals Cert.MlpSpec Cert.InProjSpec

/-! What the kernel computes from one block of rows, read row by row. -/

namespace Cert.InProjIdeal.Value

open Cert.InProjIdeal Cert.InProjIdeal.Gen

/-- The kernel's test whether lane `l` lies in the first half of its head. -/
def low (l : Fin 128) : BitVec 1 :=
  let b := Scalar.select (Scalar.cmpi .eq 64#32 0#32) 1#32 64#32
  let r := IntOp.remsi ArithUnit.vector (BitVec.ofNat 32 l.val) b
  IntOp.cmpi .slt (Scalar.select (IntOp.andi (IntOp.xori (IntOp.cmpi .slt r 0#32) (Scalar.cmpi .slt b 0#32)) (IntOp.cmpi .ne r 0#32)) (IntOp.addi r b) r) 32#32

theorem low_eq : ∀ l : Fin 128, low l = if l.val % 64 < 32 then 1#1 else 0#1 := by decide +kernel

/-- One row of two heads turned back by the tables' row. -/
def rot (T C S : Fin 128 → EReal) (l : Fin 128) : EReal :=
  T l * C l - Scalar.select (low l) (T ⟨(l.val + 128 - 96) % 128, Nat.mod_lt _ (by norm_num)⟩) (T ⟨(l.val + 128 - 32) % 128, Nat.mod_lt _ (by norm_num)⟩) * S l

theorem rot_turn {p : BitVec 32} {d : Fin 512 → EReal} {T C S : Fin 128 → EReal} (o : ℕ) (ho : o + 128 ≤ 512) (h64 : o % 64 = 0)
    (hT : ∀ l, T l = d ⟨o + l.val, by omega⟩) (hC : ∀ l, C l = Ideal.cos (ang p (lane l)))
    (hS : ∀ l, S l = if l.val % 64 < 32 then -Ideal.sin (ang p (lane l)) else Ideal.sin (ang p (lane l))) (l : Fin 128) :
    rot T C S l = turn p d ⟨o + l.val, by omega⟩ := by
  have e : (o + l.val) % 64 = l.val % 64 := by omega
  have f : lane (⟨o + l.val, by omega⟩ : Fin 512) = lane l := Fin.ext (by simp [lane]; omega)
  unfold rot turn
  simp only [hT, hC, hS, low_eq, f]
  by_cases h : l.val % 64 < 32
  · rw [dif_pos (by simpa [e] using h), if_pos h, if_pos h]
    have g : (⟨o + (l.val + 128 - 96) % 128, by omega⟩ : Fin 512) = ⟨o + l.val + 32, by omega⟩ := Fin.ext (by simp; omega)
    show _ - d _ * _ = _
    rw [g, mul_neg, sub_eq_add_neg, neg_neg]
  · rw [dif_neg (by simpa [e] using h), if_neg h, if_neg h]
    have g : (⟨o + (l.val + 128 - 32) % 128, by omega⟩ : Fin 512) = ⟨o + l.val - 32, by omega⟩ := Fin.ext (by simp; omega)
    show _ - d _ * _ = _
    rw [g]

section Rope
variable (C S T : FVec Ideal S256x128 .f32) (r : Fin 256) (l : Fin 128)

abbrev rw128 (T : FVec Ideal S256x128 .f32) (r : Fin 256) : Fin 128 → EReal := fun l => T (ix2 r l)
abbrev rw8 (T : FVec Ideal S256x128 .f32) (r : Fin 256) : Fin 128 → EReal := fun l => T (ix2 r l) * Ideal.ofBits .f32 0x3E000000#32

theorem k13_at : k0_pay13 (F := Ideal) (k0_pay7 C) (k0_pay8 S) T (ix2 r l) = rot (rw128 T r) (rw128 C r) (rw128 S r) l := by
  pointwise [k0_pay13, k0_pay7, k0_pay8, rot, low]
theorem k20_at : k0_pay20 (F := Ideal) (k0_pay7 C) (k0_pay8 S) T (64#32) k0_pay16 k0_pay17 k0_pay18 k0_pay19 (ix2 r l) = rot (rw128 T r) (rw128 C r) (rw128 S r) l := by
  pointwise [k0_pay20, k0_pay7, k0_pay8, k0_pay16, k0_pay17, k0_pay18, k0_pay19, rot, low]
  rfl
theorem k24_at : k0_pay24 (F := Ideal) (k0_pay7 C) (k0_pay8 S) T (ix2 r l) = rot (rw128 T r) (rw128 C r) (rw128 S r) l := by
  pointwise [k0_pay24, k0_pay7, k0_pay8, rot, low]
theorem k30_at : k0_pay30 (F := Ideal) (k0_pay7 C) (k0_pay8 S) T (64#32) k0_pay27 k0_pay28 k0_pay29 0#1 (ix2 r l) = rot (rw128 T r) (rw128 C r) (rw128 S r) l := by
  pointwise [k0_pay30, k0_pay7, k0_pay8, k0_pay27, k0_pay28, k0_pay29, rot, low]
  rfl
theorem k41_at : k0_pay41 (F := Ideal) (k0_pay33 C) (k0_pay34 S) T (64#32) k0_pay37 k0_pay38 k0_pay39 k0_pay40 (ix2 r l) = rot (rw128 T r) (rw128 C r) (rw128 S r) l := by
  pointwise [k0_pay41, k0_pay33, k0_pay34, k0_pay37, k0_pay38, k0_pay39, k0_pay40, rot, low]
  rfl
theorem k47_at : k0_pay47 (F := Ideal) (k0_pay33 C) (k0_pay34 S) T (ix2 r l) = rot (rw128 T r) (rw128 C r) (rw128 S r) l := by
  pointwise [k0_pay47, k0_pay33, k0_pay34, rot, low]
theorem k53_at : k0_pay53 (F := Ideal) (k0_pay33 C) (k0_pay34 S) T (64#32) k0_pay50 k0_pay51 k0_pay52 0#32 (ix2 r l) = rot (rw128 T r) (rw128 C r) (rw128 S r) l := by
  pointwise [k0_pay53, k0_pay33, k0_pay34, k0_pay50, k0_pay51, k0_pay52, rot, low]
  rfl
theorem k58_at : k0_pay58 (F := Ideal) (k0_pay33 C) (k0_pay34 S) T (ix2 r l) = rot (rw128 T r) (rw128 C r) (rw128 S r) l := by
  pointwise [k0_pay58, k0_pay33, k0_pay34, rot, low]
theorem q12_at : k0_pay12 (F := Ideal) (k0_pay10 C T) (k0_pay11 S T) (ix2 r l) = rot (rw8 T r) (rw128 C r) (rw128 S r) l := by
  pointwise [k0_pay12, k0_pay10, k0_pay11, k0_pay9, k0_pay7, k0_pay8, rot, low]
theorem q15_at : k0_pay15 (F := Ideal) (k0_pay7 C) (k0_pay8 S) (k0_pay14 T) (iota Kind.tc S256x128 32 [1] iota_S256x128_d1_w32) 64#32 (ix2 r l) = rot (rw8 T r) (rw128 C r) (rw128 S r) l := by
  pointwise [k0_pay15, k0_pay7, k0_pay8, k0_pay14, rot, low]
theorem q23_at : k0_pay23 (F := Ideal) (k0_pay7 C) (k0_pay8 S) (k0_pay21 T) (k0_pay22 T) (ix2 r l) = rot (rw8 T r) (rw128 C r) (rw128 S r) l := by
  pointwise [k0_pay23, k0_pay7, k0_pay8, k0_pay21, k0_pay22, rot, low]
theorem q26_at : k0_pay26 (F := Ideal) (k0_pay7 C) (k0_pay8 S) (k0_pay25 T) (ix2 r l) = rot (rw8 T r) (rw128 C r) (rw128 S r) l := by
  pointwise [k0_pay26, k0_pay7, k0_pay8, k0_pay25, rot, low]
theorem q36_at : k0_pay36 (F := Ideal) (k0_pay33 C) (k0_pay34 S) (k0_pay35 T) (iota Kind.tc S256x128 32 [1] iota_S256x128_d1_w32) (ix2 r l) = rot (rw8 T r) (rw128 C r) (rw128 S r) l := by
  pointwise [k0_pay36, k0_pay33, k0_pay34, k0_pay35, rot, low]
theorem q46_at : k0_pay46 (F := Ideal) (k0_pay33 C) (k0_pay34 S) (k0_pay42 T) k0_pay43 (k0_pay44 T) (k0_pay45 T) (ix2 r l) = rot (rw8 T r) (rw128 C r) (rw128 S r) l := by
  pointwise [k0_pay46, k0_pay33, k0_pay34, k0_pay42, k0_pay43, k0_pay44, k0_pay45, rot, low]
theorem q49_at : k0_pay49 (F := Ideal) (k0_pay33 C) (k0_pay34 S) T k0_pay48 (ix2 r l) = rot (rw8 T r) (rw128 C r) (rw128 S r) l := by
  pointwise [k0_pay49, k0_pay33, k0_pay34, k0_pay48, rot, low]
theorem q57_at : k0_pay57 (F := Ideal) (k0_pay33 C) (k0_pay34 S) (k0_pay54 T) k0_pay55 (k0_pay56 T) (ix2 r l) = rot (rw8 T r) (rw128 C r) (rw128 S r) l := by
  pointwise [k0_pay57, k0_pay33, k0_pay34, k0_pay54, k0_pay55, k0_pay56, rot, low]

end Rope

section Rows

variable {D : FVec Ideal S256x2560 .bf16} {W : FVec Ideal S1024x2560 .bf16} {X E : FVec Ideal S256x1024 .f32}
  {G A : FVec Ideal S1x1024 .f32} {c c' : Fin 1024 → EReal}

abbrev xT (X : FVec Ideal S256x1024 .f32) (r : Fin 256) : Fin 1024 → EReal := fun l => X (ix2 r l)
abbrev gT (G : FVec Ideal S1x1024 .f32) : Fin 1024 → EReal := fun l => G (ix2 0 l)

/-- A block of rows against the whole weight: the cotangent of the normalised rows. -/
def dhT (D : FVec Ideal S256x2560 .bf16) (W : FVec Ideal S1024x2560 .bf16) (r : Fin 256) (l : Fin 1024) : EReal :=
  ∑ e : Fin 2560, D (ix2 r e) * W (ix2 l e)

theorem dh0_at (r : Fin 256) (l : Fin 1024) : k0_pay61 (F := Ideal) D W (ix2 r l) = dhT D W r l := by
  pointwise [k0_pay61, dhT]
theorem dh1_at (r : Fin 256) (l : Fin 1024) : k0_pay62 (F := Ideal) D W (ix2 r l) = dhT D W r l := by
  pointwise [k0_pay62, dhT]

theorem dx0_at (r : Fin 256) (l : Fin 1024) : k0_pay66 (F := Ideal) (k0_pay61 D W) (k0_pay63 X) (k0_pay64 X) E G (ix2 r l)
    = E (ix2 r l) + back width eps (xT X r) (fun k => dhT D W r k * gT G k) l := by
  pointwise [k0_pay66, k0_pay63, k0_pay64, dh0_at, back, hat, rr, width, eps]
theorem dx1_at (r : Fin 256) (l : Fin 1024) : k0_pay70 (F := Ideal) (k0_pay62 D W) (k0_pay67 X) (k0_pay68 X) E G (ix2 r l)
    = E (ix2 r l) + back width eps (xT X r) (fun k => dhT D W r k * gT G k) l := by
  pointwise [k0_pay70, k0_pay67, k0_pay68, dh1_at, back, hat, rr, width, eps]

theorem dg0_at (z : Fin 1) (l : Fin 1024) : k0_pay65 (F := Ideal) D W X A (ix2 z l)
    = A (ix2 z l) + ∑ r : Fin 256, dhT D W r l * hat width eps (xT X r) l := by
  pointwise [k0_pay65, k0_pay63, k0_pay64, dh0_at, hat, rr, width, eps]
theorem dg1_at (z : Fin 1) (l : Fin 1024) : k0_pay69 (F := Ideal) (k0_pay62 D W) X A (ix2 z l)
    = A (ix2 z l) + ∑ r : Fin 256, dhT D W r l * hat width eps (xT X r) l := by
  pointwise [k0_pay69, k0_pay67, k0_pay68, dh1_at, hat, rr, width, eps]

end Rows

section Weight

variable {H : FVec Ideal S512x1024 .bf16} {D : FVec Ideal S512x512 .bf16} (a : FVec Ideal S1x1x512x512 .f32)
  (b : FVec Ideal S1x1x512x128 .f32) (d : FVec Ideal S1x1x512x384 .f32) (e : FVec Ideal S1x1x512x256 .f32)

/-- One entry of a block's part of the weight's gradient. -/
def part (H : FVec Ideal S512x1024 .bf16) (D : FVec Ideal S512x512 .bf16) (r : Fin 1024) (l : Fin 512) : EReal :=
  ∑ i : Fin 512, H (ix2 i r) * D (ix2 i l)

theorem h_at (i : Fin 512) (r : Fin 1024) : k0_pay71 (F := Ideal) H (ix2 i r) = H (ix2 i r) := by pointwise [k0_pay71]

theorem w73_at (r l : Fin 512) : k0_pay73 (F := Ideal) H D a (ix4 0 0 r l) = a (ix4 0 0 r l) + part H D ⟨r, by omega⟩ ⟨l, by omega⟩ := by
  pointwise [k0_pay73, k0_pay72, k0_pay71, part]
theorem w74_at (r l : Fin 512) : k0_pay75 (F := Ideal) (k0_pay74 H D a) (ix4 0 0 r l) = a (ix4 0 0 r l) + part H D ⟨512 + r, by omega⟩ ⟨l, by omega⟩ := by
  pointwise [k0_pay75, k0_pay74, k0_pay72, k0_pay71, part]
theorem w77_at (r : Fin 512) (l : Fin 128) : k0_pay77 (F := Ideal) (k0_pay71 H) D b (ix4 0 0 r l) = b (ix4 0 0 r l) + part H D ⟨r, by omega⟩ ⟨l, by omega⟩ := by
  pointwise [k0_pay77, k0_pay76, k0_pay71, part]
theorem w78_at (r : Fin 512) (l : Fin 128) : k0_pay78 (F := Ideal) (k0_pay71 H) D b (ix4 0 0 r l) = b (ix4 0 0 r l) + part H D ⟨512 + r, by omega⟩ ⟨l, by omega⟩ := by
  pointwise [k0_pay78, k0_pay76, k0_pay71, part]
theorem w79_at (r : Fin 512) (l : Fin 384) : k0_pay79 (F := Ideal) (k0_pay71 H) D d (ix4 0 0 r l) = d (ix4 0 0 r l) + part H D ⟨r, by omega⟩ ⟨128 + l, by omega⟩ := by
  pointwise [k0_pay79, k0_pay76, k0_pay71, part]
theorem w80_at (r : Fin 512) (l : Fin 384) : k0_pay80 (F := Ideal) (k0_pay76 (k0_pay71 H) D) d (ix4 0 0 r l) = d (ix4 0 0 r l) + part H D ⟨512 + r, by omega⟩ ⟨128 + l, by omega⟩ := by
  pointwise [k0_pay80, k0_pay76, k0_pay71, part]
theorem w82_at (r : Fin 512) (l : Fin 256) : k0_pay82 (F := Ideal) (k0_pay71 H) D e (ix4 0 0 r l) = e (ix4 0 0 r l) + part H D ⟨r, by omega⟩ ⟨l, by omega⟩ := by
  pointwise [k0_pay82, k0_pay81, k0_pay71, part]
theorem w83_at (r : Fin 512) (l : Fin 256) : k0_pay83 (F := Ideal) (k0_pay71 H) D e (ix4 0 0 r l) = e (ix4 0 0 r l) + part H D ⟨512 + r, by omega⟩ ⟨l, by omega⟩ := by
  pointwise [k0_pay83, k0_pay81, k0_pay71, part]
theorem w84_at (r : Fin 512) (l : Fin 256) : k0_pay85 (F := Ideal) (k0_pay84 (k0_pay71 H) D e) (ix4 0 0 r l) = e (ix4 0 0 r l) + part H D ⟨r, by omega⟩ ⟨256 + l, by omega⟩ := by
  pointwise [k0_pay85, k0_pay84, k0_pay81, k0_pay71, part]
theorem w86_at (r : Fin 512) (l : Fin 256) : k0_pay86 (F := Ideal) (k0_pay81 (k0_pay71 H) D) e (ix4 0 0 r l) = e (ix4 0 0 r l) + part H D ⟨512 + r, by omega⟩ ⟨256 + l, by omega⟩ := by
  pointwise [k0_pay86, k0_pay81, k0_pay71, part]
theorem w88_at (r : Fin 512) (l : Fin 384) : k0_pay88 (F := Ideal) (k0_pay71 H) D d (ix4 0 0 r l) = d (ix4 0 0 r l) + part H D ⟨r, by omega⟩ ⟨l, by omega⟩ := by
  pointwise [k0_pay88, k0_pay87, k0_pay71, part]
theorem w89_at (r : Fin 512) (l : Fin 384) : k0_pay89 (F := Ideal) (k0_pay71 H) D d (ix4 0 0 r l) = d (ix4 0 0 r l) + part H D ⟨512 + r, by omega⟩ ⟨l, by omega⟩ := by
  pointwise [k0_pay89, k0_pay87, k0_pay71, part]
theorem w90_at (r : Fin 512) (l : Fin 128) : k0_pay90 (F := Ideal) (k0_pay87 (k0_pay71 H) D) b (ix4 0 0 r l) = b (ix4 0 0 r l) + part H D ⟨r, by omega⟩ ⟨384 + l, by omega⟩ := by
  pointwise [k0_pay90, k0_pay87, k0_pay71, part]
theorem w91_at (r : Fin 512) (l : Fin 128) : k0_pay91 (F := Ideal) (k0_pay87 (k0_pay71 H) D) b (ix4 0 0 r l) = b (ix4 0 0 r l) + part H D ⟨512 + r, by omega⟩ ⟨384 + l, by omega⟩ := by
  pointwise [k0_pay91, k0_pay87, k0_pay71, part]
theorem w93_at (r l : Fin 512) : k0_pay93 (F := Ideal) (k0_pay71 H) D a (ix4 0 0 r l) = a (ix4 0 0 r l) + part H D ⟨r, by omega⟩ ⟨l, by omega⟩ := by
  pointwise [k0_pay93, k0_pay92, k0_pay71, part]
theorem w94_at (r l : Fin 512) : k0_pay1 (F := Ideal) (k0_pay94 (k0_pay71 H) D a) (ix4 0 0 r l) = a (ix4 0 0 r l) + part H D ⟨512 + r, by omega⟩ ⟨l, by omega⟩ := by
  pointwise [k0_pay1, k0_pay94, k0_pay92, k0_pay71, part]

end Weight

end Cert.InProjIdeal.Value

end
-- ==== Proof.InProjFwdSpec.lean ====
module

public import proofs.«01_k».proof.Proof.InProjSpec

@[expose] public section

noncomputable section

open Idealize.ShloMosaic Cert.Reals Cert.MlpSpec Cert.InProjSpec

/-! The layer's input projection, one row at a time: the normalised row against the weight, the query and the key turned by the rotary
embedding, the query scaled. -/

namespace Cert.InProjFwdSpec

/-- The rotary embedding of eight heads of 64, applied to a row. -/
def fturn (p : BitVec 32) (d : Fin 512 → EReal) (e : Fin 512) : EReal :=
  if h : e.val % 64 < 32 then d e * Ideal.cos (ang p (lane e)) - d ⟨e.val + 32, by omega⟩ * Ideal.sin (ang p (lane e))
  else d ⟨e.val - 32, by omega⟩ * Ideal.sin (ang p (lane e)) + d e * Ideal.cos (ang p (lane e))

variable (X : FVec Ideal ⟨2, ![4096, 1024]⟩ .f32) (G : FVec Ideal ⟨2, ![1, 1024]⟩ .f32) (W : FVec Ideal ⟨2, ![1024, 2560]⟩ .f32)
  (P : IVec ⟨1, ![4096]⟩ 32)

/-- Row `i` of the projection. -/
def pj (i : Fin 4096) (e : Fin 2560) : EReal := ∑ k, h2 (xr X i) (gr G) k * W (ix2 k e)

/-- The scaled rotated query, the rotated key, the value, the convolution's three inputs, the cross attention's query. -/
def qf (i : Fin 4096) (e : Fin 512) : EReal := fturn (P (ix1 i)) (fun l => pj X G W i ⟨l.val, by omega⟩) e * Ideal.ofBits .f32 0x3E000000#32
def kf (i : Fin 4096) (e : Fin 512) : EReal := fturn (P (ix1 i)) (fun l => pj X G W i ⟨512 + l.val, by omega⟩) e
def vf (i : Fin 4096) (e : Fin 512) : EReal := pj X G W i ⟨1024 + e.val, by omega⟩
def bf (i : Fin 4096) (e : Fin 768) : EReal := pj X G W i ⟨1536 + e.val, by omega⟩
def xf (i : Fin 4096) (e : Fin 256) : EReal := pj X G W i ⟨2304 + e.val, by omega⟩

/-! The five results, as arrays. -/

def QF : FVec Ideal ⟨2, ![4096, 512]⟩ .f32 := fun y => qf X G W P (y 0) (y 1)
def KF : FVec Ideal ⟨2, ![4096, 512]⟩ .f32 := fun y => kf X G W P (y 0) (y 1)
def VF : FVec Ideal ⟨2, ![4096, 512]⟩ .f32 := fun y => vf X G W (y 0) (y 1)
def BF : FVec Ideal ⟨2, ![4096, 768]⟩ .f32 := fun y => bf X G W (y 0) (y 1)
def XF : FVec Ideal ⟨2, ![4096, 256]⟩ .bf16 := fun y => xf X G W (y 0) (y 1)

end Cert.InProjFwdSpec

end
-- ==== Proof.InProjFwdTiles.lean ====
module

public import proofs.«01_k».proof.Proof.Gen.InProjFwdIdeal.Value
public import proofs.«01_k».proof.Proof.InProjTiles
public import proofs.«01_k».proof.Proof.InProjFwdSpec
public import Idealize.ShloMosaic.Lib.Pipeline.ValueKit
public import Idealize.ShloMosaic.Lib.Pointwise

@[expose] public section

set_option maxRecDepth 16384

noncomputable section

open Idealize.ShloMosaic Idealize.ShloMosaic.TcCoe Cert.Reals Cert.MlpSpec Cert.InProjSpec Cert.InProjFwdSpec

/-! What the kernel computes from one block of rows, read row by row. -/

namespace Cert.InProjFwdIdeal.Value

open Cert.InProjFwdIdeal Cert.InProjFwdIdeal.Gen
open Cert.InProjIdeal.Value (low low_eq)

/-- One row of two heads turned by the tables' row. -/
def rot (T C S : Fin 128 → EReal) (l : Fin 128) : EReal :=
  T l * C l + Scalar.select (low l) (T ⟨(l.val + 128 - 96) % 128, Nat.mod_lt _ (by norm_num)⟩) (T ⟨(l.val + 128 - 32) % 128, Nat.mod_lt _ (by norm_num)⟩) * S l

theorem rot_turn {p : BitVec 32} {d : Fin 512 → EReal} {T C S : Fin 128 → EReal} (o : ℕ) (ho : o + 128 ≤ 512) (h64 : o % 64 = 0)
    (hT : ∀ l, T l = d ⟨o + l.val, by omega⟩) (hC : ∀ l, C l = Ideal.cos (ang p (lane l)))
    (hS : ∀ l, S l = if l.val % 64 < 32 then -Ideal.sin (ang p (lane l)) else Ideal.sin (ang p (lane l))) (l : Fin 128) :
    rot T C S l = fturn p d ⟨o + l.val, by omega⟩ := by
  have e : (o + l.val) % 64 = l.val % 64 := by omega
  have f : lane (⟨o + l.val, by omega⟩ : Fin 512) = lane l := Fin.ext (by simp [lane]; omega)
  unfold rot fturn
  simp only [hT, hC, hS, low_eq, f]
  by_cases h : l.val % 64 < 32
  · rw [dif_pos (by simpa [e] using h), if_pos h, if_pos h]
    have g : (⟨o + (l.val + 128 - 96) % 128, by omega⟩ : Fin 512) = ⟨o + l.val + 32, by omega⟩ := Fin.ext (by simp; omega)
    show _ + d _ * _ = _
    rw [g, mul_neg, ← sub_eq_add_neg]
  · rw [dif_neg (by simpa [e] using h), if_neg h, if_neg h]
    have g : (⟨o + (l.val + 128 - 32) % 128, by omega⟩ : Fin 512) = ⟨o + l.val - 32, by omega⟩ := Fin.ext (by simp; omega)
    show _ + d _ * _ = _
    rw [g, add_comm]

section Rope
variable (C S T : FVec Ideal S512x128 .f32) (r : Fin 512) (l : Fin 128)

abbrev rw128 (T : FVec Ideal S512x128 .f32) (r : Fin 512) : Fin 128 → EReal := fun l => T (ix2 r l)

theorem k9_at : k0_pay9 (F := Ideal) (k0_pay5 C) (k0_pay6 S) T (ix2 r l) = rot (rw128 T r) (rw128 C r) (rw128 S r) l := by
  pointwise [k0_pay9, k0_pay5, k0_pay6, rot, low]
theorem k15_at : k0_pay15 (F := Ideal) (k0_pay5 C) (k0_pay6 S) T 64#32 k0_pay11 k0_pay12 k0_pay13 k0_pay14 (ix2 r l) = rot (rw128 T r) (rw128 C r) (rw128 S r) l := by
  pointwise [k0_pay15, k0_pay5, k0_pay6, k0_pay11, k0_pay12, k0_pay13, k0_pay14, rot, low]
  rfl
theorem k17_at : k0_pay17 (F := Ideal) (k0_pay5 C) (k0_pay6 S) T (ix2 r l) = rot (rw128 T r) (rw128 C r) (rw128 S r) l := by
  pointwise [k0_pay17, k0_pay5, k0_pay6, rot, low]
theorem k1_at : k0_pay1 (F := Ideal) (k0_pay5 C) (k0_pay6 S) T k0_pay21 (k0_pay22 T) (ix2 r l) = rot (rw128 T r) (rw128 C r) (rw128 S r) l := by
  pointwise [k0_pay1, k0_pay5, k0_pay6, k0_pay21, k0_pay22, rot, low]
theorem q8_at : k0_pay8 (F := Ideal) (k0_pay5 C) (k0_pay6 S) T k0_pay7 96#32 (ix2 r l) = rot (rw128 T r) (rw128 C r) (rw128 S r) l * Ideal.ofBits .f32 0x3E000000#32 := by
  pointwise [k0_pay8, k0_pay5, k0_pay6, k0_pay7, rot, low]
theorem q10_at : k0_pay10 (F := Ideal) (k0_pay5 C) (k0_pay6 S) T (iota Kind.tc S512x128 32 [1] iota_S512x128_d1_w32) 64#32 (ix2 r l)
    = rot (rw128 T r) (rw128 C r) (rw128 S r) l * Ideal.ofBits .f32 0x3E000000#32 := by
  pointwise [k0_pay10, k0_pay5, k0_pay6, rot, low]
theorem q16_at : k0_pay16 (F := Ideal) (k0_pay5 C) (k0_pay6 S) T (ix2 r l) = rot (rw128 T r) (rw128 C r) (rw128 S r) l * Ideal.ofBits .f32 0x3E000000#32 := by
  pointwise [k0_pay16, k0_pay5, k0_pay6, rot, low]
theorem q20_at : k0_pay20 (F := Ideal) (k0_pay5 C) (k0_pay6 S) T 64#32 k0_pay18 k0_pay19 0#32 (ix2 r l)
    = rot (rw128 T r) (rw128 C r) (rw128 S r) l * Ideal.ofBits .f32 0x3E000000#32 := by
  pointwise [k0_pay20, k0_pay5, k0_pay6, k0_pay18, k0_pay19, rot, low]
  rfl

end Rope

/-- A block of normalised rows against the whole weight. -/
theorem k4_at (H : FVec Ideal S512x1024 .bf16) (W : FVec Ideal S1024x2560 .bf16) (r : Fin 512) (e : Fin 2560) :
    k0_pay4 (F := Ideal) H W (ix2 r e) = ∑ k : Fin 1024, H (ix2 r k) * W (ix2 k e) := by
  pointwise [k0_pay4]
theorem k2_at (T : FVec Ideal S512x256 .f32) (r : Fin 512) (e : Fin 256) : k0_pay2 (F := Ideal) T (ix2 r e) = T (ix2 r e) := by
  pointwise [k0_pay2]

end Cert.InProjFwdIdeal.Value

end
-- ==== Proof.InProjFwdBlocks.lean ====
module

public import proofs.«01_k».proof.Proof.Gen.InProjFwdIdeal.Value
public import proofs.«01_k».proof.Proof.InProjFwdTiles
public import proofs.«01_k».proof.Defs
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem Cert.Reals Cert.MlpSpec Cert.InProjSpec Cert.InProjFwdSpec

/-! The blocks the call works on: the host's lines before it, and the weight as the kernel keeps it. -/

namespace Cert.InProjFwdIdeal.Value

open Cert.InProjFwdIdeal Cert.InProjFwdIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The four arguments of device `c`. -/
abbrev aX (c : Dev nD) : FVec Ideal S4096x1024 .f32 := m ((c : Thread nD τ).loc main_arg0)
abbrev aG (c : Dev nD) : FVec Ideal S1x1024 .f32 := m ((c : Thread nD τ).loc main_arg1)
abbrev aW (c : Dev nD) : FVec Ideal S1024x2560 .f32 := m ((c : Thread nD τ).loc main_arg2)
abbrev aP (c : Dev nD) : IVec S4096 32 := m ((c : Thread nD τ).loc main_arg3)

/-- Row `r` of block `t`. -/
abbrev row (t : Fin cfg0.N) (r : Fin 512) : Fin 4096 := ⟨t.val * 512 + r.val, by have : t.val < 8 := t.isLt; omega⟩

/-! The host's lines before the call: the normalised rows, the two rotary tables, the weight's four column quarters. -/

def angT (P : IVec S4096 32) : FVec Ideal S4096x32 .f32 :=
  mulf (broadcastInDim S4096x32 ![0, 1] bcast_S4096x1_S4096x32_0_1 (broadcastInDim S4096x1 ![0] bcast_S4096_S4096x1_0 (sitofp .f32 P)))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.negf (Host.divf (mulf (sitofp .f32 (iotaInDim S32 32 0)) (broadcastInDim S32 ![] bcast_S_S32 (constant S_ .f32 0x40000000#32)))
          (broadcastInDim S32 ![] bcast_S_S32 (constant S_ .f32 0x42800000#32)))))))

def cosT (P : IVec S4096 32) : FVec Ideal S4096x128 .f32 :=
  shapeCast S4096x128 (broadcastInDim S1x4096x4x32 ![0, 1, 2, 3] bcast_S1x4096x1x32_S1x4096x4x32_0_1_2_3
    (shapeCast S1x4096x1x32 (Host.cos (angT P)) shapeCasts_S4096x32_S1x4096x1x32)) shapeCasts_S1x4096x4x32_S4096x128

def sinT (P : IVec S4096 32) : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x32, Host.negf (Host.sin (angT P))⟩, ⟨S4096x32, Host.sin (angT P)⟩]
      concatenates_S4096x32_S4096x32_S4096x64_d1) shapeCasts_S4096x64_S1x4096x1x64)) shapeCasts_S1x4096x2x64_S4096x128

theorem angT_at (P : IVec S4096 32) (i : Fin 4096) (j : Fin 32) : angT P (ix2 i j) = ang (P (ix1 i)) j := by
  pointwise [angT, ang]

theorem cosT_at (P : IVec S4096 32) (i : Fin 4096) (l : Fin 128) : cosT P (ix2 i l) = Ideal.cos (ang (P (ix1 i)) (lane l)) := by
  pointwise [cosT, angT_at]

theorem sinT_at (P : IVec S4096 32) (i : Fin 4096) (l : Fin 128) : sinT P (ix2 i l)
    = if l.val % 64 < 32 then -Ideal.sin (ang (P (ix1 i)) (lane l)) else Ideal.sin (ang (P (ix1 i)) (lane l)) := by
  pointwise [sinT, angT_at]
  split
  · rw [show lane l = ⟨l.val % 64, by omega⟩ from Fin.ext (by simp [lane]; omega)]
  · rw [show lane l = ⟨l.val % 64 - 32, by omega⟩ from Fin.ext (by simp [lane]; omega)]

theorem V_cos (c : Dev nD) : V m c main_v18 = cosT (aP m c) := by
  unfold V; after_results; rfl
theorem V_sin (c : Dev nD) : V m c main_v23 = sinT (aP m c) := by
  unfold V; after_results; rfl

def hT (X : FVec Ideal S4096x1024 .f32) (G : FVec Ideal S1x1024 .f32) : FVec Ideal S4096x1024 .bf16 :=
  truncf .bf16 (mulf (mulf X (broadcastInDim S4096x1024 ![0, 1] bcast_S4096x1_S4096x1024_0_1 (Host.rsqrt (addf (Host.divf
    (broadcastInDim S4096x1 ![0] bcast_S4096_S4096x1_0 (Host.reduceAdd (mulf X X) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))))))
    (broadcastInDim S4096x1024 ![0, 1] bcast_S1x1024_S4096x1024_0_1 G)) bitsLt_bf16_f32
theorem hT_at (X : FVec Ideal S4096x1024 .f32) (G : FVec Ideal S1x1024 .f32) (i : Fin 4096) (k : Fin 1024) : hT X G (ix2 i k) = h2 (xr X i) (gr G) k := by
  pointwise [hT, h2, hat, rr]
theorem V_h (c : Dev nD) : V m c main_v39 = hT (aX m c) (aG m c) := by
  unfold V; after_results; rfl

theorem blkH (c : Dev nD) (t : Fin cfg0.N) (r : Fin 512) (k : Fin 1024) : iblk m c 0 t (ix2 r k) = h2 (xr (aX m c) (row t r)) (gr (aG m c)) k := by
  refine Eq.trans ?_ ((congrFun (V_h m c) _).trans (hT_at _ _ _ _))
  blk_point [iblk, idx t]
theorem blkC (c : Dev nD) (t : Fin cfg0.N) (r : Fin 512) (l : Fin 128) : iblk m c 1 t (ix2 r l) = Ideal.cos (ang (aP m c (ix1 (row t r))) (lane l)) := by
  refine Eq.trans ?_ ((congrFun (V_cos m c) _).trans (cosT_at _ _ _))
  blk_point [iblk, idx t]
theorem blkS (c : Dev nD) (t : Fin cfg0.N) (r : Fin 512) (l : Fin 128) : iblk m c 2 t (ix2 r l) =
    if l.val % 64 < 32 then -Ideal.sin (ang (aP m c (ix1 (row t r))) (lane l)) else Ideal.sin (ang (aP m c (ix1 (row t r))) (lane l)) := by
  refine Eq.trans ?_ ((congrFun (V_sin m c) _).trans (sinT_at _ _ _))
  blk_point [iblk, idx t]
def quarters (W : FVec Ideal S1024x2560 .f32) : FVec Ideal S4x1024x640 .bf16 :=
  transpose S4x1024x640 [1, 0, 2] (shapeCast S1024x4x640 (truncf .bf16 W bitsLt_bf16_f32) shapeCasts_S1024x2560_S1024x4x640) transposes_S1024x4x640_S4x1024x640_1_0_2
theorem quarters_at (W : FVec Ideal S1024x2560 .f32) (q : Fin 4) (l : Fin 1024) (k : Fin 640) : quarters W (ix3 q l k) = W (ix2 l ⟨q.val * 640 + k.val, by omega⟩) := by
  pointwise [quarters]
theorem V_w (c : Dev nD) : V m c main_v26 = quarters (aW m c) := by
  unfold V; after_results; rfl

theorem ld_at {n k a b : ℕ} {α : Type} (B : Shape.Idx ⟨2, ![n, k]⟩ → α) (o p : ℕ)
    (h : ∀ x, (![o, p] : Fin 2 → ℕ) x + (⟨2, ![a, b]⟩ : Shape).size x ≤ (⟨2, ![n, k]⟩ : Shape).size x) (r : Fin a) (l : Fin b)
    (ho : o + r.val < n) (hp : p + l.val < k) :
    B ((Rect.unit (s := ⟨2, ![n, k]⟩) ![o, p] ![a, b] h).emb (ix2 r l)) = B (ix2 ⟨o + r.val, ho⟩ ⟨p + l.val, hp⟩) := by
  congr 1
  blk_ext []

/-! The weight as it stands in the kernel's memory after the four copies. -/

theorem numel_w : S1024x640.numel = S1x1024x640.numel := by decide

/-- Column quarter `q` of the weight, as copied. -/
abbrev wcopy (c : Dev nD) (q : ℕ) (h : ∀ a, (![q, 0, 0] : Fin 3 → ℕ) a + S1x1024x640.size a ≤ S4x1024x640.size a) : FVec Ideal S1024x640 .bf16 :=
  ReadAs.same.apply (View.read (Elt Ideal) (((View.whole main_v26).slice (Rect.unit ![q, 0, 0] ![1, 1024, 640] h)).reshape S1024x640 numel_w) (V m c main_v26))

theorem wcopy_at (c : Dev nD) (q : ℕ) {h} (hq : q < 4) (l : Fin 1024) (k : Fin 640) :
    wcopy m c q h (ix2 l k) = aW m c (ix2 l ⟨q * 640 + k.val, by omega⟩) := by
  refine Eq.trans ?_ ((congrFun (V_w m c) _).trans (quarters_at (aW m c) ⟨q, hq⟩ l k))
  unfold wcopy
  refine congrArg (V m c main_v26) ?_
  change (Rect.unit (s := S4x1024x640) ![q, 0, 0] ![1, 1024, 640] h).emb (Shape.reshapeEquiv numel_w (ix2 l k)) = _
  rw [show Shape.reshapeEquiv numel_w (ix2 l k) = Fin.cons ⟨0, Nat.one_pos⟩ (ix2 l k) from
    Shape.reshapeEquiv_cons_one (n := 2) (d := ![1024, 640]) numel_w (ix2 l k)]
  funext a
  fin_cases a <;> exact Fin.ext ((Rect.idx_unit_val (s := S4x1024x640) ![q, 0, 0] ![1, 1024, 640] h _ _).trans (by first | rfl | exact Nat.zero_add _))

/-- The whole weight. -/
abbrev wT (c : Dev nD) : FVec Ideal S1024x2560 .bf16 := aW m c

/-- A quarter where it is stored. -/
abbrev wpiece (c : Dev nD) (q o : ℕ) (h : ∀ a, (![q, 0, 0] : Fin 3 → ℕ) a + S1x1024x640.size a ≤ S4x1024x640.size a)
    (h' : ∀ a, (![0, o] : Fin 2 → ℕ) a + S1024x640.size a ≤ S1024x2560.size a) : View.Piece (Elt Ideal) S1024x2560 .bf16 :=
  ⟨Rect.unit ![0, o] ![1024, 640] h', wcopy m c q h⟩

theorem wpiece_of (c : Dev nD) (q o : ℕ) {h h'} (hq : q < 4) (ho : o = q * 640) (x : S1024x640.Idx) :
    (wpiece m c q o h h').2 x = wT m c ((wpiece m c q o h h').1.emb x) := by
  subst ho
  idx_vars x
  refine (wcopy_at m c q hq _ _).trans (congrArg (aW m c) ?_)
  blk_ext []

abbrev wpieces (c : Dev nD) : List (View.Piece (Elt Ideal) S1024x2560 .bf16) :=
  [wpiece m c 3 1920 inb_S4x1024x640_S1x1024x640_3_0_0 inb_S1024x2560_S1024x640_0_1920,
    wpiece m c 2 1280 inb_S4x1024x640_S1x1024x640_2_0_0 inb_S1024x2560_S1024x640_0_1280,
    wpiece m c 1 640 inb_S4x1024x640_S1x1024x640_1_0_0 inb_S1024x2560_S1024x640_0_640,
    ⟨Rect.unit ![0, 2432] ![16, 128] inb_S1024x2560_S16x128_0_2432, k0_pay3 (F := Ideal)⟩,
    wpiece m c 0 0 inb_S4x1024x640_S1x1024x640_0_0_0 inb_S1024x2560_S1024x640_0_0]

theorem wcanon (c : Dev nD) : View.canon (wpieces m c) = aW m c := by
  funext y
  have h1 : (y 1).val < 2560 := (y 1).isLt
  by_cases h : (y 1).val < 640
  · rw [View.canon_cons_of_not_mem, View.canon_cons_of_not_mem, View.canon_cons_of_not_mem, View.canon_cons_of_not_mem]
    · refine View.canon_append_of_piecesOf (wT m c) [] [wpiece m c 0 0 inb_S4x1024x640_S1x1024x640_0_0_0 inb_S1024x2560_S1024x640_0_0]
        (by exact ⟨wpiece_of m c 0 0 (by omega) rfl, trivial⟩) y ?_
      simp [Rect.mem_set_unit, Fin.forall_fin_two]; omega
    all_goals simp [Rect.mem_set_unit, Fin.forall_fin_two]; omega
  · refine View.canon_append_of_piecesOf (wT m c) ((wpieces m c).drop 3) ((wpieces m c).take 3)
      (by exact ⟨wpiece_of m c 3 1920 (by omega) rfl, wpiece_of m c 2 1280 (by omega) rfl, wpiece_of m c 1 640 (by omega) rfl, trivial⟩) y ?_
    simp [Rect.mem_set_unit, Fin.forall_fin_two]; omega

theorem wread (c : Dev nD) : (View.whole cc0_scratch1).readCov (wpieces m c) (Rect.unit ![0, 0] ![1024, 2560] inb_S1024x2560_S1024x2560_0_0).toLoadRect = aW m c := by
  rw [View.readCov_eq_canon', wcanon]
  funext j
  refine congrArg (aW m c) ?_
  funext a
  fin_cases a <;> exact Fin.ext (by rw [Rect.idx_unit_val]; simp)

/-- After every point the weight stands there whole. -/
theorem weight (c : Dev nD) (n : ℕ) (hn : n < cfg0.N) : (outsAt0 m c n hn).2.2.2.2.2 = aW m c := by
  have hN : cfg0.N = 8 := N_0
  induction n with
  | zero =>
    rw [outsAt0_A m c ⟨0, hn⟩ rfl]
    frame_out
    exact wcanon m c
  | succ n ih =>
    rw [outsAt0_B m c ⟨n + 1, hn⟩ (by simp only []; omega)]
    dsimp only
    unfold sout0_B_1
    exact ih (by omega)

/-- The weight carried from the point before, read back whole. -/
theorem wkept (c : Dev nD) (n : ℕ) (h : n < cfg0.N) (hw : (Memref.whole cc0_scratch1).IsWhole) :
    View.read (Elt Ideal) (View.whole cc0_scratch1) (hw.unread (outsAt0 m c n h).2.2.2.2.2) = aW m c :=
  (read_unread_whole cc0_scratch1 hw _).trans (weight m c n h)

end Cert.InProjFwdIdeal.Value

end
-- ==== Proof.InProjFwdRefValue.lean ====
module

public import proofs.«01_k».proof.Proof.Gen.InProjFwdRefIdeal.Run
public import proofs.«01_k».proof.Proof.Gen.InProjFwdRefIdeal.Read
public import proofs.«01_k».proof.Proof.InProjFwdSpec
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Cert.Reals

/-! The plain lines of the input projection, read row by row. -/

namespace Cert.InProjFwdRefIdeal.Value

open Cert.InProjFwdRefIdeal Cert.InProjFwdRefIdeal.Gen Cert.InProjFwdRefIdeal.Read Cert.MlpSpec Cert.InProjSpec Cert.InProjFwdSpec

variable (X : FVec Ideal S4096x1024 .f32) (G : FVec Ideal S1x1024 .f32) (W : FVec Ideal S1024x2560 .f32) (P : IVec S4096 32)

theorem v6_at (i : Fin 4096) (z : Fin 1) : val_main_v6 (F := Ideal) X (ix2 i z)
    = Ideal.div (∑ l, xr X i l * xr X i l) width + eps := by
  pointwise [val_main_v6, val_main_v5, val_main_v4, val_main_v3, val_main_v2, val_main_v1, val_main_v0, val_main_cst, val_main_cst_0, val_main_cst_1]

theorem v11_at (i : Fin 4096) (k : Fin 1024) : val_main_v11 (F := Ideal) X G (ix2 i k) = h2 (xr X i) (gr G) k := by
  pointwise [val_main_v11, val_main_v10, val_main_v9, val_main_v8, val_main_v7, v6_at, h2, hat, rr]

theorem v12_at (i : Fin 4096) (e : Fin 2560) : val_main_v12 (F := Ideal) X G W (ix2 i e) = pj X G W i e := by
  pointwise [val_main_v12, v11_at, pj]

theorem v28_at (i : Fin 4096) (l : Fin 32) : val_main_v28 (F := Ideal) P (ix2 i l) = ang (P (ix1 i)) l := by
  pointwise [val_main_v28, val_main_v27, val_main_v26, val_main_v25, val_main_v24, val_main_v23, val_main_v22, val_main_v21, val_main_cst_4, val_main_v20,
    val_main_v19, val_main_v18, val_main_v17, val_main_v16, val_main_v15, val_main_cst_2, val_main_cst_3, ang]

theorem v63_at (i : Fin 4096) (l : Fin 32) : val_main_v63 (F := Ideal) P (ix2 i l) = ang (P (ix1 i)) l := by
  pointwise [val_main_v63, val_main_v62, val_main_v61, val_main_v60, val_main_v59, val_main_v58, val_main_v57, val_main_v56, val_main_cst_8, val_main_v55,
    val_main_v54, val_main_v53, val_main_v52, val_main_v51, val_main_v50, val_main_cst_6, val_main_cst_7, ang]

theorem v14_at (i : Fin 4096) (h : Fin 8) (l : Fin 64) : val_main_v14 (F := Ideal) X G W (ix3 i h l) = pj X G W i ⟨h.val * 64 + l.val, by omega⟩ := by
  pointwise [val_main_v14, val_main_v13, v12_at]

theorem v49_at (i : Fin 4096) (h : Fin 8) (l : Fin 64) : val_main_v49 (F := Ideal) X G W (ix3 i h l) = pj X G W i ⟨512 + (h.val * 64 + l.val), by omega⟩ := by
  pointwise [val_main_v49, val_main_v48, v12_at]

theorem v39_at (i : Fin 4096) (h : Fin 8) (l : Fin 32) : val_main_v39 (F := Ideal) X G W P (ix3 i h l)
    = pj X G W i ⟨h.val * 64 + l.val, by omega⟩ * Ideal.cos (ang (P (ix1 i)) l)
      - pj X G W i ⟨h.val * 64 + (32 + l.val), by omega⟩ * Ideal.sin (ang (P (ix1 i)) l) := by
  pointwise [val_main_v39, val_main_v38, val_main_v37, val_main_v36, val_main_v35, val_main_v34, val_main_v33, v14_at, val_main_v32, val_main_v31,
    val_main_v30, val_main_v29, v28_at]

theorem v44_at (i : Fin 4096) (h : Fin 8) (l : Fin 32) : val_main_v44 (F := Ideal) X G W P (ix3 i h l)
    = pj X G W i ⟨h.val * 64 + l.val, by omega⟩ * Ideal.sin (ang (P (ix1 i)) l)
      + pj X G W i ⟨h.val * 64 + (32 + l.val), by omega⟩ * Ideal.cos (ang (P (ix1 i)) l) := by
  pointwise [val_main_v44, val_main_v43, val_main_v42, val_main_v41, val_main_v40, val_main_v34, val_main_v33, v14_at, val_main_v32, val_main_v31,
    val_main_v30, val_main_v29, v28_at]

theorem v74_at (i : Fin 4096) (h : Fin 8) (l : Fin 32) : val_main_v74 (F := Ideal) X G W P (ix3 i h l)
    = pj X G W i ⟨512 + (h.val * 64 + l.val), by omega⟩ * Ideal.cos (ang (P (ix1 i)) l)
      - pj X G W i ⟨512 + (h.val * 64 + (32 + l.val)), by omega⟩ * Ideal.sin (ang (P (ix1 i)) l) := by
  pointwise [val_main_v74, val_main_v73, val_main_v72, val_main_v71, val_main_v70, val_main_v69, val_main_v68, v49_at, val_main_v67, val_main_v66,
    val_main_v65, val_main_v64, v63_at]

theorem v79_at (i : Fin 4096) (h : Fin 8) (l : Fin 32) : val_main_v79 (F := Ideal) X G W P (ix3 i h l)
    = pj X G W i ⟨512 + (h.val * 64 + l.val), by omega⟩ * Ideal.sin (ang (P (ix1 i)) l)
      + pj X G W i ⟨512 + (h.val * 64 + (32 + l.val)), by omega⟩ * Ideal.cos (ang (P (ix1 i)) l) := by
  pointwise [val_main_v79, val_main_v78, val_main_v77, val_main_v76, val_main_v75, val_main_v69, val_main_v68, v49_at, val_main_v67, val_main_v66,
    val_main_v65, val_main_v64, v63_at]

/-- The rotation of a row, a head and a lane of it at a time. -/
theorem fturn_at (p : BitVec 32) (d : Fin 512 → EReal) (h : Fin 8) (l : Fin 64) : fturn p d ⟨h.val * 64 + l.val, by omega⟩
    = if h1 : l.val < 32 then d ⟨h.val * 64 + l.val, by omega⟩ * Ideal.cos (ang p ⟨l.val, h1⟩)
        - d ⟨h.val * 64 + (32 + l.val), by omega⟩ * Ideal.sin (ang p ⟨l.val, h1⟩)
      else d ⟨h.val * 64 + (l.val - 32), by omega⟩ * Ideal.sin (ang p ⟨l.val - 32, by omega⟩)
        + d ⟨h.val * 64 + (32 + (l.val - 32)), by omega⟩ * Ideal.cos (ang p ⟨l.val - 32, by omega⟩) := by
  have e : (h.val * 64 + l.val) % 64 = l.val := by omega
  unfold fturn
  by_cases h1 : l.val < 32
  · have f : lane (⟨h.val * 64 + l.val, by omega⟩ : Fin 512) = ⟨l.val, h1⟩ := Fin.ext (by simp [lane]; omega)
    have g : (⟨h.val * 64 + l.val + 32, by omega⟩ : Fin 512) = ⟨h.val * 64 + (32 + l.val), by omega⟩ := Fin.ext (by simp; omega)
    rw [dif_pos (by simpa [e] using h1), dif_pos h1, f, g]
  · have f : lane (⟨h.val * 64 + l.val, by omega⟩ : Fin 512) = ⟨l.val - 32, by omega⟩ := Fin.ext (by simp [lane]; omega)
    have g : (⟨h.val * 64 + l.val - 32, by omega⟩ : Fin 512) = ⟨h.val * 64 + (l.val - 32), by omega⟩ := Fin.ext (by simp; omega)
    have g' : (⟨h.val * 64 + (32 + (l.val - 32)), by omega⟩ : Fin 512) = ⟨h.val * 64 + l.val, by omega⟩ := Fin.ext (by simp; omega)
    rw [dif_neg (by simpa [e] using h1), dif_neg h1, f, g, g']

theorem v45_at (i : Fin 4096) (h : Fin 8) (l : Fin 64) : val_main_v45 (F := Ideal) X G W P (ix3 i h l)
    = fturn (P (ix1 i)) (fun l => pj X G W i ⟨l.val, by omega⟩) ⟨h.val * 64 + l.val, by omega⟩ := by
  rw [fturn_at]
  pointwise [val_main_v45, v39_at, v44_at]

theorem v80_at (i : Fin 4096) (h : Fin 8) (l : Fin 64) : val_main_v80 (F := Ideal) X G W P (ix3 i h l)
    = fturn (P (ix1 i)) (fun l => pj X G W i ⟨512 + l.val, by omega⟩) ⟨h.val * 64 + l.val, by omega⟩ := by
  rw [fturn_at]
  pointwise [val_main_v80, v74_at, v79_at]

theorem v81_eq : val_main_v81 (F := Ideal) X G W P = QF X G W P := by
  funext y
  idx_vars y
  have e : (⟨y1.val / 64 * 64 + y1.val % 64, by omega⟩ : Fin 512) = y1 := Fin.ext (by simp; omega)
  pointwise [val_main_v81, val_main_v47, val_main_v46, val_main_cst_5, v45_at, QF, qf]
  rw [e]

theorem v82_eq : val_main_v82 (F := Ideal) X G W P = KF X G W P := by
  funext y
  idx_vars y
  have e : (⟨y1.val / 64 * 64 + y1.val % 64, by omega⟩ : Fin 512) = y1 := Fin.ext (by simp; omega)
  pointwise [val_main_v82, v80_at, KF, kf]
  rw [e]

theorem v83_eq : val_main_v83 (F := Ideal) X G W = VF X G W := by
  funext y
  idx_vars y
  pointwise [val_main_v83, v12_at, VF, vf]

theorem v85_eq : val_main_v85 (F := Ideal) X G W = BF X G W := by
  funext y
  idx_vars y
  pointwise [val_main_v85, val_main_v84, v12_at, BF, bf]

theorem v87_eq : val_main_v87 (F := Ideal) X G W = XF X G W := by
  funext y
  idx_vars y
  pointwise [val_main_v87, val_main_v86, val_main_v84, v12_at, XF, xf]
  exact congrArg (pj X G W y0) (Fin.ext (by simp; omega))

end Cert.InProjFwdRefIdeal.Value

end
-- ==== Proof.InProjFwdValue.lean ====
module

public import proofs.«01_k».proof.Proof.InProjFwdBlocks
public import proofs.«01_k».proof.Proof.InProjFwdRefValue
public import proofs.«01_k».proof.Defs
public import Idealize.ShloMosaic.Lib.Pipeline.ReadBack
public import Idealize.ShloMosaic.Lib.Claim
public import Idealize.ShloMosaic.Lib.Quiescent

@[expose] public section

set_option maxRecDepth 16384

noncomputable section

open Idealize.ShloMosaic Idealize.ShloMosaic.TcCoe Idealize.SL.Sem Cert.Reals Cert.MlpSpec Cert.InProjSpec Cert.InProjFwdSpec

/-! The input projection's forward call: its five results, block by block, and the plain forward lines. -/

namespace Cert.InProjFwdIdeal.Value

open Cert.InProjFwdIdeal Cert.InProjFwdIdeal.Gen

variable (m : (ℓ : Loc nD τ sig) → Buf (Elt Ideal) ℓ)

/-- The projection of the block's rows, as it is stored. -/
abbrev ppieces (c : Dev nD) (t : Fin cfg0.N) (W : FVec Ideal S1024x2560 .bf16) : List (View.Piece (Elt Ideal) S512x2560 .f32) :=
  [⟨Rect.unit ![0, 0] ![512, 2560] inb_S512x2560_S512x2560_0_0, k0_pay4 (F := Ideal) (iblk m c 0 t) W⟩]

section Blocks

variable {m} {c : Dev nD} {t : Fin cfg0.N} {W : FVec Ideal S1024x2560 .bf16} (hW : W = aW m c)
include hW

theorem k4_row (r : Fin 512) (e : Fin 2560) : k0_pay4 (F := Ideal) (iblk m c 0 t) W (ix2 r e) = pj (aX m c) (aG m c) (aW m c) (row t r) e := by
  subst hW
  refine (k4_at _ _ r e).trans ?_
  unfold pj
  exact Finset.sum_congr rfl fun k _ => congrArg (· * _) (blkH m c t r k)

theorem pcanon (y : S512x2560.Idx) : View.canon (ppieces m c t W) y = pj (aX m c) (aG m c) (aW m c) (row t (y 0)) (y 1) := by
  canon_tiles x h
  idx_vars x
  refine (k4_row hW _ _).trans (congrArg₂ (fun r e => pj (aX m c) (aG m c) (aW m c) (row t r) e) (Fin.ext ?_) (Fin.ext ?_))
  all_goals omega

theorem pread {n p : ℕ} {h : ∀ a, (![0, p] : Fin 2 → ℕ) a + (⟨2, ![512, n]⟩ : Shape).size a ≤ S512x2560.size a} (r : Fin 512) (l : Fin n)
    (hp : p + l.val < 2560) :
    (View.whole cc0_scratch0).readCov (ppieces m c t W) (Rect.unit (s := S512x2560) ![0, p] ![512, n] h).toLoadRect (ix2 r l)
      = pj (aX m c) (aG m c) (aW m c) (row t r) ⟨p + l.val, hp⟩ := by
  rw [View.readCov_eq_canon']
  refine (pcanon hW _).trans (congrArg₂ (fun r e => pj (aX m c) (aG m c) (aW m c) (row t r) e) (Fin.ext ?_) (Fin.ext ?_))
  all_goals rw [Rect.idx_unit_val]; simp

variable {p : ℕ} {r : Fin 512} {l : Fin 128} {y : S512x512.Idx}

omit hW in
theorem fpiece {T : FVec Ideal S512x128 .f32} (d : Fin 512 → EReal) (hp : p + 128 ≤ 512) (h64 : p % 64 = 0)
    (hT : ∀ l : Fin 128, T (ix2 r l) = d ⟨p + l.val, by omega⟩) :
    rot (rw128 T r) (rw128 (iblk m c 1 t) r) (rw128 (iblk m c 2 t) r) l = fturn (aP m c (ix1 (row t r))) d ⟨p + l.val, by omega⟩ :=
  rot_turn p hp h64 hT (fun l => blkC m c t r l) (fun l => blkS m c t r l) l

theorem qpiece {h : ∀ a, (![0, p] : Fin 2 → ℕ) a + (⟨2, ![512, 128]⟩ : Shape).size a ≤ S512x2560.size a} (hp : p + 128 ≤ 512) (h64 : p % 64 = 0)
    (h0 : (y 0).val = r.val) (h1 : (y 1).val = p + l.val) :
    rot (rw128 ((View.whole cc0_scratch0).readCov (ppieces m c t W) (Rect.unit (s := S512x2560) ![0, p] ![512, 128] h).toLoadRect) r)
        (rw128 (iblk m c 1 t) r) (rw128 (iblk m c 2 t) r) l * Ideal.ofBits .f32 0x3E000000#32
      = qf (aX m c) (aG m c) (aW m c) (aP m c) (row t (y 0)) (y 1) := by
  have e0 : row t (y 0) = row t r := congrArg (row t) (Fin.ext h0)
  have e1 : y 1 = (⟨p + l.val, by omega⟩ : Fin 512) := Fin.ext h1
  rw [e0, e1]
  have e := fpiece (m := m) (c := c) (t := t) (l := l) (fun l => pj (aX m c) (aG m c) (aW m c) (row t r) ⟨l.val, by omega⟩) hp h64 fun l => pread hW (h := h) r l (by omega)
  unfold qf
  rw [e]

theorem kpiece {q : ℕ} {h : ∀ a, (![0, q] : Fin 2 → ℕ) a + (⟨2, ![512, 128]⟩ : Shape).size a ≤ S512x2560.size a} (hq : q = 512 + p) (hp : p + 128 ≤ 512)
    (h64 : p % 64 = 0) (h0 : (y 0).val = r.val) (h1 : (y 1).val = p + l.val) :
    rot (rw128 ((View.whole cc0_scratch0).readCov (ppieces m c t W) (Rect.unit (s := S512x2560) ![0, q] ![512, 128] h).toLoadRect) r)
        (rw128 (iblk m c 1 t) r) (rw128 (iblk m c 2 t) r) l = kf (aX m c) (aG m c) (aW m c) (aP m c) (row t (y 0)) (y 1) := by
  have e0 : row t (y 0) = row t r := congrArg (row t) (Fin.ext h0)
  have e1 : y 1 = (⟨p + l.val, by omega⟩ : Fin 512) := Fin.ext h1
  rw [e0, e1]
  exact fpiece (fun l => pj (aX m c) (aG m c) (aW m c) (row t r) ⟨512 + l.val, by omega⟩) hp h64 fun l => (pread hW r l (by omega)).trans
    (congrArg (pj (aX m c) (aG m c) (aW m c) (row t r)) (Fin.ext (by simp only []; omega)))

end Blocks

variable (c : Dev nD) (t : Fin cfg0.N)

theorem q_at (y : S512x512.Idx) : (outsAt0 m c t.val t.isLt).1 y = qf (aX m c) (aG m c) (aW m c) (aP m c) (row t (y 0)) (y 1) := by
  rcases em (t.val % 8 = 0) with f | f
  on_goal 1 => rw [outsAt0_A m c t f]
  on_goal 2 => rw [outsAt0_B m c t f]
  all_goals
    frame_out
    canon_tiles x h
    all_goals idx_vars x
  · exact (q20_at _ _ _ _ _).trans (qpiece (wread m c) (by omega) (by omega) (by omega) (by omega))
  · exact (q16_at _ _ _ _ _).trans (qpiece (wread m c) (by omega) (by omega) (by omega) (by omega))
  · exact (q10_at _ _ _ _ _).trans (qpiece (wread m c) (by omega) (by omega) (by omega) (by omega))
  · exact (q8_at _ _ _ _ _).trans (qpiece (wread m c) (by omega) (by omega) (by omega) (by omega))
  · exact (q20_at _ _ _ _ _).trans (qpiece (wkept m c _ _ _) (by omega) (by omega) (by omega) (by omega))
  · exact (q16_at _ _ _ _ _).trans (qpiece (wkept m c _ _ _) (by omega) (by omega) (by omega) (by omega))
  · exact (q10_at _ _ _ _ _).trans (qpiece (wkept m c _ _ _) (by omega) (by omega) (by omega) (by omega))
  · exact (q8_at _ _ _ _ _).trans (qpiece (wkept m c _ _ _) (by omega) (by omega) (by omega) (by omega))

theorem k_at (y : S512x512.Idx) : (outsAt0 m c t.val t.isLt).2.1 y = kf (aX m c) (aG m c) (aW m c) (aP m c) (row t (y 0)) (y 1) := by
  rcases em (t.val % 8 = 0) with f | f
  on_goal 1 => rw [outsAt0_A m c t f]
  on_goal 2 => rw [outsAt0_B m c t f]
  all_goals
    frame_out
    canon_tiles x h
    all_goals idx_vars x
  · exact (k1_at _ _ _ _ _).trans (kpiece (p := 384) (wread m c) rfl (by omega) (by omega) (by omega) (by omega))
  · exact (k17_at _ _ _ _ _).trans (kpiece (p := 256) (wread m c) rfl (by omega) (by omega) (by omega) (by omega))
  · exact (k15_at _ _ _ _ _).trans (kpiece (p := 128) (wread m c) rfl (by omega) (by omega) (by omega) (by omega))
  · exact (k9_at _ _ _ _ _).trans (kpiece (p := 0) (wread m c) rfl (by omega) (by omega) (by omega) (by omega))
  · exact (k1_at _ _ _ _ _).trans (kpiece (p := 384) (wkept m c _ _ _) rfl (by omega) (by omega) (by omega) (by omega))
  · exact (k17_at _ _ _ _ _).trans (kpiece (p := 256) (wkept m c _ _ _) rfl (by omega) (by omega) (by omega) (by omega))
  · exact (k15_at _ _ _ _ _).trans (kpiece (p := 128) (wkept m c _ _ _) rfl (by omega) (by omega) (by omega) (by omega))
  · exact (k9_at _ _ _ _ _).trans (kpiece (p := 0) (wkept m c _ _ _) rfl (by omega) (by omega) (by omega) (by omega))

theorem v_at (r e : Fin 512) : (outsAt0 m c t.val t.isLt).2.2.1 (ix2 r e) = vf (aX m c) (aG m c) (aW m c) (row t r) e := by
  rcases em (t.val % 8 = 0) with f | f
  on_goal 1 => rw [outsAt0_A m c t f]
  on_goal 2 => rw [outsAt0_B m c t f]
  all_goals frame_out
  · exact pread (wread m c) r e (by omega)
  · exact pread (wkept m c _ _ _) r e (by omega)

theorem b_at (r : Fin 512) (e : Fin 768) : (outsAt0 m c t.val t.isLt).2.2.2.1 (ix2 r e) = bf (aX m c) (aG m c) (aW m c) (row t r) e := by
  rcases em (t.val % 8 = 0) with f | f
  on_goal 1 => rw [outsAt0_A m c t f]
  on_goal 2 => rw [outsAt0_B m c t f]
  all_goals frame_out
  · exact pread (wread m c) r e (by omega)
  · exact pread (wkept m c _ _ _) r e (by omega)

theorem x_at (r : Fin 512) (e : Fin 256) : (outsAt0 m c t.val t.isLt).2.2.2.2.1 (ix2 r e) = xf (aX m c) (aG m c) (aW m c) (row t r) e := by
  rcases em (t.val % 8 = 0) with f | f
  on_goal 1 => rw [outsAt0_A m c t f]
  on_goal 2 => rw [outsAt0_B m c t f]
  all_goals frame_out
  · exact (k2_at _ _ _).trans (pread (wread m c) r e (by omega))
  · exact (k2_at _ _ _).trans (pread (wkept m c _ _ _) r e (by omega))

theorem emb3 (r : Fin 512) (k : Fin 512) : ((View.whole main_v41_0).slice (win0_3.rect t)).emb (ix2 r k) = ix2 (row t r) k := by
  blk_ext [idx t]
theorem emb4 (r : Fin 512) (k : Fin 512) : ((View.whole main_v41_1).slice (win0_4.rect t)).emb (ix2 r k) = ix2 (row t r) k := by
  blk_ext [idx t]
theorem emb5 (r : Fin 512) (k : Fin 512) : ((View.whole main_v41_2).slice (win0_5.rect t)).emb (ix2 r k) = ix2 (row t r) k := by
  blk_ext [idx t]
theorem emb6 (r : Fin 512) (k : Fin 768) : ((View.whole main_v41_3).slice (win0_6.rect t)).emb (ix2 r k) = ix2 (row t r) k := by
  blk_ext [idx t]
theorem emb7 (r : Fin 512) (k : Fin 256) : ((View.whole main_v41_4).slice (win0_7.rect t)).emb (ix2 r k) = ix2 (row t r) k := by
  blk_ext [idx t]

theorem final3 : (dats m 0 c).arrAt 3 (cfgs 0).N = QF (aX m c) (aG m c) (aW m c) (aP m c) := by
  refine (dats m 0 c).arrAt_eq_of_covers 3 _ (by decide +kernel) fun t hf y => ?_
  blk_simp
  rw [after0_3]
  idx_vars y
  rw [emb3]
  exact q_at m c t _

theorem final4 : (dats m 0 c).arrAt 4 (cfgs 0).N = KF (aX m c) (aG m c) (aW m c) (aP m c) := by
  refine (dats m 0 c).arrAt_eq_of_covers 4 _ (by decide +kernel) fun t hf y => ?_
  blk_simp
  rw [after0_4]
  idx_vars y
  rw [emb4]
  exact k_at m c t _

theorem final5 : (dats m 0 c).arrAt 5 (cfgs 0).N = VF (aX m c) (aG m c) (aW m c) := by
  refine (dats m 0 c).arrAt_eq_of_covers 5 _ (by decide +kernel) fun t hf y => ?_
  blk_simp
  rw [after0_5]
  idx_vars y
  rw [emb5]
  exact v_at m c t _ _

theorem final6 : (dats m 0 c).arrAt 6 (cfgs 0).N = BF (aX m c) (aG m c) (aW m c) := by
  refine (dats m 0 c).arrAt_eq_of_covers 6 _ (by decide +kernel) fun t hf y => ?_
  blk_simp
  rw [after0_6]
  idx_vars y
  rw [emb6]
  exact b_at m c t _ _

theorem final7 : (dats m 0 c).arrAt 7 (cfgs 0).N = XF (aX m c) (aG m c) (aW m c) := by
  refine (dats m 0 c).arrAt_eq_of_covers 7 _ (by decide +kernel) fun t hf y => ?_
  blk_simp
  rw [after0_7]
  idx_vars y
  rw [emb7]
  exact x_at m c t _ _

end Cert.InProjFwdIdeal.Value

namespace Cert.InProjFwdRefIdeal.Value

open Cert.InProjFwdRefIdeal Cert.InProjFwdRefIdeal.Gen Cert.InProjFwdRefIdeal.Read

/-- The reference's run with its five results read index by index. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81) = QF (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v82) = KF (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v83) = VF (m ((c.tc : Thread nD τ).loc main_arg0)) (m ((c.tc : Thread nD τ).loc main_arg1)) (m ((c.tc : Thread nD τ).loc main_arg2))
      ∧ r.2.mem ((c.tc : Thread nD τ).loc main_v85) = BF (m ((c.tc : Thread nD τ).loc main_arg0)) (m ((c.tc : Thread nD τ).loc main_arg1)) (m ((c.tc : Thread nD τ).loc main_arg2))
      ∧ r.2.mem ((c.tc : Thread nD τ).loc main_v87) = XF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((val_main_v81_eq m c).trans (v81_eq _ _ _ _)),
      (h c).2.1.trans ((val_main_v82_eq m c).trans (v82_eq _ _ _ _)),
      (h c).2.2.1.trans ((val_main_v83_eq _ _ _).trans (v83_eq _ _ _)),
      (h c).2.2.2.1.trans ((val_main_v85_eq _ _ _).trans (v85_eq _ _ _)),
      (h c).2.2.2.2.1.trans ((val_main_v87_eq _ _ _).trans (v87_eq _ _ _)), (h c).2.2.2.2.2⟩) (run m ρ)

end Cert.InProjFwdRefIdeal.Value

namespace Cert.Proof

/-- The plain program runs to the end, leaves its arguments and declares no counter. -/
theorem inProjFwdRef_quiescent : Cert.quiescent_InProjFwdRefIdeal := fun m g _ =>
  (θ_run _ _ _).mono (fun r h => ⟨fun c => (h c).2.2.2.2.2, sem_eq_zero_of_no_sems rfl _⟩) (Cert.InProjFwdRefIdeal.Value.run_read m g)

open Cert.InProjFwdIdeal.Value in
/-- The input projection's forward call and the plain forward lines end with the same five arrays. -/
theorem inProjFwd_algebraic : Cert.algebraic_InProjFwdIdeal_InProjFwdRefIdeal := by
  intro m g m' g' _ hagree
  refine ⟨_, _, _, _, _, (θ_run _ _ _).mono (fun r h c => ⟨(h c).1.trans (final3 m c), (h c).2.1.trans (final4 m c), (h c).2.2.1.trans (final5 m c),
      (h c).2.2.2.1.trans (final6 m c), (h c).2.2.2.2.1.trans (final7 m c), (h c).2.2.2.2.2⟩) (run_blocks m g), ?_⟩
  refine (θ_run _ _ _).mono (fun r h c => ?_) (Cert.InProjFwdRefIdeal.Value.run_read m' g')
  obtain ⟨h0, h1, h2, h3⟩ := hagree c
  obtain ⟨k0, k1, k2, k3, k4, k⟩ := h c
  rw [h0, h1, h2, h3] at k0 k1
  rw [h0, h1, h2] at k2 k3 k4
  exact ⟨k0, k1, k2, k3, k4, k⟩

end Cert.Proof

end
-- ==== Proof.MemKvValue.lean ====
module

public import proofs.«01_k».proof.Proof.Gen.MemKvIdeal.Value
public import proofs.«01_k».proof.Proof.Gen.MemKvRefIdeal.Run
public import proofs.«01_k».proof.Defs
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MemKvIdeal.Value

open Cert.MemKvIdeal Cert.MemKvIdeal.Gen

variable (m : (ℓ : Loc nD τ sig) → Buf (Elt Ideal) ℓ)

/-- The normalised memory row `r` at column `k`, over the Ideal numbers. -/
def hat (X : FVec Ideal S256x1024 .f32) (r : Fin 256) (k : Fin 1024) : EReal :=
  X (ix2 r k) * Ideal.rsqrt (Ideal.div (∑ l : Fin 1024, X (ix2 r l) * X (ix2 r l)) (Ideal.ofBits .f32 0x44800000#32)
    + Ideal.ofBits .f32 0x358637BD#32)

/-- The weight gradient: `∑ r, (hat r k · g k) · d r e`, the row of the weight at `k = 256 y₁ + 128 y₀ + y₂`. -/
def DW (X : FVec Ideal S256x1024 .f32) (G : FVec Ideal S1x1024 .f32) (D : FVec Ideal S256x512 .f32) : FVec Ideal S2x4x128x512 .f32 :=
  fun y => ∑ r : Fin 256, (hat X r ⟨(y 1).val * 256 + (y 0).val * 128 + (y 2).val, by
    have h0 : (y 0).val < 2 := (y 0).isLt
    have h1 : (y 1).val < 4 := (y 1).isLt
    have h2 : (y 2).val < 128 := (y 2).isLt
    omega⟩ * G (ix2 0 ⟨(y 1).val * 256 + (y 0).val * 128 + (y 2).val, by
    have h0 : (y 0).val < 2 := (y 0).isLt
    have h1 : (y 1).val < 4 := (y 1).isLt
    have h2 : (y 2).val < 128 := (y 2).isLt
    omega⟩)) * D (ix2 r (y 3))

/-- The gain's gradient: `∑ r, (∑ e, d r e · w k e) · hat r k`. -/
def DG (X : FVec Ideal S256x1024 .f32) (W : FVec Ideal S1024x512 .f32) (D : FVec Ideal S256x512 .f32) : FVec Ideal S1x1024 .f32 :=
  fun y => ∑ r : Fin 256, (∑ e : Fin 512, D (ix2 r e) * W (ix2 (y 1) e)) * hat X r (y 1)

theorem idx : ∀ t : Fin cfg0.N, win0_0.index t = ![0, 0] ∧ win0_1.index t = ![0, 0] ∧ win0_2.index t = ![0, 0]
    ∧ win0_3.index t = ![0, 0] ∧ win0_4.index t = ![0, 0, 0, 0] ∧ win0_5.index t = ![0, 0] :=
  (by decide +kernel : ∀ t : Fin grid0.N, _)

theorem final5 (c : Dev nD) : (dats m 0 c).arrAt 5 (cfgs 0).N
    = DG (m ((c : Thread nD τ).loc main_arg0)) (m ((c : Thread nD τ).loc main_arg2)) (m ((c : Thread nD τ).loc main_arg3)) := by
  refine (dats m 0 c).arrAt_eq_of_after_last 5 t0_0 (by decide +kernel) _ fun j => ?_
  blk_simp
  rw [after0_5]
  frame_out
  pointwise [k0_pay1, k0_pay2, k0_pay4, k0_pay14, DG, hat]
  blk_point [iblk, V, idx t0_0]

theorem final4 (c : Dev nD) : (dats m 0 c).arrAt 4 (cfgs 0).N
    = DW (m ((c : Thread nD τ).loc main_arg0)) (m ((c : Thread nD τ).loc main_arg1)) (m ((c : Thread nD τ).loc main_arg3)) := by
  refine (dats m 0 c).arrAt_eq_of_after_last 4 t0_0 (by decide +kernel) _ fun j => ?_
  blk_simp
  rw [after0_4]
  canon_tiles x h
  all_goals (open_payloads; pointwise [DW, hat]; blk_point [iblk, V, idx t0_0])

end Cert.MemKvIdeal.Value

namespace Cert.MemKvRefIdeal.Value

open Cert.MemKvRefIdeal Cert.MemKvRefIdeal.Gen

/-- The reference's run with both results read index by index. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = Cert.MemKvIdeal.Value.DW (m ((c.tc : Thread nD τ).loc main_arg0)) (m ((c.tc : Thread nD τ).loc main_arg1)) (m ((c.tc : Thread nD τ).loc main_arg3))
      ∧ r.2.mem ((c.tc : Thread nD τ).loc main_v18) = Cert.MemKvIdeal.Value.DG (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (run m ρ)
  · generalize m ((c.tc : Thread nD τ).loc main_arg0) = X
    generalize m ((c.tc : Thread nD τ).loc main_arg1) = G
    generalize m ((c.tc : Thread nD τ).loc main_arg3) = D
    funext y
    pointwise [Cert.MemKvIdeal.Value.DW, Cert.MemKvIdeal.Value.hat]
    exact Finset.sum_congr rfl fun _ _ => mul_comm (G := EReal) _ _
  · generalize m ((c.tc : Thread nD τ).loc main_arg0) = X
    generalize m ((c.tc : Thread nD τ).loc main_arg2) = W
    generalize m ((c.tc : Thread nD τ).loc main_arg3) = D
    funext y
    pointwise [Cert.MemKvIdeal.Value.DG, Cert.MemKvIdeal.Value.hat]
    exact Finset.sum_congr rfl fun _ _ => mul_comm (G := EReal) _ _

end Cert.MemKvRefIdeal.Value

namespace Cert.Proof

/-- The plain program runs to the end, leaves its arguments and declares no counter. -/
theorem memkvRef_quiescent : Cert.quiescent_MemKvRefIdeal := fun m g _ =>
  (θ_run _ _ _).mono (fun r h => ⟨fun c => (h c).2.2, sem_eq_zero_of_no_sems rfl _⟩) (Cert.MemKvRefIdeal.Value.run_read m g)

/-- The memory projection's gradient call and the derivative of the plain projection end with the same two arrays. -/
theorem memkv_algebraic : Cert.algebraic_MemKvIdeal_MemKvRefIdeal := by
  intro m g m' g' _ hagree
  refine ⟨_, _, (θ_run _ _ _).mono (fun r h c => ⟨(h c).1.trans (Cert.MemKvIdeal.Value.final4 m c), (h c).2.1.trans (Cert.MemKvIdeal.Value.final5 m c), (h c).2.2⟩)
      (Cert.MemKvIdeal.Value.run_blocks m g), ?_⟩
  refine (θ_run _ _ _).mono (fun r h c => ?_) (Cert.MemKvRefIdeal.Value.run_read m' g')
  obtain ⟨h0, h1, h2, h3⟩ := hagree c
  obtain ⟨k0, k1, k⟩ := h c
  rw [h0, h1, h3] at k0
  rw [h0, h2, h3] at k1
  exact ⟨k0, k1, k⟩

end Cert.Proof

end
-- ==== Proof.MlpTiles.lean ====
module

public import proofs.«01_k».proof.Proof.Gen.MlpIdeal.Value
public import proofs.«01_k».proof.Proof.MlpSpec
public import Idealize.ShloMosaic.Lib.Pipeline.ValueKit
public import Idealize.ShloMosaic.Lib.Pointwise

@[expose] public section

set_option maxRecDepth 16384

noncomputable section

open Idealize.ShloMosaic Idealize.ShloMosaic.TcCoe Cert.Reals Cert.MlpSpec

/-! What the kernel computes from one block of 256 rows, read row by row. The two weights come in four tiles of 1024 hidden units. -/

namespace Cert.MlpIdeal.Value

open Cert.MlpIdeal Cert.MlpIdeal.Gen

/-- Hidden unit `l` of tile `q`. -/
abbrev unit (q : Fin 4) (l : Fin 1024) : Fin 4096 := ⟨q.val * 1024 + l.val, by omega⟩

/-- The tile `v` of the first weight holds columns `1024 q …` of `U`; the tile `d` of the second one holds those rows of `D`. -/
abbrev UpTile (v : FVec Ideal S1x1024x1024 .bf16) (U : Fin 1024 → Fin 4096 → EReal) (q : Fin 4) : Prop := ∀ k l, v (ix3 0 k l) = U k (unit q l)
abbrev DownTile (d : FVec Ideal S1024x1024 .bf16) (D : Fin 4096 → Fin 1024 → EReal) (q : Fin 4) : Prop := ∀ k l, d (ix2 k l) = D (unit q k) l

variable {X T : FVec Ideal S256x1024 .f32} {G P : FVec Ideal S1x1024 .f32} {U : Fin 1024 → Fin 4096 → EReal} {D : Fin 4096 → Fin 1024 → EReal}
  {v0 v1 v2 v3 : FVec Ideal S1x1024x1024 .bf16} {d0 d1 d2 d3 : FVec Ideal S1024x1024 .bf16}

theorem units (F : Fin 4096 → EReal) : ∑ j, F j = (∑ l, F (unit 0 l)) + (∑ l, F (unit 1 l)) + (∑ l, F (unit 2 l)) + ∑ l, F (unit 3 l) := by
  rw [Fin.sum_univ_tiles 4 1024 rfl F, Fin.sum_univ_four]

theorem h2_at (r : Fin 256) (k : Fin 1024) : k0_pay7 (F := Ideal) X G (ix2 r k) = h2 (xr X r) (gr G) k := by
  pointwise [k0_pay7, k0_pay6, k0_pay5, h2, hat, rr]

theorem act0_at (h0 : UpTile v0 U 0) (r : Fin 256) (l : Fin 1024) : k0_pay9 (F := Ideal) X G v0 (ix2 r l) = act U (h2 (xr X r) (gr G)) (unit 0 l) := by
  pointwise [k0_pay9, act, h2_at, h0]

theorem act1_at (h1 : UpTile v1 U 1) (r : Fin 256) (l : Fin 1024) : k0_pay12 (F := Ideal) (k0_pay7 X G) v1 (ix2 r l) = act U (h2 (xr X r) (gr G)) (unit 1 l) := by
  pointwise [k0_pay12, act, h2_at, h1]

theorem act2_at (h2' : UpTile v2 U 2) (r : Fin 256) (l : Fin 1024) : k0_pay16 (F := Ideal) (k0_pay7 X G) v2 (ix2 r l) = act U (h2 (xr X r) (gr G)) (unit 2 l) := by
  pointwise [k0_pay16, act, h2_at, h2']

theorem act3_at (h3 : UpTile v3 U 3) (r : Fin 256) (l : Fin 1024) : k0_pay20 (F := Ideal) (k0_pay7 X G) v3 (ix2 r l) = act U (h2 (xr X r) (gr G)) (unit 3 l) := by
  pointwise [k0_pay20, act, h2_at, h3]

theorem f_tile0 (h : UpTile v0 U 0) (r : Fin 256) (l : Fin 1024) : k0_pay11 (F := Ideal) X G v0 (ix2 r l) = f (xr X r) (gr G) U (unit 0 l) := by
  pointwise [k0_pay11, f, act0_at h]

theorem f_tile1 (h : UpTile v1 U 1) (r : Fin 256) (l : Fin 1024) : k0_pay14 (F := Ideal) (k0_pay7 X G) v1 (ix2 r l) = f (xr X r) (gr G) U (unit 1 l) := by
  pointwise [k0_pay14, f, act1_at h]

theorem f_tile2 (h : UpTile v2 U 2) (r : Fin 256) (l : Fin 1024) : k0_pay18 (F := Ideal) (k0_pay7 X G) v2 (ix2 r l) = f (xr X r) (gr G) U (unit 2 l) := by
  pointwise [k0_pay18, f, act2_at h]

theorem f_tile3 (h : UpTile v3 U 3) (r : Fin 256) (l : Fin 1024) : k0_pay22 (F := Ideal) (k0_pay7 X G) v3 (ix2 r l) = f (xr X r) (gr G) U (unit 3 l) := by
  pointwise [k0_pay22, f, act3_at h]

/-! The same tiles as the scratch keeps them. -/

theorem u0_at (h0 : UpTile v0 U 0) (r : Fin 256) (l : Fin 1024) : k0_pay10 (F := Ideal) X G v0 (ix2 r l) = act U (h2 (xr X r) (gr G)) (unit 0 l) := by
  pointwise [k0_pay10, act0_at h0]

theorem u1_at (h1 : UpTile v1 U 1) (r : Fin 256) (l : Fin 1024) : k0_pay13 (F := Ideal) (k0_pay7 X G) v1 (ix2 r l) = act U (h2 (xr X r) (gr G)) (unit 1 l) := by
  pointwise [k0_pay13, act1_at h1]

theorem u2_at (h2' : UpTile v2 U 2) (r : Fin 256) (l : Fin 1024) : k0_pay17 (F := Ideal) (k0_pay7 X G) v2 (ix2 r l) = act U (h2 (xr X r) (gr G)) (unit 2 l) := by
  pointwise [k0_pay17, act2_at h2']

theorem u3_at (h3 : UpTile v3 U 3) (r : Fin 256) (l : Fin 1024) : k0_pay21 (F := Ideal) (k0_pay7 X G) v3 (ix2 r l) = act U (h2 (xr X r) (gr G)) (unit 3 l) := by
  pointwise [k0_pay21, act3_at h3]

theorem f2_at (h0 : UpTile v0 U 0) (h1 : UpTile v1 U 1) (h2' : UpTile v2 U 2) (h3 : UpTile v3 U 3) (e0 : DownTile d0 D 0) (e1 : DownTile d1 D 1)
    (e2 : DownTile d2 D 2) (e3 : DownTile d3 D 3) (r : Fin 256) (l : Fin 1024) :
    k0_pay23 (F := Ideal) (k0_pay7 X G) (k0_pay15 (k0_pay7 X G) k0_pay8 (k0_pay11 X G v0) d0 v1 d1) (k0_pay18 (k0_pay7 X G) v2) (k0_pay19 d2)
      (constant S256x1024 .f32 0#32) v3 d3 (ix2 r l) = f2 (xr X r) (gr G) U D l := by
  rw [f2, units]
  pointwise [k0_pay23, k0_pay15, k0_pay8, k0_pay11, k0_pay18, k0_pay19, k0_pay14, k0_pay22, f, act0_at h0, act1_at h1, act2_at h2', act3_at h3, e0, e1, e2, e3]

section Norm
variable {a : FVec Ideal S256x1024 .bf16} {b : FVec Ideal S256x1024 .f32} {c : FVec Ideal S256x1024 .bf16} {d : FVec Ideal S1024x1024 .bf16}
  {e : FVec Ideal S256x1024 .f32} {v : FVec Ideal S1x1024x1024 .bf16} {w : FVec Ideal S1024x1024 .bf16} {r : Fin 256}
  (hF : ∀ l, k0_pay23 a b c d e v w (ix2 r l) = f2 (xr X r) (gr G) U D l)
include hF

theorem r2_at (z : Fin 1) : k0_pay24 a b c d e v w (ix2 r z) = rr width eps (f2 (xr X r) (gr G) U D) := by
  pointwise [k0_pay24, rr, hF]

theorem hat_at (l : Fin 1024) : k0_pay25 a b c d e v w (ix2 r l) = hat width eps (f2 (xr X r) (gr G) U D) l := by
  pointwise [k0_pay25, r2_at hF, hF, hat]

theorem err_at (l : Fin 1024) : k0_pay26 X a b c d e v w P T (ix2 r l) = err (xr X r) (xr T r) (gr G) (gr P) U D l := by
  pointwise [k0_pay26, hat_at hF, err]

theorem dx2_at (l : Fin 1024) : k0_pay30 (k0_pay26 X a b c d e v w P T) (ix2 r l) = dx2 (xr X r) (xr T r) (gr G) (gr P) U D l := by
  pointwise [k0_pay30, err_at hF, dx2]

theorem df2_at (l : Fin 1024) : k0_pay32 (k0_pay24 a b c d e v w) (k0_pay25 a b c d e v w) (k0_pay26 X a b c d e v w P T) P (ix2 r l)
    = df2 (xr X r) (xr T r) (gr G) (gr P) U D l := by
  pointwise [k0_pay32, r2_at hF, hat_at hF, dx2_at hF, df2, back]

end Norm

theorem dgpost_at {a : FVec Ideal S256x1024 .bf16} {b : FVec Ideal S256x1024 .f32} {c : FVec Ideal S256x1024 .bf16} {d : FVec Ideal S1024x1024 .bf16}
    {e : FVec Ideal S256x1024 .f32} {v : FVec Ideal S1x1024x1024 .bf16} {w : FVec Ideal S1024x1024 .bf16}
    (hF : ∀ r l, k0_pay23 a b c d e v w (ix2 r l) = f2 (xr X r) (gr G) U D l) (acc : FVec Ideal S1x1024 .f32) (z : Fin 1) (l : Fin 1024) :
    k0_pay31 (k0_pay25 a b c d e v w) (k0_pay26 X a b c d e v w P T) acc (ix2 z l)
      = acc (ix2 z l) + ∑ r, dx2 (xr X r) (xr T r) (gr G) (gr P) U D l * hat width eps (f2 (xr X r) (gr G) U D) l := by
  pointwise [k0_pay31, fun r => hat_at (hF r), fun r => dx2_at (T := T) (P := P) (hF r)]

theorem loss_at {a : FVec Ideal S256x1024 .bf16} {b : FVec Ideal S256x1024 .f32} {c : FVec Ideal S256x1024 .bf16} {d : FVec Ideal S1024x1024 .bf16}
    {e : FVec Ideal S256x1024 .f32} {v : FVec Ideal S1x1024x1024 .bf16} {w : FVec Ideal S1024x1024 .bf16}
    (hF : ∀ r l, k0_pay23 a b c d e v w (ix2 r l) = f2 (xr X r) (gr G) U D l) (acc : FVec Ideal S1x1 .f32) (y z : Fin 1) :
    k0_pay29 (k0_pay27 acc) (k0_pay28 X a b c d e v w P T) (ix2 y z)
      = acc (ix2 y z) + Ideal.ofBits .f32 0x3F000000#32 * ∑ r, loss (xr X r) (xr T r) (gr G) (gr P) U D := by
  pointwise [k0_pay29, k0_pay27, k0_pay28, fun r => err_at (T := T) (P := P) (hF r), loss]

section Back
variable {dF : FVec Ideal S256x1024 .bf16} {u0 u1 u2 u3 : FVec Ideal S256x1024 .f32} {r : Fin 256} {x t g p : Fin 1024 → EReal}
  (hdF : ∀ l, dF (ix2 r l) = df2 x t g p U D l)
include hdF

theorem du0_at (a0 : ∀ l, u0 (ix2 r l) = act U (h2 x g) (unit 0 l)) (e0 : DownTile d0 D 0) (l : Fin 1024) :
    k0_pay35 dF (k0_pay34 d0) u0 (ix2 r l) = du x t g p U D (unit 0 l) := by
  pointwise [k0_pay35, k0_pay34, du, hdF, a0, e0]

theorem du1_at (a1 : ∀ l, u1 (ix2 r l) = act U (h2 x g) (unit 1 l)) (e1 : DownTile d1 D 1) (l : Fin 1024) :
    k0_pay36 dF d1 u1 (ix2 r l) = du x t g p U D (unit 1 l) := by
  pointwise [k0_pay36, du, hdF, a1, e1]

theorem du2_at (a2 : ∀ l, u2 (ix2 r l) = act U (h2 x g) (unit 2 l)) (e2 : DownTile d2 D 2) (l : Fin 1024) :
    k0_pay40 (k0_pay38 dF d2) (k0_pay39 u2) (ix2 r l) = du x t g p U D (unit 2 l) := by
  pointwise [k0_pay40, k0_pay38, k0_pay39, du, hdF, a2, e2]

theorem du3_at (a3 : ∀ l, u3 (ix2 r l) = act U (h2 x g) (unit 3 l)) (e3 : DownTile d3 D 3) (l : Fin 1024) :
    k0_pay41 dF d3 u3 (ix2 r l) = du x t g p U D (unit 3 l) := by
  pointwise [k0_pay41, du, hdF, a3, e3]

theorem dh2_at (h0 : UpTile v0 U 0) (h1 : UpTile v1 U 1) (h2' : UpTile v2 U 2) (h3 : UpTile v3 U 3)
    (a0 : ∀ l, u0 (ix2 r l) = act U (h2 x g) (unit 0 l)) (a1 : ∀ l, u1 (ix2 r l) = act U (h2 x g) (unit 1 l))
    (a2 : ∀ l, u2 (ix2 r l) = act U (h2 x g) (unit 2 l)) (a3 : ∀ l, u3 (ix2 r l) = act U (h2 x g) (unit 3 l))
    (e0 : DownTile d0 D 0) (e1 : DownTile d1 D 1) (e2 : DownTile d2 D 2) (e3 : DownTile d3 D 3) (k : Fin 1024) :
    k0_pay42 dF (k0_pay37 dF k0_pay33 (k0_pay34 d0) u0 v0 d1 u1 v1) (k0_pay38 dF d2) (k0_pay39 u2) v2 d3 u3 v3 (ix2 r k)
      = dh2 x t g p U D k := by
  rw [dh2, units]
  pointwise [k0_pay42, k0_pay37, k0_pay33, du0_at hdF a0 e0, du1_at hdF a1 e1, du2_at hdF a2 e2, du3_at hdF a3 e3, h0, h1, h2', h3]

end Back

section Rows
variable {dF : FVec Ideal S256x1024 .bf16} {b1 b2 b3 u3 E : FVec Ideal S256x1024 .f32} {acc : FVec Ideal S1x1024 .f32}

theorem dgpre_at (hH : ∀ r k, k0_pay42 dF b1 b2 b3 v2 d3 u3 v3 (ix2 r k) = dh2 (xr X r) (xr T r) (gr G) (gr P) U D k) (z : Fin 1) (l : Fin 1024) :
    k0_pay43 (k0_pay6 X) dF b1 b2 b3 v2 d3 u3 v3 acc (ix2 z l)
      = acc (ix2 z l) + ∑ r, dh2 (xr X r) (xr T r) (gr G) (gr P) U D l * hat width eps (xr X r) l := by
  pointwise [k0_pay43, k0_pay6, k0_pay5, hH, hat, rr]

theorem dx1_at {r : Fin 256} (hH : ∀ k, k0_pay42 dF b1 b2 b3 v2 d3 u3 v3 (ix2 r k) = dh2 (xr X r) (xr T r) (gr G) (gr P) U D k)
    (hE : ∀ k, k0_pay30 E (ix2 r k) = dx2 (xr X r) (xr T r) (gr G) (gr P) U D k) (k : Fin 1024) :
    k0_pay1 (k0_pay5 X) (k0_pay6 X) (k0_pay30 E) (k0_pay44 dF b1 b2 b3 v2 d3 u3 v3 G) (k0_pay45 (k0_pay6 X) dF b1 b2 b3 v2 d3 u3 v3 G) (ix2 r k)
      = dx1 (xr X r) (xr T r) (gr G) (gr P) U D k := by
  pointwise [k0_pay1, k0_pay44, k0_pay45, k0_pay6, k0_pay5, hH, hE, dx1, back, hat, rr]

end Rows

end Cert.MlpIdeal.Value

end
-- ==== Proof.MlpRefValue.lean ====
module

public import proofs.«01_k».proof.Proof.Gen.MlpRefIdeal.Run
public import proofs.«01_k».proof.Proof.Gen.MlpRefIdeal.Read
public import proofs.«01_k».proof.Proof.MlpSpec
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Cert.Reals

/-! The derivative of the plain forward lines of the MLP half, read row by row. -/

namespace Cert.MlpRefIdeal.Value

open Cert.MlpRefIdeal Cert.MlpRefIdeal.Gen Cert.MlpRefIdeal.Read Cert.MlpSpec

variable (X T : FVec Ideal S4096x1024 .f32) (G P : FVec Ideal S1x1024 .f32) (U : FVec Ideal S1024x4096 .f32) (D : FVec Ideal S4096x1024 .f32)

theorem v8_at (i : Fin 4096) (z : Fin 1) : val_main_v8 (F := Ideal) X (ix2 i z)
    = Ideal.div (∑ l, xr X i l * xr X i l) width + eps := by
  pointwise [val_main_v8, val_main_v7, val_main_v6, val_main_v5, val_main_v4, val_main_v3, val_main_v2, val_main_cst_1, val_main_cst_2, val_main_cst_3]

theorem v9_at (i : Fin 4096) (z : Fin 1) : val_main_v9 (F := Ideal) X (ix2 i z) = rr width eps (xr X i) := by
  pointwise [val_main_v9, v8_at, rr]

theorem v14_at (i : Fin 4096) (k : Fin 1024) : val_main_v14 (F := Ideal) X (ix2 i k) = hat width eps (xr X i) k := by
  pointwise [val_main_v14, val_main_v13, v9_at, hat]

theorem v16_at (i : Fin 4096) (k : Fin 1024) : val_main_v16 (F := Ideal) X G (ix2 i k) = h2 (xr X i) (gr G) k := by
  pointwise [val_main_v16, val_main_v15, v14_at, h2]

theorem v18_at (i : Fin 4096) (j : Fin 4096) : val_main_v18 (F := Ideal) X G U (ix2 i j) = ∑ k, h2 (xr X i) (gr G) k * um U k j := by
  pointwise [val_main_v18, val_main_v17, val_main_v0, val_main_cst, v16_at]

theorem v19_at (i : Fin 4096) (j : Fin 4096) : val_main_v19 (F := Ideal) X G U (ix2 i j) = act (um U) (h2 (xr X i) (gr G)) j := by
  pointwise [val_main_v19, val_main_call0_v0, val_main_call0_cst, v18_at, act]

theorem v23_at (i : Fin 4096) (j : Fin 4096) : val_main_v23 (F := Ideal) X G U (ix2 i j) = f (xr X i) (gr G) (um U) j := by
  pointwise [val_main_v23, v19_at, f]

theorem v27_at (i : Fin 4096) (l : Fin 1024) : val_main_v27 (F := Ideal) X G U D (ix2 i l) = f2 (xr X i) (gr G) (um U) (dm D) l := by
  pointwise [val_main_v27, val_main_v26, val_main_v1, val_main_cst_0, v23_at, f2]

theorem v34_at (i : Fin 4096) (z : Fin 1) : val_main_v34 (F := Ideal) X G U D (ix2 i z)
    = Ideal.div (∑ l, f2 (xr X i) (gr G) (um U) (dm D) l * f2 (xr X i) (gr G) (um U) (dm D) l) width + eps := by
  pointwise [val_main_v34, val_main_v33, val_main_v32, val_main_v31, val_main_v30, val_main_v29, val_main_v28, val_main_cst_8, val_main_cst_9, val_main_cst_10, v27_at]

theorem v35_at (i : Fin 4096) (z : Fin 1) : val_main_v35 (F := Ideal) X G U D (ix2 i z) = rr width eps (f2 (xr X i) (gr G) (um U) (dm D)) := by
  pointwise [val_main_v35, v34_at, rr]

theorem v40_at (i : Fin 4096) (l : Fin 1024) : val_main_v40 (F := Ideal) X G U D (ix2 i l) = hat width eps (f2 (xr X i) (gr G) (um U) (dm D)) l := by
  pointwise [val_main_v40, val_main_v39, v27_at, v35_at, hat]

theorem v44_at (i : Fin 4096) (l : Fin 1024) : val_main_v44 (F := Ideal) X T G P U D (ix2 i l)
    = err (xr X i) (xr T i) (gr G) (gr P) (um U) (dm D) l := by
  pointwise [val_main_v44, val_main_v43, val_main_v42, val_main_v41, v40_at, err]

/-- `0.5 / 1024 · 2` is `1 / 1024`. -/
theorem scale_eq (a : EReal) : Ideal.div (Ideal.ofBits .f32 0x3F000000#32) (Ideal.ofBits .f32 0x44800000#32) * (Ideal.ofBits .f32 0x40000000#32 * a)
    = a * Ideal.ofBits .f32 0x3A800000#32 := by
  rw [bits_half, bits_1024, bits_2, bits_inv_1024, div_coe_coe _ _ (by norm_num), ← mul_assoc, ← EReal.coe_mul, mul_comm]
  norm_num

theorem v58_at (i : Fin 4096) (l : Fin 1024) : val_main_v58 (F := Ideal) X T G P U D (ix2 i l)
    = dx2 (xr X i) (xr T i) (gr G) (gr P) (um U) (dm D) l := by
  pointwise [val_main_v58, val_main_v57, val_main_v56, val_main_v55, val_main_v54, val_main_v53, val_main_v47, val_main_v46, val_main_cst_17,
    val_main_cst_18, val_main_cst_19, val_main_cst_12, v44_at, dx2]
  exact scale_eq _

variable {X T G P U D} (hX : ∀ i, Re (X i)) (hT : ∀ i, Re (T i)) (hG : ∀ i, Re (G i)) (hP : ∀ i, Re (P i)) (hU : ∀ i, Re (U i)) (hD : ∀ i, Re (D i))
include hX hT hG hP hU hD

theorem v73_at (i : Fin 4096) (l : Fin 1024) : val_main_v73 (F := Ideal) X T G P U D (ix2 i l)
    = gradMean width eps (f2 (xr X i) (gr G) (um U) (dm D)) (fun k => dx2 (xr X i) (xr T i) (gr G) (gr P) (um U) (dm D) k * gr P k) := by
  pointwise [val_main_v73, val_main_v72, val_main_v71, val_main_v70, val_main_v69, val_main_v66, val_main_v65, val_main_v64, val_main_v63, val_main_v62,
    val_main_v38, val_main_v37, val_main_v36, val_main_cst_11, val_main_cst_21, val_main_cst_22, val_main_cst_23, v27_at, v34_at, v35_at, v58_at, gradMean, Fin.sum_univ_one]

theorem v77_at (i : Fin 4096) (l : Fin 1024) : val_main_v77 (F := Ideal) X T G P U D (ix2 i l)
    = df2 (xr X i) (xr T i) (gr G) (gr P) (um U) (dm D) l := by
  rw [df2, ← back_eq width_pos bits_eps (re_f2 (fun _ => hX _) (fun _ => hG _) (fun _ _ => hU _) (fun _ _ => hD _))
    (fun k => (re_dx2 (fun _ => hX _) (fun _ => hT _) (fun _ => hG _) (fun _ => hP _) (fun _ _ => hU _) (fun _ _ => hD _) k).mul (hP _))]
  pointwise [val_main_v77, val_main_v76, val_main_v75, val_main_v74, val_main_v68, val_main_v67, val_main_v63, val_main_v62, v27_at, v35_at, v58_at,
    v73_at hX hT hG hP hU hD]

theorem v81_at (i : Fin 4096) (j : Fin 4096) : val_main_v81 (F := Ideal) X T G P U D (ix2 i j)
    = du (xr X i) (xr T i) (gr G) (gr P) (um U) (dm D) j := by
  pointwise [val_main_v81, val_main_v80, val_main_v79, val_main_v78, val_main_v25, val_main_v24, val_main_v21, val_main_v20, val_main_cst_5,
    val_main_cst_7, val_main_cst_24, v77_at hX hT hG hP hU hD, v19_at, v18_at, du]
  split
  · rw [mul_comm]
  · rename_i h
    rw [act, max_eq_right (not_lt.1 h), mul_zero, zero_mul]

theorem v82_at (i : Fin 4096) (k : Fin 1024) : val_main_v82 (F := Ideal) X T G P U D (ix2 i k)
    = dh2 (xr X i) (xr T i) (gr G) (gr P) (um U) (dm D) k := by
  pointwise [val_main_v82, v81_at hX hT hG hP hU hD, dh2]

theorem v98_at (i : Fin 4096) (l : Fin 1024) : val_main_v98 (F := Ideal) X T G P U D (ix2 i l)
    = gradMean width eps (xr X i) (fun k => dh2 (xr X i) (xr T i) (gr G) (gr P) (um U) (dm D) k * gr G k) := by
  pointwise [val_main_v98, val_main_v97, val_main_v96, val_main_v95, val_main_v94, val_main_v90, val_main_v89, val_main_v88, val_main_v87, val_main_v86,
    val_main_v12, val_main_v11, val_main_v10, val_main_cst_4, val_main_cst_26, val_main_cst_27, val_main_cst_28, v8_at, v9_at, v82_at hX hT hG hP hU hD,
    gradMean, Fin.sum_univ_one]

theorem v102_at (i : Fin 4096) (l : Fin 1024) : val_main_v102 (F := Ideal) X T G P U D (ix2 i l)
    = dx1 (xr X i) (xr T i) (gr G) (gr P) (um U) (dm D) l := by
  rw [dx1, ← back_eq width_pos bits_eps (fun _ => hX _)
    (fun k => (re_dh2 (fun _ => hX _) (fun _ => hT _) (fun _ => hG _) (fun _ => hP _) (fun _ _ => hU _) (fun _ _ => hD _) k).mul (hG _))]
  pointwise [val_main_v102, val_main_v101, val_main_v100, val_main_v99, val_main_v93, val_main_v92, val_main_v91, val_main_v87, val_main_v86,
    v9_at, v58_at, v82_at hX hT hG hP hU hD, v98_at hX hT hG hP hU hD]
  simp only [add_assoc]

theorem out_h2 : val_main_v103 (F := Ideal) X G = H2 X G := by
  funext y; idx_vars y; pointwise [val_main_v103, v16_at, H2]
theorem out_f : val_main_v104 (F := Ideal) X G U = FF X G U := by
  funext y; idx_vars y; pointwise [val_main_v104, v23_at, FF]
theorem out_du : val_main_v105 (F := Ideal) X T G P U D = DU X T G P U D := by
  funext y; idx_vars y; pointwise [val_main_v105, v81_at hX hT hG hP hU hD, DU]
theorem out_df2 : val_main_v106 (F := Ideal) X T G P U D = DF2 X T G P U D := by
  funext y; idx_vars y; pointwise [val_main_v106, v77_at hX hT hG hP hU hD, DF2]
theorem out_dx1 : val_main_v102 (F := Ideal) X T G P U D = DX1 X T G P U D := by
  funext y; idx_vars y; rw [v102_at hX hT hG hP hU hD]; rfl
theorem out_dgpre : val_main_v85 (F := Ideal) X T G P U D = DGpre X T G P U D := by
  funext y; idx_vars y; pointwise [val_main_v85, val_main_v84, val_main_v83, val_main_cst_25, v14_at, v82_at hX hT hG hP hU hD, DGpre]
  exact Finset.sum_congr rfl fun _ _ => mul_comm (G := EReal) _ _
theorem out_dgpost : val_main_v61 (F := Ideal) X T G P U D = DGpost X T G P U D := by
  funext y; idx_vars y; pointwise [val_main_v61, val_main_v60, val_main_v59, val_main_cst_20, v40_at, v58_at, DGpost]
  exact Finset.sum_congr rfl fun _ _ => mul_comm (G := EReal) _ _
theorem out_loss : val_main_v107 (F := Ideal) X T G P U D = LOSS X T G P U D := by
  funext y; idx_vars y
  pointwise [val_main_v107, val_main_v52, val_main_v51, val_main_v50, val_main_v49, val_main_v48, val_main_v45, val_main_cst_13, val_main_cst_14,
    val_main_cst_15, val_main_cst_16, v44_at, LOSS, loss]
  exact mul_sum_re _ (bits_half ▸ Re.coe _) fun i => re_loss (fun _ => hX _) (fun _ => hT _) (fun _ => hG _) (fun _ => hP _) (fun _ _ => hU _) (fun _ _ => hD _)

omit hX hT hG hP hU hD

/-- The run, with the eight results as the specification's arrays, where the arguments are real. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ X T G P U D, X = m ((c.tc : Thread nD τ).loc main_arg0) → T = m ((c.tc : Thread nD τ).loc main_arg1) → G = m ((c.tc : Thread nD τ).loc main_arg2)
        → P = m ((c.tc : Thread nD τ).loc main_arg3) → U = m ((c.tc : Thread nD τ).loc main_arg4) → D = m ((c.tc : Thread nD τ).loc main_arg5)
        → (∀ i, Re (X i)) → (∀ i, Re (T i)) → (∀ i, Re (G i)) → (∀ i, Re (P i)) → (∀ i, Re (U i)) → (∀ i, Re (D i))
        → r.2.mem ((c.tc : Thread nD τ).loc main_v103) = H2 X G
        ∧ r.2.mem ((c.tc : Thread nD τ).loc main_v104) = FF X G U
        ∧ r.2.mem ((c.tc : Thread nD τ).loc main_v105) = DU X T G P U D
        ∧ r.2.mem ((c.tc : Thread nD τ).loc main_v106) = DF2 X T G P U D
        ∧ r.2.mem ((c.tc : Thread nD τ).loc main_v102) = DX1 X T G P U D
        ∧ r.2.mem ((c.tc : Thread nD τ).loc main_v85) = DGpre X T G P U D
        ∧ r.2.mem ((c.tc : Thread nD τ).loc main_v61) = DGpost X T G P U D
        ∧ r.2.mem ((c.tc : Thread nD τ).loc main_v107) = LOSS X T G P U D)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨?_, (h c).2.2.2.2.2.2.2.2⟩) (run m ρ)
  obtain ⟨k0, k1, k2, k3, k4, k5, k6, k7, -⟩ := h c
  intro X T G P U D eX eT eG eP eU eD hX hT hG hP hU hD
  subst eX eT eG eP eU eD
  exact ⟨(k0.trans (val_main_v103_eq _)).trans (out_h2 hX hT hG hP hU hD), (k1.trans (val_main_v104_eq _)).trans (out_f hX hT hG hP hU hD),
    (k2.trans (val_main_v105_eq _)).trans (out_du hX hT hG hP hU hD), (k3.trans (val_main_v106_eq _)).trans (out_df2 hX hT hG hP hU hD),
    (k4.trans (val_main_v102_eq _)).trans (out_dx1 hX hT hG hP hU hD), (k5.trans (val_main_v85_eq _)).trans (out_dgpre hX hT hG hP hU hD),
    (k6.trans (val_main_v61_eq _)).trans (out_dgpost hX hT hG hP hU hD), (k7.trans (val_main_v107_eq _)).trans (out_loss hX hT hG hP hU hD)⟩

end Cert.MlpRefIdeal.Value

end
-- ==== Proof.MlpValue.lean ====
module

public import proofs.«01_k».proof.Proof.MlpTiles
public import proofs.«01_k».proof.Proof.MlpRefValue
public import proofs.«01_k».proof.Proof.Gen.Pre_mlp_finite
public import proofs.«01_k».proof.Defs
public import Idealize.ShloMosaic.Lib.Claim
public import Idealize.ShloMosaic.Lib.Quiescent
public import Idealize.ShloMosaic.Lib.Pipeline.ReadBack

@[expose] public section

set_option maxRecDepth 16384

noncomputable section

open Idealize.ShloMosaic Idealize.ShloMosaic.TcCoe Idealize.SL.Sem Cert.Reals Cert.MlpSpec

namespace Cert.MlpIdeal.Value

open Cert.MlpIdeal Cert.MlpIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] ∧ win0_13.index t = ![0, 0] :=
  (by decide +kernel : ∀ t : Fin grid0.N, _)

/-- The six arguments of device `c`. -/
abbrev aX (c : Dev nD) : FVec Ideal S4096x1024 .f32 := m ((c : Thread nD τ).loc main_arg0)
abbrev aT (c : Dev nD) : FVec Ideal S4096x1024 .f32 := m ((c : Thread nD τ).loc main_arg1)
abbrev aG (c : Dev nD) : FVec Ideal S1x1024 .f32 := m ((c : Thread nD τ).loc main_arg2)
abbrev aP (c : Dev nD) : FVec Ideal S1x1024 .f32 := m ((c : Thread nD τ).loc main_arg3)
abbrev aU (c : Dev nD) : FVec Ideal S1024x4096 .f32 := m ((c : Thread nD τ).loc main_arg4)
abbrev aD (c : Dev nD) : FVec Ideal S4096x1024 .f32 := m ((c : Thread nD τ).loc main_arg5)

/-- Row `r` of block `t`. -/
abbrev row (t : Fin cfg0.N) (r : Fin 256) : Fin 4096 := ⟨t.val * 256 + r.val, by have : t.val < 16 := t.isLt; omega⟩

theorem blkX (c : Dev nD) (t : Fin cfg0.N) (r : Fin 256) (k : Fin 1024) : iblk m c 0 t (ix2 r k) = aX m c (ix2 (row t r) k) := by
  blk_point [iblk, V, idx t]

theorem blkT (c : Dev nD) (t : Fin cfg0.N) (r : Fin 256) (k : Fin 1024) : iblk m c 1 t (ix2 r k) = aT m c (ix2 (row t r) k) := by
  blk_point [iblk, V, idx t]

theorem blkG (c : Dev nD) (t : Fin cfg0.N) (z : Fin 1) (k : Fin 1024) : iblk m c 2 t (ix2 z k) = aG m c (ix2 z k) := by
  blk_point [iblk, V, idx t]

theorem blkP (c : Dev nD) (t : Fin cfg0.N) (z : Fin 1) (k : Fin 1024) : iblk m c 3 t (ix2 z k) = aP m c (ix2 z k) := by
  blk_point [iblk, V, idx t]

theorem blkU (c : Dev nD) (t : Fin cfg0.N) (q : Fin 4) (k l : Fin 1024) : iblk m c 4 t (ix3 q k l) = um (aU m c) k (unit q l) := by
  blk_point [iblk, idx t]

theorem blkD (c : Dev nD) (t : Fin cfg0.N) (j : Fin 4096) (l : Fin 1024) : iblk m c 5 t (ix2 j l) = dm (aD m c) j l := by
  blk_point [iblk, idx t]

theorem rowX (c : Dev nD) (t : Fin cfg0.N) (r : Fin 256) : xr (iblk m c 0 t) r = xr (aX m c) (row t r) := funext (blkX m c t r)
theorem rowT (c : Dev nD) (t : Fin cfg0.N) (r : Fin 256) : xr (iblk m c 1 t) r = xr (aT m c) (row t r) := funext (blkT m c t r)
theorem rowG (c : Dev nD) (t : Fin cfg0.N) : gr (iblk m c 2 t) = gr (aG m c) := funext (blkG m c t 0)
theorem rowP (c : Dev nD) (t : Fin cfg0.N) : gr (iblk m c 3 t) = gr (aP m c) := funext (blkP m c t 0)

/-- Tile `q` of the two weights at point `t`. -/
abbrev tileU (c : Dev nD) (t : Fin cfg0.N) (q : Fin 4) : FVec Ideal S1x1024x1024 .bf16 := fun x => um (aU m c) (x 1) (unit q (x 2))
abbrev tileD (c : Dev nD) (t : Fin cfg0.N) (q : Fin 4) : FVec Ideal S1024x1024 .bf16 := fun x => dm (aD m c) (unit q (x 0)) (x 1)

theorem up0 (c : Dev nD) (t : Fin cfg0.N) : UpTile (View.ld (iblk m c 4 t) (Rect.unit ![0, 0, 0] ![1, 1024, 1024] inb_S4x1024x1024_S1x1024x1024_0_0_0)) (um (aU m c)) 0 :=
  fun k l => by pointwise []; exact blkU m c t 0 k l
theorem dn0 (c : Dev nD) (t : Fin cfg0.N) : DownTile (View.ld (iblk m c 5 t) (Rect.unit ![0, 0] ![1024, 1024] inb_S4096x1024_S1024x1024_0_0)) (dm (aD m c)) 0 :=
  fun k l => by pointwise []; exact (blkD m c t _ l).trans (congrArg (dm (aD m c) · l) (Fin.ext (by simp [unit])))
theorem up1 (c : Dev nD) (t : Fin cfg0.N) : UpTile (View.ld (iblk m c 4 t) (Rect.unit ![1, 0, 0] ![1, 1024, 1024] inb_S4x1024x1024_S1x1024x1024_1_0_0)) (um (aU m c)) 1 :=
  fun k l => by pointwise []; exact blkU m c t 1 k l
theorem dn1 (c : Dev nD) (t : Fin cfg0.N) : DownTile (View.ld (iblk m c 5 t) (Rect.unit ![1024, 0] ![1024, 1024] inb_S4096x1024_S1024x1024_1024_0)) (dm (aD m c)) 1 :=
  fun k l => by pointwise []; exact (blkD m c t _ l).trans (congrArg (dm (aD m c) · l) (Fin.ext (by simp [unit])))
theorem up2 (c : Dev nD) (t : Fin cfg0.N) : UpTile (View.ld (iblk m c 4 t) (Rect.unit ![2, 0, 0] ![1, 1024, 1024] inb_S4x1024x1024_S1x1024x1024_2_0_0)) (um (aU m c)) 2 :=
  fun k l => by pointwise []; exact blkU m c t 2 k l
theorem dn2 (c : Dev nD) (t : Fin cfg0.N) : DownTile (View.ld (iblk m c 5 t) (Rect.unit ![2048, 0] ![1024, 1024] inb_S4096x1024_S1024x1024_2048_0)) (dm (aD m c)) 2 :=
  fun k l => by pointwise []; exact (blkD m c t _ l).trans (congrArg (dm (aD m c) · l) (Fin.ext (by simp [unit])))
theorem up3 (c : Dev nD) (t : Fin cfg0.N) : UpTile (View.ld (iblk m c 4 t) (Rect.unit ![3, 0, 0] ![1, 1024, 1024] inb_S4x1024x1024_S1x1024x1024_3_0_0)) (um (aU m c)) 3 :=
  fun k l => by pointwise []; exact blkU m c t 3 k l
theorem dn3 (c : Dev nD) (t : Fin cfg0.N) : DownTile (View.ld (iblk m c 5 t) (Rect.unit ![3072, 0] ![1024, 1024] inb_S4096x1024_S1024x1024_3072_0)) (dm (aD m c)) 3 :=
  fun k l => by pointwise []; exact (blkD m c t _ l).trans (congrArg (dm (aD m c) · l) (Fin.ext (by simp [unit])))

/-! Each quantity of the block at point `t`, in the kernel's own terms, as the row functions of `MlpSpec`. -/
section Block
variable (c : Dev nD) (t : Fin cfg0.N)

abbrev F2At := fun (r : Fin 256) (l : Fin 1024) => f2_at (X := iblk m c 0 t) (G := iblk m c 2 t) (up0 m c t) (up1 m c t) (up2 m c t) (up3 m c t)
  (dn0 m c t) (dn1 m c t) (dn2 m c t) (dn3 m c t) r l
abbrev DF2At := fun (r : Fin 256) (l : Fin 1024) => df2_at (T := iblk m c 1 t) (P := iblk m c 3 t) (F2At m c t r) l
abbrev DX2At := fun (r : Fin 256) (l : Fin 1024) => dx2_at (T := iblk m c 1 t) (P := iblk m c 3 t) (F2At m c t r) l
abbrev DH2At := fun (r : Fin 256) (k : Fin 1024) => dh2_at (DF2At m c t r) (up0 m c t) (up1 m c t) (up2 m c t) (up3 m c t)
  (u0_at (up0 m c t) r) (u1_at (up1 m c t) r) (u2_at (up2 m c t) r) (u3_at (up3 m c t) r) (dn0 m c t) (dn1 m c t) (dn2 m c t) (dn3 m c t) k

end Block

theorem emb6 (t : Fin cfg0.N) (r : Fin 256) (k : Fin 1024) : ((View.whole main_v4_0).slice (win0_6.rect t)).emb (ix2 r k) = ix2 (row t r) k := by
  blk_ext [idx t]
theorem emb9 (t : Fin cfg0.N) (r : Fin 256) (k : Fin 1024) : ((View.whole main_v4_3).slice (win0_9.rect t)).emb (ix2 r k) = ix2 (row t r) k := by
  blk_ext [idx t]
theorem emb10 (t : Fin cfg0.N) (r : Fin 256) (k : Fin 1024) : ((View.whole main_v4_4).slice (win0_10.rect t)).emb (ix2 r k) = ix2 (row t r) k := by
  blk_ext [idx t]

theorem final6 (c : Dev nD) : (dats m 0 c).arrAt 6 (cfgs 0).N = H2 (aX m c) (aG m c) := by
  refine (dats m 0 c).arrAt_eq_of_covers 6 _ (by decide +kernel) fun t hf y => ?_
  blk_simp
  rw [after0_6]
  idx_vars y
  rw [emb6]
  rcases em (t.val % 16 = 0) with h | h
  on_goal 1 => rw [outsAt0_A m c t h]
  on_goal 2 => rw [outsAt0_B m c t h]
  all_goals
    frame_out
    refine (h2_at y0 y1).trans ?_
    rw [rowX, rowG]
    rfl

theorem final9 (c : Dev nD) : (dats m 0 c).arrAt 9 (cfgs 0).N = DF2 (aX m c) (aT m c) (aG m c) (aP m c) (aU m c) (aD m c) := by
  refine (dats m 0 c).arrAt_eq_of_covers 9 _ (by decide +kernel) fun t hf y => ?_
  blk_simp
  rw [after0_9]
  idx_vars y
  rw [emb9]
  rcases em (t.val % 16 = 0) with h | h
  on_goal 1 => rw [outsAt0_A m c t h]
  on_goal 2 => rw [outsAt0_B m c t h]
  all_goals
    frame_out
    refine (DF2At m c t y0 y1).trans ?_
    rw [rowX, rowT, rowG, rowP]
    rfl

theorem final10 (c : Dev nD) : (dats m 0 c).arrAt 10 (cfgs 0).N = DX1 (aX m c) (aT m c) (aG m c) (aP m c) (aU m c) (aD m c) := by
  refine (dats m 0 c).arrAt_eq_of_covers 10 _ (by decide +kernel) fun t hf y => ?_
  blk_simp
  rw [after0_10]
  idx_vars y
  rw [emb10]
  rcases em (t.val % 16 = 0) with h | h
  on_goal 1 => rw [outsAt0_A m c t h]
  on_goal 2 => rw [outsAt0_B m c t h]
  all_goals
    frame_out
    simp (decide := true) only [↓View.readCov_skip, ↓View.readCov_cons_toLoadRect]
    refine (dx1_at (DH2At m c t y0) (DX2At m c t y0) y1).trans ?_
    rw [rowX, rowT, rowG, rowP]
    rfl

theorem half_sum (n : ℕ) (f : Fin n → EReal) : Ideal.ofBits .f32 0x3F000000#32 * ∑ r, f r = ∑ r, Ideal.ofBits .f32 0x3F000000#32 * f r := by
  rw [bits_half]
  induction n with
  | zero => simp
  | succ n ih => rw [Fin.sum_univ_succ, Fin.sum_univ_succ, EReal.left_distrib_of_nonneg_of_ne_top (by exact_mod_cast (by norm_num : (0:ℝ) ≤ 1/2)) (EReal.coe_ne_top _), ih]

theorem emb7 (q : Fin 4) (t : Fin cfg0.N) (y : S256x4096.Idx) (r : Fin 256) (l : Fin 1024) (h0 : (y 0 : ℕ) = r) (h1 : (y 1 : ℕ) = q * 1024 + l) :
    ((View.whole main_v4_1).slice (win0_7.rect t)).emb y = ix2 (row t r) (unit q l) := by
  blk_ext [idx t]

theorem final7 (c : Dev nD) : (dats m 0 c).arrAt 7 (cfgs 0).N = FF (aX m c) (aG m c) (aU m c) := by
  refine (dats m 0 c).arrAt_eq_of_covers 7 _ (by decide +kernel) fun t hf y => ?_
  blk_simp
  rw [after0_7]
  rcases em (t.val % 16 = 0) with e | e
  on_goal 1 => rw [outsAt0_A m c t e]
  on_goal 2 => rw [outsAt0_B m c t e]
  all_goals
    frame_out
    canon_tiles x h
    · rw [emb7 3 t y (x 0) (x 1) h0 (by simpa using h1)]
      idx_vars x
      refine (f_tile3 (up3 m c t) x0 x1).trans ?_
      simp only [rowX, rowT, rowG, rowP]
      rfl
    · rw [emb7 2 t y (x 0) (x 1) h0 (by simpa using h1)]
      idx_vars x
      refine (f_tile2 (up2 m c t) x0 x1).trans ?_
      simp only [rowX, rowT, rowG, rowP]
      rfl
    · rw [emb7 1 t y (x 0) (x 1) h0 (by simpa using h1)]
      idx_vars x
      refine (f_tile1 (up1 m c t) x0 x1).trans ?_
      simp only [rowX, rowT, rowG, rowP]
      rfl
    · rw [emb7 0 t y (x 0) (x 1) h0 (by simpa using h1)]
      idx_vars x
      refine (f_tile0 (up0 m c t) x0 x1).trans ?_
      simp only [rowX, rowT, rowG, rowP]
      rfl

theorem emb8 (q : Fin 4) (t : Fin cfg0.N) (y : S256x4096.Idx) (r : Fin 256) (l : Fin 1024) (h0 : (y 0 : ℕ) = r) (h1 : (y 1 : ℕ) = q * 1024 + l) :
    ((View.whole main_v4_2).slice (win0_8.rect t)).emb y = ix2 (row t r) (unit q l) := by
  blk_ext [idx t]

theorem final8 (c : Dev nD) : (dats m 0 c).arrAt 8 (cfgs 0).N = DU (aX m c) (aT m c) (aG m c) (aP m c) (aU m c) (aD m c) := by
  refine (dats m 0 c).arrAt_eq_of_covers 8 _ (by decide +kernel) fun t hf y => ?_
  blk_simp
  rw [after0_8]
  rcases em (t.val % 16 = 0) with e | e
  on_goal 1 => rw [outsAt0_A m c t e]
  on_goal 2 => rw [outsAt0_B m c t e]
  all_goals
    frame_out
    canon_tiles x h
    · simp (decide := true) only [↓View.readCov_skip, ↓View.readCov_cons_toLoadRect]
      rw [emb8 3 t y (x 0) (x 1) h0 (by simpa using h1)]
      idx_vars x
      refine (du3_at (DF2At m c t x0) (u3_at (up3 m c t) x0) (dn3 m c t) x1).trans ?_
      simp only [rowX, rowT, rowG, rowP]
      rfl
    · simp (decide := true) only [↓View.readCov_skip, ↓View.readCov_cons_toLoadRect]
      rw [emb8 2 t y (x 0) (x 1) h0 (by simpa using h1)]
      idx_vars x
      refine (du2_at (DF2At m c t x0) (u2_at (up2 m c t) x0) (dn2 m c t) x1).trans ?_
      simp only [rowX, rowT, rowG, rowP]
      rfl
    · simp (decide := true) only [↓View.readCov_skip, ↓View.readCov_cons_toLoadRect]
      rw [emb8 1 t y (x 0) (x 1) h0 (by simpa using h1)]
      idx_vars x
      refine (du1_at (DF2At m c t x0) (u1_at (up1 m c t) x0) (dn1 m c t) x1).trans ?_
      simp only [rowX, rowT, rowG, rowP]
      rfl
    · simp (decide := true) only [↓View.readCov_skip, ↓View.readCov_cons_toLoadRect]
      rw [emb8 0 t y (x 0) (x 1) h0 (by simpa using h1)]
      idx_vars x
      refine (du0_at (DF2At m c t x0) (u0_at (up0 m c t) x0) (dn0 m c t) x1).trans ?_
      simp only [rowX, rowT, rowG, rowP]
      rfl

/-! What block `t` adds to the three sums. -/
def partPre (c : Dev nD) (t : Fin cfg0.N) (l : Fin 1024) : EReal :=
  ∑ r : Fin 256, dh2 (xr (aX m c) (row t r)) (xr (aT m c) (row t r)) (gr (aG m c)) (gr (aP m c)) (um (aU m c)) (dm (aD m c)) l * hat width eps (xr (aX m c) (row t r)) l
def partPost (c : Dev nD) (t : Fin cfg0.N) (l : Fin 1024) : EReal :=
  ∑ r : Fin 256, dx2 (xr (aX m c) (row t r)) (xr (aT m c) (row t r)) (gr (aG m c)) (gr (aP m c)) (um (aU m c)) (dm (aD m c)) l * hat width eps (f2 (xr (aX m c) (row t r)) (gr (aG m c)) (um (aU m c)) (dm (aD m c))) l
def partLoss (c : Dev nD) (t : Fin cfg0.N) : EReal :=
  Ideal.ofBits .f32 0x3F000000#32 * ∑ r : Fin 256, loss (xr (aX m c) (row t r)) (xr (aT m c) (row t r)) (gr (aG m c)) (gr (aP m c)) (um (aU m c)) (dm (aD m c))

theorem final11 (c : Dev nD) : (dats m 0 c).arrAt 11 (cfgs 0).N = DGpre (aX m c) (aT m c) (aG m c) (aP m c) (aU m c) (aD m c) := by
  refine (dats m 0 c).arrAt_eq_of_after_last 11 t0_15 (by decide +kernel) _ fun j => ?_
  blk_simp
  rw [after0_11, Pipeline.eq_sum_fin_of_reset_step_apply_last (fun n h => (outsAt0 m c n h).2.2.2.2.2.1) 16 (fun _ => 0)
    (fun t j => partPre m c t (j 1))
    (fun t h j => by
      rw [outsAt0_A m c t h]
      frame_out
      try simp (decide := true) only [↓View.readCov_skip, ↓View.readCov_cons_toLoadRect]
      idx_vars j
      exact (dgpre_at (DH2At m c t) j0 j1).trans (congrArg₂ _ (by pointwise [k0_pay2, k0_pay3, k0_pay4]) (Finset.sum_congr rfl fun r _ => by rw [rowX, rowT, rowG, rowP])))
    (fun t h j => by
      rw [outsAt0_B m c t h]
      frame_out
      try simp (decide := true) only [↓View.readCov_skip, ↓View.readCov_cons_toLoadRect]
      idx_vars j
      exact (dgpre_at (DH2At m c t) j0 j1).trans (congrArg _ (Finset.sum_congr rfl fun r _ => by rw [rowX, rowT, rowG, rowP])))
    (le_of_eq N_0) t0_15 rfl j]
  rw [zero_add]
  exact Fin.sum_mul_add_congr (L := 4096) fun t r hl => rfl

theorem final12 (c : Dev nD) : (dats m 0 c).arrAt 12 (cfgs 0).N = DGpost (aX m c) (aT m c) (aG m c) (aP m c) (aU m c) (aD m c) := by
  refine (dats m 0 c).arrAt_eq_of_after_last 12 t0_15 (by decide +kernel) _ fun j => ?_
  blk_simp
  rw [after0_12, Pipeline.eq_sum_fin_of_reset_step_apply_last (fun n h => (outsAt0 m c n h).2.2.2.2.2.2.1) 16 (fun _ => 0)
    (fun t j => partPost m c t (j 1))
    (fun t h j => by
      rw [outsAt0_A m c t h]
      frame_out
      try simp (decide := true) only [↓View.readCov_skip, ↓View.readCov_cons_toLoadRect]
      idx_vars j
      exact (dgpost_at (T := iblk m c 1 t) (P := iblk m c 3 t) (F2At m c t) _ j0 j1).trans (congrArg₂ _ (by pointwise [k0_pay2, k0_pay3, k0_pay4]) (Finset.sum_congr rfl fun r _ => by rw [rowX, rowT, rowG, rowP])))
    (fun t h j => by
      rw [outsAt0_B m c t h]
      frame_out
      try simp (decide := true) only [↓View.readCov_skip, ↓View.readCov_cons_toLoadRect]
      idx_vars j
      exact (dgpost_at (T := iblk m c 1 t) (P := iblk m c 3 t) (F2At m c t) _ j0 j1).trans (congrArg _ (Finset.sum_congr rfl fun r _ => by rw [rowX, rowT, rowG, rowP])))
    (le_of_eq N_0) t0_15 rfl j]
  rw [zero_add]
  exact Fin.sum_mul_add_congr (L := 4096) fun t r hl => rfl

theorem final13 (c : Dev nD) : (dats m 0 c).arrAt 13 (cfgs 0).N = LOSS (aX m c) (aT m c) (aG m c) (aP m c) (aU m c) (aD m c) := by
  refine (dats m 0 c).arrAt_eq_of_after_last 13 t0_15 (by decide +kernel) _ fun j => ?_
  blk_simp
  rw [after0_13, Pipeline.eq_sum_fin_of_reset_step_apply_last (fun n h => (outsAt0 m c n h).2.2.2.2.2.2.2) 16 (fun _ => 0)
    (fun t j => partLoss m c t)
    (fun t h j => by
      rw [outsAt0_A m c t h]
      frame_out
      try simp (decide := true) only [↓View.readCov_skip, ↓View.readCov_cons_toLoadRect]
      idx_vars j
      exact (loss_at (T := iblk m c 1 t) (P := iblk m c 3 t) (F2At m c t) _ j0 j1).trans (congrArg₂ _ (by pointwise [k0_pay2, k0_pay3, k0_pay4]) (congrArg _ (Finset.sum_congr rfl fun r _ => by rw [rowX, rowT, rowG, rowP]))))
    (fun t h j => by
      rw [outsAt0_B m c t h]
      frame_out
      try simp (decide := true) only [↓View.readCov_skip, ↓View.readCov_cons_toLoadRect]
      idx_vars j
      exact (loss_at (T := iblk m c 1 t) (P := iblk m c 3 t) (F2At m c t) _ j0 j1).trans (congrArg _ (congrArg _ (Finset.sum_congr rfl fun r _ => by rw [rowX, rowT, rowG, rowP]))))
    (le_of_eq N_0) t0_15 rfl j]
  rw [zero_add]
  simp only [partLoss, half_sum]
  exact Fin.sum_mul_add_congr (L := 4096) fun t r hl => rfl

end Cert.MlpIdeal.Value

namespace Cert.Proof

theorem mlpRef_quiescent : Cert.quiescent_MlpRefIdeal := fun m g _ =>
  (θ_run _ _ _).mono (fun r h => ⟨fun c => (h c).2, sem_eq_zero_of_no_sems rfl _⟩) (Cert.MlpRefIdeal.Value.run_read m g)

/-- The precondition says that the six arguments are real numbers. -/
theorem mlp_real (m : (ℓ : Loc Cert.MlpIdeal.nD Cert.MlpIdeal.τ Cert.MlpIdeal.sig) → Buf (Elt Ideal) ℓ) (h : Cert.Pre_MlpIdeal_mlp_finite m) (c : Dev Cert.MlpIdeal.nD) :
    (∀ i, Re (Cert.MlpIdeal.Value.aX m c i)) ∧ (∀ i, Re (Cert.MlpIdeal.Value.aT m c i)) ∧ (∀ i, Re (Cert.MlpIdeal.Value.aG m c i))
      ∧ (∀ i, Re (Cert.MlpIdeal.Value.aP m c i)) ∧ (∀ i, Re (Cert.MlpIdeal.Value.aU m c i)) ∧ (∀ i, Re (Cert.MlpIdeal.Value.aD m c i)) := by
  obtain ⟨h0, h1, h2, h3, h4, h5⟩ := h c
  exact ⟨fun i => re_of_abs_lt (congrFun h0 i), fun i => re_of_abs_lt (congrFun h1 i), fun i => re_of_abs_lt (congrFun h2 i),
    fun i => re_of_abs_lt (congrFun h3 i), fun i => re_of_abs_lt (congrFun h4 i), fun i => re_of_abs_lt (congrFun h5 i)⟩

/-- The MLP half's call and the derivative of the plain lines end with the same eight arrays, when the arguments are real numbers. -/
theorem mlp_algebraic : Cert.algebraic_MlpIdeal_MlpRefIdeal_pre_mlp_finite := by
  intro m g m' g' hpre hagree
  refine ⟨_, _, _, _, _, _, _, _, (θ_run _ _ _).mono (fun r h c => by
    obtain ⟨k6, k7, k8, k9, k10, k11, k12, k13, k⟩ := h c
    exact ⟨k6.trans (Cert.MlpIdeal.Value.final6 m c), k7.trans (Cert.MlpIdeal.Value.final7 m c), k8.trans (Cert.MlpIdeal.Value.final8 m c),
      k9.trans (Cert.MlpIdeal.Value.final9 m c), k10.trans (Cert.MlpIdeal.Value.final10 m c), k11.trans (Cert.MlpIdeal.Value.final11 m c),
      k12.trans (Cert.MlpIdeal.Value.final12 m c), k13.trans (Cert.MlpIdeal.Value.final13 m c), k⟩) (Cert.MlpIdeal.Value.run_blocks m g), ?_⟩
  refine (θ_run _ _ _).mono (fun r h c => ?_) (Cert.MlpRefIdeal.Value.run_read m' g')
  obtain ⟨h0, h1, h2, h3, h4, h5⟩ := hagree c
  obtain ⟨rX, rT, rG, rP, rU, rD⟩ := mlp_real m hpre c
  obtain ⟨k, kept⟩ := h c
  obtain ⟨k0, k1, k2, k3, k4, k5, k6, k7⟩ := k _ _ _ _ _ _ h0.symm h1.symm h2.symm h3.symm h4.symm h5.symm rX rT rG rP rU rD
  exact ⟨k0, k1, k2, k3, k4, k5, k6, k7, kept⟩

end Cert.Proof

end
-- ==== Proof.InProjBlocks.lean ====
module

public import proofs.«01_k».proof.Proof.Gen.InProjIdeal.Value
public import proofs.«01_k».proof.Proof.InProjTiles
public import proofs.«01_k».proof.Defs
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem Cert.Reals Cert.MlpSpec Cert.InProjSpec

namespace Cert.InProjIdeal.Value

open Cert.InProjIdeal Cert.InProjIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![t.val, 0] ∧ win0_10.index t = ![t.val, 0]
    ∧ win0_11.index t = ![0, 0, 0, 0] ∧ win0_12.index t = ![0, 0] ∧ win0_13.index t = ![0, 0] :=
  (by decide +kernel : ∀ t : Fin grid0.N, _)

/-- The nine arguments of device `c`. -/
abbrev aX (c : Dev nD) : FVec Ideal S4096x1024 .f32 := m ((c : Thread nD τ).loc main_arg0)
abbrev aG (c : Dev nD) : FVec Ideal S1x1024 .f32 := m ((c : Thread nD τ).loc main_arg1)
abbrev aW (c : Dev nD) : FVec Ideal S1024x2560 .f32 := m ((c : Thread nD τ).loc main_arg2)
abbrev aQ (c : Dev nD) : FVec Ideal S4096x512 .f32 := m ((c : Thread nD τ).loc main_arg3)
abbrev aK (c : Dev nD) : FVec Ideal S4096x512 .f32 := m ((c : Thread nD τ).loc main_arg4)
abbrev aV (c : Dev nD) : FVec Ideal S4096x512 .f32 := m ((c : Thread nD τ).loc main_arg5)
abbrev aR (c : Dev nD) : FVec Ideal S4096x1024 .f32 := m ((c : Thread nD τ).loc main_arg6)
abbrev aE (c : Dev nD) : FVec Ideal S4096x1024 .f32 := m ((c : Thread nD τ).loc main_arg7)
abbrev aP (c : Dev nD) : IVec S4096 32 := m ((c : Thread nD τ).loc main_arg8)

/-- Row `r` of block `t`. -/
abbrev row (t : Fin cfg0.N) (r : Fin 512) : Fin 4096 := ⟨t.val * 512 + r.val, by have : t.val < 8 := t.isLt; omega⟩

theorem blkQ (c : Dev nD) (t : Fin cfg0.N) (r k : Fin 512) : iblk m c 0 t (ix2 r k) = aQ m c (ix2 (row t r) k) := by
  blk_point [iblk, V, idx t]
theorem blkK (c : Dev nD) (t : Fin cfg0.N) (r k : Fin 512) : iblk m c 1 t (ix2 r k) = aK m c (ix2 (row t r) k) := by
  blk_point [iblk, V, idx t]
theorem blkV (c : Dev nD) (t : Fin cfg0.N) (r k : Fin 512) : iblk m c 2 t (ix2 r k) = aV m c (ix2 (row t r) k) := by
  blk_point [iblk, V, idx t]
theorem blkR (c : Dev nD) (t : Fin cfg0.N) (r : Fin 512) (k : Fin 1024) : iblk m c 3 t (ix2 r k) = aR m c (ix2 (row t r) k) := by
  blk_point [iblk, idx t]
theorem blkX (c : Dev nD) (t : Fin cfg0.N) (r : Fin 512) (k : Fin 1024) : iblk m c 6 t (ix2 r k) = aX m c (ix2 (row t r) k) := by
  blk_point [iblk, V, idx t]
theorem blkG (c : Dev nD) (t : Fin cfg0.N) (z : Fin 1) (k : Fin 1024) : iblk m c 8 t (ix2 z k) = aG m c (ix2 z k) := by
  blk_point [iblk, V, idx t]
theorem blkE (c : Dev nD) (t : Fin cfg0.N) (r : Fin 512) (k : Fin 1024) : iblk m c 9 t (ix2 r k) = aE m c (ix2 (row t r) k) := by
  blk_point [iblk, V, idx t]
/-! The host's lines before the call: the normalised rows, the two rotary tables, the weight's four column quarters. -/

def angT (P : IVec S4096 32) : FVec Ideal S4096x32 .f32 :=
  mulf (broadcastInDim S4096x32 ![0, 1] bcast_S4096x1_S4096x32_0_1 (broadcastInDim S4096x1 ![0] bcast_S4096_S4096x1_0 (sitofp .f32 P)))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.negf (Host.divf (mulf (sitofp .f32 (iotaInDim S32 32 0)) (broadcastInDim S32 ![] bcast_S_S32 (constant S_ .f32 0x40000000#32)))
          (broadcastInDim S32 ![] bcast_S_S32 (constant S_ .f32 0x42800000#32)))))))

def cosT (P : IVec S4096 32) : FVec Ideal S4096x128 .f32 :=
  shapeCast S4096x128 (broadcastInDim S1x4096x4x32 ![0, 1, 2, 3] bcast_S1x4096x1x32_S1x4096x4x32_0_1_2_3
    (shapeCast S1x4096x1x32 (Host.cos (angT P)) shapeCasts_S4096x32_S1x4096x1x32)) shapeCasts_S1x4096x4x32_S4096x128

def sinT (P : IVec S4096 32) : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x32, Host.negf (Host.sin (angT P))⟩, ⟨S4096x32, Host.sin (angT P)⟩]
      concatenates_S4096x32_S4096x32_S4096x64_d1) shapeCasts_S4096x64_S1x4096x1x64)) shapeCasts_S1x4096x2x64_S4096x128

theorem angT_at (P : IVec S4096 32) (i : Fin 4096) (j : Fin 32) : angT P (ix2 i j) = ang (P (ix1 i)) j := by
  pointwise [angT, ang]

theorem cosT_at (P : IVec S4096 32) (i : Fin 4096) (l : Fin 128) : cosT P (ix2 i l) = Ideal.cos (ang (P (ix1 i)) (lane l)) := by
  pointwise [cosT, angT_at]

theorem sinT_at (P : IVec S4096 32) (i : Fin 4096) (l : Fin 128) : sinT P (ix2 i l)
    = if l.val % 64 < 32 then -Ideal.sin (ang (P (ix1 i)) (lane l)) else Ideal.sin (ang (P (ix1 i)) (lane l)) := by
  pointwise [sinT, angT_at]
  split
  · rw [show lane l = ⟨l.val % 64, by omega⟩ from Fin.ext (by simp [lane]; omega)]
  · rw [show lane l = ⟨l.val % 64 - 32, by omega⟩ from Fin.ext (by simp [lane]; omega)]

theorem V_cos (c : Dev nD) : V m c main_v18 = cosT (aP m c) := by
  unfold V; after_results; rfl
theorem V_sin (c : Dev nD) : V m c main_v23 = sinT (aP m c) := by
  unfold V; after_results; rfl

def hT (X : FVec Ideal S4096x1024 .f32) (G : FVec Ideal S1x1024 .f32) : FVec Ideal S4096x1024 .bf16 :=
  truncf .bf16 (mulf (mulf X (broadcastInDim S4096x1024 ![0, 1] bcast_S4096x1_S4096x1024_0_1 (Host.rsqrt (addf (Host.divf
    (broadcastInDim S4096x1 ![0] bcast_S4096_S4096x1_0 (Host.reduceAdd (mulf X X) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))))))
    (broadcastInDim S4096x1024 ![0, 1] bcast_S1x1024_S4096x1024_0_1 G)) bitsLt_bf16_f32
theorem hT_at (X : FVec Ideal S4096x1024 .f32) (G : FVec Ideal S1x1024 .f32) (i : Fin 4096) (k : Fin 1024) : hT X G (ix2 i k) = h2 (xr X i) (gr G) k := by
  pointwise [hT, h2, hat, rr]
theorem V_h (c : Dev nD) : V m c main_v37 = hT (aX m c) (aG m c) := by
  unfold V; after_results; rfl

theorem blkH (c : Dev nD) (t : Fin cfg0.N) (r : Fin 512) (k : Fin 1024) : iblk m c 7 t (ix2 r k) = h2 (xr (aX m c) (row t r)) (gr (aG m c)) k := by
  refine Eq.trans ?_ ((congrFun (V_h m c) _).trans (hT_at _ _ _ _))
  blk_point [iblk, idx t]
theorem blkC (c : Dev nD) (t : Fin cfg0.N) (r : Fin 512) (l : Fin 128) : iblk m c 4 t (ix2 r l) = Ideal.cos (ang (aP m c (ix1 (row t r))) (lane l)) := by
  refine Eq.trans ?_ ((congrFun (V_cos m c) _).trans (cosT_at _ _ _))
  blk_point [iblk, idx t]
theorem blkS (c : Dev nD) (t : Fin cfg0.N) (r : Fin 512) (l : Fin 128) : iblk m c 5 t (ix2 r l) =
    if l.val % 64 < 32 then -Ideal.sin (ang (aP m c (ix1 (row t r))) (lane l)) else Ideal.sin (ang (aP m c (ix1 (row t r))) (lane l)) := by
  refine Eq.trans ?_ ((congrFun (V_sin m c) _).trans (sinT_at _ _ _))
  blk_point [iblk, idx t]
def quarters (W : FVec Ideal S1024x2560 .f32) : FVec Ideal S4x1024x640 .bf16 :=
  transpose S4x1024x640 [1, 0, 2] (shapeCast S1024x4x640 (truncf .bf16 W bitsLt_bf16_f32) shapeCasts_S1024x2560_S1024x4x640) transposes_S1024x4x640_S4x1024x640_1_0_2
theorem quarters_at (W : FVec Ideal S1024x2560 .f32) (q : Fin 4) (l : Fin 1024) (k : Fin 640) : quarters W (ix3 q l k) = W (ix2 l ⟨q.val * 640 + k.val, by omega⟩) := by
  pointwise [quarters]
theorem V_w (c : Dev nD) : V m c main_v40 = quarters (aW m c) := by
  unfold V; after_results; rfl

/-! The cotangent of the projection, block by block: the rotated gradients of q and k, v's and the others' as they come. -/

abbrev tQ (c : Dev nD) (t : Fin cfg0.N) (o p : ℕ) (h : ∀ a, (![o, p] : Fin 2 → ℕ) a + S256x128.size a ≤ S512x512.size a) : FVec Ideal S256x128 .f32 :=
  View.ld (iblk m c 0 t) (Rect.unit ![o, p] ![256, 128] h)
abbrev tK (c : Dev nD) (t : Fin cfg0.N) (o p : ℕ) (h : ∀ a, (![o, p] : Fin 2 → ℕ) a + S256x128.size a ≤ S512x512.size a) : FVec Ideal S256x128 .f32 :=
  View.ld (iblk m c 1 t) (Rect.unit ![o, p] ![256, 128] h)
abbrev tV (c : Dev nD) (t : Fin cfg0.N) (o : ℕ) (h : ∀ a, (![o, 0] : Fin 2 → ℕ) a + S256x512.size a ≤ S512x512.size a) : FVec Ideal S256x512 .f32 :=
  View.ld (iblk m c 2 t) (Rect.unit ![o, 0] ![256, 512] h)
abbrev tR (c : Dev nD) (t : Fin cfg0.N) (o : ℕ) (h : ∀ a, (![o, 0] : Fin 2 → ℕ) a + S256x1024.size a ≤ S512x1024.size a) : FVec Ideal S256x1024 .bf16 :=
  View.ld (iblk m c 3 t) (Rect.unit ![o, 0] ![256, 1024] h)
abbrev tC (c : Dev nD) (t : Fin cfg0.N) (o : ℕ) (h : ∀ a, (![o, 0] : Fin 2 → ℕ) a + S256x128.size a ≤ S512x128.size a) : FVec Ideal S256x128 .f32 :=
  View.ld (iblk m c 4 t) (Rect.unit ![o, 0] ![256, 128] h)
abbrev tS (c : Dev nD) (t : Fin cfg0.N) (o : ℕ) (h : ∀ a, (![o, 0] : Fin 2 → ℕ) a + S256x128.size a ≤ S512x128.size a) : FVec Ideal S256x128 .f32 :=
  View.ld (iblk m c 5 t) (Rect.unit ![o, 0] ![256, 128] h)

/-- What the point stores into the block of projection cotangents, the last store first. -/
abbrev dpieces (c : Dev nD) (t : Fin cfg0.N) : List (View.Piece (Elt Ideal) S512x2560 .bf16) :=
  [⟨Rect.unit ![256, 1536] ![256, 1024] inb_S512x2560_S256x1024_256_1536,
    k0_pay60 (F := Ideal) (tR m c t 256 inb_S512x1024_S256x1024_256_0)⟩,
  ⟨Rect.unit ![256, 1024] ![256, 512] inb_S512x2560_S256x512_256_1024,
    k0_pay59 (F := Ideal) (tV m c t 256 inb_S512x512_S256x512_256_0)⟩,
  ⟨Rect.unit ![256, 896] ![256, 128] inb_S512x2560_S256x128_256_896,
    k0_pay58 (F := Ideal) (k0_pay33 (tC m c t 256 inb_S512x128_S256x128_256_0))
      (k0_pay34 (tS m c t 256 inb_S512x128_S256x128_256_0))
      (tK m c t 256 384 inb_S512x512_S256x128_256_384)⟩,
  ⟨Rect.unit ![256, 384] ![256, 128] inb_S512x2560_S256x128_256_384,
    k0_pay57 (F := Ideal) (k0_pay33 (tC m c t 256 inb_S512x128_S256x128_256_0))
      (k0_pay34 (tS m c t 256 inb_S512x128_S256x128_256_0))
      (k0_pay54 (tQ m c t 256 384 inb_S512x512_S256x128_256_384))
      k0_pay55
      (k0_pay56 (tQ m c t 256 384 inb_S512x512_S256x128_256_384))⟩,
  ⟨Rect.unit ![256, 768] ![256, 128] inb_S512x2560_S256x128_256_768,
    k0_pay53 (F := Ideal) (k0_pay33 (tC m c t 256 inb_S512x128_S256x128_256_0))
      (k0_pay34 (tS m c t 256 inb_S512x128_S256x128_256_0))
      (tK m c t 256 256 inb_S512x512_S256x128_256_256) (64#32)
      k0_pay50 k0_pay51 k0_pay52 0#32⟩,
  ⟨Rect.unit ![256, 256] ![256, 128] inb_S512x2560_S256x128_256_256,
    k0_pay49 (F := Ideal) (k0_pay33 (tC m c t 256 inb_S512x128_S256x128_256_0))
      (k0_pay34 (tS m c t 256 inb_S512x128_S256x128_256_0))
      (tQ m c t 256 256 inb_S512x512_S256x128_256_256) k0_pay48⟩,
  ⟨Rect.unit ![256, 640] ![256, 128] inb_S512x2560_S256x128_256_640,
    k0_pay47 (F := Ideal) (k0_pay33 (tC m c t 256 inb_S512x128_S256x128_256_0))
      (k0_pay34 (tS m c t 256 inb_S512x128_S256x128_256_0))
      (tK m c t 256 128 inb_S512x512_S256x128_256_128)⟩,
  ⟨Rect.unit ![256, 128] ![256, 128] inb_S512x2560_S256x128_256_128,
    k0_pay46 (F := Ideal) (k0_pay33 (tC m c t 256 inb_S512x128_S256x128_256_0))
      (k0_pay34 (tS m c t 256 inb_S512x128_S256x128_256_0))
      (k0_pay42 (tQ m c t 256 128 inb_S512x512_S256x128_256_128))
      k0_pay43
      (k0_pay44 (tQ m c t 256 128 inb_S512x512_S256x128_256_128))
      (k0_pay45 (tQ m c t 256 128 inb_S512x512_S256x128_256_128))⟩,
  ⟨Rect.unit ![256, 512] ![256, 128] inb_S512x2560_S256x128_256_512,
    k0_pay41 (F := Ideal) (k0_pay33 (tC m c t 256 inb_S512x128_S256x128_256_0))
      (k0_pay34 (tS m c t 256 inb_S512x128_S256x128_256_0))
      (tK m c t 256 0 inb_S512x512_S256x128_256_0) (64#32) k0_pay37
      k0_pay38 k0_pay39 k0_pay40⟩,
  ⟨Rect.unit ![256, 0] ![256, 128] inb_S512x2560_S256x128_256_0,
    k0_pay36 (F := Ideal) (k0_pay33 (tC m c t 256 inb_S512x128_S256x128_256_0))
      (k0_pay34 (tS m c t 256 inb_S512x128_S256x128_256_0))
      (k0_pay35 (tQ m c t 256 0 inb_S512x512_S256x128_256_0))
      (iota Kind.tc S256x128 32 [1] iota_S256x128_d1_w32)⟩,
  ⟨Rect.unit ![0, 1536] ![256, 1024] inb_S512x2560_S256x1024_0_1536,
    k0_pay32 (F := Ideal) (tR m c t 0 inb_S512x1024_S256x1024_0_0)⟩,
  ⟨Rect.unit ![0, 1024] ![256, 512] inb_S512x2560_S256x512_0_1024,
    k0_pay31 (F := Ideal) (tV m c t 0 inb_S512x512_S256x512_0_0)⟩,
  ⟨Rect.unit ![0, 896] ![256, 128] inb_S512x2560_S256x128_0_896,
    k0_pay30 (F := Ideal) (k0_pay7 (tC m c t 0 inb_S512x128_S256x128_0_0))
      (k0_pay8 (tS m c t 0 inb_S512x128_S256x128_0_0))
      (tK m c t 0 384 inb_S512x512_S256x128_0_384) (64#32) k0_pay27
      k0_pay28 k0_pay29 0#1⟩,
  ⟨Rect.unit ![0, 384] ![256, 128] inb_S512x2560_S256x128_0_384,
    k0_pay26 (F := Ideal) (k0_pay7 (tC m c t 0 inb_S512x128_S256x128_0_0))
      (k0_pay8 (tS m c t 0 inb_S512x128_S256x128_0_0))
      (k0_pay25 (tQ m c t 0 384 inb_S512x512_S256x128_0_384))⟩,
  ⟨Rect.unit ![0, 768] ![256, 128] inb_S512x2560_S256x128_0_768,
    k0_pay24 (F := Ideal) (k0_pay7 (tC m c t 0 inb_S512x128_S256x128_0_0))
      (k0_pay8 (tS m c t 0 inb_S512x128_S256x128_0_0))
      (tK m c t 0 256 inb_S512x512_S256x128_0_256)⟩,
  ⟨Rect.unit ![0, 256] ![256, 128] inb_S512x2560_S256x128_0_256,
    k0_pay23 (F := Ideal) (k0_pay7 (tC m c t 0 inb_S512x128_S256x128_0_0))
      (k0_pay8 (tS m c t 0 inb_S512x128_S256x128_0_0))
      (k0_pay21 (tQ m c t 0 256 inb_S512x512_S256x128_0_256))
      (k0_pay22 (tQ m c t 0 256 inb_S512x512_S256x128_0_256))⟩,
  ⟨Rect.unit ![0, 640] ![256, 128] inb_S512x2560_S256x128_0_640,
    k0_pay20 (F := Ideal) (k0_pay7 (tC m c t 0 inb_S512x128_S256x128_0_0))
      (k0_pay8 (tS m c t 0 inb_S512x128_S256x128_0_0))
      (tK m c t 0 128 inb_S512x512_S256x128_0_128) (64#32) k0_pay16
      k0_pay17 k0_pay18 k0_pay19⟩,
  ⟨Rect.unit ![0, 128] ![256, 128] inb_S512x2560_S256x128_0_128,
    k0_pay15 (F := Ideal) (k0_pay7 (tC m c t 0 inb_S512x128_S256x128_0_0))
      (k0_pay8 (tS m c t 0 inb_S512x128_S256x128_0_0))
      (k0_pay14 (tQ m c t 0 128 inb_S512x512_S256x128_0_128))
      (iota Kind.tc S256x128 32 [1] iota_S256x128_d1_w32) 64#32⟩,
  ⟨Rect.unit ![0, 512] ![256, 128] inb_S512x2560_S256x128_0_512,
    k0_pay13 (F := Ideal) (k0_pay7 (tC m c t 0 inb_S512x128_S256x128_0_0))
      (k0_pay8 (tS m c t 0 inb_S512x128_S256x128_0_0))
      (tK m c t 0 0 inb_S512x512_S256x128_0_0)⟩,
  ⟨Rect.unit ![0, 0] ![256, 128] inb_S512x2560_S256x128_0_0,
    k0_pay12 (F := Ideal)
      (k0_pay10 (tC m c t 0 inb_S512x128_S256x128_0_0)
        (tQ m c t 0 0 inb_S512x512_S256x128_0_0))
      (k0_pay11 (tS m c t 0 inb_S512x128_S256x128_0_0)
        (tQ m c t 0 0 inb_S512x512_S256x128_0_0))⟩]

/-- The same block in closed form. -/
def dpT (c : Dev nD) (t : Fin cfg0.N) : FVec Ideal S512x2560 .bf16 := fun y =>
  dprojA (aQ m c) (aK m c) (aV m c) (aR m c) (aP m c) (row t (y 0)) (y 1)

theorem ld_at {n k a b : ℕ} {α : Type} (B : Shape.Idx ⟨2, ![n, k]⟩ → α) (o p : ℕ)
    (h : ∀ x, (![o, p] : Fin 2 → ℕ) x + (⟨2, ![a, b]⟩ : Shape).size x ≤ (⟨2, ![n, k]⟩ : Shape).size x) (r : Fin a) (l : Fin b)
    (ho : o + r.val < n) (hp : p + l.val < k) :
    B ((Rect.unit (s := ⟨2, ![n, k]⟩) ![o, p] ![a, b] h).emb (ix2 r l)) = B (ix2 ⟨o + r.val, ho⟩ ⟨p + l.val, hp⟩) := by
  congr 1
  blk_ext []

section Blocks

variable {m} {c : Dev nD} {t : Fin cfg0.N} {o p : ℕ} {r : Fin 256} {y : S512x2560.Idx} (h0 : (y 0).val = o + r.val)
include h0

theorem dpT_row (hr : o + r.val < 512) : row t (y 0) = row t ⟨o + r.val, hr⟩ := Fin.ext (by simp [h0])

theorem tC_at {hC} (ho : o + 256 ≤ 512) (l : Fin 128) : rw128 (tC m c t o hC) r l = Ideal.cos (ang (aP m c (ix1 (row t (y 0)))) (lane l)) := by
  rw [dpT_row h0 (by omega)]
  refine (ld_at (iblk m c 4 t) o 0 hC r l (by omega) (by omega)).trans ((blkC m c t _ _).trans ?_)
  rw [show lane (⟨0 + l.val, by omega⟩ : Fin 128) = lane l from Fin.ext (by simp [lane])]

theorem tS_at {hS} (ho : o + 256 ≤ 512) (l : Fin 128) : rw128 (tS m c t o hS) r l
    = if l.val % 64 < 32 then -Ideal.sin (ang (aP m c (ix1 (row t (y 0)))) (lane l)) else Ideal.sin (ang (aP m c (ix1 (row t (y 0)))) (lane l)) := by
  rw [dpT_row h0 (by omega)]
  refine (ld_at (iblk m c 5 t) o 0 hS r l (by omega) (by omega)).trans ((blkS m c t _ _).trans ?_)
  rw [show lane (⟨0 + l.val, by omega⟩ : Fin 128) = lane l from Fin.ext (by simp [lane])]
  simp only [Nat.zero_add]

theorem kturn {hK hC hS} {l : Fin 128} (ho : o + 256 ≤ 512) (hp : p + 128 ≤ 512) (h64 : p % 64 = 0) (h1 : (y 1).val = 512 + p + l.val) :
    rot (rw128 (tK m c t o p hK) r) (rw128 (tC m c t o hC) r) (rw128 (tS m c t o hS) r) l = dpT m c t y := by
  refine (rot_turn (p := aP m c (ix1 (row t (y 0)))) (d := qr (aK m c) (row t (y 0))) p hp h64
    (fun l => ?_) (tC_at h0 ho) (tS_at h0 ho) l).trans ?_
  · rw [dpT_row h0 (by omega)]
    exact (ld_at (iblk m c 1 t) o p hK r l (by omega) (by omega)).trans (blkK m c t _ _)
  · unfold dpT dprojA dproj
    rw [dif_neg (by omega), dif_pos (by omega)]
    exact congrArg _ (Fin.ext (by simp; omega))

theorem qturn {hQ hC hS} {l : Fin 128} (ho : o + 256 ≤ 512) (hp : p + 128 ≤ 512) (h64 : p % 64 = 0) (h1 : (y 1).val = p + l.val) :
    rot (rw8 (tQ m c t o p hQ) r) (rw128 (tC m c t o hC) r) (rw128 (tS m c t o hS) r) l = dpT m c t y := by
  refine (rot_turn (p := aP m c (ix1 (row t (y 0)))) (d := fun l => qr (aQ m c) (row t (y 0)) l * Ideal.ofBits .f32 0x3E000000#32) p hp h64
    (fun l => ?_) (tC_at h0 ho) (tS_at h0 ho) l).trans ?_
  · rw [dpT_row h0 (by omega)]
    exact congrArg (· * _) ((ld_at (iblk m c 0 t) o p hQ r l (by omega) (by omega)).trans (blkQ m c t _ _))
  · unfold dpT dprojA dproj
    rw [dif_pos (by omega)]
    exact congrArg _ (Fin.ext h1.symm)

theorem vpiece {hV} {l : Fin 512} (ho : o + 256 ≤ 512) (h1 : (y 1).val = 1024 + l.val) : tV m c t o hV (ix2 r l) = dpT m c t y := by
  refine (ld_at (iblk m c 2 t) o 0 hV r l (by omega) (by omega)).trans ((blkV m c t _ _).trans ?_)
  unfold dpT dprojA dproj
  rw [dif_neg (by omega), dif_neg (by omega), dif_pos (by omega), dpT_row h0 (by omega)]
  exact congrArg (qr (aV m c) _) (Fin.ext (by simp; omega))

theorem rpiece {hR} {l : Fin 1024} (ho : o + 256 ≤ 512) (h1 : (y 1).val = 1536 + l.val) : tR m c t o hR (ix2 r l) = dpT m c t y := by
  refine (ld_at (iblk m c 3 t) o 0 hR r l (by omega) (by omega)).trans ((blkR m c t _ _).trans ?_)
  unfold dpT dprojA dproj
  rw [dif_neg (by omega), dif_neg (by omega), dif_neg (by omega), dpT_row h0 (by omega)]
  exact congrArg (xr (aR m c) _) (Fin.ext (by simp; omega))

end Blocks

theorem k60_at {T : FVec Ideal S256x1024 .bf16} (r : Fin 256) (l : Fin 1024) : k0_pay60 T (ix2 r l) = T (ix2 r l) := by pointwise [k0_pay60]
theorem k32_at {T : FVec Ideal S256x1024 .bf16} (r : Fin 256) (l : Fin 1024) : k0_pay32 T (ix2 r l) = T (ix2 r l) := by pointwise [k0_pay32]
theorem k59_at {T : FVec Ideal S256x512 .f32} (r : Fin 256) (l : Fin 512) : k0_pay59 (F := Ideal) T (ix2 r l) = T (ix2 r l) := by pointwise [k0_pay59]
theorem k31_at {T : FVec Ideal S256x512 .f32} (r : Fin 256) (l : Fin 512) : k0_pay31 (F := Ideal) T (ix2 r l) = T (ix2 r l) := by pointwise [k0_pay31]

theorem dcanon (c : Dev nD) (t : Fin cfg0.N) (y : S512x2560.Idx) : View.canon (dpieces m c t) y = dpT m c t y := by
  unfold dpieces
  canon_tiles x h using (View.cover_of_tiledBy (dpieces m c t) ![256, 128] (by sl_kernel_rfl) y)
  all_goals idx_vars x
  · exact (k60_at _ _).trans (rpiece (by omega) (by omega) (by omega))
  · exact (k59_at _ _).trans (vpiece (by omega) (by omega) (by omega))
  · exact (k58_at _ _ _ _ _).trans (kturn (by omega) (by omega) (by omega) (by omega) (by omega))
  · exact (q57_at _ _ _ _ _).trans (qturn (by omega) (by omega) (by omega) (by omega) (by omega))
  · exact (k53_at _ _ _ _ _).trans (kturn (by omega) (by omega) (by omega) (by omega) (by omega))
  · exact (q49_at _ _ _ _ _).trans (qturn (by omega) (by omega) (by omega) (by omega) (by omega))
  · exact (k47_at _ _ _ _ _).trans (kturn (by omega) (by omega) (by omega) (by omega) (by omega))
  · exact (q46_at _ _ _ _ _).trans (qturn (by omega) (by omega) (by omega) (by omega) (by omega))
  · exact (k41_at _ _ _ _ _).trans (kturn (by omega) (by omega) (by omega) (by omega) (by omega))
  · exact (q36_at _ _ _ _ _).trans (qturn (by omega) (by omega) (by omega) (by omega) (by omega))
  · exact (k32_at _ _).trans (rpiece (by omega) (by omega) (by omega))
  · exact (k31_at _ _).trans (vpiece (by omega) (by omega) (by omega))
  · exact (k30_at _ _ _ _ _).trans (kturn (by omega) (by omega) (by omega) (by omega) (by omega))
  · exact (q26_at _ _ _ _ _).trans (qturn (by omega) (by omega) (by omega) (by omega) (by omega))
  · exact (k24_at _ _ _ _ _).trans (kturn (by omega) (by omega) (by omega) (by omega) (by omega))
  · exact (q23_at _ _ _ _ _).trans (qturn (by omega) (by omega) (by omega) (by omega) (by omega))
  · exact (k20_at _ _ _ _ _).trans (kturn (by omega) (by omega) (by omega) (by omega) (by omega))
  · exact (q15_at _ _ _ _ _).trans (qturn (by omega) (by omega) (by omega) (by omega) (by omega))
  · exact (k13_at _ _ _ _ _).trans (kturn (by omega) (by omega) (by omega) (by omega) (by omega))
  · exact (q12_at _ _ _ _ _).trans (qturn (by omega) (by omega) (by omega) (by omega) (by omega))

theorem dread (c : Dev nD) (t : Fin cfg0.N) (R : LoadRect S512x2560) :
    (View.whole cc0_scratch0).readCov (dpieces m c t) R = fun j => dpT m c t (R.idx j) := by
  rw [View.readCov_eq_canon']
  exact funext fun j => dcanon m c t _

/-! The weight as it stands in the kernel's memory after the four copies. -/

theorem numel_w : S1024x640.numel = S1x1024x640.numel := by decide

/-- Column quarter `q` of the weight, as copied. -/
abbrev wcopy (c : Dev nD) (q : ℕ) (h : ∀ a, (![q, 0, 0] : Fin 3 → ℕ) a + S1x1024x640.size a ≤ S4x1024x640.size a) : FVec Ideal S1024x640 .bf16 :=
  ReadAs.same.apply (View.read (Elt Ideal) (((View.whole main_v40).slice (Rect.unit ![q, 0, 0] ![1, 1024, 640] h)).reshape S1024x640 numel_w) (V m c main_v40))

theorem wcopy_at (c : Dev nD) (q : ℕ) {h} (hq : q < 4) (l : Fin 1024) (k : Fin 640) :
    wcopy m c q h (ix2 l k) = aW m c (ix2 l ⟨q * 640 + k.val, by omega⟩) := by
  refine Eq.trans ?_ ((congrFun (V_w m c) _).trans (quarters_at (aW m c) ⟨q, hq⟩ l k))
  unfold wcopy
  refine congrArg (V m c main_v40) ?_
  change (Rect.unit (s := S4x1024x640) ![q, 0, 0] ![1, 1024, 640] h).emb (Shape.reshapeEquiv numel_w (ix2 l k)) = _
  rw [show Shape.reshapeEquiv numel_w (ix2 l k) = Fin.cons ⟨0, Nat.one_pos⟩ (ix2 l k) from
    Shape.reshapeEquiv_cons_one (n := 2) (d := ![1024, 640]) numel_w (ix2 l k)]
  funext a
  fin_cases a <;> exact Fin.ext ((Rect.idx_unit_val (s := S4x1024x640) ![q, 0, 0] ![1, 1024, 640] h _ _).trans (by first | rfl | exact Nat.zero_add _))

/-- The whole weight. -/
abbrev wT (c : Dev nD) : FVec Ideal S1024x2560 .bf16 := aW m c

/-- A quarter where it is stored. -/
abbrev wpiece (c : Dev nD) (q o : ℕ) (h : ∀ a, (![q, 0, 0] : Fin 3 → ℕ) a + S1x1024x640.size a ≤ S4x1024x640.size a)
    (h' : ∀ a, (![0, o] : Fin 2 → ℕ) a + S1024x640.size a ≤ S1024x2560.size a) : View.Piece (Elt Ideal) S1024x2560 .bf16 :=
  ⟨Rect.unit ![0, o] ![1024, 640] h', wcopy m c q h⟩

theorem wpiece_of (c : Dev nD) (q o : ℕ) {h h'} (hq : q < 4) (ho : o = q * 640) (x : S1024x640.Idx) :
    (wpiece m c q o h h').2 x = wT m c ((wpiece m c q o h h').1.emb x) := by
  subst ho
  idx_vars x
  refine (wcopy_at m c q hq _ _).trans (congrArg (aW m c) ?_)
  blk_ext []

abbrev wpieces (c : Dev nD) : List (View.Piece (Elt Ideal) S1024x2560 .bf16) :=
  [wpiece m c 3 1920 inb_S4x1024x640_S1x1024x640_3_0_0 inb_S1024x2560_S1024x640_0_1920,
    wpiece m c 2 1280 inb_S4x1024x640_S1x1024x640_2_0_0 inb_S1024x2560_S1024x640_0_1280,
    wpiece m c 1 640 inb_S4x1024x640_S1x1024x640_1_0_0 inb_S1024x2560_S1024x640_0_640,
    ⟨Rect.unit ![0, 2432] ![16, 128] inb_S1024x2560_S16x128_0_2432, k0_pay4 (F := Ideal)⟩,
    wpiece m c 0 0 inb_S4x1024x640_S1x1024x640_0_0_0 inb_S1024x2560_S1024x640_0_0]

theorem wcanon (c : Dev nD) : View.canon (wpieces m c) = aW m c := by
  funext y
  have h1 : (y 1).val < 2560 := (y 1).isLt
  by_cases h : (y 1).val < 640
  · rw [View.canon_cons_of_not_mem, View.canon_cons_of_not_mem, View.canon_cons_of_not_mem, View.canon_cons_of_not_mem]
    · refine View.canon_append_of_piecesOf (wT m c) [] [wpiece m c 0 0 inb_S4x1024x640_S1x1024x640_0_0_0 inb_S1024x2560_S1024x640_0_0]
        (by exact ⟨wpiece_of m c 0 0 (by omega) rfl, trivial⟩) y ?_
      simp [Rect.mem_set_unit, Fin.forall_fin_two]; omega
    all_goals simp [Rect.mem_set_unit, Fin.forall_fin_two]; omega
  · refine View.canon_append_of_piecesOf (wT m c) ((wpieces m c).drop 3) ((wpieces m c).take 3)
      (by exact ⟨wpiece_of m c 3 1920 (by omega) rfl, wpiece_of m c 2 1280 (by omega) rfl, wpiece_of m c 1 640 (by omega) rfl, trivial⟩) y ?_
    simp [Rect.mem_set_unit, Fin.forall_fin_two]; omega

theorem wread (c : Dev nD) : (View.whole cc0_scratch1).readCov (wpieces m c) (Rect.unit ![0, 0] ![1024, 2560] inb_S1024x2560_S1024x2560_0_0).toLoadRect = aW m c := by
  rw [View.readCov_eq_canon', wcanon]
  funext j
  refine congrArg (aW m c) ?_
  funext a
  fin_cases a <;> exact Fin.ext (by rw [Rect.idx_unit_val]; simp)

/-- After every point the weight stands there whole. -/
theorem weight (c : Dev nD) (t : Fin cfg0.N) : (outsAt0 m c t.val t.isLt).2.2.2.2 = aW m c := by
  obtain ⟨n, hn⟩ := t
  have hN : cfg0.N = 8 := N_0
  induction n with
  | zero =>
    rw [outsAt0_A m c ⟨0, hn⟩ rfl rfl (by simp)]
    frame_out
    exact wcanon m c
  | succ n ih =>
    have e : ¬(n + 1) % 8 = 0 := by omega
    by_cases e7 : (n + 1) % 8 = 7
    · rw [outsAt0_C m c ⟨n + 1, hn⟩ e e e7]
      dsimp only
      unfold sout0_C_1
      exact ih (by omega)
    · rw [outsAt0_B m c ⟨n + 1, hn⟩ e e e7]
      dsimp only
      unfold sout0_B_1
      exact ih (by omega)

end Cert.InProjIdeal.Value

end
-- ==== Proof.InProjRefValue.lean ====
module

public import proofs.«01_k».proof.Proof.Gen.InProjRefIdeal.Run
public import proofs.«01_k».proof.Proof.Gen.InProjRefIdeal.Read
public import proofs.«01_k».proof.Proof.InProjSpec
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Cert.Reals

/-! The derivative of the plain forward lines of the input projection, read row by row. -/

namespace Cert.InProjRefIdeal.Value

open Cert.InProjRefIdeal Cert.InProjRefIdeal.Gen Cert.InProjRefIdeal.Read Cert.MlpSpec Cert.InProjSpec

variable (X E : FVec Ideal S4096x1024 .f32) (G : FVec Ideal S1x1024 .f32) (W : FVec Ideal S1024x2560 .f32) (Q K V : FVec Ideal S4096x512 .f32)
  (R : FVec Ideal S4096x1024 .f32) (P : IVec S4096 32)

theorem v6_at (i : Fin 4096) (z : Fin 1) : val_main_v6 (F := Ideal) X (ix2 i z)
    = Ideal.div (∑ l, xr X i l * xr X i l) width + eps := by
  pointwise [val_main_v6, val_main_v5, val_main_v4, val_main_v3, val_main_v2, val_main_v1, val_main_v0, val_main_cst, val_main_cst_0, val_main_cst_1]

theorem v7_at (i : Fin 4096) (z : Fin 1) : val_main_v7 (F := Ideal) X (ix2 i z) = rr width eps (xr X i) := by
  pointwise [val_main_v7, v6_at, rr]

theorem v12_at (i : Fin 4096) (k : Fin 1024) : val_main_v12 (F := Ideal) X (ix2 i k) = hat width eps (xr X i) k := by
  pointwise [val_main_v12, val_main_v11, v7_at, hat]

theorem v14_at (i : Fin 4096) (k : Fin 1024) : val_main_v14 (F := Ideal) X G (ix2 i k) = h2 (xr X i) (gr G) k := by
  pointwise [val_main_v14, val_main_v13, v12_at, h2]

theorem v31_at (i : Fin 4096) (l : Fin 32) : val_main_v31 (F := Ideal) P (ix2 i l) = ang (P (ix1 i)) l := by
  pointwise [val_main_v31, val_main_v30, val_main_v29, val_main_v28, val_main_v27, val_main_v26, val_main_v25, val_main_v24, val_main_cst_5, val_main_v23,
    val_main_v22, val_main_v21, val_main_v20, val_main_v19, val_main_v18, val_main_cst_3, val_main_cst_4, ang]

theorem v66_at (i : Fin 4096) (l : Fin 32) : val_main_v66 (F := Ideal) P (ix2 i l) = ang (P (ix1 i)) l := by
  pointwise [val_main_v66, val_main_v65, val_main_v64, val_main_v63, val_main_v62, val_main_v61, val_main_v60, val_main_v59, val_main_cst_9, val_main_v58,
    val_main_v57, val_main_v56, val_main_v55, val_main_v54, val_main_v53, val_main_cst_7, val_main_cst_8, ang]

theorem v113_at (i : Fin 4096) (h : Fin 8) (l : Fin 64) : val_main_v113 (F := Ideal) Q (ix3 i h l)
    = qr Q i ⟨h.val * 64 + l.val, by omega⟩ * Ideal.ofBits .f32 0x3E000000#32 := by
  pointwise [val_main_v113, val_main_v112, val_main_cst_15, val_main_v92]

/-- One row's two halves of a head put side by side are the transposed rotation. -/
theorem turn_at (p : BitVec 32) (d : Fin 512 → EReal) (h : Fin 8) (l : Fin 64) (a : 32 ≤ l.val ∧ l.val - 32 < 32 → EReal) (b : l.val < 32 → EReal)
    (ha : ∀ h1, a h1 = d ⟨h.val * 64 + l.val, by omega⟩ * Ideal.cos (ang p ⟨l.val - 32, h1.2⟩)
      + -d ⟨h.val * 64 + (l.val - 32), by omega⟩ * Ideal.sin (ang p ⟨l.val - 32, h1.2⟩))
    (hb : ∀ h1, b h1 = d ⟨h.val * 64 + (32 + l.val), by omega⟩ * Ideal.sin (ang p ⟨l.val, h1⟩)
      + d ⟨h.val * 64 + l.val, by omega⟩ * Ideal.cos (ang p ⟨l.val, h1⟩)) :
    (if h1 : 32 ≤ l.val ∧ l.val - 32 < 32 then a h1 else 0) + (if h1 : l.val < 32 then b h1 else 0) = turn p d ⟨h.val * 64 + l.val, by omega⟩ := by
  have e : (h.val * 64 + l.val) % 64 = l.val := by omega
  by_cases h1 : l.val < 32
  · simp only [Nat.add_comm 32] at hb
    rw [dif_neg (by omega), dif_pos h1, zero_add, hb h1, turn, dif_pos (by simpa [e] using h1), add_comm]
    have f : lane (⟨h.val * 64 + l.val, by omega⟩ : Fin 512) = ⟨l.val, h1⟩ := Fin.ext (by simp [lane]; omega)
    rw [f]
    rfl
  · have f : lane (⟨h.val * 64 + l.val, by omega⟩ : Fin 512) = ⟨l.val - 32, by omega⟩ := Fin.ext (by simp [lane]; omega)
    have g : (⟨h.val * 64 + (l.val - 32), by omega⟩ : Fin 512) = ⟨h.val * 64 + l.val - 32, by omega⟩ := Fin.ext (by simp; omega)
    rw [dif_pos (by omega), dif_neg h1, add_zero, ha (by omega), turn, dif_neg (by simpa [e] using h1), f, g, EReal.neg_mul, ← sub_eq_add_neg]

theorem v123_at (i : Fin 4096) (h : Fin 8) (l : Fin 32) : val_main_v123 (F := Ideal) Q P (ix3 i h l)
    = qr Q i ⟨h.val * 64 + (32 + l.val), by omega⟩ * Ideal.ofBits .f32 0x3E000000#32 * Ideal.cos (ang (P (ix1 i)) l)
      + -(qr Q i ⟨h.val * 64 + l.val, by omega⟩ * Ideal.ofBits .f32 0x3E000000#32) * Ideal.sin (ang (P (ix1 i)) l) := by
  pointwise [val_main_v123, val_main_v122, val_main_v121, val_main_v120, val_main_v117, val_main_v116, val_main_v115, val_main_v114, v113_at, v31_at,
    val_main_v33, val_main_v35, val_main_v32, val_main_v34]

theorem v126_at (i : Fin 4096) (h : Fin 8) (l : Fin 32) : val_main_v126 (F := Ideal) Q P (ix3 i h l)
    = qr Q i ⟨h.val * 64 + (32 + l.val), by omega⟩ * Ideal.ofBits .f32 0x3E000000#32 * Ideal.sin (ang (P (ix1 i)) l)
      + qr Q i ⟨h.val * 64 + l.val, by omega⟩ * Ideal.ofBits .f32 0x3E000000#32 * Ideal.cos (ang (P (ix1 i)) l) := by
  pointwise [val_main_v126, val_main_v125, val_main_v124, val_main_v119, val_main_v118, val_main_v115, val_main_v114, v113_at, v31_at,
    val_main_v33, val_main_v35, val_main_v32, val_main_v34]

theorem v102_at (i : Fin 4096) (h : Fin 8) (l : Fin 32) : val_main_v102 (F := Ideal) K P (ix3 i h l)
    = qr K i ⟨h.val * 64 + (32 + l.val), by omega⟩ * Ideal.cos (ang (P (ix1 i)) l)
      + -qr K i ⟨h.val * 64 + l.val, by omega⟩ * Ideal.sin (ang (P (ix1 i)) l) := by
  simp only [qr]
  pointwise [val_main_v102, val_main_v101, val_main_v100, val_main_v99, val_main_v96, val_main_v95, val_main_v94, val_main_v93, val_main_v91, v66_at,
    val_main_v68, val_main_v70, val_main_v67, val_main_v69]

theorem v105_at (i : Fin 4096) (h : Fin 8) (l : Fin 32) : val_main_v105 (F := Ideal) K P (ix3 i h l)
    = qr K i ⟨h.val * 64 + (32 + l.val), by omega⟩ * Ideal.sin (ang (P (ix1 i)) l)
      + qr K i ⟨h.val * 64 + l.val, by omega⟩ * Ideal.cos (ang (P (ix1 i)) l) := by
  simp only [qr]
  pointwise [val_main_v105, val_main_v104, val_main_v103, val_main_v98, val_main_v97, val_main_v94, val_main_v93, val_main_v91, v66_at,
    val_main_v68, val_main_v70, val_main_v67, val_main_v69]

theorem v129_at (i : Fin 4096) (h : Fin 8) (l : Fin 64) : val_main_v129 (F := Ideal) Q P (ix3 i h l)
    = turn (P (ix1 i)) (fun l => qr Q i l * Ideal.ofBits .f32 0x3E000000#32) ⟨h.val * 64 + l.val, by omega⟩ := by
  pointwise [val_main_v129, val_main_v128, val_main_cst_17, val_main_v127, val_main_cst_16]
  refine turn_at _ _ h l _ _ (fun h1 => (v123_at Q P i h _).trans ?_) (fun h1 => v126_at Q P i h _)
  simp only [Nat.add_sub_cancel' h1.1]

theorem v108_at (i : Fin 4096) (h : Fin 8) (l : Fin 64) : val_main_v108 (F := Ideal) K P (ix3 i h l)
    = turn (P (ix1 i)) (qr K i) ⟨h.val * 64 + l.val, by omega⟩ := by
  pointwise [val_main_v108, val_main_v107, val_main_cst_13, val_main_v106, val_main_cst_12]
  refine turn_at _ _ h l _ _ (fun h1 => (v102_at K P i h _).trans ?_) (fun h1 => v105_at K P i h _)
  simp only [Nat.add_sub_cancel' h1.1]

theorem v132_at (i : Fin 4096) (e : Fin 2560) : val_main_v132 (F := Ideal) Q K V R P (ix2 i e) = dprojA Q K V R P i e := by
  pointwise [val_main_v132, val_main_v131, val_main_v130, val_main_v111, val_main_v110, val_main_v109, val_main_v90, val_main_v89, val_main_v88,
    val_main_cst_10, val_main_cst_11, val_main_cst_14, val_main_cst_18, v129_at, v108_at]
  simp only [dprojA, dproj, Nat.div_add_mod']
  by_cases h1 : e.val < 512
  · rw [dif_neg (by omega), dif_neg (by omega), dif_neg (by omega), dif_pos h1, dif_pos h1, zero_add, zero_add, zero_add]
  · by_cases h2 : e.val < 1024
    · rw [dif_neg (by omega), dif_neg (by omega), dif_pos (by omega), dif_neg h1, dif_neg h1, dif_pos h2, zero_add, zero_add, add_zero]
    · by_cases h3 : e.val < 1536
      · rw [dif_neg (by omega), dif_pos (by omega), dif_neg (by omega), dif_neg h1, dif_neg h1, dif_neg h2, dif_pos h3, zero_add, add_zero, add_zero]
      · rw [dif_pos (by omega), dif_neg (by omega), dif_neg (by omega), dif_neg h1, dif_neg h1, dif_neg h2, dif_neg h3, add_zero, add_zero, add_zero]

theorem v135_at (i : Fin 4096) (l : Fin 1024) : val_main_v135 (F := Ideal) W Q K V R P (ix2 i l) = dhA W Q K V R P i l := by
  pointwise [val_main_v135, v132_at, dh]

theorem out_small : val_main_v158 (F := Ideal) X W Q K V R P = SMALL X W Q K V R P := by
  funext y; idx_vars y
  pointwise [val_main_v158, val_main_call0_v0, val_main_c, val_main_v138, val_main_v137, val_main_cst_19, val_main_v136, v12_at, v135_at, SMALL, dgA]
  by_cases h : y0.val < 1
  · rw [dif_pos h, if_pos (by omega)]
    exact Finset.sum_congr rfl fun _ _ => mul_comm _ _
  · rw [dif_neg h, if_neg (by omega)]
    show (((0#32).toInt : ℝ) : EReal) = 0
    simp

theorem out_gw : val_main_v157 (F := Ideal) X G Q K V R P = GW X G Q K V R P := by
  funext y; idx_vars y
  pointwise [val_main_v157, val_main_v156, val_main_v134, val_main_v133, v14_at, v132_at, GW]
  exact Finset.sum_congr rfl fun _ _ => mul_comm _ _

variable {X W G Q K V R} (hX : ∀ i, Re (X i)) (hG : ∀ i, Re (G i)) (hW : ∀ i, Re (W i)) (hQ : ∀ i, Re (Q i)) (hK : ∀ i, Re (K i)) (hV : ∀ i, Re (V i))
  (hR : ∀ i, Re (R i))
include hX hG hW hQ hK hV hR

theorem v151_at (i : Fin 4096) (l : Fin 1024) : val_main_v151 (F := Ideal) X G W Q K V R P (ix2 i l)
    = gradMean width eps (xr X i) (fun k => dhA W Q K V R P i k * gr G k) := by
  pointwise [val_main_v151, val_main_v150, val_main_v149, val_main_v148, val_main_v147, val_main_v143, val_main_v142, val_main_v141, val_main_v140, val_main_v139,
    val_main_v10, val_main_v9, val_main_v8, val_main_cst_2, val_main_cst_20, val_main_cst_21, val_main_cst_22, v6_at, v7_at, v135_at,
    gradMean, Fin.sum_univ_one]

theorem out_dx : val_main_v155 (F := Ideal) X G W Q K V R E P = DX X E G W Q K V R P := by
  funext y; idx_vars y
  change _ = xr E y0 y1 + back width eps (xr X y0) (fun l => dhA W Q K V R P y0 l * gr G l) y1
  rw [← back_eq width_pos bits_eps (fun _ => hX _)
    (fun k => (re_dh _ (fun _ _ => hW _) (fun _ => hQ _) (fun _ => hK _) (fun _ => hV _) (fun _ => hR _) k).mul (hG _))]
  pointwise [val_main_v155, val_main_v154, val_main_v153, val_main_v152, val_main_v146, val_main_v145, val_main_v144, val_main_v140, val_main_v139,
    v7_at, v135_at, v151_at P hX hG hW hQ hK hV hR]
  simp only [add_assoc]

omit hX hG hW hQ hK hV hR

/-- The run, with the three results as the specification's arrays, where the arguments are real. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ X G W Q K V R E P, X = m ((c.tc : Thread nD τ).loc main_arg0) → G = m ((c.tc : Thread nD τ).loc main_arg1)
        → W = m ((c.tc : Thread nD τ).loc main_arg2) → Q = m ((c.tc : Thread nD τ).loc main_arg3) → K = m ((c.tc : Thread nD τ).loc main_arg4)
        → V = m ((c.tc : Thread nD τ).loc main_arg5) → R = m ((c.tc : Thread nD τ).loc main_arg6) → E = m ((c.tc : Thread nD τ).loc main_arg7)
        → P = m ((c.tc : Thread nD τ).loc main_arg8)
        → (∀ i, Re (X i)) → (∀ i, Re (G i)) → (∀ i, Re (W i)) → (∀ i, Re (Q i)) → (∀ i, Re (K i)) → (∀ i, Re (V i)) → (∀ i, Re (R i))
        → r.2.mem ((c.tc : Thread nD τ).loc main_v155) = DX X E G W Q K V R P
        ∧ r.2.mem ((c.tc : Thread nD τ).loc main_v157) = GW X G Q K V R P
        ∧ r.2.mem ((c.tc : Thread nD τ).loc main_v158) = SMALL X W Q K V R P)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨?_, (h c).2.2.2⟩) (run m ρ)
  obtain ⟨k0, k1, k2, -⟩ := h c
  intro X G W Q K V R E P eX eG eW eQ eK eV eR eE eP hX hG hW hQ hK hV hR
  subst eX eG eW eQ eK eV eR eE eP
  exact ⟨(k0.trans (val_main_v155_eq _)).trans (out_dx _ _ hX hG hW hQ hK hV hR), (k1.trans (val_main_v157_eq _)).trans (out_gw _ _ _ _ _ _ _),
    (k2.trans (val_main_v158_eq _)).trans (out_small _ _ _ _ _ _ _)⟩

end Cert.InProjRefIdeal.Value

end
-- ==== Proof.InProjValue.lean ====
module

public import proofs.«01_k».proof.Proof.InProjBlocks
public import proofs.«01_k».proof.Proof.InProjRefValue
public import proofs.«01_k».proof.Proof.Gen.Pre_in_proj_finite
public import proofs.«01_k».proof.Defs
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

open Idealize.ShloMosaic Idealize.ShloMosaic.TcCoe Idealize.SL Idealize.SL.RA Cert.Reals Cert.MlpSpec Cert.InProjSpec

/-! The four arrays of the input projection's gradient after the call. -/

namespace Cert.InProjIdeal.Value

open Cert.InProjIdeal Cert.InProjIdeal.Gen

variable (m : (ℓ : Loc nD τ sig) → Buf (Elt Ideal) ℓ)

theorem weight_at (c : Dev nD) (n : ℕ) (h : n < cfg0.N) : (outsAt0 m c n h).2.2.2.2 = aW m c := weight m c ⟨n, h⟩

/-- 256 rows of the block of projection cotangents. -/
abbrev tD (c : Dev nD) (t : Fin cfg0.N) (R : Rect S512x2560) : R.toLoadRect.shape.Idx → EReal := fun j => dpT m c t (R.toLoadRect.idx j)

theorem tD_at {n k : ℕ} (c : Dev nD) (t : Fin cfg0.N) (o p : ℕ)
    (h : ∀ a, (![o, p] : Fin 2 → ℕ) a + (⟨2, ![n, k]⟩ : Shape).size a ≤ S512x2560.size a) (r : Fin n) (l : Fin k) (ho : o + r.val < 512) (hp : p + l.val < 2560) :
    tD m c t (Rect.unit (s := S512x2560) ![o, p] ![n, k] h) (ix2 r l) = dprojA (aQ m c) (aK m c) (aV m c) (aR m c) (aP m c) (row t ⟨o + r.val, ho⟩) ⟨p + l.val, hp⟩ :=
  ld_at (dpT m c t) o p h r l ho hp

section Rows

variable (c : Dev nD) (t : Fin cfg0.N) (o : ℕ) (ho : o + 256 ≤ 512) (hD : ∀ a, (![o, 0] : Fin 2 → ℕ) a + S256x2560.size a ≤ S512x2560.size a)
  (r : Fin 256)

theorem dhT_eq (l : Fin 1024) : dhT (tD m c t (Rect.unit (s := S512x2560) ![o, 0] ![256, 2560] hD)) (aW m c) r l
    = dhA (aW m c) (aQ m c) (aK m c) (aV m c) (aR m c) (aP m c) (row t ⟨o + r.val, by omega⟩) l := by
  unfold dhT dhA dh
  exact Finset.sum_congr rfl fun e _ => congrArg (· * _) ((tD_at m c t o 0 hD r e (by omega) (by omega)).trans (congrArg _ (Fin.ext (Nat.zero_add _))))

theorem xT_eq {hX} : xT (View.ld (iblk m c 6 t) (Rect.unit (s := S512x1024) ![o, 0] ![256, 1024] hX)) r = xr (aX m c) (row t ⟨o + r.val, by omega⟩) :=
  funext fun l => (ld_at (iblk m c 6 t) o 0 hX r l (by omega) (by omega)).trans ((blkX m c t _ _).trans (congrArg (xr (aX m c) _) (Fin.ext (Nat.zero_add _))))

theorem eT_eq {hX} (l : Fin 1024) : View.ld (iblk m c 9 t) (Rect.unit (s := S512x1024) ![o, 0] ![256, 1024] hX) (ix2 r l) = xr (aE m c) (row t ⟨o + r.val, by omega⟩) l :=
  (ld_at (iblk m c 9 t) o 0 hX r l (by omega) (by omega)).trans ((blkE m c t _ _).trans (congrArg (xr (aE m c) _) (Fin.ext (Nat.zero_add _))))

theorem gT_eq : gT (iblk m c 8 t) = gr (aG m c) := funext fun l => blkG m c t 0 l

end Rows

theorem emb10 (t : Fin cfg0.N) (o : ℕ) (y : S512x1024.Idx) (r : Fin 256) (l : Fin 1024) (ho : o + 256 ≤ 512) (h0 : (y 0 : ℕ) = o + r) (h1 : (y 1 : ℕ) = l) :
    ((View.whole main_v42_0).slice (win0_10.rect t)).emb y = ix2 (row t ⟨o + r.val, by omega⟩) l := by
  blk_ext [idx t]

/-- The weight carried from the point before, read back whole. -/
theorem wkept (c : Dev nD) (n : ℕ) (h : n < cfg0.N) (hw : (Memref.whole cc0_scratch1).IsWhole) :
    View.read (Elt Ideal) (View.whole cc0_scratch1) (hw.unread (outsAt0 m c n h).2.2.2.2) = aW m c :=
  (read_unread_whole cc0_scratch1 hw _).trans (weight_at m c n h)

section Rows

variable {m} {c : Dev nD} {t : Fin cfg0.N} {y : S512x1024.Idx} {r : Fin 256} {l : Fin 1024}

theorem row1 {hD hX hE} {D : FVec Ideal S256x2560 .bf16} {W : FVec Ideal S1024x2560 .bf16} (eD : D = tD m c t (Rect.unit (s := S512x2560) ![256, 0] ![256, 2560] hD))
    (eW : W = aW m c) (h0 : (y 0 : ℕ) = 256 + r) (h1 : (y 1 : ℕ) = l) :
    k0_pay70 (F := Ideal) (k0_pay62 D W) (k0_pay67 (View.ld (iblk m c 6 t) (Rect.unit (s := S512x1024) ![256, 0] ![256, 1024] hX)))
      (k0_pay68 (View.ld (iblk m c 6 t) (Rect.unit (s := S512x1024) ![256, 0] ![256, 1024] hX)))
      (View.ld (iblk m c 9 t) (Rect.unit (s := S512x1024) ![256, 0] ![256, 1024] hE)) (iblk m c 8 t) (ix2 r l)
      = DX (aX m c) (aE m c) (aG m c) (aW m c) (aQ m c) (aK m c) (aV m c) (aR m c) (aP m c) (((View.whole main_v42_0).slice (win0_10.rect t)).emb y) := by
  subst eD eW
  rw [emb10 t 256 y r l (by omega) h0 h1]
  refine (dx1_at r l).trans ?_
  rw [xT_eq m c t 256 (by omega), eT_eq m c t 256 (by omega), gT_eq]
  simp only [dhT_eq m c t 256 (by omega)]
  rfl

theorem row0 {hD hX hE} {D : FVec Ideal S256x2560 .bf16} {W : FVec Ideal S1024x2560 .bf16} (eD : D = tD m c t (Rect.unit (s := S512x2560) ![0, 0] ![256, 2560] hD))
    (eW : W = aW m c) (h0 : (y 0 : ℕ) = r) (h1 : (y 1 : ℕ) = l) :
    k0_pay66 (F := Ideal) (k0_pay61 D W) (k0_pay63 (View.ld (iblk m c 6 t) (Rect.unit (s := S512x1024) ![0, 0] ![256, 1024] hX)))
      (k0_pay64 (View.ld (iblk m c 6 t) (Rect.unit (s := S512x1024) ![0, 0] ![256, 1024] hX)))
      (View.ld (iblk m c 9 t) (Rect.unit (s := S512x1024) ![0, 0] ![256, 1024] hE)) (iblk m c 8 t) (ix2 r l)
      = DX (aX m c) (aE m c) (aG m c) (aW m c) (aQ m c) (aK m c) (aV m c) (aR m c) (aP m c) (((View.whole main_v42_0).slice (win0_10.rect t)).emb y) := by
  subst eD eW
  rw [emb10 t 0 y r l (by omega) (by omega) h1]
  refine (dx0_at r l).trans ?_
  rw [xT_eq m c t 0 (by omega), eT_eq m c t 0 (by omega), gT_eq]
  simp only [dhT_eq m c t 0 (by omega)]
  rfl

end Rows

set_option maxHeartbeats 1000000 in
theorem final10 (c : Dev nD) : (dats m 0 c).arrAt 10 (cfgs 0).N = DX (aX m c) (aE m c) (aG m c) (aW m c) (aQ m c) (aK m c) (aV m c) (aR m c) (aP m c) := by
  refine (dats m 0 c).arrAt_eq_of_covers 10 _ (by decide +kernel) fun t hf y => ?_
  blk_simp
  rw [after0_10]
  rcases em (t.val % 8 = 0) with e | e
  on_goal 1 => rw [outsAt0_A m c t e e (by omega)]
  on_goal 2 => rcases em (t.val % 8 = 7) with f | f
  on_goal 2 => rw [outsAt0_C m c t e e f]
  on_goal 3 => rw [outsAt0_B m c t e e f]
  all_goals
    frame_out
    canon_tiles x h
    all_goals idx_vars x
  · exact row1 (dread m c t _) (wread m c) (by omega) (by omega)
  · exact row0 (dread m c t _) (wread m c) (by omega) (by omega)
  · exact row1 (dread m c t _) (wkept m c _ _ _) (by omega) (by omega)
  · exact row0 (dread m c t _) (wkept m c _ _ _) (by omega) (by omega)
  · exact row1 (dread m c t _) (wkept m c _ _ _) (by omega) (by omega)
  · exact row0 (dread m c t _) (wkept m c _ _ _) (by omega) (by omega)

/-! The gain's gradient: what one block adds, and the sum over the blocks. -/

def partG (c : Dev nD) (t : Fin cfg0.N) (l : Fin 1024) : EReal := ∑ r : Fin 512,
  dhA (aW m c) (aQ m c) (aK m c) (aV m c) (aR m c) (aP m c) (row t r) l * hat width eps (xr (aX m c) (row t r)) l

theorem dg_at (c : Dev nD) (t : Fin cfg0.N) {hD hD' hX hX'} {D D' : FVec Ideal S256x2560 .bf16} {W : FVec Ideal S1024x2560 .bf16} (A : FVec Ideal S1x1024 .f32)
    (eD : D = tD m c t (Rect.unit (s := S512x2560) ![256, 0] ![256, 2560] hD)) (eD' : D' = tD m c t (Rect.unit (s := S512x2560) ![0, 0] ![256, 2560] hD'))
    (eW : W = aW m c) (z : Fin 1) (l : Fin 1024) :
    k0_pay69 (F := Ideal) (k0_pay62 D W)
      (View.ld (iblk m c 6 t) (Rect.unit (s := S512x1024) ![256, 0] ![256, 1024] hX))
      (k0_pay65 D' W
        (View.ld (iblk m c 6 t) (Rect.unit (s := S512x1024) ![0, 0] ![256, 1024] hX')) A) (ix2 z l) = A (ix2 z l) + partG m c t l := by
  subst eD eD' eW
  refine (dg1_at z l).trans ?_
  rw [dg0_at z l, add_assoc]
  refine congrArg _ ?_
  simp only [dhT_eq m c t 0 (by omega), dhT_eq m c t 256 (by omega), xT_eq m c t 0 (by omega), xT_eq m c t 256 (by omega)]
  unfold partG
  refine Eq.trans ?_ (Fin.sum_univ_add (a := 256) (b := 256) _).symm
  refine congrArg₂ _ (Finset.sum_congr rfl fun r _ => ?_) (Finset.sum_congr rfl fun r _ => rfl)
  rw [show (⟨0 + r.val, by omega⟩ : Fin 512) = Fin.castAdd 256 r from Fin.ext (by simp)]

theorem zeroG (z : Fin 1) (l : Fin 1024) : k0_pay5 (F := Ideal) (ix2 z l) = 0 := by pointwise [k0_pay5]

theorem sumG (c : Dev nD) (t : Fin cfg0.N) (ht : t.val + 1 = cfg0.N) (j : S1x1024.Idx) : (outsAt0 m c t.val t.isLt).2.2.1 j = dgA (aX m c) (aW m c) (aQ m c) (aK m c) (aV m c) (aR m c) (aP m c) (j 1) := by
  rw [Pipeline.eq_sum_fin_of_reset_step_apply_last (fun n h => (outsAt0 m c n h).2.2.1) 8 (fun _ => 0)
    (fun t j => partG m c t (j 1))
    (fun t e j => by
      rw [outsAt0_A m c t e e (by omega)]
      frame_out
      idx_vars j
      exact (dg_at m c t _ (dread m c t _) (dread m c t _) (wread m c) j0 j1).trans (congrArg (· + _) (zeroG j0 j1)))
    (fun t e j => by
      rcases em (t.val % 8 = 7) with f | f
      on_goal 1 => rw [outsAt0_C m c t e e f]
      on_goal 2 => rw [outsAt0_B m c t e e f]
      all_goals
        frame_out
        idx_vars j
        exact dg_at m c t _ (dread m c t _) (dread m c t _) (wkept m c _ _ _) j0 j1)
    (le_of_eq N_0) t ht j]
  rw [zero_add]
  exact Fin.sum_mul_add_congr (L := 4096) fun t r hl => rfl

theorem k3_at (A : FVec Ideal S1x1024 .f32) (z : Fin 1) (l : Fin 1024) : k0_pay3 (F := Ideal) A (ix2 z l) = A (ix2 z l) := by pointwise [k0_pay3]
theorem k2_at (z : Fin 16) (l : Fin 1024) : k0_pay2 (F := Ideal) (ix2 z l) = 0 := by pointwise [k0_pay2]

theorem final13 (c : Dev nD) : (dats m 0 c).arrAt 13 (cfgs 0).N = SMALL (aX m c) (aW m c) (aQ m c) (aK m c) (aV m c) (aR m c) (aP m c) := by
  refine (dats m 0 c).arrAt_eq_of_after_last 13 t0_7 (by decide +kernel) _ fun j => ?_
  blk_simp
  rw [after0_13]
  have s : ∀ i : S1x1024.Idx, (outsAt0 m c t0_7.val t0_7.isLt).2.2.1 i = _ := sumG m c t0_7 rfl
  rw [outsAt0_C m c t0_7 (by decide) (by decide) (by decide)] at s ⊢
  revert s
  frame_out
  intro s
  unfold SMALL
  by_cases h : (j 0).val = 0
  · rw [if_pos h]
    rw [show j = (Rect.unit (s := S16x1024) ![0, 0] ![1, 1024] inb_S16x1024_S1x1024_0_0).emb (ix2 0 (j 1)) from by blk_ext []]
    refine (View.canon_cons_emb _ _ _ _).trans ?_
    exact (k3_at _ _ _).trans ((s (ix2 0 (j 1))).trans (congrArg (dgA _ _ _ _ _ _ _) (Fin.ext (by simp))))
  · rw [if_neg h, View.canon_cons_of_not_mem]
    · canon_tiles x h
      idx_vars x
      exact k2_at _ _
    · simp [Rect.mem_set_unit, Fin.forall_fin_two]
      omega

/-! The weight's gradient: what one block adds to each of the eight pieces the array is kept in, and the sum over the blocks. -/

def partW (c : Dev nD) (t : Fin cfg0.N) (y : S2x4x512x640.Idx) : EReal := ∑ i : Fin 512,
  h2 (xr (aX m c) (row t i)) (gr (aG m c)) ⟨(y 0).val * 512 + (y 2).val, by have := (y 0).isLt; have := (y 2).isLt; simp at *; omega⟩
    * dprojA (aQ m c) (aK m c) (aV m c) (aR m c) (aP m c) (row t i) ⟨(y 1).val * 640 + (y 3).val, by have := (y 1).isLt; have := (y 3).isLt; simp at *; omega⟩

theorem wstep {c : Dev nD} {t : Fin cfg0.N} {p : ℕ} {hD} {D : FVec Ideal S512x512 .bf16} {y : S2x4x512x640.Idx} {r : Fin 1024} {l : Fin 512} {A a : EReal}
    (eD : D = tD m c t (Rect.unit (s := S512x2560) ![0, p] ![512, 512] hD)) (ha : A = a) (hp : p + 512 ≤ 2560)
    (hr : r.val = (y 0).val * 512 + (y 2).val) (hl : p + l.val = (y 1).val * 640 + (y 3).val) :
    A + part (iblk m c 7 t) D r l = a + partW m c t y := by
  subst eD ha
  refine congrArg _ (Finset.sum_congr rfl fun i _ => congrArg₂ (· * ·) ?_ ?_)
  · exact (blkH m c t i r).trans (congrArg _ (Fin.ext hr))
  · refine (tD_at m c t 0 p hD i l (by omega) (by omega)).trans (congrArg₂ _ ?_ (Fin.ext hl))
    exact congrArg (row t) (Fin.ext (Nat.zero_add _))

theorem ld4 {n o0 o1 o3 : ℕ} (B : FVec Ideal S2x4x512x640 .f32) {h : ∀ a, (![o0, o1, 0, o3] : Fin 4 → ℕ) a + (⟨4, ![1, 1, 512, n]⟩ : Shape).size a ≤ S2x4x512x640.size a}
    {r : Fin 512} {l : Fin n} {y : S2x4x512x640.Idx} (h0 : (y 0).val = o0) (h1 : (y 1).val = o1) (h2 : (y 2).val = r) (h3 : (y 3).val = o3 + l) :
    B ((Rect.unit (s := S2x4x512x640) ![o0, o1, 0, o3] ![1, 1, 512, n] h).emb (ix4 0 0 r l)) = B y := by
  refine congrArg B ?_
  blk_ext []

theorem zeroW (y : S2x4x512x640.Idx) : k0_pay6 (F := Ideal) y = 0 := by
  idx_vars y
  pointwise [k0_pay6]

/-- An entry covered by the last stores is what they leave, whatever was there before. -/
theorem canon_append_left {Val : EltTy → Type} [∀ e, Nonempty (Val e)] {s : Shape} {e : EltTy} (L L' : List (View.Piece Val s e)) (y : s.Idx)
    (h : ∃ p ∈ L, y ∈ p.1.set) : View.canon (L ++ L') y = View.canon L y := by
  induction L with
  | nil => simp at h
  | cons p L ih =>
    by_cases hy : y ∈ p.1.set
    · obtain ⟨x, rfl⟩ := p.1.exists_idx_of_mem hy
      exact (View.canon_cons_emb _ _ _ _).trans (View.canon_cons_emb _ _ _ _).symm
    · rw [List.cons_append, View.canon_cons_of_not_mem _ _ hy, View.canon_cons_of_not_mem _ _ hy]
      refine ih ?_
      obtain ⟨q, hq, hyq⟩ := h
      rcases List.mem_cons.mp hq with rfl | hq
      · exact absurd hyq hy
      · exact ⟨q, hq, hyq⟩

theorem canon_take {Val : EltTy → Type} [∀ e, Nonempty (Val e)] {s : Shape} {e : EltTy} (n : ℕ) (L : List (View.Piece Val s e)) (y : s.Idx)
    (h : ∃ p ∈ L.take n, y ∈ p.1.set) : View.canon L y = View.canon (L.take n) y :=
  (congrArg (View.canon · y) (List.take_append_drop n L).symm).trans (canon_append_left _ _ y h)

theorem zread {κ : Kind} {sp : Space} (v : View sig κ sp S2x4x512x640 .f32) {h : ∀ a, (![0, 0, 0, 0] : Fin 4 → ℕ) a + S2x4x512x640.size a ≤ S2x4x512x640.size a} (R : Rect S2x4x512x640)
    (x : R.toLoadRect.shape.Idx) : v.readCov [(⟨Rect.unit (s := S2x4x512x640) ![0, 0, 0, 0] ![2, 4, 512, 640] h, k0_pay6 (F := Ideal)⟩ : View.Piece (Elt Ideal) S2x4x512x640 .f32)] R.toLoadRect x = 0 := by
  rw [View.readCov_fill _ _ _ _ _ (by simp [Fin.forall_fin_succ])]
  exact zeroW _

set_option maxHeartbeats 40000000 in
theorem firstW (c : Dev nD) (t : Fin cfg0.N) (e : t.val % 8 = 0) (j : S2x4x512x640.Idx) : (outsAt0 m c t.val t.isLt).2.1 j = 0 + partW m c t j := by
  rw [outsAt0_A m c t e e (by omega)]
  frame_out
  rw [canon_take 16 _ j (View.cover_of_tiledBy _ ![1, 1, 512, 128] (by sl_kernel_rfl) j)]
  simp only [List.take_succ_cons, List.take_zero]
  canon_tiles x h using (View.cover_of_tiledBy _ ![1, 1, 512, 128] (by sl_kernel_rfl) j)
  all_goals
    idx_vars x
    obtain rfl : x0 = 0 := Subsingleton.elim _ _
    obtain rfl : x1 = 0 := Subsingleton.elim _ _
    simp only [Fin.val_zero, Nat.add_zero] at h0 h1
  · exact (w94_at ..).trans (wstep m (dread m c t _) (by simp (decide := true) only [↓View.readCov_skip]; exact zread _ _ _) (by omega) (by simp only []; omega) (by simp only []; omega))
  · exact (w93_at ..).trans (wstep m (dread m c t _) (by simp (decide := true) only [↓View.readCov_skip]; exact zread _ _ _) (by omega) (by simp only []; omega) (by simp only []; omega))
  · exact (w91_at ..).trans (wstep m (dread m c t _) (by simp (decide := true) only [↓View.readCov_skip]; exact zread _ _ _) (by omega) (by simp only []; omega) (by simp only []; omega))
  · exact (w90_at ..).trans (wstep m (dread m c t _) (by simp (decide := true) only [↓View.readCov_skip]; exact zread _ _ _) (by omega) (by simp only []; omega) (by simp only []; omega))
  · exact (w89_at ..).trans (wstep m (dread m c t _) (by simp (decide := true) only [↓View.readCov_skip]; exact zread _ _ _) (by omega) (by simp only []; omega) (by simp only []; omega))
  · exact (w88_at ..).trans (wstep m (dread m c t _) (by simp (decide := true) only [↓View.readCov_skip]; exact zread _ _ _) (by omega) (by simp only []; omega) (by simp only []; omega))
  · exact (w86_at ..).trans (wstep m (dread m c t _) (by simp (decide := true) only [↓View.readCov_skip]; exact zread _ _ _) (by omega) (by simp only []; omega) (by simp only []; omega))
  · exact (w84_at ..).trans (wstep m (dread m c t _) (by simp (decide := true) only [↓View.readCov_skip]; exact zread _ _ _) (by omega) (by simp only []; omega) (by simp only []; omega))
  · exact (w83_at ..).trans (wstep m (dread m c t _) (by simp (decide := true) only [↓View.readCov_skip]; exact zread _ _ _) (by omega) (by simp only []; omega) (by simp only []; omega))
  · exact (w82_at ..).trans (wstep m (dread m c t _) (by simp (decide := true) only [↓View.readCov_skip]; exact zread _ _ _) (by omega) (by simp only []; omega) (by simp only []; omega))
  · exact (w80_at ..).trans (wstep m (dread m c t _) (by simp (decide := true) only [↓View.readCov_skip]; exact zread _ _ _) (by omega) (by simp only []; omega) (by simp only []; omega))
  · exact (w79_at ..).trans (wstep m (dread m c t _) (by simp (decide := true) only [↓View.readCov_skip]; exact zread _ _ _) (by omega) (by simp only []; omega) (by simp only []; omega))
  · exact (w78_at ..).trans (wstep m (dread m c t _) (by simp (decide := true) only [↓View.readCov_skip]; exact zread _ _ _) (by omega) (by simp only []; omega) (by simp only []; omega))
  · exact (w77_at ..).trans (wstep m (dread m c t _) (by simp (decide := true) only [↓View.readCov_skip]; exact zread _ _ _) (by omega) (by simp only []; omega) (by simp only []; omega))
  · exact (w74_at ..).trans (wstep m (dread m c t _) (by simp (decide := true) only [↓View.readCov_skip]; exact zread _ _ _) (by omega) (by simp only []; omega) (by simp only []; omega))
  · exact (w73_at ..).trans (wstep m (dread m c t _) (zread _ _ _) (by omega) (by simp only []; omega) (by simp only []; omega))

set_option maxHeartbeats 4000000 in
theorem nextW (c : Dev nD) (t : Fin cfg0.N) (e : ¬t.val % 8 = 0) (j : S2x4x512x640.Idx) :
    (outsAt0 m c t.val t.isLt).2.1 j = (outsAt0 m c (t.val - 1) (by omega)).2.1 j + partW m c t j := by
  rcases em (t.val % 8 = 7) with f | f
  on_goal 1 => rw [outsAt0_C m c t e e f]
  on_goal 2 => rw [outsAt0_B m c t e e f]
  all_goals
    frame_out
    canon_tiles x h using (View.cover_of_tiledBy _ ![1, 1, 512, 128] (by sl_kernel_rfl) j)
    all_goals
      idx_vars x
      obtain rfl : x0 = 0 := Subsingleton.elim _ _
      obtain rfl : x1 = 0 := Subsingleton.elim _ _
      simp only [Fin.val_zero, Nat.add_zero] at h0 h1
    · exact (w94_at ..).trans (wstep m (dread m c t _) (ld4 _ (by omega) (by omega) (by omega) (by omega)) (by omega) (by simp only []; omega) (by simp only []; omega))
    · exact (w93_at ..).trans (wstep m (dread m c t _) (ld4 _ (by omega) (by omega) (by omega) (by omega)) (by omega) (by simp only []; omega) (by simp only []; omega))
    · exact (w91_at ..).trans (wstep m (dread m c t _) (ld4 _ (by omega) (by omega) (by omega) (by omega)) (by omega) (by simp only []; omega) (by simp only []; omega))
    · exact (w90_at ..).trans (wstep m (dread m c t _) (ld4 _ (by omega) (by omega) (by omega) (by omega)) (by omega) (by simp only []; omega) (by simp only []; omega))
    · exact (w89_at ..).trans (wstep m (dread m c t _) (ld4 _ (by omega) (by omega) (by omega) (by omega)) (by omega) (by simp only []; omega) (by simp only []; omega))
    · exact (w88_at ..).trans (wstep m (dread m c t _) (ld4 _ (by omega) (by omega) (by omega) (by omega)) (by omega) (by simp only []; omega) (by simp only []; omega))
    · exact (w86_at ..).trans (wstep m (dread m c t _) (ld4 _ (by omega) (by omega) (by omega) (by omega)) (by omega) (by simp only []; omega) (by simp only []; omega))
    · exact (w84_at ..).trans (wstep m (dread m c t _) (ld4 _ (by omega) (by omega) (by omega) (by omega)) (by omega) (by simp only []; omega) (by simp only []; omega))
    · exact (w83_at ..).trans (wstep m (dread m c t _) (ld4 _ (by omega) (by omega) (by omega) (by omega)) (by omega) (by simp only []; omega) (by simp only []; omega))
    · exact (w82_at ..).trans (wstep m (dread m c t _) (ld4 _ (by omega) (by omega) (by omega) (by omega)) (by omega) (by simp only []; omega) (by simp only []; omega))
    · exact (w80_at ..).trans (wstep m (dread m c t _) (ld4 _ (by omega) (by omega) (by omega) (by omega)) (by omega) (by simp only []; omega) (by simp only []; omega))
    · exact (w79_at ..).trans (wstep m (dread m c t _) (ld4 _ (by omega) (by omega) (by omega) (by omega)) (by omega) (by simp only []; omega) (by simp only []; omega))
    · exact (w78_at ..).trans (wstep m (dread m c t _) (ld4 _ (by omega) (by omega) (by omega) (by omega)) (by omega) (by simp only []; omega) (by simp only []; omega))
    · exact (w77_at ..).trans (wstep m (dread m c t _) (ld4 _ (by omega) (by omega) (by omega) (by omega)) (by omega) (by simp only []; omega) (by simp only []; omega))
    · exact (w74_at ..).trans (wstep m (dread m c t _) (ld4 _ (by omega) (by omega) (by omega) (by omega)) (by omega) (by simp only []; omega) (by simp only []; omega))
    · exact (w73_at ..).trans (wstep m (dread m c t _) (ld4 _ (by omega) (by omega) (by omega) (by omega)) (by omega) (by simp only []; omega) (by simp only []; omega))

theorem sumW (c : Dev nD) (t : Fin cfg0.N) (ht : t.val + 1 = cfg0.N) (j : S2x4x512x640.Idx) :
    (outsAt0 m c t.val t.isLt).2.1 j = GW (aX m c) (aG m c) (aQ m c) (aK m c) (aV m c) (aR m c) (aP m c) j := by
  rw [Pipeline.eq_sum_fin_of_reset_step_apply_last (fun n h => (outsAt0 m c n h).2.1) 8 (fun _ => 0)
    (fun t j => partW m c t j) (firstW m c) (nextW m c) (le_of_eq N_0) t ht j]
  rw [zero_add]
  exact Fin.sum_mul_add_congr (L := 4096) fun t r hl => rfl

theorem final11 (c : Dev nD) : (dats m 0 c).arrAt 11 (cfgs 0).N = GW (aX m c) (aG m c) (aQ m c) (aK m c) (aV m c) (aR m c) (aP m c) := by
  refine (dats m 0 c).arrAt_eq_of_after_last 11 t0_7 (by decide +kernel) _ fun j => ?_
  blk_simp
  rw [after0_11]
  exact sumW m c t0_7 rfl j

end Cert.InProjIdeal.Value

namespace Cert.Proof

theorem inProjRef_quiescent : Cert.quiescent_InProjRefIdeal := fun m g _ =>
  (θ_run _ _ _).mono (fun r h => ⟨fun c => (h c).2, sem_eq_zero_of_no_sems rfl _⟩) (Cert.InProjRefIdeal.Value.run_read m g)

/-- The precondition says that the seven arguments it names are real numbers. -/
theorem in_proj_real (m : (ℓ : Loc Cert.InProjIdeal.nD Cert.InProjIdeal.τ Cert.InProjIdeal.sig) → Buf (Elt Ideal) ℓ) (h : Cert.Pre_InProjIdeal_in_proj_finite m)
    (c : Dev Cert.InProjIdeal.nD) :
    (∀ i, Re (Cert.InProjIdeal.Value.aX m c i)) ∧ (∀ i, Re (Cert.InProjIdeal.Value.aG m c i)) ∧ (∀ i, Re (Cert.InProjIdeal.Value.aW m c i))
      ∧ (∀ i, Re (Cert.InProjIdeal.Value.aQ m c i)) ∧ (∀ i, Re (Cert.InProjIdeal.Value.aK m c i)) ∧ (∀ i, Re (Cert.InProjIdeal.Value.aV m c i))
      ∧ (∀ i, Re (Cert.InProjIdeal.Value.aR m c i)) := by
  obtain ⟨h0, h1, h2, h3, h4, h5, h6⟩ := h c
  exact ⟨fun i => re_of_abs_lt (congrFun h0 i), fun i => re_of_abs_lt (congrFun h1 i), fun i => re_of_abs_lt (congrFun h2 i),
    fun i => re_of_abs_lt (congrFun h3 i), fun i => re_of_abs_lt (congrFun h4 i), fun i => re_of_abs_lt (congrFun h5 i), fun i => re_of_abs_lt (congrFun h6 i)⟩

/-- The input projection's backward call and the derivative of the plain lines end with the same three arrays, when the arguments are real numbers. -/
theorem inProj_algebraic : Cert.algebraic_InProjIdeal_InProjRefIdeal_pre_in_proj_finite := by
  intro m g m' g' hpre hagree
  refine ⟨_, _, _, (θ_run _ _ _).mono (fun r h c => by
    obtain ⟨k10, k11, -, k13, k⟩ := h c
    exact ⟨k10.trans (Cert.InProjIdeal.Value.final10 m c), k11.trans (Cert.InProjIdeal.Value.final11 m c), k13.trans (Cert.InProjIdeal.Value.final13 m c), k⟩)
    (Cert.InProjIdeal.Value.run_blocks m g), ?_⟩
  refine (θ_run _ _ _).mono (fun r h c => ?_) (Cert.InProjRefIdeal.Value.run_read m' g')
  obtain ⟨h0, h1, h2, h3, h4, h5, h6, h7, h8⟩ := hagree c
  obtain ⟨rX, rG, rW, rQ, rK, rV, rR⟩ := in_proj_real m hpre c
  obtain ⟨k, kept⟩ := h c
  obtain ⟨k0, k1, k2⟩ := k _ _ _ _ _ _ _ _ _ h0.symm h1.symm h2.symm h3.symm h4.symm h5.symm h6.symm h7.symm h8.symm rX rG rW rQ rK rV rR
  exact ⟨k0, k1, k2, kept⟩

end Cert.Proof

end
-- ==== Proof.Softmax.lean ====
module

public import proofs.«01_k».proof.Proof.Reals

@[expose] public section

noncomputable section

open Idealize.ShloMosaic Cert.Reals

/-! The softmax of a row of scores and its gradient, over the reals. -/

namespace Cert.Softmax

variable {n : ℕ}

/-- The greatest entry of a row. -/
abbrev greatest (f : Fin n → EReal) : EReal := Finset.univ.fold max (Ideal.ofBits .f32 0xFF800000#32) f
/-- The exponentials after the greatest is taken off, and their shares. -/
def ex (f : Fin n → EReal) (k : Fin n) : EReal := Ideal.exp (f k - greatest f)
def weight (f : Fin n → EReal) (k : Fin n) : EReal := Ideal.div (ex f k) (∑ j, ex f j)

theorem bits_bot : Ideal.ofBits .f32 0xFF800000#32 = ⊥ := by
  simp [Ideal.ofBits, Ideal.ieee]
theorem bits_one : Ideal.ofBits .f32 0x3F800000#32 = ((1 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num

/-- The greatest entry is not below the value the search starts from. -/
theorem max_greatest (f : Fin n → EReal) : max (Ideal.ofBits .f32 0xFF800000#32) (greatest f) = greatest f :=
  max_eq_right (Finset.le_fold_max _ |>.mpr (Or.inl le_rfl))

section
variable [NeZero n] {f : Fin n → EReal} (hf : ∀ k, Re (f k))
include hf

theorem re_greatest : Re (greatest f) := by
  have h : greatest f = Finset.univ.sup f := by rw [greatest, bits_bot]; rfl
  obtain ⟨i, -, hi⟩ := Finset.exists_mem_eq_sup Finset.univ ⟨0, Finset.mem_univ _⟩ f
  rw [h, hi]; exact hf i

theorem ex_coe (k : Fin n) : ∃ r : ℝ, 0 < r ∧ ex f k = (r : EReal) := by
  obtain ⟨x, hx⟩ := (hf k).sub (re_greatest hf)
  exact ⟨Real.exp x, Real.exp_pos x, by rw [ex, hx]; rfl⟩

theorem sum_coe : ∃ r : ℝ, 0 < r ∧ ∑ k, ex f k = (r : EReal) := by
  choose E hE h using ex_coe hf
  exact ⟨∑ k, E k, Finset.sum_pos (fun k _ => hE k) ⟨0, Finset.mem_univ _⟩, by simp only [h, coe_sum]⟩

theorem re_weight (k : Fin n) : Re (weight f k) := by
  obtain ⟨E, -, hE⟩ := ex_coe hf k
  obtain ⟨L, hL, h⟩ := sum_coe hf
  exact ⟨E / L, by rw [weight, hE, h, div_coe_coe _ _ hL.ne']⟩

/-- Dividing after the product with the values is dividing before it. -/
theorem out_eq {v : Fin n → EReal} (hv : ∀ k, Re (v k)) : Ideal.div (∑ k, ex f k * v k) (∑ k, ex f k) = ∑ k, weight f k * v k := by
  choose E hE hE' using ex_coe hf
  obtain ⟨L, hL, h⟩ := sum_coe hf
  choose V hV using hv
  simp only [weight, h]
  simp only [hE', hV, div_coe_coe _ _ hL.ne', ← EReal.coe_mul, coe_sum]
  congr 1
  rw [Finset.sum_div]
  exact Finset.sum_congr rfl fun k _ => by ring

/-- The two forms of the softmax's gradient are one real number. -/
theorem back_eq {d : Fin n → EReal} (hd : ∀ k, Re (d k)) (s : EReal) (k : Fin n) :
    (Ideal.div (d k) (∑ j, ex f j)
        + -(∑ j, d j * Ideal.div (Ideal.ofBits .f32 0x3F800000#32) ((∑ j, ex f j) * (∑ j, ex f j)) * ex f j)) * ex f k * s
      = weight f k * (d k - ∑ j, weight f j * d j) * s := by
  choose E hE hE' using ex_coe hf
  obtain ⟨L, hL, h⟩ := sum_coe hf
  choose D hD using hd
  congr 1
  simp only [weight, h, bits_one]
  simp only [hE', hD, ← EReal.coe_mul, div_coe_coe _ _ hL.ne', div_coe_coe _ _ (mul_pos hL hL).ne', coe_sum, ← EReal.coe_neg, ← EReal.coe_add,
    ← EReal.coe_sub]
  congr 1
  have h1 : ∑ j, D j * (1 / (L * L)) * E j = (∑ j, E j / L * D j) / L := by
    rw [Finset.sum_div]; exact Finset.sum_congr rfl fun j _ => by field_simp
  rw [h1]; field_simp; ring

end

end Cert.Softmax

end
-- ==== Proof.MixerSpec.lean ====
module

public import proofs.«01_k».proof.Proof.Softmax

@[expose] public section

noncomputable section

open Idealize.ShloMosaic Cert.Reals

/-! The mixer half of the layer and its gradients over the Ideal numbers: three row norms side by side (the attention's output, the gated
convolution's and the cross attention's), the output projection and its norm, and what the derivative hands back to each of them. -/

namespace Cert.MixerSpec

abbrev eps : EReal := Ideal.ofBits .f32 0x358637BD#32
abbrev scale : EReal := Ideal.ofBits .f32 0x3E000000#32
abbrev w256 : EReal := Ideal.ofBits .f32 0x43800000#32
abbrev w512 : EReal := Ideal.ofBits .f32 0x44000000#32
abbrev w1024 : EReal := Ideal.ofBits .f32 0x44800000#32

theorem w256_pos : ∃ r : ℝ, 0 < r ∧ w256 = (r : EReal) := ⟨256, by norm_num, bits_256⟩
theorem w512_pos : ∃ r : ℝ, 0 < r ∧ w512 = (r : EReal) := ⟨512, by norm_num, bits_512⟩
theorem w1024_pos : ∃ r : ℝ, 0 < r ∧ w1024 = (r : EReal) := ⟨1024, by norm_num, bits_1024⟩

/-- The eleven arguments: the attention's output, the convolution's two gates and its input side by side, the cross attention's queries, the
memory's keys and values side by side, the three taps, the three gains, the output projection, its norm's gain, the cotangent. -/
structure Args where
  ya : FVec Ideal ⟨2, ![4096, 512]⟩ .f32
  bcu : FVec Ideal ⟨2, ![4096, 768]⟩ .f32
  qx : FVec Ideal ⟨2, ![4096, 256]⟩ .f32
  kv : FVec Ideal ⟨2, ![256, 512]⟩ .f32
  cw : FVec Ideal ⟨2, ![3, 256]⟩ .f32
  ga : FVec Ideal ⟨2, ![1, 512]⟩ .f32
  gc : FVec Ideal ⟨2, ![1, 256]⟩ .f32
  gx : FVec Ideal ⟨2, ![1, 256]⟩ .f32
  wo : FVec Ideal ⟨2, ![1024, 1024]⟩ .f32
  gp : FVec Ideal ⟨2, ![1, 1024]⟩ .f32
  dx : FVec Ideal ⟨2, ![4096, 1024]⟩ .f32

/-- All eleven are arrays of real numbers. -/
structure Args.Real (a : Args) : Prop where
  ya : ∀ i, Re (a.ya i)
  bcu : ∀ i, Re (a.bcu i)
  qx : ∀ i, Re (a.qx i)
  kv : ∀ i, Re (a.kv i)
  cw : ∀ i, Re (a.cw i)
  ga : ∀ i, Re (a.ga i)
  gc : ∀ i, Re (a.gc i)
  gx : ∀ i, Re (a.gx i)
  wo : ∀ i, Re (a.wo i)
  gp : ∀ i, Re (a.gp i)
  dx : ∀ i, Re (a.dx i)

variable (a : Args)

/-- Row `i` of the attention's output; the two gates and the input of the convolution. -/
def yar (i : Fin 4096) (k : Fin 512) : EReal := a.ya (ix2 i k)
def bg (i : Fin 4096) (k : Fin 256) : EReal := a.bcu (ix2 i ⟨k.val, by omega⟩)
def cg (i : Fin 4096) (k : Fin 256) : EReal := a.bcu (ix2 i ⟨256 + k.val, by omega⟩)
def ug (i : Fin 4096) (k : Fin 256) : EReal := a.bcu (ix2 i ⟨512 + k.val, by omega⟩)

/-- What the convolution is taken of, and its row `d` rows earlier, zero before the first. -/
def z (i : Fin 4096) (k : Fin 256) : EReal := cg a i k * ug a i k
def zs (d : ℕ) (i : Fin 4096) (k : Fin 256) : EReal := if h : d ≤ i.val then z a ⟨i.val - d, by omega⟩ k else 0
def cv (i : Fin 4096) (k : Fin 256) : EReal := a.cw (ix2 0 k) * zs a 2 i k + a.cw (ix2 1 k) * zs a 1 i k + a.cw (ix2 2 k) * z a i k
def yc (i : Fin 4096) (k : Fin 256) : EReal := bg a i k * cv a i k

/-- Lane `l` of head `h`; the head of a lane; the key and the value columns of the memory. -/
abbrev col (h : Fin 4) (l : Fin 64) : Fin 256 := ⟨h.val * 64 + l.val, by omega⟩
abbrev head (c : Fin 256) : Fin 4 := ⟨c.val / 64, by omega⟩
def mk (n c : Fin 256) : EReal := a.kv (ix2 n ⟨c.val, by omega⟩)
def mv (n c : Fin 256) : EReal := a.kv (ix2 n ⟨256 + c.val, by omega⟩)

/-- Scores, their exponentials after the greatest is taken off, the weights, the cross attention's output. -/
def sc (h : Fin 4) (i : Fin 4096) (n : Fin 256) : EReal := (∑ l, a.qx (ix2 i (col h l)) * mk a n (col h l)) * scale
def ex (h : Fin 4) (i : Fin 4096) : Fin 256 → EReal := Softmax.ex (sc a h i)
def wt (h : Fin 4) (i : Fin 4096) : Fin 256 → EReal := Softmax.weight (sc a h i)
def yx (i : Fin 4096) (c : Fin 256) : EReal := ∑ n, wt a (head c) i n * mv a n c

/-- The three normed parts side by side, and the output projection. -/
def ycat (i : Fin 4096) (e : Fin 1024) : EReal :=
  if h : e.val < 512 then hat w512 eps (yar a i) ⟨e.val, h⟩ * a.ga (ix2 0 ⟨e.val, h⟩)
  else if h : e.val < 768 then hat w256 eps (yc a i) ⟨e.val - 512, by omega⟩ * a.gc (ix2 0 ⟨e.val - 512, by omega⟩)
  else hat w256 eps (yx a i) ⟨e.val - 768, by omega⟩ * a.gx (ix2 0 ⟨e.val - 768, by omega⟩)
def y2 (i : Fin 4096) (d : Fin 1024) : EReal := ∑ e, ycat a i e * a.wo (ix2 e d)

/-- The cotangents of the projection and of the three parts. -/
def dy2 (i : Fin 4096) (d : Fin 1024) : EReal := back w1024 eps (y2 a i) (fun k => a.dx (ix2 i k) * a.gp (ix2 0 k)) d
def dcat (i : Fin 4096) (e : Fin 1024) : EReal := ∑ d, dy2 a i d * a.wo (ix2 e d)
def dna (i : Fin 4096) (k : Fin 512) : EReal := dcat a i ⟨k.val, by omega⟩
def dnc (i : Fin 4096) (k : Fin 256) : EReal := dcat a i ⟨512 + k.val, by omega⟩
def dnx (i : Fin 4096) (k : Fin 256) : EReal := dcat a i ⟨768 + k.val, by omega⟩
def dya (i : Fin 4096) (k : Fin 512) : EReal := back w512 eps (yar a i) (fun k => dna a i k * a.ga (ix2 0 k)) k
def dyc (i : Fin 4096) (k : Fin 256) : EReal := back w256 eps (yc a i) (fun k => dnc a i k * a.gc (ix2 0 k)) k
def dyx (i : Fin 4096) (k : Fin 256) : EReal := back w256 eps (yx a i) (fun k => dnx a i k * a.gx (ix2 0 k)) k

/-- The convolution backward: the cotangent of its sum, the same `d` rows later (zero after the last), the cotangent of `z`. -/
def dcv (i : Fin 4096) (k : Fin 256) : EReal := dyc a i k * bg a i k
def dcvs (d : ℕ) (i : Fin 4096) (k : Fin 256) : EReal := if h : i.val + d < 4096 then dcv a ⟨i.val + d, h⟩ k else 0
def dz (i : Fin 4096) (k : Fin 256) : EReal := a.cw (ix2 2 k) * dcv a i k + a.cw (ix2 1 k) * dcvs a 1 i k + a.cw (ix2 0 k) * dcvs a 2 i k

/-- The cross attention backward: the cotangents of the weights, of the scores and of the queries. -/
def dwt (h : Fin 4) (i : Fin 4096) (n : Fin 256) : EReal := ∑ l, dyx a i (col h l) * mv a n (col h l)
def dsc (h : Fin 4) (i : Fin 4096) (n : Fin 256) : EReal := wt a h i n * (dwt a h i n - ∑ n, wt a h i n * dwt a h i n) * scale
def dqx (i : Fin 4096) (c : Fin 256) : EReal := ∑ n, dsc a (head c) i n * mk a n c

/-! The ten results. -/
def gwo (e d : Fin 1024) : EReal := ∑ i, ycat a i e * dy2 a i d
def GWO : FVec Ideal ⟨4, ![2, 4, 128, 1024]⟩ .f32 := fun y => gwo a ⟨((y 1).val * 2 + (y 0).val) * 128 + (y 2).val, by
  have h0 : (y 0).val < 2 := (y 0).isLt; have h1 : (y 1).val < 4 := (y 1).isLt; have h2 : (y 2).val < 128 := (y 2).isLt; omega⟩ (y 3)
def DYA : FVec Ideal ⟨2, ![4096, 512]⟩ .f32 := fun y => dya a (y 0) (y 1)
def delta (i : Fin 4096) (h : Fin 8) : EReal := ∑ l : Fin 64, dya a i ⟨h.val * 64 + l.val, by omega⟩ * yar a i ⟨h.val * 64 + l.val, by omega⟩
def DELTA : FVec Ideal ⟨2, ![4096, 512]⟩ .f32 := fun y => delta a (y 0) ⟨(y 1).val / 64, by have h : (y 1).val < 512 := (y 1).isLt; omega⟩
def tail (i : Fin 4096) (e : Fin 1024) : EReal :=
  if h : e.val < 256 then dyc a i ⟨e.val, h⟩ * cv a i ⟨e.val, h⟩
  else if h : e.val < 512 then dz a i ⟨e.val - 256, by omega⟩ * ug a i ⟨e.val - 256, by omega⟩
  else if h : e.val < 768 then dz a i ⟨e.val - 512, by omega⟩ * cg a i ⟨e.val - 512, by omega⟩
  else dqx a i ⟨e.val - 768, by omega⟩
def TAIL : FVec Ideal ⟨2, ![4096, 1024]⟩ .bf16 := fun y => tail a (y 0) (y 1)
def dkv (n : Fin 256) (e : Fin 512) : EReal :=
  if h : e.val < 256 then ∑ i, dsc a (head ⟨e.val, h⟩) i n * a.qx (ix2 i ⟨e.val, h⟩)
  else ∑ i, wt a (head ⟨e.val - 256, by omega⟩) i n * dyx a i ⟨e.val - 256, by omega⟩
def DKV : FVec Ideal ⟨2, ![256, 512]⟩ .f32 := fun y => dkv a (y 0) (y 1)
def dcw (d : ℕ) (k : Fin 256) : EReal := ∑ i, dcv a i k * zs a d i k
def DCW : FVec Ideal ⟨2, ![3, 256]⟩ .f32 := fun y => dcw a (2 - (y 0).val) (y 1)
def DGP : FVec Ideal ⟨2, ![1, 1024]⟩ .f32 := fun y => ∑ i, a.dx (ix2 i (y 1)) * hat w1024 eps (y2 a i) (y 1)
def dg (e : Fin 1024) : EReal :=
  if h : e.val < 512 then ∑ i, dna a i ⟨e.val, h⟩ * hat w512 eps (yar a i) ⟨e.val, h⟩
  else if h : e.val < 768 then ∑ i, dnc a i ⟨e.val - 512, by omega⟩ * hat w256 eps (yc a i) ⟨e.val - 512, by omega⟩
  else ∑ i, dnx a i ⟨e.val - 768, by omega⟩ * hat w256 eps (yx a i) ⟨e.val - 768, by omega⟩
def DG : FVec Ideal ⟨2, ![1, 1024]⟩ .f32 := fun y => dg a (y 1)

/-! Where the arguments are real, so is everything computed of them. -/

variable {a} (ha : a.Real)
include ha

theorem re_z (i : Fin 4096) (k : Fin 256) : Re (z a i k) := (ha.bcu _).mul (ha.bcu _)
theorem re_zs (d : ℕ) (i : Fin 4096) (k : Fin 256) : Re (zs a d i k) := by
  rw [zs]; split
  · exact re_z ha _ _
  · exact Re.zero
theorem re_cv (i : Fin 4096) (k : Fin 256) : Re (cv a i k) :=
  (((ha.cw _).mul (re_zs ha _ _ _)).add ((ha.cw _).mul (re_zs ha _ _ _))).add ((ha.cw _).mul (re_z ha _ _))
theorem re_yc (i : Fin 4096) (k : Fin 256) : Re (yc a i k) := (ha.bcu _).mul (re_cv ha _ _)
theorem re_sc (h : Fin 4) (i : Fin 4096) (n : Fin 256) : Re (sc a h i n) :=
  (Re.sum _ fun l => (ha.qx _).mul (ha.kv _)).mul ⟨_, Softmax.bits_eighth⟩
theorem re_wt (h : Fin 4) (i : Fin 4096) (n : Fin 256) : Re (wt a h i n) := Softmax.re_weight (re_sc ha h i) n
theorem re_yx (i : Fin 4096) (c : Fin 256) : Re (yx a i c) := Re.sum _ fun n => (re_wt ha _ _ _).mul (ha.kv _)
theorem re_ycat (i : Fin 4096) (e : Fin 1024) : Re (ycat a i e) := by
  rw [ycat]; split
  · exact (Re.hat w512_pos bits_eps (fun _ => ha.ya _) _).mul (ha.ga _)
  · split
    · exact (Re.hat w256_pos bits_eps (re_yc ha i) _).mul (ha.gc _)
    · exact (Re.hat w256_pos bits_eps (re_yx ha i) _).mul (ha.gx _)
theorem re_y2 (i : Fin 4096) (d : Fin 1024) : Re (y2 a i d) := Re.sum _ fun e => (re_ycat ha _ _).mul (ha.wo _)
theorem re_dy2 (i : Fin 4096) (d : Fin 1024) : Re (dy2 a i d) := Re.back w1024_pos bits_eps (re_y2 ha i) (fun _ => (ha.dx _).mul (ha.gp _)) d
theorem re_dcat (i : Fin 4096) (e : Fin 1024) : Re (dcat a i e) := Re.sum _ fun d => (re_dy2 ha _ _).mul (ha.wo _)
theorem re_dya (i : Fin 4096) (k : Fin 512) : Re (dya a i k) := Re.back w512_pos bits_eps (fun _ => ha.ya _) (fun _ => (re_dcat ha _ _).mul (ha.ga _)) k
theorem re_dyc (i : Fin 4096) (k : Fin 256) : Re (dyc a i k) := Re.back w256_pos bits_eps (re_yc ha i) (fun _ => (re_dcat ha _ _).mul (ha.gc _)) k
theorem re_dyx (i : Fin 4096) (k : Fin 256) : Re (dyx a i k) := Re.back w256_pos bits_eps (re_yx ha i) (fun _ => (re_dcat ha _ _).mul (ha.gx _)) k
theorem re_dwt (h : Fin 4) (i : Fin 4096) (n : Fin 256) : Re (dwt a h i n) := Re.sum _ fun l => (re_dyx ha _ _).mul (ha.kv _)

end Cert.MixerSpec

end
-- ==== Proof.MixerTiles.lean ====
module

public import proofs.«01_k».proof.Proof.Gen.MixerIdeal.Skeleton
public import proofs.«01_k».proof.Proof.MixerSpec
public import Idealize.ShloMosaic.Lib.Pipeline.ValueKit
public import Idealize.ShloMosaic.Lib.Pointwise

@[expose] public section

set_option maxRecDepth 16384

noncomputable section

open Idealize.ShloMosaic Idealize.ShloMosaic.TcCoe Cert.Reals

/-! What one tile of the mixer's backward pass computes, row by row: the tile's row `r` is row `row r` of the arguments. -/

namespace Cert.MixerIdeal.Value

open Cert.MixerIdeal Cert.MixerIdeal.Gen Cert.MixerSpec

variable {a : Args} (row : Fin 512 → Fin 4096)

/-- A choice by one bit, read as a condition. -/
theorem select_if {α : Type} (b : BitVec 1) (x y : α) : Scalar.select b x y = if b = 1#1 then x else y := by
  rcases (by decide : ∀ b : BitVec 1, b = 0#1 ∨ b = 1#1) b with rfl | rfl <;> rfl

theorem select_self {α : Type} (b : BitVec 1) (x : α) : Scalar.select b x x = x := by rw [select_if, ite_self]

/-- A row's number against a constant. -/
theorem at_row (r : Fin 512) (n : ℕ) (hn : n < 512) {α : Type} (x y : α) :
    Scalar.select (IntOp.cmpi .eq (BitVec.ofNat 32 r.val) (BitVec.ofNat 32 n)) x y = if r.val = n then x else y := by
  have h := r.isLt
  rw [select_if]
  refine if_congr ?_ rfl rfl
  rw [show IntOp.cmpi .eq (BitVec.ofNat 32 r.val) (BitVec.ofNat 32 n) = BitVec.ofBool (BitVec.ofNat 32 r.val == BitVec.ofNat 32 n) from rfl]
  constructor
  · intro e
    by_contra hc
    have : (BitVec.ofNat 32 r.val == BitVec.ofNat 32 n) = false := by
      rw [beq_eq_false_iff_ne]
      intro e'
      have := congrArg BitVec.toNat e'
      rw [BitVec.toNat_ofNat, BitVec.toNat_ofNat] at this
      omega
    rw [this] at e
    exact absurd e (by decide)
  · rintro e; rw [e, beq_self_eq_true]; rfl

/-- Two lanes share their head: the block ones of the sum over a head's lanes. -/
theorem same_head (x k : Fin 512) {α : Type} (u v : α) : Scalar.select (IntOp.cmpi .eq (IntOp.shrui .vector (BitVec.ofNat 32 x.val) 6#32)
    (IntOp.shrui .vector (BitVec.ofNat 32 k.val) 6#32)) u v = if x.val / 64 = k.val / 64 then u else v := by
  have e : ∀ j : Fin 512, IntOp.shrui .vector (BitVec.ofNat 32 j.val) 6#32 = BitVec.ofNat 32 (j.val / 64) := by decide +kernel
  have hx := x.isLt
  rw [e, e]
  exact at_row ⟨x.val / 64, by omega⟩ (k.val / 64) (by omega) u v

theorem sum_head (f : Fin 512 → EReal) (k : Fin 512) :
    (∑ x, if x.val / 64 = k.val / 64 then f x else 0) = ∑ l : Fin 64, f ⟨k.val / 64 * 64 + l.val, by omega⟩ := by
  rw [← Finset.sum_filter]
  refine (Finset.sum_bij (fun (l : Fin 64) _ => (⟨k.val / 64 * 64 + l.val, by omega⟩ : Fin 512)) ?_ ?_ ?_ ?_).symm
  · intro l _; rw [Finset.mem_filter]; exact ⟨Finset.mem_univ _, by show (k.val / 64 * 64 + l.val) / 64 = _; omega⟩
  · intro l _ l' _ h; exact Fin.ext (by have := congrArg Fin.val h; dsimp only at this; omega)
  · intro x hx
    rw [Finset.mem_filter] at hx
    exact ⟨⟨x.val % 64, by omega⟩, Finset.mem_univ _, Fin.ext (by show k.val / 64 * 64 + x.val % 64 = x.val; have := hx.2; omega)⟩
  · intros; rfl

/-! ### The projection and its norm -/

section Out
variable {x0 x1 x2 : FVec Ideal ⟨2, ![512, 1024]⟩ .f32} {wo : FVec Ideal ⟨2, ![1024, 1024]⟩ .f32} {gp : FVec Ideal ⟨2, ![1, 1024]⟩ .f32}
  (hdx : ∀ r k, x0 (ix2 r k) = a.dx (ix2 (row r) k)) (hy2 : ∀ r k, x1 (ix2 r k) = y2 a (row r) k)
  (hyc : ∀ r k, x2 (ix2 r k) = ycat a (row r) k) (hwo : ∀ e d, wo (ix2 e d) = a.wo (ix2 e d)) (hgp : ∀ k, gp (ix2 0 k) = a.gp (ix2 0 k))

include hy2 in
theorem p11_at (r : Fin 512) (o : Fin 1) : k0_pay11 (F := Ideal) x1 (ix2 r o) = rr w1024 eps (y2 a (row r)) := by
  pointwise [k0_pay11, k0_pay10, rr, hy2]

include hy2 in
theorem p12_at (r : Fin 512) (k : Fin 1024) : k0_pay12 (F := Ideal) x1 (ix2 r k) = hat w1024 eps (y2 a (row r)) k := by
  pointwise [k0_pay12, k0_pay10, p11_at row hy2, hat, hy2]

include hdx hy2 in
theorem p13_at (acc : FVec Ideal ⟨2, ![1, 1024]⟩ .f32) (o : Fin 1) (k : Fin 1024) : k0_pay13 (F := Ideal) x0 x1 acc (ix2 o k)
    = acc (ix2 o k) + ∑ r, a.dx (ix2 (row r) k) * hat w1024 eps (y2 a (row r)) k := by
  pointwise [k0_pay13, p12_at row hy2, hdx]

include hdx hy2 hgp in
theorem p14_at (r : Fin 512) (k : Fin 1024) : k0_pay14 (F := Ideal) x0 x1 gp (ix2 r k) = dy2 a (row r) k := by
  pointwise [k0_pay14, p12_at row hy2, p11_at row hy2, hdx, hgp, dy2, back]

variable {d : FVec Ideal ⟨2, ![512, 1024]⟩ .bf16} (hd : ∀ r k, d (ix2 r k) = dy2 a (row r) k)

include hd hyc in
theorem p15_at (e k : Fin 1024) : k0_pay15 (F := Ideal) d x2 (ix2 e k) = ∑ r, ycat a (row r) e * dy2 a (row r) k := by
  pointwise [k0_pay15, hd, hyc]

include hd hwo in
theorem p25_at (r : Fin 512) (e : Fin 1024) : k0_pay25 (F := Ideal) d wo (ix2 r e) = dcat a (row r) e := by
  pointwise [k0_pay25, hd, hwo, dcat]

end Out

/-! The eight pieces of the projection's gradient each add a band of 128 rows. -/

section Bands
variable (d : FVec Ideal ⟨2, ![512, 1024]⟩ .bf16) (x2 : FVec Ideal ⟨2, ![512, 1024]⟩ .bf16) (w : FVec Ideal ⟨2, ![1024, 1024]⟩ .f32)
  (acc : FVec Ideal ⟨4, ![1, 1, 128, 1024]⟩ .f32) (o p : Fin 1) (r : Fin 128) (k : Fin 1024)

theorem p16_at : k0_pay16 (F := Ideal) d x2 acc (ix4 o p r k) = acc (ix4 o p r k) + k0_pay15 (F := Ideal) d x2 (ix2 ⟨r.val, by omega⟩ k) := by
  obtain rfl : o = 0 := Subsingleton.elim _ _
  obtain rfl : p = 0 := Subsingleton.elim _ _
  pointwise [k0_pay16]

theorem p17_at : k0_pay17 (F := Ideal) d x2 acc (ix4 o p r k) = acc (ix4 o p r k) + k0_pay15 (F := Ideal) d x2 (ix2 ⟨128 + r.val, by omega⟩ k) := by
  obtain rfl : o = 0 := Subsingleton.elim _ _
  obtain rfl : p = 0 := Subsingleton.elim _ _
  pointwise [k0_pay17]

theorem p18_at : k0_pay18 (F := Ideal) d x2 acc (ix4 o p r k) = acc (ix4 o p r k) + k0_pay15 (F := Ideal) d x2 (ix2 ⟨256 + r.val, by omega⟩ k) := by
  obtain rfl : o = 0 := Subsingleton.elim _ _
  obtain rfl : p = 0 := Subsingleton.elim _ _
  pointwise [k0_pay18]

theorem p20_at : k0_pay20 (F := Ideal) w (k0_pay19 acc) (ix4 o p r k) = acc (ix4 o p r k) + w (ix2 ⟨384 + r.val, by omega⟩ k) := by
  obtain rfl : o = 0 := Subsingleton.elim _ _
  obtain rfl : p = 0 := Subsingleton.elim _ _
  pointwise [k0_pay20, k0_pay19]

theorem p21_at : k0_pay21 (F := Ideal) w acc (ix4 o p r k) = acc (ix4 o p r k) + w (ix2 ⟨512 + r.val, by omega⟩ k) := by
  obtain rfl : o = 0 := Subsingleton.elim _ _
  obtain rfl : p = 0 := Subsingleton.elim _ _
  pointwise [k0_pay21]

theorem p22_at : k0_pay22 (F := Ideal) w acc (ix4 o p r k) = acc (ix4 o p r k) + w (ix2 ⟨640 + r.val, by omega⟩ k) := by
  obtain rfl : o = 0 := Subsingleton.elim _ _
  obtain rfl : p = 0 := Subsingleton.elim _ _
  pointwise [k0_pay22]

theorem p23_at : k0_pay23 (F := Ideal) w acc (ix4 o p r k) = acc (ix4 o p r k) + w (ix2 ⟨768 + r.val, by omega⟩ k) := by
  obtain rfl : o = 0 := Subsingleton.elim _ _
  obtain rfl : p = 0 := Subsingleton.elim _ _
  pointwise [k0_pay23]

theorem p24_at : k0_pay24 (F := Ideal) w acc (ix4 o p r k) = acc (ix4 o p r k) + w (ix2 ⟨896 + r.val, by omega⟩ k) := by
  obtain rfl : o = 0 := Subsingleton.elim _ _
  obtain rfl : p = 0 := Subsingleton.elim _ _
  pointwise [k0_pay24]

end Bands

/-! ### The attention's part -/

section Attn
variable {x3 g : FVec Ideal ⟨2, ![512, 512]⟩ .f32} {dd : FVec Ideal ⟨2, ![512, 1024]⟩ .bf16} {wo : FVec Ideal ⟨2, ![1024, 1024]⟩ .f32}
  {ga : FVec Ideal ⟨2, ![1, 512]⟩ .f32}
  (hya : ∀ r k, x3 (ix2 r k) = yar a (row r) k) (hdc : ∀ r e, k0_pay25 (F := Ideal) dd wo (ix2 r e) = dcat a (row r) e)
  (hga : ∀ k, ga (ix2 0 k) = a.ga (ix2 0 k))

include hdc in
theorem p26_at (r : Fin 512) (k : Fin 512) : k0_pay26 (F := Ideal) dd wo (ix2 r k) = dna a (row r) k := by
  pointwise [k0_pay26, hdc, dna]

include hya in
theorem p27_at (r : Fin 512) (o : Fin 1) : k0_pay27 (F := Ideal) x3 (ix2 r o) = rr w512 eps (yar a (row r)) := by
  pointwise [k0_pay27, rr, hya]

include hya in
theorem p28_at (r : Fin 512) (k : Fin 512) : k0_pay28 (F := Ideal) x3 (ix2 r k) = hat w512 eps (yar a (row r)) k := by
  pointwise [k0_pay28, p27_at row hya, hat, hya]

include hya hdc in
theorem p29_at (acc : FVec Ideal ⟨2, ![1, 512]⟩ .f32) (o : Fin 1) (k : Fin 512) : k0_pay29 (F := Ideal) dd wo x3 acc (ix2 o k)
    = acc (ix2 o k) + ∑ r, dna a (row r) k * hat w512 eps (yar a (row r)) k := by
  pointwise [k0_pay29, p28_at row hya, p26_at row hdc]

include hdc hga in
theorem p30_at (r : Fin 512) (k : Fin 512) : k0_pay30 (F := Ideal) dd wo ga (ix2 r k) = dna a (row r) k * a.ga (ix2 0 k) := by
  pointwise [k0_pay30, p26_at row hdc, hga]

include hya hdc hga in
theorem p32_at (r : Fin 512) (k : Fin 512) :
    k0_pay32 (F := Ideal) (k0_pay27 x3) (k0_pay28 x3) (k0_pay30 dd wo ga) (k0_pay31 dd wo x3 ga) (ix2 r k) = dya a (row r) k := by
  pointwise [k0_pay32, k0_pay31, p27_at row hya, p28_at row hya, p30_at row hdc hga, dya, back]

include hya hdc hga in
theorem p33_at (ha : a.Real) (r : Fin 512) (k : Fin 512) :
    k0_pay33 (F := Ideal) x3 (k0_pay27 x3) (k0_pay28 x3) (k0_pay30 dd wo ga) (k0_pay31 dd wo x3 ga) (ix2 r k)
      = delta a (row r) ⟨k.val / 64, by omega⟩ := by
  pointwise [k0_pay33, p32_at row hya hdc hga, hya]
  have e (x : Fin 512) : (dya a (row r) x * yar a (row r) x - dya a (row r) x * yar a (row r) x : EReal) = 0 := by
    obtain ⟨v, hv⟩ := (re_dya ha (row r) x).mul (ha.ya (ix2 (row r) x))
    rw [yar, hv, ← EReal.coe_sub, sub_self, EReal.coe_zero]
  simp only [e, select_self, Finset.sum_const_zero, add_zero, same_head]
  rw [delta]
  exact sum_head (fun x => dya a (row r) x * yar a (row r) x) k

end Attn

/-! ### The convolution's part -/

section Conv
variable {x5 : FVec Ideal ⟨2, ![512, 768]⟩ .f32} {x6 : FVec Ideal ⟨2, ![8, 768]⟩ .f32} {w : FVec Ideal ⟨2, ![3, 256]⟩ .f32}
  {halo carry : FVec Ideal ⟨2, ![8, 256]⟩ .f32} {v160 v157 : FVec Ideal ⟨2, ![512, 256]⟩ .f32} {gc : FVec Ideal ⟨2, ![1, 256]⟩ .f32} {v99 : FVec Ideal ⟨2, ![512, 1024]⟩ .f32}
  (hbcu : ∀ r k, x5 (ix2 r k) = a.bcu (ix2 (row r) k)) (hw : ∀ d k, w (ix2 d k) = a.cw (ix2 d k)) (hgc : ∀ k, gc (ix2 0 k) = a.gc (ix2 0 k))
  (hdc : ∀ r e, v99 (ix2 r e) = dcat a (row r) e)

include hbcu in
theorem p34_at (r : Fin 512) (k : Fin 256) : k0_pay34 (F := Ideal) x5 (ix2 r k) = bg a (row r) k := by pointwise [k0_pay34, hbcu, bg]
include hbcu in
theorem p35_at (r : Fin 512) (k : Fin 256) : k0_pay35 (F := Ideal) x5 (ix2 r k) = cg a (row r) k := by pointwise [k0_pay35, hbcu, cg]
include hbcu in
theorem p36_at (r : Fin 512) (k : Fin 256) : k0_pay36 (F := Ideal) x5 (ix2 r k) = ug a (row r) k := by pointwise [k0_pay36, hbcu, ug]
include hbcu in
theorem p37_at (r : Fin 512) (k : Fin 256) : k0_pay37 (F := Ideal) x5 (ix2 r k) = z a (row r) k := by
  pointwise [k0_pay37, p35_at row hbcu, p36_at row hbcu, z]

/-- The last eight rows of the tile before, or zeros at the first tile. -/
theorem p38_at (b : BitVec 1) (j : Fin 8) (k : Fin 256) : k0_pay38 (F := Ideal) b x6 (ix2 j k)
    = if b = 1#1 then 0 else x6 (ix2 j ⟨256 + k.val, by omega⟩) * x6 (ix2 j ⟨512 + k.val, by omega⟩) := by
  pointwise [k0_pay38]
  exact select_if _ _ _

variable {b : ℕ} (hrow : ∀ r, (row r).val = b * 512 + r.val) (hz : ∀ r k, v160 (ix2 r k) = z a (row r) k)
  (h6 : ∀ k, halo (ix2 6 k) = zs a 2 (row 0) k) (h7 : ∀ k, halo (ix2 7 k) = zs a 1 (row 0) k)

include hrow in
/-- Within the tile the rows before are the tile's own. -/
theorem zs_row (d : ℕ) (r : Fin 512) (hd : d ≤ r.val) (k : Fin 256) : z a (row ⟨(r.val + 512 - d) % 512, Nat.mod_lt _ (by norm_num)⟩) k = zs a d (row r) k := by
  have h := hrow r
  have h' := hrow ⟨(r.val + 512 - d) % 512, Nat.mod_lt _ (by norm_num)⟩
  have hr := r.isLt
  dsimp only at h'
  rw [zs, dif_pos (by omega)]
  congr 1
  exact Fin.ext (by show _ = (row r).val - d; omega)

include hrow in
theorem zs_first (d d' : ℕ) (r : Fin 512) (hd : r.val + d' = d) (k : Fin 256) : zs a d' (row 0) k = zs a d (row r) k := by
  have h := hrow r
  have h' := hrow 0
  have e : (row 0).val = b * 512 := h'
  rw [zs, zs]
  refine dite_congr (by rw [e, h]; apply propext; omega) (fun _ => ?_) fun _ => rfl
  congr 1
  exact Fin.ext (by show (row 0).val - d' = (row r).val - d; omega)

include hrow hz h7 in
theorem p39_at (r : Fin 512) (k : Fin 256) : k0_pay39 (F := Ideal) v160 halo (ix2 r k) = zs a 1 (row r) k := by
  pointwise [k0_pay39, hz, h7]
  rw [at_row r 0 (by norm_num)]
  split
  · exact zs_first row hrow 1 1 r (by omega) k
  · exact zs_row row hrow 1 r (by omega) k

include hrow hz h6 h7 in
theorem p40_at (r : Fin 512) (k : Fin 256) : k0_pay40 (F := Ideal) v160 halo (ix2 r k) = zs a 2 (row r) k := by
  pointwise [k0_pay40, hz, h6, h7]
  rw [at_row r 1 (by norm_num), at_row r 0 (by norm_num)]
  split
  · exact zs_first row hrow 2 1 r (by omega) k
  · split
    · exact zs_first row hrow 2 2 r (by omega) k
    · exact zs_row row hrow 2 r (by omega) k

include hrow hz h6 h7 hw in
theorem p41_at (r : Fin 512) (k : Fin 256) : k0_pay41 (F := Ideal) w v160 halo (ix2 r k) = cv a (row r) k := by
  pointwise [k0_pay41, p39_at row hrow hz h7, p40_at row hrow hz h6 h7, hw, hz, cv]

include hdc in
theorem p42_at (r : Fin 512) (k : Fin 256) : k0_pay42 (F := Ideal) v99 (ix2 r k) = dnc a (row r) k := by
  pointwise [k0_pay42, hdc, dnc]

variable (hb : ∀ r k, v157 (ix2 r k) = bg a (row r) k)

include hrow hz h6 h7 hw hb in
theorem p43_at (r : Fin 512) (k : Fin 256) : k0_pay43 (F := Ideal) w v157 v160 halo (ix2 r k) = yc a (row r) k := by
  pointwise [k0_pay43, p41_at row hw hrow hz h6 h7, hb, yc]

include hrow hz h6 h7 hw hb in
theorem p44_at (r : Fin 512) (o : Fin 1) : k0_pay44 (F := Ideal) w v157 v160 halo (ix2 r o) = rr w256 eps (yc a (row r)) := by
  pointwise [k0_pay44, p43_at row hw hrow hz h6 h7 hb, rr]

include hrow hz h6 h7 hw hb in
theorem p45_at (r : Fin 512) (k : Fin 256) : k0_pay45 (F := Ideal) w v157 v160 halo (ix2 r k) = hat w256 eps (yc a (row r)) k := by
  pointwise [k0_pay45, p43_at row hw hrow hz h6 h7 hb, p44_at row hw hrow hz h6 h7 hb, hat]

include hrow hz h6 h7 hw hb hdc in
theorem p48_at (acc : FVec Ideal ⟨2, ![1, 256]⟩ .f32) (o : Fin 1) (k : Fin 256) :
    k0_pay48 (F := Ideal) (k0_pay46 acc) (k0_pay47 v99 w v157 v160 halo) (ix2 o k)
      = acc (ix2 o k) + ∑ r, dnc a (row r) k * hat w256 eps (yc a (row r)) k := by
  obtain rfl : o = 0 := Subsingleton.elim _ _
  pointwise [k0_pay48, k0_pay47, k0_pay46, p42_at row hdc, p45_at row hw hrow hz h6 h7 hb]

variable {v199 v210 : FVec Ideal ⟨2, ![512, 256]⟩ .f32} {v208 : FVec Ideal ⟨2, ![512, 1]⟩ .f32}
  (hd : ∀ r k, v199 (ix2 r k) = dnc a (row r) k) (hr : ∀ r o, v208 (ix2 r o) = rr w256 eps (yc a (row r))) (hh : ∀ r k, v210 (ix2 r k) = hat w256 eps (yc a (row r)) k)

include hd hr hh hgc in
theorem p49_at (r : Fin 512) (k : Fin 256) : k0_pay49 (F := Ideal) v199 v208 v210 gc (ix2 r k) = dyc a (row r) k := by
  pointwise [k0_pay49, hd, hr, hh, hgc, dyc, back]

include hd hr hh hgc hb in
theorem p50_at (r : Fin 512) (k : Fin 256) : k0_pay50 (F := Ideal) v157 v199 v208 v210 gc (ix2 r k) = dcv a (row r) k := by
  pointwise [k0_pay50, p49_at row hgc hd hr hh, hb, dcv]

variable (hc : ∀ (j : Fin 8) k, carry (ix2 j k) = dcvs a (j.val + 1) (row 511) k)

include hrow in
/-- Within the tile the rows after are the tile's own; past it they are the carried first rows of the tile after. -/
theorem dcvs_row (d : ℕ) (hd : d ≤ 512) (r : Fin 512) (h : r.val + d < 512) (hb : (row 0).val + 512 ≤ 4096) (k : Fin 256) :
    dcv a (row ⟨(r.val + 512 - (512 - d)) % 512, Nat.mod_lt _ (by norm_num)⟩) k = dcvs a d (row r) k := by
  have h1 := hrow r
  have h0 : (row 0).val = b * 512 := hrow 0
  have h' := hrow ⟨(r.val + 512 - (512 - d)) % 512, Nat.mod_lt _ (by norm_num)⟩
  dsimp only at h'
  rw [dcvs, dif_pos (by omega)]
  congr 1
  exact Fin.ext (by show _ = (row r).val + d; omega)

include hrow in
theorem dcvs_last (d d' : ℕ) (r : Fin 512) (h : r.val + d = 511 + d') (k : Fin 256) : dcvs a d' (row 511) k = dcvs a d (row r) k := by
  have h1 := hrow r
  have h0 : (row 511).val = b * 512 + 511 := hrow 511
  rw [dcvs, dcvs]
  refine dite_congr (by rw [h0, h1]; apply propext; omega) (fun _ => ?_) fun _ => rfl
  congr 1
  exact Fin.ext (by show (row 511).val + d' = (row r).val + d; omega)

include hrow in
theorem row_le : (row 0).val + 512 ≤ 4096 := by
  have h0 : (row 0).val = b * 512 := hrow 0
  have h1 : (row 511).val = b * 512 + 511 := hrow 511
  have := (row 511).isLt
  omega

include hd hr hh hgc hb hrow hw hc in
theorem p51_at (r : Fin 512) (k : Fin 256) : k0_pay51 (F := Ideal) w v157 v199 v208 v210 gc carry (ix2 r k)
    = a.cw (ix2 2 k) * dcv a (row r) k + a.cw (ix2 1 k) * dcvs a 1 (row r) k := by
  pointwise [k0_pay51, p50_at row hgc hb hd hr hh, hw, hc]
  rw [at_row r 511 (by norm_num)]
  congr 2
  split
  · exact dcvs_last row hrow 1 1 r (by omega) k
  · exact dcvs_row row hrow 1 (by norm_num) r (by omega) (row_le row hrow) k

include hd hr hh hgc hb hrow hw hc in
theorem p56_at (r : Fin 512) (k : Fin 256) : k0_pay56 (F := Ideal) (k0_pay51 w v157 v199 v208 v210 gc carry) (k0_pay52 w)
    (k0_pay53 v157 v199 v208 v210 gc carry) k0_pay54 (k0_pay55 carry) (ix2 r k) = dz a (row r) k := by
  pointwise [k0_pay56, k0_pay55, k0_pay54, k0_pay53, k0_pay52, p51_at row hw hgc hrow hb hd hr hh hc, p50_at row hgc hb hd hr hh, hw, hc, dz]
  rw [at_row r 511 (by norm_num), at_row r 510 (by norm_num)]
  congr 2
  split
  · exact dcvs_last row hrow 2 2 r (by omega) k
  · split
    · exact dcvs_last row hrow 2 1 r (by omega) k
    · exact dcvs_row row hrow 2 (by norm_num) r (by omega) (row_le row hrow) k

end Conv

/-- What is carried to the tile before: the first eight rows. -/
theorem p57_at (x : FVec Ideal ⟨2, ![512, 256]⟩ .f32) (j : Fin 8) (k : Fin 256) : k0_pay57 (F := Ideal) x (ix2 j k) = x (ix2 ⟨j.val, by omega⟩ k) := by
  pointwise [k0_pay57]

/-! The three taps' gradients each add a sum over the tile's rows. -/

theorem p58_at (x y : FVec Ideal ⟨2, ![512, 256]⟩ .f32) (acc : FVec Ideal ⟨2, ![1, 256]⟩ .f32) (o : Fin 1) (k : Fin 256) :
    k0_pay58 (F := Ideal) x y acc (ix2 o k) = acc (ix2 o k) + ∑ r, y (ix2 r k) * x (ix2 r k) := by
  obtain rfl : o = 0 := Subsingleton.elim _ _
  pointwise [k0_pay58]

theorem p61_at (x y : FVec Ideal ⟨2, ![512, 256]⟩ .f32) (r : Fin 512) (k : Fin 256) : k0_pay61 (F := Ideal) x y (ix2 r k) = y (ix2 r k) * x (ix2 r k) := by
  pointwise [k0_pay61]

end Cert.MixerIdeal.Value

end
-- ==== Proof.MixerHeads.lean ====
module

public import proofs.«01_k».proof.Proof.MixerTiles

@[expose] public section

set_option maxRecDepth 16384

noncomputable section

open Idealize.ShloMosaic Idealize.ShloMosaic.TcCoe Cert.Reals

/-! What one tile of the mixer's backward pass computes of the cross attention, row by row and head by head. -/

namespace Cert.MixerIdeal.Value

open Cert.MixerIdeal Cert.MixerIdeal.Gen Cert.MixerSpec

variable {a : Args} (row : Fin 512 → Fin 4096)

/-! ### The norm after the cross attention -/

section Norm
variable {x4 : FVec Ideal ⟨2, ![512, 256]⟩ .f32} {v99 : FVec Ideal ⟨2, ![512, 1024]⟩ .f32} {gx : FVec Ideal ⟨2, ![1, 256]⟩ .f32}
  (hyx : ∀ r k, x4 (ix2 r k) = yx a (row r) k) (hdc : ∀ r e, v99 (ix2 r e) = dcat a (row r) e) (hgx : ∀ k, gx (ix2 0 k) = a.gx (ix2 0 k))

include hdc in
theorem p64_at (r : Fin 512) (k : Fin 256) : k0_pay64 (F := Ideal) v99 (ix2 r k) = dnx a (row r) k := by
  pointwise [k0_pay64, hdc, dnx]

include hyx in
theorem p66_at (r : Fin 512) (o : Fin 1) : k0_pay66 (F := Ideal) x4 (ix2 r o) = rr w256 eps (yx a (row r)) := by
  pointwise [k0_pay66, k0_pay65, rr, hyx]

include hyx in
theorem p67_at (r : Fin 512) (k : Fin 256) : k0_pay67 (F := Ideal) x4 (ix2 r k) = hat w256 eps (yx a (row r)) k := by
  pointwise [k0_pay67, k0_pay65, p66_at row hyx, hat, hyx]

include hyx hdc in
theorem p68_at (acc : FVec Ideal ⟨2, ![1, 256]⟩ .f32) (o : Fin 1) (k : Fin 256) : k0_pay68 (F := Ideal) v99 x4 acc (ix2 o k)
    = acc (ix2 o k) + ∑ r, dnx a (row r) k * hat w256 eps (yx a (row r)) k := by
  pointwise [k0_pay68, p67_at row hyx, p64_at row hdc]

include hyx hdc hgx in
theorem p69_at (r : Fin 512) (k : Fin 256) : k0_pay69 (F := Ideal) v99 x4 gx (ix2 r k) = dyx a (row r) k := by
  pointwise [k0_pay69, p66_at row hyx, p67_at row hyx, p64_at row hdc, hgx, dyx, back]

end Norm

/-! ### The weights -/

theorem p76_at {x : FVec Ideal ⟨2, ![512, 256]⟩ .f32} {f : Fin 512 → Fin 256 → EReal} (hx : ∀ r n, x (ix2 r n) = Softmax.ex (f r) n) (r : Fin 512) (n : Fin 256) :
    k0_pay76 (F := Ideal) x (ix2 r n) = Softmax.weight (f r) n := by
  pointwise [k0_pay76, hx, Softmax.weight]

section Heads
variable {q : FVec Ideal ⟨2, ![512, 256]⟩ .bf16} {kv : FVec Ideal ⟨2, ![256, 512]⟩ .bf16} {d : FVec Ideal ⟨2, ![512, 256]⟩ .f32}
  (hq : ∀ r c, q (ix2 r c) = a.qx (ix2 (row r) c)) (hkv : ∀ n e, kv (ix2 n e) = a.kv (ix2 n e)) (hd : ∀ r k, d (ix2 r k) = dyx a (row r) k)

/-! Head 0. -/

theorem col0 (l : Fin 64) : col 0 l = ⟨l.val, by omega⟩ := Fin.ext (by show 0 * 64 + l.val = l.val; omega)

include hq hkv in
theorem p72_at (r : Fin 512) (n : Fin 256) : k0_pay72 (F := Ideal) q kv (ix2 r n) = ex a 0 (row r) n := by
  pointwise [k0_pay72, k0_pay70, k0_pay71, hq, hkv, ex, Softmax.ex, Softmax.greatest, sc, mk, col0]

theorem p80_at (r : Fin 512) (l : Fin 64) : k0_pay80 (F := Ideal) d (ix2 r l) = d (ix2 r (col 0 l)) := by
  pointwise [k0_pay80, col0]

include hkv hd in
theorem p86_at {x : FVec Ideal ⟨2, ![512, 256]⟩ .f32} (hx : ∀ r n, x (ix2 r n) = ex a 0 (row r) n) (r : Fin 512) (n : Fin 256) :
    k0_pay86 (F := Ideal) d kv x (ix2 r n) = dsc a 0 (row r) n := by
  pointwise [k0_pay86, p76_at hx, p80_at, hd, hkv, dsc, dwt, wt, mv, Softmax.weight, hx, ex, col0]

section
variable {ds : FVec Ideal ⟨2, ![512, 256]⟩ .bf16} (hds : ∀ r n, ds (ix2 r n) = dsc a 0 (row r) n)

include hds hkv in
theorem p91_at (r : Fin 512) (l : Fin 64) : k0_pay91 (F := Ideal) kv ds (ix2 r l) = dqx a (row r) (col 0 l) := by
  have e : head (col 0 l) = 0 := Fin.ext (by show (0 * 64 + l.val) / 64 = 0; omega)
  rw [dqx, e]
  pointwise [k0_pay91, hds, hkv, mk, col0]

include hds hq in
theorem p92_at (acc : FVec Ideal ⟨2, ![256, 64]⟩ .f32) (n : Fin 256) (l : Fin 64) :
    k0_pay92 (F := Ideal) q ds acc (ix2 n l) = acc (ix2 n l) + ∑ r, dsc a 0 (row r) n * a.qx (ix2 (row r) (col 0 l)) := by
  pointwise [k0_pay92, hds, hq, col0]

theorem p93_at {w : FVec Ideal ⟨2, ![512, 256]⟩ .f32} {y : FVec Ideal ⟨2, ![512, 64]⟩ .bf16} (hw : ∀ r n, w (ix2 r n) = wt a 0 (row r) n)
    (hy : ∀ r l, y (ix2 r l) = dyx a (row r) (col 0 l)) (acc : FVec Ideal ⟨2, ![256, 64]⟩ .f32) (n : Fin 256) (l : Fin 64) :
    k0_pay93 (F := Ideal) w y acc (ix2 n l) = acc (ix2 n l) + ∑ r, wt a 0 (row r) n * dyx a (row r) (col 0 l) := by
  pointwise [k0_pay93, hw, hy]

end

/-! Head 1. -/

theorem col1 (l : Fin 64) : col 1 l = ⟨64 + l.val, by omega⟩ := Fin.ext (by show 1 * 64 + l.val = 64 + l.val; omega)

include hq hkv in
theorem p73_at (r : Fin 512) (n : Fin 256) : k0_pay73 (F := Ideal) q kv (ix2 r n) = ex a 1 (row r) n := by
  pointwise [k0_pay73, k0_pay70, k0_pay71, hq, hkv, ex, Softmax.ex, Softmax.greatest, sc, mk, col1]

theorem p81_at (r : Fin 512) (l : Fin 64) : k0_pay81 (F := Ideal) d (ix2 r l) = d (ix2 r (col 1 l)) := by
  pointwise [k0_pay81, col1]

include hkv hd in
theorem p87_at {x : FVec Ideal ⟨2, ![512, 256]⟩ .f32} (hx : ∀ r n, x (ix2 r n) = ex a 1 (row r) n) (r : Fin 512) (n : Fin 256) :
    k0_pay87 (F := Ideal) d kv x (ix2 r n) = dsc a 1 (row r) n := by
  pointwise [k0_pay87, k0_pay77, p76_at hx, p81_at, hd, hkv, dsc, dwt, wt, mv, Softmax.weight, hx, ex, col1]
  simp only [← Nat.add_assoc, Nat.reduceAdd]

section
variable {ds : FVec Ideal ⟨2, ![512, 256]⟩ .bf16} (hds : ∀ r n, ds (ix2 r n) = dsc a 1 (row r) n)

include hds hkv in
theorem p94_at (r : Fin 512) (l : Fin 64) : k0_pay94 (F := Ideal) kv ds (ix2 r l) = dqx a (row r) (col 1 l) := by
  have e : head (col 1 l) = 1 := Fin.ext (by show (1 * 64 + l.val) / 64 = 1; omega)
  rw [dqx, e]
  pointwise [k0_pay94, k0_pay88, hds, hkv, mk, col1]

include hds hq in
theorem p95_at (acc : FVec Ideal ⟨2, ![256, 64]⟩ .f32) (n : Fin 256) (l : Fin 64) :
    k0_pay95 (F := Ideal) q ds acc (ix2 n l) = acc (ix2 n l) + ∑ r, dsc a 1 (row r) n * a.qx (ix2 (row r) (col 1 l)) := by
  pointwise [k0_pay95, hds, hq, col1]

theorem p96_at {w : FVec Ideal ⟨2, ![512, 256]⟩ .f32} {y : FVec Ideal ⟨2, ![512, 64]⟩ .bf16} (hw : ∀ r n, w (ix2 r n) = wt a 1 (row r) n)
    (hy : ∀ r l, y (ix2 r l) = dyx a (row r) (col 1 l)) (acc : FVec Ideal ⟨2, ![256, 64]⟩ .f32) (n : Fin 256) (l : Fin 64) :
    k0_pay96 (F := Ideal) w y acc (ix2 n l) = acc (ix2 n l) + ∑ r, wt a 1 (row r) n * dyx a (row r) (col 1 l) := by
  pointwise [k0_pay96, hw, hy]

end

/-! Head 2. -/

theorem col2 (l : Fin 64) : col 2 l = ⟨128 + l.val, by omega⟩ := Fin.ext (by show 2 * 64 + l.val = 128 + l.val; omega)

include hq hkv in
theorem p74_at (r : Fin 512) (n : Fin 256) : k0_pay74 (F := Ideal) q kv (ix2 r n) = ex a 2 (row r) n := by
  pointwise [k0_pay74, k0_pay70, k0_pay71, hq, hkv, ex, Softmax.ex, Softmax.greatest, sc, mk, col2]

theorem p82_at (r : Fin 512) (l : Fin 64) : k0_pay82 (F := Ideal) d (ix2 r l) = d (ix2 r (col 2 l)) := by
  pointwise [k0_pay82, col2]

include hkv hd in
theorem p84_at (r : Fin 512) (n : Fin 256) : k0_pay84 (F := Ideal) d kv (ix2 r n) = dwt a 2 (row r) n := by
  pointwise [k0_pay84, p82_at, hd, hkv, dwt, mv, col2]
  simp only [← Nat.add_assoc, Nat.reduceAdd]

theorem p89_at {x y : FVec Ideal ⟨2, ![512, 256]⟩ .f32} (hx : ∀ r n, x (ix2 r n) = wt a 2 (row r) n) (hy : ∀ r n, y (ix2 r n) = dwt a 2 (row r) n)
    (r : Fin 512) (n : Fin 256) : k0_pay89 (F := Ideal) x y (ix2 r n) = dsc a 2 (row r) n := by
  pointwise [k0_pay89, hx, hy, dsc]

section
variable {ds : FVec Ideal ⟨2, ![512, 256]⟩ .bf16} (hds : ∀ r n, ds (ix2 r n) = dsc a 2 (row r) n)

include hds hkv in
theorem p97_at (r : Fin 512) (l : Fin 64) : k0_pay97 (F := Ideal) kv ds (ix2 r l) = dqx a (row r) (col 2 l) := by
  have e : head (col 2 l) = 2 := Fin.ext (by show (2 * 64 + l.val) / 64 = 2; omega)
  rw [dqx, e]
  pointwise [k0_pay97, hds, hkv, mk, col2]

include hds hq in
theorem p98_at (acc : FVec Ideal ⟨2, ![256, 64]⟩ .f32) (n : Fin 256) (l : Fin 64) :
    k0_pay98 (F := Ideal) q ds acc (ix2 n l) = acc (ix2 n l) + ∑ r, dsc a 2 (row r) n * a.qx (ix2 (row r) (col 2 l)) := by
  pointwise [k0_pay98, hds, hq, col2]

theorem p99_at {w : FVec Ideal ⟨2, ![512, 256]⟩ .f32} {y : FVec Ideal ⟨2, ![512, 64]⟩ .bf16} (hw : ∀ r n, w (ix2 r n) = wt a 2 (row r) n)
    (hy : ∀ r l, y (ix2 r l) = dyx a (row r) (col 2 l)) (acc : FVec Ideal ⟨2, ![256, 64]⟩ .f32) (n : Fin 256) (l : Fin 64) :
    k0_pay99 (F := Ideal) w y acc (ix2 n l) = acc (ix2 n l) + ∑ r, wt a 2 (row r) n * dyx a (row r) (col 2 l) := by
  pointwise [k0_pay99, hw, hy]

end

/-! Head 3. -/

theorem col3 (l : Fin 64) : col 3 l = ⟨192 + l.val, by omega⟩ := Fin.ext (by show 3 * 64 + l.val = 192 + l.val; omega)

include hq hkv in
theorem p75_at (r : Fin 512) (n : Fin 256) : k0_pay75 (F := Ideal) q kv (ix2 r n) = ex a 3 (row r) n := by
  pointwise [k0_pay75, k0_pay70, k0_pay71, hq, hkv, ex, Softmax.ex, Softmax.greatest, sc, mk, col3]

theorem p83_at (r : Fin 512) (l : Fin 64) : k0_pay83 (F := Ideal) d (ix2 r l) = d (ix2 r (col 3 l)) := by
  pointwise [k0_pay83, col3]

include hkv hd in
theorem p85_at (r : Fin 512) (n : Fin 256) : k0_pay85 (F := Ideal) d kv (ix2 r n) = dwt a 3 (row r) n := by
  pointwise [k0_pay85, p83_at, hd, hkv, dwt, mv, col3]
  simp only [← Nat.add_assoc, Nat.reduceAdd]

theorem p90_at {x y : FVec Ideal ⟨2, ![512, 256]⟩ .f32} (hx : ∀ r n, x (ix2 r n) = wt a 3 (row r) n) (hy : ∀ r n, y (ix2 r n) = dwt a 3 (row r) n)
    (r : Fin 512) (n : Fin 256) : k0_pay90 (F := Ideal) x y (ix2 r n) = dsc a 3 (row r) n := by
  pointwise [k0_pay90, hx, hy, dsc]

section
variable {ds : FVec Ideal ⟨2, ![512, 256]⟩ .bf16} (hds : ∀ r n, ds (ix2 r n) = dsc a 3 (row r) n)

include hds hkv in
theorem p1_at (r : Fin 512) (l : Fin 64) : k0_pay1 (F := Ideal) ds (k0_pay100 kv) (ix2 r l) = dqx a (row r) (col 3 l) := by
  have e : head (col 3 l) = 3 := Fin.ext (by show (3 * 64 + l.val) / 64 = 3; omega)
  rw [dqx, e]
  pointwise [k0_pay1, k0_pay100, hds, hkv, mk, col3]

include hds hq in
theorem p2_at (acc : FVec Ideal ⟨2, ![256, 64]⟩ .f32) (n : Fin 256) (l : Fin 64) :
    k0_pay2 (F := Ideal) q ds acc (ix2 n l) = acc (ix2 n l) + ∑ r, dsc a 3 (row r) n * a.qx (ix2 (row r) (col 3 l)) := by
  pointwise [k0_pay2, hds, hq, col3]

theorem p3_at {w : FVec Ideal ⟨2, ![512, 256]⟩ .f32} {y : FVec Ideal ⟨2, ![512, 64]⟩ .bf16} (hw : ∀ r n, w (ix2 r n) = wt a 3 (row r) n)
    (hy : ∀ r l, y (ix2 r l) = dyx a (row r) (col 3 l)) (acc : FVec Ideal ⟨2, ![256, 64]⟩ .f32) (n : Fin 256) (l : Fin 64) :
    k0_pay3 (F := Ideal) w y acc (ix2 n l) = acc (ix2 n l) + ∑ r, wt a 3 (row r) n * dyx a (row r) (col 3 l) := by
  pointwise [k0_pay3, hw, hy]

end

end Heads

end Cert.MixerIdeal.Value

end
-- ==== Proof.MixerBlocks.lean ====
module

public import proofs.«01_k».proof.Proof.Gen.MixerIdeal.Value
public import proofs.«01_k».proof.Proof.MixerHeads
public import proofs.«01_k».proof.Defs
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem Cert.Reals

/-! The blocks the mixer's backward pass reads: the arguments, and what the host's lines before the call make of them. -/

namespace Cert.MixerIdeal.Value

open Cert.MixerIdeal Cert.MixerIdeal.Gen Cert.MixerSpec

/-! ### The host's lines -/

def norm512 (X : FVec Ideal S4096x512 .f32) (G : FVec Ideal S1x512 .f32) : FVec Ideal S4096x512 .f32 :=
  mulf (mulf X (broadcastInDim S4096x512 ![0, 1] bcast_S4096x1_S4096x512_0_1 (Host.rsqrt (addf (Host.divf
    (broadcastInDim S4096x1 ![0] bcast_S4096_S4096x1_0 (Host.reduceAdd (mulf X X) (constant S_ .f32 0x00000000#32) reducesTo_S4096x512_S4096_d1 h_S_))
    (broadcastInDim S4096x1 ![] bcast_S_S4096x1 (constant S_ .f32 0x44000000#32))) (broadcastInDim S4096x1 ![] bcast_S_S4096x1 (constant S_ .f32 0x358637BD#32))))))
    (broadcastInDim S4096x512 ![0, 1] bcast_S1x512_S4096x512_0_1 G)

def norm256 (X : FVec Ideal S4096x256 .f32) (G : FVec Ideal S1x256 .f32) : FVec Ideal S4096x256 .f32 :=
  mulf (mulf X (broadcastInDim S4096x256 ![0, 1] bcast_S4096x1_S4096x256_0_1 (Host.rsqrt (addf (Host.divf
    (broadcastInDim S4096x1 ![0] bcast_S4096_S4096x1_0 (Host.reduceAdd (mulf X X) (constant S_ .f32 0x00000000#32) reducesTo_S4096x256_S4096_d1 h_S_))
    (broadcastInDim S4096x1 ![] bcast_S_S4096x1 (constant S_ .f32 0x43800000#32))) (broadcastInDim S4096x1 ![] bcast_S_S4096x1 (constant S_ .f32 0x358637BD#32))))))
    (broadcastInDim S4096x256 ![0, 1] bcast_S1x256_S4096x256_0_1 G)

theorem norm512_at (X : FVec Ideal S4096x512 .f32) (G : FVec Ideal S1x512 .f32) (i : Fin 4096) (k : Fin 512) :
    norm512 X G (ix2 i k) = hat w512 eps (fun k => X (ix2 i k)) k * G (ix2 0 k) := by
  pointwise [norm512, hat, rr]

theorem norm256_at (X : FVec Ideal S4096x256 .f32) (G : FVec Ideal S1x256 .f32) (i : Fin 4096) (k : Fin 256) :
    norm256 X G (ix2 i k) = hat w256 eps (fun k => X (ix2 i k)) k * G (ix2 0 k) := by
  pointwise [norm256, hat, rr]

/-- One head of the cross attention over its own columns: the scores, and the output before and after the division. -/
def scoresT (Q : FVec Ideal S4096x64 .bf16) (K : FVec Ideal S256x64 .bf16) : FVec Ideal S4096x256 .f32 :=
  mulf (Host.dotGeneral dot_S4096x64_S256x64_S4096x256_1_1_0_0_n_n none Q K) (broadcastInDim S4096x256 ![] bcast_S_S4096x256 (constant S_ .f32 0x3E000000#32))

def expsT (S : FVec Ideal S4096x256 .f32) : FVec Ideal S4096x256 .f32 :=
  Host.exp (subf S (broadcastInDim S4096x256 ![0, 1] bcast_S4096x1_S4096x256_0_1 (broadcastInDim S4096x1 ![0] bcast_S4096_S4096x1_0
    (Host.reduce FloatOps.maximumf S (constant S_ .f32 0xFF800000#32) reducesTo_S4096x256_S4096_d1 h_S_))))

def outT (E : FVec Ideal S4096x256 .f32) (W : FVec Ideal S256x64 .bf16) : FVec Ideal S4096x64 .f32 :=
  Host.divf (Host.dotGeneral dot_S4096x256_S256x64_S4096x64_1_0_0_1_n_n none (truncf .bf16 E bitsLt_bf16_f32) W)
    (broadcastInDim S4096x64 ![0, 1] bcast_S4096x1_S4096x64_0_1 (broadcastInDim S4096x1 ![0] bcast_S4096_S4096x1_0
      (Host.reduceAdd E (constant S_ .f32 0x00000000#32) reducesTo_S4096x256_S4096_d1 h_S_)))

abbrev headT (Q : FVec Ideal S4096x64 .bf16) (K W : FVec Ideal S256x64 .bf16) : FVec Ideal S4096x64 .f32 := outT (expsT (scoresT Q K)) W

theorem scoresT_at (Q : FVec Ideal S4096x64 .bf16) (K : FVec Ideal S256x64 .bf16) (i : Fin 4096) (n : Fin 256) :
    scoresT Q K (ix2 i n) = (∑ l, Q (ix2 i l) * K (ix2 n l)) * scale := by
  pointwise [scoresT]

theorem expsT_at (S : FVec Ideal S4096x256 .f32) (i : Fin 4096) (n : Fin 256) : expsT S (ix2 i n) = Softmax.ex (fun n => S (ix2 i n)) n := by
  pointwise [expsT, Softmax.ex]

theorem outT_at (E : FVec Ideal S4096x256 .f32) (W : FVec Ideal S256x64 .bf16) (i : Fin 4096) (l : Fin 64) :
    outT E W (ix2 i l) = Ideal.div (∑ n, E (ix2 i n) * W (ix2 n l)) (∑ n, E (ix2 i n)) := by
  pointwise [outT]

/-- The four heads side by side. -/
def yxT (q : FVec Ideal S4096x256 .bf16) (kv : FVec Ideal S256x512 .bf16) : FVec Ideal S4096x256 .f32 :=
  concatenate S4096x256 1
    [⟨S4096x64, headT (extractStridedSlice S4096x64 ![0, 0] q slices_S4096x256_S4096x64_0_0)
      (extractStridedSlice S256x64 ![0, 0] kv slices_S256x512_S256x64_0_0) (extractStridedSlice S256x64 ![0, 256] kv slices_S256x512_S256x64_0_256)⟩,
     ⟨S4096x64, headT (extractStridedSlice S4096x64 ![0, 64] q slices_S4096x256_S4096x64_0_64)
      (extractStridedSlice S256x64 ![0, 64] kv slices_S256x512_S256x64_0_64) (extractStridedSlice S256x64 ![0, 320] kv slices_S256x512_S256x64_0_320)⟩,
     ⟨S4096x64, headT (extractStridedSlice S4096x64 ![0, 128] q slices_S4096x256_S4096x64_0_128)
      (extractStridedSlice S256x64 ![0, 128] kv slices_S256x512_S256x64_0_128) (extractStridedSlice S256x64 ![0, 384] kv slices_S256x512_S256x64_0_384)⟩,
     ⟨S4096x64, headT (extractStridedSlice S4096x64 ![0, 192] q slices_S4096x256_S4096x64_0_192)
      (extractStridedSlice S256x64 ![0, 192] kv slices_S256x512_S256x64_0_192) (extractStridedSlice S256x64 ![0, 448] kv slices_S256x512_S256x64_0_448)⟩]
    concatenates_S4096x64_S4096x64_S4096x64_S4096x64_S4096x256_d1

/-- The gated convolution. -/
def zT (B : FVec Ideal S4096x768 .f32) : FVec Ideal S4098x256 .f32 :=
  concatenate S4098x256 0 [⟨S2x256, broadcastInDim S2x256 ![] bcast_S_S2x256 (constant S_ .f32 0x00000000#32)⟩,
    ⟨S4096x256, mulf (extractStridedSlice S4096x256 ![0, 256] B slices_S4096x768_S4096x256_0_256)
      (extractStridedSlice S4096x256 ![0, 512] B slices_S4096x768_S4096x256_0_512)⟩] concatenates_S2x256_S4096x256_S4098x256_d0

abbrev tapT (w : FVec Ideal S1x256 .f32) : FVec Ideal S4096x256 .f32 :=
  broadcastInDim S4096x256 ![0, 1] bcast_S1x256_S4096x256_0_1 (broadcastInDim S1x256 ![1] bcast_S256_S1x256_1 (shapeCast S256 w shapeCasts_S1x256_S256))

def ycT (B : FVec Ideal S4096x768 .f32) (W : FVec Ideal S3x256 .f32) : FVec Ideal S4096x256 .f32 :=
  mulf (extractStridedSlice S4096x256 ![0, 0] B slices_S4096x768_S4096x256_0_0)
    (addf (addf (mulf (extractStridedSlice S4096x256 ![0, 0] (zT B) slices_S4098x256_S4096x256_0_0)
          (tapT (extractStridedSlice S1x256 ![0, 0] W slices_S3x256_S1x256_0_0)))
        (mulf (extractStridedSlice S4096x256 ![1, 0] (zT B) slices_S4098x256_S4096x256_1_0)
          (tapT (extractStridedSlice S1x256 ![1, 0] W slices_S3x256_S1x256_1_0))))
      (mulf (extractStridedSlice S4096x256 ![2, 0] (zT B) slices_S4098x256_S4096x256_2_0)
        (tapT (extractStridedSlice S1x256 ![2, 0] W slices_S3x256_S1x256_2_0))))

def gainsT (ga : FVec Ideal S1x512 .f32) (gc gx : FVec Ideal S1x256 .f32) : FVec Ideal S1x1024 .f32 :=
  concatenate S1x1024 1 [⟨S1x512, ga⟩, ⟨S1x256, gc⟩, ⟨S1x256, gx⟩] concatenates_S1x512_S1x256_S1x256_S1x1024_d1

def ycatT (A : FVec Ideal S4096x512 .f32) (C X : FVec Ideal S4096x256 .f32) : FVec Ideal S4096x1024 .bf16 :=
  truncf .bf16 (concatenate S4096x1024 1 [⟨S4096x512, A⟩, ⟨S4096x256, C⟩, ⟨S4096x256, X⟩] concatenates_S4096x512_S4096x256_S4096x256_S4096x1024_d1) bitsLt_bf16_f32

section Args
variable {a : Args}

theorem zT_at (j : Fin 4098) (k : Fin 256) : zT a.bcu (ix2 j k) = if h : 2 ≤ j.val then z a ⟨j.val - 2, by omega⟩ k else 0 := by
  pointwise [zT, z, cg, ug]
  by_cases h : j.val < 2
  · rw [dif_pos h, dif_neg (by omega)]
  · rw [dif_neg h, dif_pos (by omega)]

theorem zT_two (i : Fin 4096) (k : Fin 256) (h : i.val < 4098) : zT a.bcu (ix2 ⟨i.val, h⟩ k) = zs a 2 i k := by
  rw [zT_at, zs]

theorem zT_one (i : Fin 4096) (k : Fin 256) (h : 1 + i.val < 4098) : zT a.bcu (ix2 ⟨1 + i.val, h⟩ k) = zs a 1 i k := by
  rw [zT_at, zs]
  by_cases h : 1 ≤ i.val
  · rw [dif_pos h, dif_pos (by show 2 ≤ 1 + i.val; omega)]
    exact congrArg (fun j => z a j k) (Fin.ext (by show 1 + i.val - 2 = i.val - 1; omega))
  · rw [dif_neg h, dif_neg (by show ¬ 2 ≤ 1 + i.val; omega)]

theorem zT_zero (i : Fin 4096) (k : Fin 256) (h : 2 + i.val < 4098) : zT a.bcu (ix2 ⟨2 + i.val, h⟩ k) = z a i k := by
  rw [zT_at, dif_pos (by show 2 ≤ 2 + i.val; omega)]
  exact congrArg (fun j => z a j k) (Fin.ext (by show 2 + i.val - 2 = i.val; omega))

theorem ycT_at (i : Fin 4096) (k : Fin 256) : ycT a.bcu a.cw (ix2 i k) = yc a i k := by
  rw [yc, cv, mul_comm (a.cw (ix2 0 k)), mul_comm (a.cw (ix2 1 k)), mul_comm (a.cw (ix2 2 k))]
  pointwise [ycT, zT_two, zT_one, zT_zero, bg]

/-- A head over the columns of head `h` is those columns of the attention's output. -/
theorem headT_at (ha : a.Real) (h : Fin 4) {Q : FVec Ideal S4096x64 .bf16} {K W : FVec Ideal S256x64 .bf16}
    (hQ : ∀ i l, Q (ix2 i l) = a.qx (ix2 i (col h l))) (hK : ∀ n l, K (ix2 n l) = mk a n (col h l)) (hW : ∀ n l, W (ix2 n l) = mv a n (col h l))
    (i : Fin 4096) (l : Fin 64) : headT Q K W (ix2 i l) = yx a i (col h l) := by
  have e (n : Fin 256) : expsT (scoresT Q K) (ix2 i n) = Softmax.ex (sc a h i) n := by
    rw [expsT_at]
    congr 1
    funext n
    rw [scoresT_at]
    simp only [hQ, hK, sc]
  have hc : head (col h l) = h := Fin.ext (by show (h.val * 64 + l.val) / 64 = h.val; omega)
  rw [headT, outT_at, yx, hc]
  simp only [e, hW]
  exact Softmax.out_eq (fun n => re_sc ha h i n) fun n => ha.kv _

theorem yxT_at (ha : a.Real) (i : Fin 4096) (c : Fin 256) : yxT a.qx a.kv (ix2 i c) = yx a i c := by
  have hq {i : Fin 4096} {d d' : Fin 256} (h : d.val = d'.val) : a.qx (ix2 i d) = a.qx (ix2 i d') := congrArg (fun d => a.qx (ix2 i d)) (Fin.ext h)
  have hk {n : Fin 256} {d d' : Fin 512} (h : d.val = d'.val) : a.kv (ix2 n d) = a.kv (ix2 n d') := congrArg (fun d => a.kv (ix2 n d)) (Fin.ext h)
  have h0 (i : Fin 4096) (l : Fin 64) := headT_at ha 0 (Q := extractStridedSlice S4096x64 ![0, 0] a.qx slices_S4096x256_S4096x64_0_0)
    (K := extractStridedSlice S256x64 ![0, 0] a.kv slices_S256x512_S256x64_0_0) (W := extractStridedSlice S256x64 ![0, 256] a.kv slices_S256x512_S256x64_0_256)
    (fun i l => by pointwise []; exact hq (by first | rfl | simp)) (fun n l => by pointwise [mk]) (fun n l => by pointwise [mv]) i l
  have h1 (i : Fin 4096) (l : Fin 64) := headT_at ha 1 (Q := extractStridedSlice S4096x64 ![0, 64] a.qx slices_S4096x256_S4096x64_0_64)
    (K := extractStridedSlice S256x64 ![0, 64] a.kv slices_S256x512_S256x64_0_64) (W := extractStridedSlice S256x64 ![0, 320] a.kv slices_S256x512_S256x64_0_320)
    (fun i l => by pointwise []; exact hq (by first | rfl | simp)) (fun n l => by pointwise [mk]) (fun n l => by pointwise [mv]; exact hk (by show _ + _ = _ + (_ + _); omega)) i l
  have h2 (i : Fin 4096) (l : Fin 64) := headT_at ha 2 (Q := extractStridedSlice S4096x64 ![0, 128] a.qx slices_S4096x256_S4096x64_0_128)
    (K := extractStridedSlice S256x64 ![0, 128] a.kv slices_S256x512_S256x64_0_128) (W := extractStridedSlice S256x64 ![0, 384] a.kv slices_S256x512_S256x64_0_384)
    (fun i l => by pointwise []; exact hq (by first | rfl | simp)) (fun n l => by pointwise [mk]) (fun n l => by pointwise [mv]; exact hk (by show _ + _ = _ + (_ + _); omega)) i l
  have h3 (i : Fin 4096) (l : Fin 64) := headT_at ha 3 (Q := extractStridedSlice S4096x64 ![0, 192] a.qx slices_S4096x256_S4096x64_0_192)
    (K := extractStridedSlice S256x64 ![0, 192] a.kv slices_S256x512_S256x64_0_192) (W := extractStridedSlice S256x64 ![0, 448] a.kv slices_S256x512_S256x64_0_448)
    (fun i l => by pointwise []; exact hq (by first | rfl | simp)) (fun n l => by pointwise [mk]) (fun n l => by pointwise [mv]; exact hk (by show _ + _ = _ + (_ + _); omega)) i l
  generalize e0 : headT (extractStridedSlice S4096x64 ![0, 0] a.qx slices_S4096x256_S4096x64_0_0) _ _ = H0 at h0
  generalize e1 : headT (extractStridedSlice S4096x64 ![0, 64] a.qx slices_S4096x256_S4096x64_0_64) _ _ = H1 at h1
  generalize e2 : headT (extractStridedSlice S4096x64 ![0, 128] a.qx slices_S4096x256_S4096x64_0_128) _ _ = H2 at h2
  generalize e3 : headT (extractStridedSlice S4096x64 ![0, 192] a.qx slices_S4096x256_S4096x64_0_192) _ _ = H3 at h3
  unfold yxT
  rw [e0, e1, e2, e3]
  pointwise [h0, h1, h2, h3]
  have hc (d d' : Fin 256) (h : d = d') : yx a i d = yx a i d' := congrArg (yx a i) h
  split
  · exact hc _ _ (Fin.ext (by simp))
  split
  · exact hc _ _ (Fin.ext (by simp; omega))
  split
  · exact hc _ _ (Fin.ext (by simp; omega))
  · exact hc _ _ (Fin.ext (by simp; omega))

theorem ycatT_at {A : FVec Ideal S4096x512 .f32} {C X : FVec Ideal S4096x256 .f32}
    (hA : ∀ i k, A (ix2 i k) = yar a i k) (hC : ∀ i k, C (ix2 i k) = yc a i k) (hX : ∀ i k, X (ix2 i k) = yx a i k)
    (i : Fin 4096) (e : Fin 1024) : ycatT (norm512 A a.ga) (norm256 C a.gc) (norm256 X a.gx) (ix2 i e) = ycat a i e := by
  pointwise [ycatT, norm512_at, norm256_at, hA, hC, hX, ycat]
  by_cases h : e.val < 512
  · rw [dif_pos h, dif_pos h]
  · rw [dif_neg h, dif_neg h]
    by_cases h' : e.val < 768
    · rw [dif_pos h', dif_pos (by omega)]
    · rw [dif_neg h', dif_neg (by omega)]
      exact congrArg (fun j => hat w256 eps (yx a i) j * a.gx (ix2 0 j)) (Fin.ext (by show e.val - 512 - 256 = e.val - 768; omega))

theorem gainsT_at (z : Fin 1) (e : Fin 1024) : gainsT a.ga a.gc a.gx (ix2 z e) = if h : e.val < 512 then a.ga (ix2 0 ⟨e.val, h⟩)
    else if h : e.val < 768 then a.gc (ix2 0 ⟨e.val - 512, by omega⟩) else a.gx (ix2 0 ⟨e.val - 768, by omega⟩) := by
  pointwise [gainsT]
  by_cases h : e.val < 512
  · rw [dif_pos h, dif_pos h]
  · rw [dif_neg h, dif_neg h]
    by_cases h' : e.val < 768
    · rw [dif_pos h', dif_pos (by omega)]
    · rw [dif_neg h', dif_neg (by omega)]
      exact congrArg (fun j => a.gx (ix2 0 j)) (Fin.ext (by show e.val - 512 - 256 = e.val - 768; omega))

def y2T (Y : FVec Ideal S4096x1024 .bf16) (W : FVec Ideal S1024x1024 .bf16) : FVec Ideal S4096x1024 .f32 :=
  Host.dotGeneral dot_S4096x1024_S1024x1024_S4096x1024_1_0_0_1_n_n none Y W

theorem y2T_at {Y : FVec Ideal S4096x1024 .bf16} {W : FVec Ideal S1024x1024 .bf16} (hY : ∀ i e, Y (ix2 i e) = ycat a i e)
    (hW : ∀ e d, W (ix2 e d) = a.wo (ix2 e d)) (i : Fin 4096) (d : Fin 1024) : y2T Y W (ix2 i d) = y2 a i d := by
  pointwise [y2T, hY, hW, y2]

end Args

/-! ### The blocks -/

variable (m : (ℓ : Loc nD τ sig) → Buf (Elt Ideal) ℓ)

theorem idx : ∀ t : Fin cfg0.N, win0_0.index t = ![7 - t.val, 0] ∧ win0_1.index t = ![7 - t.val, 0] ∧ win0_2.index t = ![7 - t.val, 0]
    ∧ win0_3.index t = ![7 - t.val, 0] ∧ win0_4.index t = ![7 - t.val, 0] ∧ win0_5.index t = ![7 - t.val, 0]
    ∧ win0_6.index t = ![(7 - t.val) * 64 - 1, 0] ∧ win0_7.index t = ![7 - t.val, 0] ∧ win0_8.index t = ![0, 0] ∧ win0_9.index t = ![0, 0]
    ∧ win0_10.index t = ![0, 0] ∧ win0_11.index t = ![0, 0] ∧ win0_12.index t = ![0, 0] ∧ win0_13.index t = ![0, 0, 0, 0]
    ∧ win0_14.index t = ![7 - t.val, 0] ∧ win0_15.index t = ![7 - t.val, 0] ∧ win0_16.index t = ![7 - t.val, 0] ∧ win0_17.index t = ![0, 0]
    ∧ win0_18.index t = ![0, 0] ∧ win0_19.index t = ![0, 0] ∧ win0_20.index t = ![0, 0] :=
  (by decide +kernel : ∀ t : Fin grid0.N, _)

/-- The eleven arguments of device `c`. -/
abbrev args (c : Dev nD) : Args := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5), m ((c : Thread nD τ).loc main_arg6),
  m ((c : Thread nD τ).loc main_arg7), m ((c : Thread nD τ).loc main_arg8), m ((c : Thread nD τ).loc main_arg9), m ((c : Thread nD τ).loc main_arg10)⟩

/-- Row `r` of the block at point `t`: the blocks are walked from the last to the first. -/
abbrev row (t : Fin cfg0.N) (r : Fin 512) : Fin 4096 := ⟨(7 - t.val) * 512 + r.val, by omega⟩

theorem blkDx (c : Dev nD) (t : Fin cfg0.N) (r : Fin 512) (k : Fin 1024) : iblk m c 0 t (ix2 r k) = (args m c).dx (ix2 (row t r) k) := by
  blk_point [iblk, V, idx t]
theorem blkYa (c : Dev nD) (t : Fin cfg0.N) (r : Fin 512) (k : Fin 512) : iblk m c 3 t (ix2 r k) = yar (args m c) (row t r) k := by
  unfold yar
  blk_point [iblk, V, idx t]
theorem blkBcu (c : Dev nD) (t : Fin cfg0.N) (r : Fin 512) (k : Fin 768) : iblk m c 5 t (ix2 r k) = (args m c).bcu (ix2 (row t r) k) := by
  blk_point [iblk, V, idx t]
theorem blkHalo (c : Dev nD) (t : Fin cfg0.N) (r : Fin 8) (k : Fin 768) :
    iblk m c 6 t (ix2 r k) = (args m c).bcu (ix2 ⟨((7 - t.val) * 64 - 1) * 8 + r.val, by omega⟩ k) := by
  blk_point [iblk, V, idx t]
theorem blkCw (c : Dev nD) (t : Fin cfg0.N) (d : Fin 3) (k : Fin 256) : iblk m c 9 t (ix2 d k) = (args m c).cw (ix2 d k) := by
  blk_point [iblk, V, idx t]
theorem blkGp (c : Dev nD) (t : Fin cfg0.N) (z : Fin 1) (k : Fin 1024) : iblk m c 12 t (ix2 z k) = (args m c).gp (ix2 z k) := by
  blk_point [iblk, V, idx t]

theorem V_q (c : Dev nD) : V m c main_v0 = (truncf .bf16 (args m c).qx bitsLt_bf16_f32 : FVec Ideal S4096x256 .bf16) := by
  unfold V; after_results
theorem V_kv (c : Dev nD) : V m c main_v1 = (truncf .bf16 (args m c).kv bitsLt_bf16_f32 : FVec Ideal S256x512 .bf16) := by
  unfold V; after_results
theorem V_wo (c : Dev nD) : V m c main_v2 = (truncf .bf16 (args m c).wo bitsLt_bf16_f32 : FVec Ideal S1024x1024 .bf16) := by
  unfold V; after_results
abbrev qT (c : Dev nD) : FVec Ideal S4096x256 .bf16 := truncf .bf16 (args m c).qx bitsLt_bf16_f32
abbrev kvT (c : Dev nD) : FVec Ideal S256x512 .bf16 := truncf .bf16 (args m c).kv bitsLt_bf16_f32
theorem V_head0 (c : Dev nD) : V m c main_v19 = headT (extractStridedSlice S4096x64 ![0, 0] (qT m c) slices_S4096x256_S4096x64_0_0)
    (extractStridedSlice S256x64 ![0, 0] (kvT m c) slices_S256x512_S256x64_0_0) (extractStridedSlice S256x64 ![0, 256] (kvT m c) slices_S256x512_S256x64_0_256) := by
  unfold V; after_results; rfl
theorem V_head1 (c : Dev nD) : V m c main_v36 = headT (extractStridedSlice S4096x64 ![0, 64] (qT m c) slices_S4096x256_S4096x64_0_64)
    (extractStridedSlice S256x64 ![0, 64] (kvT m c) slices_S256x512_S256x64_0_64) (extractStridedSlice S256x64 ![0, 320] (kvT m c) slices_S256x512_S256x64_0_320) := by
  unfold V; after_results; rfl
theorem V_head2 (c : Dev nD) : V m c main_v53 = headT (extractStridedSlice S4096x64 ![0, 128] (qT m c) slices_S4096x256_S4096x64_0_128)
    (extractStridedSlice S256x64 ![0, 128] (kvT m c) slices_S256x512_S256x64_0_128) (extractStridedSlice S256x64 ![0, 384] (kvT m c) slices_S256x512_S256x64_0_384) := by
  unfold V; after_results; rfl
theorem V_head3 (c : Dev nD) : V m c main_v70 = headT (extractStridedSlice S4096x64 ![0, 192] (qT m c) slices_S4096x256_S4096x64_0_192)
    (extractStridedSlice S256x64 ![0, 192] (kvT m c) slices_S256x512_S256x64_0_192) (extractStridedSlice S256x64 ![0, 448] (kvT m c) slices_S256x512_S256x64_0_448) := by
  unfold V; after_results; rfl
theorem V_heads (c : Dev nD) : V m c main_v71 = concatenate S4096x256 1
    [⟨S4096x64, V m c main_v19⟩, ⟨S4096x64, V m c main_v36⟩, ⟨S4096x64, V m c main_v53⟩, ⟨S4096x64, V m c main_v70⟩]
    concatenates_S4096x64_S4096x64_S4096x64_S4096x64_S4096x256_d1 := by
  unfold V; after_results_simp; rfl
theorem V_yx (c : Dev nD) : V m c main_v71 = yxT (qT m c) (kvT m c) := by
  rw [V_heads, V_head0, V_head1, V_head2, V_head3]; rfl
theorem V_yc (c : Dev nD) : V m c main_v98 = ycT (args m c).bcu (args m c).cw := by
  unfold V; after_results; rfl
theorem V_na (c : Dev nD) : V m c main_v110 = norm512 (args m c).ya (args m c).ga := by
  unfold V; after_results; rfl
theorem V_nc (c : Dev nD) : V m c main_v122 = norm256 (V m c main_v98) (args m c).gc := by
  unfold V; after_results; rfl
theorem V_nx (c : Dev nD) : V m c main_v134 = norm256 (V m c main_v71) (args m c).gx := by
  unfold V; after_results; rfl
theorem V_parts (c : Dev nD) : V m c main_v136 = ycatT (V m c main_v110) (V m c main_v122) (V m c main_v134) := by
  unfold V; after_results_simp; rfl
theorem V_out (c : Dev nD) : V m c main_v137 = y2T (V m c main_v136) (V m c main_v2) := by
  unfold V; after_results_simp; rfl
theorem V_ycat (c : Dev nD) : V m c main_v136 = ycatT (norm512 (args m c).ya (args m c).ga) (norm256 (ycT (args m c).bcu (args m c).cw) (args m c).gc)
    (norm256 (yxT (qT m c) (kvT m c)) (args m c).gx) := by
  rw [V_parts, V_na, V_nc, V_nx, V_yc, V_yx]

theorem V_gains (c : Dev nD) : V m c main_v138 = gainsT (args m c).ga (args m c).gc (args m c).gx := by
  unfold V; after_results; rfl
theorem blkQ (c : Dev nD) (t : Fin cfg0.N) (r : Fin 512) (k : Fin 256) : iblk m c 7 t (ix2 r k) = (args m c).qx (ix2 (row t r) k) := by
  refine Eq.trans ?_ (congrFun (V_q m c) _)
  blk_point [iblk, idx t]
theorem blkKv (c : Dev nD) (t : Fin cfg0.N) (n : Fin 256) (k : Fin 512) : iblk m c 8 t (ix2 n k) = (args m c).kv (ix2 n k) := by
  refine Eq.trans ?_ (congrFun (V_kv m c) _)
  blk_point [iblk, idx t]
theorem blkWo (c : Dev nD) (t : Fin cfg0.N) (e d : Fin 1024) : iblk m c 11 t (ix2 e d) = (args m c).wo (ix2 e d) := by
  refine Eq.trans ?_ (congrFun (V_wo m c) _)
  blk_point [iblk, idx t]
theorem blkG (c : Dev nD) (t : Fin cfg0.N) (z : Fin 1) (e : Fin 1024) : iblk m c 10 t (ix2 z e) = gainsT (args m c).ga (args m c).gc (args m c).gx (ix2 z e) := by
  refine Eq.trans ?_ (congrFun (V_gains m c) _)
  blk_point [iblk, idx t]

section Real
variable {m} {c : Dev nD} (ha : (args m c).Real)
include ha

theorem blkYx (t : Fin cfg0.N) (r : Fin 512) (k : Fin 256) : iblk m c 4 t (ix2 r k) = yx (args m c) (row t r) k := by
  refine Eq.trans ?_ ((congrFun (V_yx m c) _).trans (yxT_at ha _ _))
  blk_point [iblk, idx t]
theorem blkYcat (t : Fin cfg0.N) (r : Fin 512) (e : Fin 1024) : iblk m c 2 t (ix2 r e) = ycat (args m c) (row t r) e := by
  refine Eq.trans ?_ ((congrFun (V_ycat m c) _).trans (ycatT_at (fun _ _ => rfl) ycT_at (yxT_at ha) _ _))
  blk_point [iblk, idx t]
theorem blkY2 (t : Fin cfg0.N) (r : Fin 512) (d : Fin 1024) : iblk m c 1 t (ix2 r d) = y2 (args m c) (row t r) d := by
  have hY (i : Fin 4096) (e : Fin 1024) : V m c main_v136 (ix2 i e) = ycat (args m c) i e :=
    (congrFun (V_ycat m c) _).trans (ycatT_at (fun _ _ => rfl) ycT_at (yxT_at ha) _ _)
  have hW (e d : Fin 1024) : V m c main_v2 (ix2 e d) = (args m c).wo (ix2 e d) := congrFun (V_wo m c) _
  refine Eq.trans ?_ ((congrFun (V_out m c) _).trans (y2T_at hY hW _ _))
  blk_point [iblk, idx t]

end Real

end Cert.MixerIdeal.Value
-- ==== Proof.MixerPoint.lean ====
module

public import proofs.«01_k».proof.Proof.MixerBlocks
public import Idealize.ShloMosaic.Lib.Claim
public import Idealize.ShloMosaic.Lib.Quiescent

@[expose] public section

set_option maxRecDepth 16384

noncomputable section

open Idealize.ShloMosaic Idealize.ShloMosaic.TcCoe Idealize.SL.Sem Cert.Reals

/-! What one point of the mixer's backward pass leaves: each payload over the point's blocks is the specification's rows at the point's rows. -/

namespace Cert.MixerIdeal.Value

open Cert.MixerIdeal Cert.MixerIdeal.Gen Cert.MixerSpec

theorem ld_at {n k a b : ℕ} {α : Type} (B : Shape.Idx ⟨2, ![n, k]⟩ → α) (o p : ℕ)
    (h : ∀ x, (![o, p] : Fin 2 → ℕ) x + (⟨2, ![a, b]⟩ : Shape).size x ≤ (⟨2, ![n, k]⟩ : Shape).size x) (r : Fin a) (l : Fin b)
    (ho : o + r.val < n) (hp : p + l.val < k) :
    B ((Rect.unit (s := ⟨2, ![n, k]⟩) ![o, p] ![a, b] h).emb (ix2 r l)) = B (ix2 ⟨o + r.val, ho⟩ ⟨p + l.val, hp⟩) := by
  congr 1
  blk_ext []

variable (m : (ℓ : Loc nD τ sig) → Buf (Elt Ideal) ℓ) (c : Dev nD) (t : Fin cfg0.N)

/-- The cotangent of the projection, of the three normed parts side by side; the three gains; the rows before the tile. -/
abbrev dT : FVec Ideal S512x1024 .bf16 := k0_pay14 (F := Ideal) (iblk m c 0 t) (iblk m c 1 t) (iblk m c 12 t)
abbrev cT : FVec Ideal S512x1024 .f32 := k0_pay25 (F := Ideal) (dT m c t) (iblk m c 11 t)
abbrev gA : FVec Ideal S1x512 .f32 := View.ld (iblk m c 10 t) (Rect.unit (s := S1x1024) ![0, 0] ![1, 512] inb_S1x1024_S1x512_0_0)
abbrev gC : FVec Ideal S1x256 .f32 := View.ld (iblk m c 10 t) (Rect.unit (s := S1x1024) ![0, 512] ![1, 256] inb_S1x1024_S1x256_0_512)
abbrev gX : FVec Ideal S1x256 .f32 := View.ld (iblk m c 10 t) (Rect.unit (s := S1x1024) ![0, 768] ![1, 256] inb_S1x1024_S1x256_0_768)
abbrev hT : FVec Ideal S8x256 .f32 := k0_pay38 (F := Ideal) (Scalar.cmpi CmpIPredicate.eq (BitVec.ofNat 32 ↑(grid0.coords t 0)) 7#32) (iblk m c 6 t)

theorem gA_at (k : Fin 512) : gA m c t (ix2 0 k) = (args m c).ga (ix2 0 k) := by
  refine (ld_at (iblk m c 10 t) 0 0 inb_S1x1024_S1x512_0_0 0 k (by show 0 + 0 < 1; omega) (by omega)).trans ((blkG m c t _ _).trans ?_)
  rw [gainsT_at (a := args m c), dif_pos (by show 0 + k.val < 512; omega)]
  exact congrArg (fun j => (args m c).ga (ix2 0 j)) (Fin.ext (Nat.zero_add _))
theorem gC_at (k : Fin 256) : gC m c t (ix2 0 k) = (args m c).gc (ix2 0 k) := by
  refine (ld_at (iblk m c 10 t) 0 512 inb_S1x1024_S1x256_0_512 0 k (by show 0 + 0 < 1; omega) (by omega)).trans ((blkG m c t _ _).trans ?_)
  rw [gainsT_at (a := args m c), dif_neg (by show ¬ 512 + k.val < 512; omega), dif_pos (by show 512 + k.val < 768; omega)]
  exact congrArg (fun j => (args m c).gc (ix2 0 j)) (Fin.ext (Nat.add_sub_cancel_left _ _))
theorem gX_at (k : Fin 256) : gX m c t (ix2 0 k) = (args m c).gx (ix2 0 k) := by
  refine (ld_at (iblk m c 10 t) 0 768 inb_S1x1024_S1x256_0_768 0 k (by show 0 + 0 < 1; omega) (by omega)).trans ((blkG m c t _ _).trans ?_)
  rw [gainsT_at (a := args m c), dif_neg (by show ¬ 768 + k.val < 512; omega), dif_neg (by show ¬ 768 + k.val < 768; omega)]
  exact congrArg (fun j => (args m c).gx (ix2 0 j)) (Fin.ext (Nat.add_sub_cancel_left _ _))

theorem last_iff : ∀ t : Fin cfg0.N, Scalar.cmpi CmpIPredicate.eq (BitVec.ofNat 32 ↑(grid0.coords t 0)) 7#32 = 1#1 ↔ t.val = 7 :=
  (by decide +kernel : ∀ t : Fin grid0.N, _)

/-- Row `8 - d` of the eight rows before the tile is `d` rows before the tile's first. -/
theorem hT_at (d : ℕ) (hd : 1 ≤ d) (hd' : d ≤ 8) (j : Fin 8) (hj : j.val = 8 - d) (k : Fin 256) : hT m c t (ix2 j k) = zs (args m c) d (row t 0) k := by
  have ht : t.val < 8 := t.isLt
  refine (p38_at _ j k).trans ?_
  rw [zs]
  by_cases h : t.val = 7
  · rw [if_pos ((last_iff t).2 h), dif_neg (by show ¬ d ≤ (7 - t.val) * 512 + 0; omega)]
  · rw [if_neg (fun e => h ((last_iff t).1 e)), dif_pos (by show d ≤ (7 - t.val) * 512 + 0; omega)]
    unfold z cg ug
    have e (p : Fin 768) : iblk m c 6 t (ix2 j p) = (args m c).bcu (ix2 ⟨(row t 0).val - d, by omega⟩ p) :=
      (blkHalo m c t j p).trans (congrArg (fun i => (args m c).bcu (ix2 i p)) (Fin.ext (by
        show ((7 - t.val) * 64 - 1) * 8 + j.val = (7 - t.val) * 512 + 0 - d; omega)))
    exact congrArg₂ (· * ·) (e _) (e _)

theorem row_eq (r : Fin 512) : (row t r).val = (7 - t.val) * 512 + r.val := rfl

theorem z_at (r : Fin 512) (k : Fin 256) : k0_pay37 (F := Ideal) (iblk m c 5 t) (ix2 r k) = z (args m c) (row t r) k := p37_at (row t) (blkBcu m c t) r k
theorem b_at (r : Fin 512) (k : Fin 256) : k0_pay34 (F := Ideal) (iblk m c 5 t) (ix2 r k) = bg (args m c) (row t r) k := p34_at (row t) (blkBcu m c t) r k
theorem c_at (r : Fin 512) (k : Fin 256) : k0_pay35 (F := Ideal) (iblk m c 5 t) (ix2 r k) = cg (args m c) (row t r) k := p35_at (row t) (blkBcu m c t) r k
theorem u_at (r : Fin 512) (k : Fin 256) : k0_pay36 (F := Ideal) (iblk m c 5 t) (ix2 r k) = ug (args m c) (row t r) k := p36_at (row t) (blkBcu m c t) r k
theorem h6_at (k : Fin 256) : hT m c t (ix2 6 k) = zs (args m c) 2 (row t 0) k := hT_at m c t 2 (by norm_num) (by norm_num) 6 rfl k
theorem h7_at (k : Fin 256) : hT m c t (ix2 7 k) = zs (args m c) 1 (row t 0) k := hT_at m c t 1 (by norm_num) (by norm_num) 7 rfl k

abbrev zT' : FVec Ideal S512x256 .f32 := k0_pay37 (F := Ideal) (iblk m c 5 t)
abbrev bT : FVec Ideal S512x256 .f32 := k0_pay34 (F := Ideal) (iblk m c 5 t)
abbrev rT : FVec Ideal S512x1 .f32 := k0_pay44 (F := Ideal) (iblk m c 9 t) (bT m c t) (zT' m c t) (hT m c t)
abbrev nT : FVec Ideal S512x256 .f32 := k0_pay45 (F := Ideal) (iblk m c 9 t) (bT m c t) (zT' m c t) (hT m c t)
abbrev dncT : FVec Ideal S512x256 .f32 := k0_pay42 (F := Ideal) (cT m c t)

theorem zs1_at (r : Fin 512) (k : Fin 256) : k0_pay39 (F := Ideal) (zT' m c t) (hT m c t) (ix2 r k) = zs (args m c) 1 (row t r) k :=
  p39_at (row t) (row_eq t) (z_at m c t) (h7_at m c t) r k
theorem zs2_at (r : Fin 512) (k : Fin 256) : k0_pay40 (F := Ideal) (zT' m c t) (hT m c t) (ix2 r k) = zs (args m c) 2 (row t r) k :=
  p40_at (row t) (row_eq t) (z_at m c t) (h6_at m c t) (h7_at m c t) r k
theorem cv_at (r : Fin 512) (k : Fin 256) : k0_pay41 (F := Ideal) (iblk m c 9 t) (zT' m c t) (hT m c t) (ix2 r k) = cv (args m c) (row t r) k :=
  p41_at (row t) (blkCw m c t) (row_eq t) (z_at m c t) (h6_at m c t) (h7_at m c t) r k
theorem r_at (r : Fin 512) (o : Fin 1) : rT m c t (ix2 r o) = rr w256 eps (yc (args m c) (row t r)) :=
  p44_at (row t) (blkCw m c t) (row_eq t) (z_at m c t) (h6_at m c t) (h7_at m c t) (b_at m c t) r o
theorem n_at (r : Fin 512) (k : Fin 256) : nT m c t (ix2 r k) = hat w256 eps (yc (args m c) (row t r)) k :=
  p45_at (row t) (blkCw m c t) (row_eq t) (z_at m c t) (h6_at m c t) (h7_at m c t) (b_at m c t) r k

section Real
variable {m c} (ha : (args m c).Real)
include ha

theorem d_at (r : Fin 512) (k : Fin 1024) : dT m c t (ix2 r k) = dy2 (args m c) (row t r) k :=
  p14_at (row t) (blkDx m c t) (blkY2 ha t) (fun k => blkGp m c t 0 k) r k
theorem dcat_at (r : Fin 512) (e : Fin 1024) : cT m c t (ix2 r e) = dcat (args m c) (row t r) e :=
  p25_at (row t) (blkWo m c t) (d_at t ha) r e
theorem dnc_at (r : Fin 512) (k : Fin 256) : dncT m c t (ix2 r k) = dnc (args m c) (row t r) k := p42_at (row t) (dcat_at t ha) r k
theorem dyc_at (r : Fin 512) (k : Fin 256) : k0_pay49 (F := Ideal) (dncT m c t) (rT m c t) (nT m c t) (gC m c t) (ix2 r k) = dyc (args m c) (row t r) k :=
  p49_at (row t) (gC_at m c t) (dnc_at t ha) (r_at m c t) (n_at m c t) r k
theorem dcv_at (r : Fin 512) (k : Fin 256) : k0_pay50 (F := Ideal) (bT m c t) (dncT m c t) (rT m c t) (nT m c t) (gC m c t) (ix2 r k) = dcv (args m c) (row t r) k :=
  p50_at (row t) (gC_at m c t) (b_at m c t) (dnc_at t ha) (r_at m c t) (n_at m c t) r k
theorem dz_at {carry : FVec Ideal S8x256 .f32} (hc : ∀ (j : Fin 8) k, carry (ix2 j k) = dcvs (args m c) (j.val + 1) (row t 511) k) (r : Fin 512) (k : Fin 256) :
    k0_pay56 (F := Ideal) (k0_pay51 (iblk m c 9 t) (bT m c t) (dncT m c t) (rT m c t) (nT m c t) (gC m c t) carry) (k0_pay52 (iblk m c 9 t))
      (k0_pay53 (bT m c t) (dncT m c t) (rT m c t) (nT m c t) (gC m c t) carry) k0_pay54 (k0_pay55 carry) (ix2 r k) = dz (args m c) (row t r) k :=
  p56_at (row t) (blkCw m c t) (gC_at m c t) (row_eq t) (b_at m c t) (dnc_at t ha) (r_at m c t) (n_at m c t) hc r k

/-! The cross attention. -/

abbrev xT (m : (ℓ : Loc nD τ sig) → Buf (Elt Ideal) ℓ) (c : Dev nD) (t : Fin cfg0.N) : FVec Ideal S512x256 .f32 :=
  k0_pay69 (F := Ideal) (cT m c t) (iblk m c 4 t) (gX m c t)
abbrev kT (m : (ℓ : Loc nD τ sig) → Buf (Elt Ideal) ℓ) (c : Dev nD) (t : Fin cfg0.N) : FVec Ideal S256x512 .bf16 := k0_pay71 (F := Ideal) (iblk m c 8 t)

theorem dyx_at (r : Fin 512) (k : Fin 256) : xT m c t (ix2 r k) = dyx (args m c) (row t r) k :=
  p69_at (row t) (blkYx ha t) (dcat_at t ha) (gX_at m c t) r k

end Real

theorem p70_at (x : FVec Ideal S512x256 .bf16) (r : Fin 512) (k : Fin 256) : k0_pay70 (F := Ideal) x (ix2 r k) = x (ix2 r k) := by pointwise [k0_pay70]
theorem p71_at (x : FVec Ideal S256x512 .bf16) (n : Fin 256) (e : Fin 512) : k0_pay71 (F := Ideal) x (ix2 n e) = x (ix2 n e) := by pointwise [k0_pay71]
theorem k_at (n : Fin 256) (e : Fin 512) : kT m c t (ix2 n e) = (args m c).kv (ix2 n e) := (p71_at _ n e).trans (blkKv m c t n e)
theorem q_at (r : Fin 512) (k : Fin 256) : k0_pay70 (F := Ideal) (iblk m c 7 t) (ix2 r k) = (args m c).qx (ix2 (row t r) k) := (p70_at _ r k).trans (blkQ m c t r k)

/-- The weights and the cotangents of the scores of the four heads. -/
abbrev w0T : FVec Ideal S512x256 .f32 := k0_pay76 (F := Ideal) (k0_pay72 (iblk m c 7 t) (iblk m c 8 t))
abbrev w1T : FVec Ideal S512x256 .f32 := k0_pay77 (F := Ideal) (k0_pay73 (iblk m c 7 t) (iblk m c 8 t))
abbrev w2T : FVec Ideal S512x256 .f32 := k0_pay78 (F := Ideal) (k0_pay74 (iblk m c 7 t) (iblk m c 8 t))
abbrev w3T : FVec Ideal S512x256 .f32 := k0_pay79 (F := Ideal) (k0_pay75 (iblk m c 7 t) (iblk m c 8 t))
abbrev s0T : FVec Ideal S512x256 .bf16 := k0_pay86 (F := Ideal) (xT m c t) (kT m c t) (k0_pay72 (iblk m c 7 t) (iblk m c 8 t))
abbrev s1T : FVec Ideal S512x256 .f32 := k0_pay87 (F := Ideal) (xT m c t) (kT m c t) (k0_pay73 (iblk m c 7 t) (iblk m c 8 t))
abbrev s2T : FVec Ideal S512x256 .bf16 := k0_pay89 (F := Ideal) (w2T m c t) (k0_pay84 (xT m c t) (kT m c t))
abbrev s3T : FVec Ideal S512x256 .bf16 := k0_pay90 (F := Ideal) (w3T m c t) (k0_pay85 (xT m c t) (kT m c t))

theorem w0_at (r : Fin 512) (n : Fin 256) : w0T m c t (ix2 r n) = wt (args m c) 0 (row t r) n := p76_at (p72_at (row t) (blkQ m c t) (blkKv m c t)) r n
theorem w1_at (r : Fin 512) (n : Fin 256) : w1T m c t (ix2 r n) = wt (args m c) 1 (row t r) n := p76_at (p73_at (row t) (blkQ m c t) (blkKv m c t)) r n
theorem w2_at (r : Fin 512) (n : Fin 256) : w2T m c t (ix2 r n) = wt (args m c) 2 (row t r) n := p76_at (p74_at (row t) (blkQ m c t) (blkKv m c t)) r n
theorem w3_at (r : Fin 512) (n : Fin 256) : w3T m c t (ix2 r n) = wt (args m c) 3 (row t r) n := p76_at (p75_at (row t) (blkQ m c t) (blkKv m c t)) r n

section Scores
variable {m c} (ha : (args m c).Real)
include ha

theorem s0_at (r : Fin 512) (n : Fin 256) : s0T m c t (ix2 r n) = dsc (args m c) 0 (row t r) n :=
  p86_at (row t) (k_at m c t) (dyx_at t ha) (p72_at (row t) (blkQ m c t) (blkKv m c t)) r n
theorem s1_at (r : Fin 512) (n : Fin 256) : s1T m c t (ix2 r n) = dsc (args m c) 1 (row t r) n :=
  p87_at (row t) (k_at m c t) (dyx_at t ha) (p73_at (row t) (blkQ m c t) (blkKv m c t)) r n
theorem s2_at (r : Fin 512) (n : Fin 256) : s2T m c t (ix2 r n) = dsc (args m c) 2 (row t r) n :=
  p89_at (row t) (w2_at m c t) (p84_at (row t) (k_at m c t) (dyx_at t ha)) r n
theorem s3_at (r : Fin 512) (n : Fin 256) : s3T m c t (ix2 r n) = dsc (args m c) 3 (row t r) n :=
  p90_at (row t) (w3_at m c t) (p85_at (row t) (k_at m c t) (dyx_at t ha)) r n

end Scores

end Cert.MixerIdeal.Value
-- ==== Proof.MixerTail.lean ====
module

public import proofs.«01_k».proof.Proof.MixerPoint
public import Idealize.ShloMosaic.Lib.Claim
public import Idealize.ShloMosaic.Lib.Quiescent

@[expose] public section

set_option maxRecDepth 16384

noncomputable section

open Idealize.ShloMosaic Idealize.ShloMosaic.TcCoe Idealize.SL.Sem Cert.Reals

/-! The results the backward pass writes one block of rows at a time, and the rows it carries to the next point. -/

namespace Cert.MixerIdeal.Value

open Cert.MixerIdeal Cert.MixerIdeal.Gen Cert.MixerSpec

variable (m : (ℓ : Loc nD τ sig) → Buf (Elt Ideal) ℓ)

theorem zero9 (j : Fin 8) (k : Fin 256) : k0_pay9 (F := Ideal) (ix2 j k) = 0 := by pointwise [k0_pay9]

/-- Before the first point nothing follows: the rows carried are zero, as the rows after the last one are. -/
theorem carry_first (c : Dev nD) (t : Fin cfg0.N) (e : t.val % 8 = 0) (j : Fin 8) (k : Fin 256) :
    k0_pay9 (F := Ideal) (ix2 j k) = dcvs (args m c) (j.val + 1) (row t 511) k := by
  have ht : t.val < 8 := t.isLt
  rw [zero9, dcvs, dif_neg (by show ¬ (7 - t.val) * 512 + 511 + (j.val + 1) < 4096; omega)]

theorem emb14 (t : Fin cfg0.N) (r : Fin 512) (k : Fin 512) : ((View.whole main_v140_1).slice (win0_14.rect t)).emb (ix2 r k) = ix2 (row t r) k := by
  blk_ext [idx t]
theorem emb15 (t : Fin cfg0.N) (r : Fin 512) (k : Fin 512) : ((View.whole main_v140_2).slice (win0_15.rect t)).emb (ix2 r k) = ix2 (row t r) k := by
  blk_ext [idx t]
theorem emb16 (t : Fin cfg0.N) (o : ℕ) {n : ℕ} (y : S512x1024.Idx) (r : Fin 512) (l : Fin n) (ho : o + n ≤ 1024) (h0 : (y 0 : ℕ) = r) (h1 : (y 1 : ℕ) = o + l) :
    ((View.whole main_v140_3).slice (win0_16.rect t)).emb y = ix2 (row t r) ⟨o + l.val, by omega⟩ := by
  blk_ext [idx t]

variable {m} {c : Dev nD} (ha : (args m c).Real)
include ha

/-- What a point carries to the next: the first eight rows of its cotangent of the convolution's sum. -/
theorem carry_at (n : ℕ) (h : n < cfg0.N) (j : Fin 8) (k : Fin 256) :
    (outsAt0 m c n h).2.2.2.2.2.2.2.2 (ix2 j k) = dcv (args m c) (row ⟨n, h⟩ ⟨j.val, by omega⟩) k := by
  rcases em (n % 8 = 0) with e | e
  · rw [outsAt0_A m c ⟨n, h⟩ e]
    frame_out
    exact (p57_at _ j k).trans (dcv_at ⟨n, h⟩ ha _ k)
  · rw [outsAt0_B m c ⟨n, h⟩ e]
    frame_out
    exact (p57_at _ j k).trans (dcv_at ⟨n, h⟩ ha _ k)

theorem carry_next (t : Fin cfg0.N) (e : ¬t.val % 8 = 0) (h : t.val - 1 < cfg0.N) (hw : (Memref.whole cc0_scratch0).IsWhole) (j : Fin 8) (k : Fin 256) :
    View.read (Elt Ideal) (View.whole cc0_scratch0) (hw.unread (outsAt0 m c (t.val - 1) h).2.2.2.2.2.2.2.2) (ix2 j k)
      = dcvs (args m c) (j.val + 1) (row t 511) k := by
  have ht : t.val < 8 := t.isLt
  refine (congrFun (read_unread_whole cc0_scratch0 hw _) _).trans ((carry_at ha _ h j k).trans ?_)
  rw [dcvs, dif_pos (by show (7 - t.val) * 512 + 511 + (j.val + 1) < 4096; omega)]
  exact congrArg (fun i => dcv (args m c) i k) (Fin.ext (by show (7 - (t.val - 1)) * 512 + j.val = (7 - t.val) * 512 + 511 + (j.val + 1); omega))

theorem final14 : (dats m 0 c).arrAt 14 (cfgs 0).N = DYA (args m c) := by
  refine (dats m 0 c).arrAt_eq_of_covers 14 _ (by decide +kernel) fun t hf y => ?_
  blk_simp
  rw [after0_14]
  idx_vars y
  rw [emb14]
  rcases em (t.val % 8 = 0) with h | h
  on_goal 1 => rw [outsAt0_A m c t h]
  on_goal 2 => rw [outsAt0_B m c t h]
  all_goals
    frame_out
    exact p32_at (row t) (blkYa m c t) (dcat_at t ha) (gA_at m c t) y0 y1

theorem final15 : (dats m 0 c).arrAt 15 (cfgs 0).N = DELTA (args m c) := by
  refine (dats m 0 c).arrAt_eq_of_covers 15 _ (by decide +kernel) fun t hf y => ?_
  blk_simp
  rw [after0_15]
  idx_vars y
  rw [emb15]
  rcases em (t.val % 8 = 0) with h | h
  on_goal 1 => rw [outsAt0_A m c t h]
  on_goal 2 => rw [outsAt0_B m c t h]
  all_goals
    frame_out
    exact p33_at (row t) (blkYa m c t) (dcat_at t ha) (gA_at m c t) ha y0 y1

/-! The last result's seven pieces. -/

section Pieces
variable (t : Fin cfg0.N) {y : S512x1024.Idx} {r : Fin 512}

omit ha in
theorem tail_at {o n : ℕ} {l : Fin n} {v : EReal} (ho : o + n ≤ 1024) (h0 : (y 0 : ℕ) = r) (h1 : (y 1 : ℕ) = o + l)
    (hv : v = tail (args m c) (row t r) ⟨o + l.val, by omega⟩) : v = TAIL (args m c) (((View.whole main_v140_3).slice (win0_16.rect t)).emb y) := by
  rw [emb16 t o y r l ho h0 h1]
  exact hv

omit ha in
theorem tail_b (i : Fin 4096) (l : Fin 256) : tail (args m c) i ⟨0 + l.val, by omega⟩ = dyc (args m c) i l * cv (args m c) i l := by
  rw [tail, dif_pos (by show 0 + l.val < 256; omega)]
  congr 2 <;> exact Fin.ext (Nat.zero_add _)
omit ha in
theorem tail_c (i : Fin 4096) (l : Fin 256) : tail (args m c) i ⟨256 + l.val, by omega⟩ = dz (args m c) i l * ug (args m c) i l := by
  rw [tail, dif_neg (by show ¬ 256 + l.val < 256; omega), dif_pos (by show 256 + l.val < 512; omega)]
  congr 2 <;> exact Fin.ext (Nat.add_sub_cancel_left _ _)
omit ha in
theorem tail_u (i : Fin 4096) (l : Fin 256) : tail (args m c) i ⟨512 + l.val, by omega⟩ = dz (args m c) i l * cg (args m c) i l := by
  rw [tail, dif_neg (by show ¬ 512 + l.val < 256; omega), dif_neg (by show ¬ 512 + l.val < 512; omega), dif_pos (by show 512 + l.val < 768; omega)]
  congr 2 <;> exact Fin.ext (Nat.add_sub_cancel_left _ _)
omit ha in
theorem tail_q (i : Fin 4096) (h : Fin 4) (o : ℕ) (ho : o = 768 + h.val * 64) (l : Fin 64) : tail (args m c) i ⟨o + l.val, by omega⟩ = dqx (args m c) i (col h l) := by
  subst ho
  rw [tail, dif_neg (by show ¬ 768 + h.val * 64 + l.val < 256; omega), dif_neg (by show ¬ 768 + h.val * 64 + l.val < 512; omega),
    dif_neg (by show ¬ 768 + h.val * 64 + l.val < 768; omega)]
  exact congrArg _ (Fin.ext (by show 768 + h.val * 64 + l.val - 768 = h.val * 64 + l.val; omega))

end Pieces

set_option maxHeartbeats 4000000 in
theorem final16 : (dats m 0 c).arrAt 16 (cfgs 0).N = TAIL (args m c) := by
  refine (dats m 0 c).arrAt_eq_of_covers 16 _ (by decide +kernel) fun t hf y => ?_
  blk_simp
  rw [after0_16]
  rcases em (t.val % 8 = 0) with e | e
  on_goal 1 =>
    rw [outsAt0_A m c t e]
    have hc : ∀ (j : Fin 8) k, k0_pay9 (F := Ideal) (ix2 j k) = dcvs (args m c) (j.val + 1) (row t 511) k := carry_first m c t e
  on_goal 2 =>
    rw [outsAt0_B m c t e]
    have hc := carry_next ha t e (by omega) (Memref.isWhole_whole _)
  all_goals
    frame_out
    canon_tiles x h using (View.cover_of_tiledBy _ ![512, 64] (by sl_kernel_rfl) y)
    all_goals idx_vars x
    · exact tail_at t (o := 960) (by norm_num) (by omega) (by omega) ((p1_at (row t) (k_at m c t) (s3_at t ha) x0 x1).trans (tail_q _ 3 _ rfl x1).symm)
    · exact tail_at t (o := 896) (by norm_num) (by omega) (by omega) ((p97_at (row t) (k_at m c t) (s2_at t ha) x0 x1).trans (tail_q _ 2 _ rfl x1).symm)
    · exact tail_at t (o := 832) (by norm_num) (by omega) (by omega) ((p94_at (row t) (k_at m c t) (s1_at t ha) x0 x1).trans (tail_q _ 1 _ rfl x1).symm)
    · exact tail_at t (o := 768) (by norm_num) (by omega) (by omega) ((p91_at (row t) (k_at m c t) (s0_at t ha) x0 x1).trans (tail_q _ 0 _ rfl x1).symm)
    · exact tail_at t (o := 512) (by norm_num) (by omega) (by omega)
        ((p61_at _ _ x0 x1).trans ((congrArg₂ (· * ·) (dz_at t ha hc x0 x1) (c_at m c t x0 x1)).trans (tail_u _ x1).symm))
    · exact tail_at t (o := 256) (by norm_num) (by omega) (by omega)
        ((p61_at _ _ x0 x1).trans ((congrArg₂ (· * ·) (dz_at t ha hc x0 x1) (u_at m c t x0 x1)).trans (tail_c _ x1).symm))
    · exact tail_at t (o := 0) (by norm_num) (by omega) (by omega)
        ((p61_at _ _ x0 x1).trans ((congrArg₂ (· * ·) (dyc_at t ha x0 x1) (cv_at m c t x0 x1)).trans (tail_b _ x1).symm))

end Cert.MixerIdeal.Value
-- ==== Proof.MixerSums.lean ====
module

public import proofs.«01_k».proof.Proof.MixerPoint
public import proofs.«01_k».proof.Proof.InProjValue
public import Idealize.ShloMosaic.Lib.Claim
public import Idealize.ShloMosaic.Lib.Quiescent

@[expose] public section

set_option maxRecDepth 16384

noncomputable section

open Idealize.ShloMosaic Idealize.ShloMosaic.TcCoe Idealize.SL.Sem Cert.Reals

/-! The results the backward pass sums over the blocks of rows: what one block adds, and the sum of all. -/

namespace Cert.MixerIdeal.Value

open Cert.MixerIdeal Cert.MixerIdeal.Gen Cert.MixerSpec

variable (m : (ℓ : Loc nD τ sig) → Buf (Elt Ideal) ℓ)

theorem sum_rows (f : Fin 4096 → EReal) : ∑ t : Fin cfg0.N, ∑ r : Fin 512, f (row t r) = ∑ i, f i := by
  refine (Equiv.sum_comp (Fin.revPerm (n := 8)) fun t => ∑ r : Fin 512, f (row t r)).symm.trans ?_
  exact Fin.sum_mul_add_congr (L := 4096) fun t r hl => congrArg f (Fin.ext (by
    show (7 - (8 - (t.val + 1))) * 512 + r.val = t.val * 512 + r.val
    have h : t.val < 8 := t.isLt
    omega))

/-- An array that starts over at the first point and to which each block of rows adds its share ends as the sum over all rows. -/
theorem sum_back {s : Shape} (o : (n : ℕ) → n < cfg0.N → s.Idx → EReal) (f : Fin 4096 → s.Idx → EReal)
    (first : ∀ t : Fin cfg0.N, t.val % 8 = 0 → ∀ j, o t.val t.isLt j = 0 + ∑ r, f (row t r) j)
    (next : ∀ t : Fin cfg0.N, ¬t.val % 8 = 0 → ∀ j, o t.val t.isLt j = o (t.val - 1) (by omega) j + ∑ r, f (row t r) j) (j : s.Idx) :
    o t0_7.val t0_7.isLt j = ∑ i, f i j := by
  rw [Pipeline.eq_sum_fin_of_reset_step_apply_last o 8 (fun _ => 0) (fun t j => ∑ r, f (row t r) j) first next (le_of_eq N_0) t0_7 rfl j, zero_add]
  exact sum_rows fun i => f i j

/-! What one row adds to each of the summed results. -/

def rowO (a : Args) (i : Fin 4096) (y : S2x4x128x1024.Idx) : EReal := ycat a i ⟨((y 1).val * 2 + (y 0).val) * 128 + (y 2).val, by
  have h0 : (y 0).val < 2 := (y 0).isLt; have h1 : (y 1).val < 4 := (y 1).isLt; have h2 : (y 2).val < 128 := (y 2).isLt; omega⟩ * dy2 a i (y 3)
def rowK (a : Args) (i : Fin 4096) (y : S256x512.Idx) : EReal :=
  if h : (y 1).val < 256 then dsc a (head ⟨(y 1).val, h⟩) i (y 0) * a.qx (ix2 i ⟨(y 1).val, h⟩)
  else wt a (head ⟨(y 1).val - 256, by have h1 : (y 1).val < 512 := (y 1).isLt; omega⟩) i (y 0) * dyx a i ⟨(y 1).val - 256, by have h1 : (y 1).val < 512 := (y 1).isLt; omega⟩
def rowC (a : Args) (i : Fin 4096) (y : S3x256.Idx) : EReal := dcv a i (y 1) * zs a (2 - (y 0).val) i (y 1)
def rowP (a : Args) (i : Fin 4096) (y : S1x1024.Idx) : EReal := a.dx (ix2 i (y 1)) * hat w1024 eps (y2 a i) (y 1)
def rowG (a : Args) (i : Fin 4096) (y : S1x1024.Idx) : EReal :=
  if h : (y 1).val < 512 then dna a i ⟨(y 1).val, h⟩ * hat w512 eps (yar a i) ⟨(y 1).val, h⟩
  else if h : (y 1).val < 768 then dnc a i ⟨(y 1).val - 512, by omega⟩ * hat w256 eps (yc a i) ⟨(y 1).val - 512, by omega⟩
  else dnx a i ⟨(y 1).val - 768, by have h1 : (y 1).val < 1024 := (y 1).isLt; omega⟩ * hat w256 eps (yx a i) ⟨(y 1).val - 768, by have h1 : (y 1).val < 1024 := (y 1).isLt; omega⟩

theorem sum_rowO (a : Args) (y : S2x4x128x1024.Idx) : ∑ i, rowO a i y = GWO a y := rfl
theorem sum_rowC (a : Args) (y : S3x256.Idx) : ∑ i, rowC a i y = DCW a y := rfl
theorem sum_rowP (a : Args) (y : S1x1024.Idx) : ∑ i, rowP a i y = DGP a y := rfl
theorem sum_rowK (a : Args) (y : S256x512.Idx) : ∑ i, rowK a i y = DKV a y := by
  unfold rowK DKV dkv
  split <;> rfl
theorem sum_rowG (a : Args) (y : S1x1024.Idx) : ∑ i, rowG a i y = DG a y := by
  unfold rowG DG dg
  split
  · rfl
  · split <;> rfl

/-- One piece of a summed array after a block: what was there before, and the block's rows. -/
theorem step {A a : EReal} {t : Fin cfg0.N} {f : Fin 512 → EReal} {g : Fin 4096 → EReal} (hA : A = a) (hf : ∀ r, f r = g (row t r)) :
    A + ∑ r, f r = a + ∑ r, g (row t r) := congrArg₂ _ hA (Finset.sum_congr rfl fun r _ => hf r)

theorem ld2 {n k o p n' k' : ℕ} (B : FVec Ideal ⟨2, ![n, k]⟩ .f32) {h : ∀ a, (![o, p] : Fin 2 → ℕ) a + (⟨2, ![n', k']⟩ : Shape).size a ≤ (⟨2, ![n, k]⟩ : Shape).size a}
    {r : Fin n'} {l : Fin k'} {y : Shape.Idx ⟨2, ![n, k]⟩} (h0 : (y 0).val = o + r) (h1 : (y 1).val = p + l) :
    B ((Rect.unit (s := ⟨2, ![n, k]⟩) ![o, p] ![n', k'] h).emb (ix2 r l)) = B y := by
  refine congrArg B ?_
  blk_ext []

theorem ld4 {o0 o1 : ℕ} (B : FVec Ideal S2x4x128x1024 .f32) {h : ∀ a, (![o0, o1, 0, 0] : Fin 4 → ℕ) a + S1x1x128x1024.size a ≤ S2x4x128x1024.size a}
    {r : Fin 128} {l : Fin 1024} {y : S2x4x128x1024.Idx} (h0 : (y 0).val = o0) (h1 : (y 1).val = o1) (h2 : (y 2).val = r) (h3 : (y 3).val = l) :
    B ((Rect.unit (s := S2x4x128x1024) ![o0, o1, 0, 0] ![1, 1, 128, 1024] h).emb (ix4 0 0 r l)) = B y := by
  refine congrArg B ?_
  blk_ext []

/-! The summed arrays are filled with zero at the first point. -/

theorem fill4 (y : S2x4x128x1024.Idx) : k0_pay4 (F := Ideal) y = 0 := by
  idx_vars y
  pointwise [k0_pay4]
theorem fill5 (y : S256x512.Idx) : k0_pay5 (F := Ideal) y = 0 := by
  idx_vars y
  pointwise [k0_pay5]
theorem fill6 (y : S3x256.Idx) : k0_pay6 (F := Ideal) y = 0 := by
  idx_vars y
  pointwise [k0_pay6]
theorem fill7 (y : S1x1024.Idx) : k0_pay7 (F := Ideal) y = 0 := by
  idx_vars y
  pointwise [k0_pay7]
theorem fill8 (y : S1x1024.Idx) : k0_pay8 (F := Ideal) y = 0 := by
  idx_vars y
  pointwise [k0_pay8]

section Read
variable {κ : Kind} {sp : Space}

theorem read4 (v : View sig κ sp S2x4x128x1024 .f32) {h : ∀ a, (![0, 0, 0, 0] : Fin 4 → ℕ) a + S2x4x128x1024.size a ≤ S2x4x128x1024.size a} (R : Rect S2x4x128x1024) (x : R.toLoadRect.shape.Idx) :
    v.readCov [(⟨Rect.unit (s := S2x4x128x1024) ![0, 0, 0, 0] ![2, 4, 128, 1024] h, k0_pay4 (F := Ideal)⟩ : View.Piece (Elt Ideal) S2x4x128x1024 .f32)] R.toLoadRect x = 0 := by
  rw [View.readCov_fill _ _ _ _ _ (by simp [Fin.forall_fin_succ])]
  exact fill4 _
theorem read5 (v : View sig κ sp S256x512 .f32) {h : ∀ a, (![0, 0] : Fin 2 → ℕ) a + S256x512.size a ≤ S256x512.size a} (R : Rect S256x512) (x : R.toLoadRect.shape.Idx) :
    v.readCov [(⟨Rect.unit (s := S256x512) ![0, 0] ![256, 512] h, k0_pay5 (F := Ideal)⟩ : View.Piece (Elt Ideal) S256x512 .f32)] R.toLoadRect x = 0 := by
  rw [View.readCov_fill _ _ _ _ _ (by simp [Fin.forall_fin_succ])]
  exact fill5 _
theorem read6 (v : View sig κ sp S3x256 .f32) {h : ∀ a, (![0, 0] : Fin 2 → ℕ) a + S3x256.size a ≤ S3x256.size a} (R : Rect S3x256) (x : R.toLoadRect.shape.Idx) :
    v.readCov [(⟨Rect.unit (s := S3x256) ![0, 0] ![3, 256] h, k0_pay6 (F := Ideal)⟩ : View.Piece (Elt Ideal) S3x256 .f32)] R.toLoadRect x = 0 := by
  rw [View.readCov_fill _ _ _ _ _ (by simp [Fin.forall_fin_succ])]
  exact fill6 _
theorem read8 (v : View sig κ sp S1x1024 .f32) {h : ∀ a, (![0, 0] : Fin 2 → ℕ) a + S1x1024.size a ≤ S1x1024.size a} (R : Rect S1x1024) (x : R.toLoadRect.shape.Idx) :
    v.readCov [(⟨Rect.unit (s := S1x1024) ![0, 0] ![1, 1024] h, k0_pay8 (F := Ideal)⟩ : View.Piece (Elt Ideal) S1x1024 .f32)] R.toLoadRect x = 0 := by
  rw [View.readCov_fill _ _ _ _ _ (by simp [Fin.forall_fin_succ])]
  exact fill8 _

end Read

section Rows
variable {a : Args} {i : Fin 4096}

theorem rowO_at {y : S2x4x128x1024.Idx} {e k : Fin 1024} (he : e.val = ((y 1).val * 2 + (y 0).val) * 128 + (y 2).val) (hk : k.val = (y 3).val) :
    ycat a i e * dy2 a i k = rowO a i y :=
  congrArg₂ (fun e k => ycat a i e * dy2 a i k) (Fin.ext he) (Fin.ext hk)
theorem rowK_q {y : S256x512.Idx} {n : Fin 256} (h : Fin 4) {l : Fin 64} (hn : (y 0).val = n) (hl : (y 1).val = h.val * 64 + l) :
    dsc a h i n * a.qx (ix2 i (col h l)) = rowK a i y := by
  rw [rowK, dif_pos (by omega)]
  have e1 : head ⟨(y 1).val, by omega⟩ = h := Fin.ext (by show (y 1).val / 64 = h.val; omega)
  have e2 : (⟨(y 1).val, by omega⟩ : Fin 256) = col h l := Fin.ext hl
  have e3 : n = y 0 := Fin.ext hn.symm
  rw [e1, e2, e3]
theorem rowK_w {y : S256x512.Idx} {n : Fin 256} (h : Fin 4) {l : Fin 64} (hn : (y 0).val = n) (hl : (y 1).val = 256 + h.val * 64 + l) :
    wt a h i n * dyx a i (col h l) = rowK a i y := by
  rw [rowK, dif_neg (by omega)]
  have e1 : head ⟨(y 1).val - 256, by omega⟩ = h := Fin.ext (by show ((y 1).val - 256) / 64 = h.val; omega)
  have e2 : (⟨(y 1).val - 256, by omega⟩ : Fin 256) = col h l := Fin.ext (by show (y 1).val - 256 = h.val * 64 + l.val; omega)
  have e3 : n = y 0 := Fin.ext hn.symm
  rw [e1, e2, e3]
theorem rowC_at {y : S3x256.Idx} {k : Fin 256} {u v : EReal} (d : ℕ) (hu : u = dcv a i k) (hv : v = zs a d i k) (h0 : 2 - (y 0).val = d) (h1 : (y 1).val = k) : u * v = rowC a i y := by
  subst hu hv h0
  rw [show k = y 1 from Fin.ext h1.symm]
  rfl
theorem rowG_a {y : S1x1024.Idx} {k : Fin 512} (h : (y 1).val = k) : dna a i k * hat w512 eps (yar a i) k = rowG a i y := by
  rw [rowG, dif_pos (by omega)]
  rw [show (⟨(y 1).val, by omega⟩ : Fin 512) = k from Fin.ext h]
theorem rowG_c {y : S1x1024.Idx} {k : Fin 256} (h : (y 1).val = 512 + k) : dnc a i k * hat w256 eps (yc a i) k = rowG a i y := by
  rw [rowG, dif_neg (by omega), dif_pos (by omega)]
  rw [show (⟨(y 1).val - 512, by omega⟩ : Fin 256) = k from Fin.ext (by show (y 1).val - 512 = _; omega)]
theorem rowG_x {y : S1x1024.Idx} {k : Fin 256} (h : (y 1).val = 768 + k) : dnx a i k * hat w256 eps (yx a i) k = rowG a i y := by
  rw [rowG, dif_neg (by omega), dif_neg (by omega)]
  rw [show (⟨(y 1).val - 768, by omega⟩ : Fin 256) = k from Fin.ext (by show (y 1).val - 768 = _; omega)]

end Rows

theorem zs0_at (c : Dev nD) (t : Fin cfg0.N) (r : Fin 512) (k : Fin 256) : zT' m c t (ix2 r k) = zs (args m c) 0 (row t r) k :=
  (z_at m c t r k).trans (by rw [zs, dif_pos (Nat.zero_le _)]; rfl)

variable {m} {c : Dev nD} (ha : (args m c).Real)
include ha

theorem w15_at (t : Fin cfg0.N) (e k : Fin 1024) : k0_pay15 (F := Ideal) (dT m c t) (iblk m c 2 t) (ix2 e k) = ∑ r, ycat (args m c) (row t r) e * dy2 (args m c) (row t r) k :=
  p15_at (row t) (blkYcat ha t) (d_at t ha) e k

/-- One piece of the weight's gradient after a block. -/
theorem stepO {A o : EReal} {t : Fin cfg0.N} {y : S2x4x128x1024.Idx} {e k : Fin 1024} (hA : A = o)
    (he : e.val = ((y 1).val * 2 + (y 0).val) * 128 + (y 2).val) (hk : k.val = (y 3).val) :
    A + k0_pay15 (F := Ideal) (dT m c t) (iblk m c 2 t) (ix2 e k) = o + ∑ r, rowO (args m c) (row t r) y := by
  rw [w15_at ha]
  exact step (g := fun i => rowO (args m c) i y) hA fun r => rowO_at he hk

end Cert.MixerIdeal.Value
-- ==== Proof.MixerSumO.lean ====
module

public import proofs.«01_k».proof.Proof.MixerSums
public import Idealize.ShloMosaic.Lib.Claim
public import Idealize.ShloMosaic.Lib.Quiescent

@[expose] public section

set_option maxRecDepth 16384

noncomputable section

open Idealize.ShloMosaic Idealize.ShloMosaic.TcCoe Idealize.SL.Sem Cert.Reals

namespace Cert.MixerIdeal.Value

open Cert.MixerIdeal Cert.MixerIdeal.Gen Cert.MixerSpec

variable (m : (ℓ : Loc nD τ sig) → Buf (Elt Ideal) ℓ)

variable {m} {c : Dev nD} (ha : (args m c).Real)
include ha

set_option maxHeartbeats 40000000 in
theorem firstO (t : Fin cfg0.N) (e : t.val % 8 = 0) (j : S2x4x128x1024.Idx) : (outsAt0 m c t.val t.isLt).1 j = 0 + ∑ r, rowO (args m c) (row t r) j := by
  rw [outsAt0_A m c t e]
  frame_out
  rw [Cert.InProjIdeal.Value.canon_take 8 _ j (View.cover_of_tiledBy _ ![1, 1, 128, 1024] (by sl_kernel_rfl) j)]
  simp only [List.take_succ_cons, List.take_zero]
  canon_tiles x h using (View.cover_of_tiledBy _ ![1, 1, 128, 1024] (by sl_kernel_rfl) j)
  all_goals
    idx_vars x
    obtain rfl : x0 = 0 := Subsingleton.elim _ _
    obtain rfl : x1 = 0 := Subsingleton.elim _ _
    simp only [Fin.val_zero, Nat.add_zero] at h0 h1
  · exact (p24_at ..).trans (stepO ha (by simp (decide := true) only [↓View.readCov_skip]; exact read4 _ _ _) (by simp only []; omega) (by simp only []; omega))
  · exact (p23_at ..).trans (stepO ha (by simp (decide := true) only [↓View.readCov_skip]; exact read4 _ _ _) (by simp only []; omega) (by simp only []; omega))
  · exact (p22_at ..).trans (stepO ha (by simp (decide := true) only [↓View.readCov_skip]; exact read4 _ _ _) (by simp only []; omega) (by simp only []; omega))
  · exact (p21_at ..).trans (stepO ha (by simp (decide := true) only [↓View.readCov_skip]; exact read4 _ _ _) (by simp only []; omega) (by simp only []; omega))
  · exact (p20_at ..).trans (stepO ha (by simp (decide := true) only [↓View.readCov_skip]; exact read4 _ _ _) (by simp only []; omega) (by simp only []; omega))
  · exact (p18_at ..).trans (stepO ha (by simp (decide := true) only [↓View.readCov_skip]; exact read4 _ _ _) (by simp only []; omega) (by simp only []; omega))
  · exact (p17_at ..).trans (stepO ha (by simp (decide := true) only [↓View.readCov_skip]; exact read4 _ _ _) (by simp only []; omega) (by simp only []; omega))
  · exact (p16_at ..).trans (stepO ha (read4 _ _ _) (by simp only []; omega) (by simp only []; omega))

set_option maxHeartbeats 4000000 in
theorem nextO (t : Fin cfg0.N) (e : ¬t.val % 8 = 0) (j : S2x4x128x1024.Idx) :
    (outsAt0 m c t.val t.isLt).1 j = (outsAt0 m c (t.val - 1) (by omega)).1 j + ∑ r, rowO (args m c) (row t r) j := by
  rw [outsAt0_B m c t e]
  frame_out
  canon_tiles x h using (View.cover_of_tiledBy _ ![1, 1, 128, 1024] (by sl_kernel_rfl) j)
  all_goals
    idx_vars x
    obtain rfl : x0 = 0 := Subsingleton.elim _ _
    obtain rfl : x1 = 0 := Subsingleton.elim _ _
    simp only [Fin.val_zero, Nat.add_zero] at h0 h1
  · exact (p24_at ..).trans (stepO ha (ld4 _ (by omega) (by omega) (by omega) (by omega)) (by simp only []; omega) (by simp only []; omega))
  · exact (p23_at ..).trans (stepO ha (ld4 _ (by omega) (by omega) (by omega) (by omega)) (by simp only []; omega) (by simp only []; omega))
  · exact (p22_at ..).trans (stepO ha (ld4 _ (by omega) (by omega) (by omega) (by omega)) (by simp only []; omega) (by simp only []; omega))
  · exact (p21_at ..).trans (stepO ha (ld4 _ (by omega) (by omega) (by omega) (by omega)) (by simp only []; omega) (by simp only []; omega))
  · exact (p20_at ..).trans (stepO ha (ld4 _ (by omega) (by omega) (by omega) (by omega)) (by simp only []; omega) (by simp only []; omega))
  · exact (p18_at ..).trans (stepO ha (ld4 _ (by omega) (by omega) (by omega) (by omega)) (by simp only []; omega) (by simp only []; omega))
  · exact (p17_at ..).trans (stepO ha (ld4 _ (by omega) (by omega) (by omega) (by omega)) (by simp only []; omega) (by simp only []; omega))
  · exact (p16_at ..).trans (stepO ha (ld4 _ (by omega) (by omega) (by omega) (by omega)) (by simp only []; omega) (by simp only []; omega))

theorem final13 : (dats m 0 c).arrAt 13 (cfgs 0).N = GWO (args m c) := by
  refine (dats m 0 c).arrAt_eq_of_after_last 13 t0_7 (by decide +kernel) _ fun j => ?_
  blk_simp
  rw [after0_13]
  exact (sum_back (fun n h => (outsAt0 m c n h).1) (rowO (args m c)) (firstO ha) (nextO ha) j).trans (sum_rowO _ j)

end Cert.MixerIdeal.Value
-- ==== Proof.MixerSumK.lean ====
module

public import proofs.«01_k».proof.Proof.MixerSums
public import Idealize.ShloMosaic.Lib.Claim
public import Idealize.ShloMosaic.Lib.Quiescent

@[expose] public section

set_option maxRecDepth 16384

noncomputable section

open Idealize.ShloMosaic Idealize.ShloMosaic.TcCoe Idealize.SL.Sem Cert.Reals

namespace Cert.MixerIdeal.Value

open Cert.MixerIdeal Cert.MixerIdeal.Gen Cert.MixerSpec

variable (m : (ℓ : Loc nD τ sig) → Buf (Elt Ideal) ℓ)

variable {m} {c : Dev nD} (ha : (args m c).Real)
include ha

theorem s1_at' (t : Fin cfg0.N) (r : Fin 512) (n : Fin 256) : k0_pay88 (F := Ideal) (s1T m c t) (ix2 r n) = dsc (args m c) 1 (row t r) n :=
  (show k0_pay88 (F := Ideal) (s1T m c t) (ix2 r n) = s1T m c t (ix2 r n) from by generalize s1T m c t = s; pointwise [k0_pay88]).trans (s1_at t ha r n)
theorem p80_at' (t : Fin cfg0.N) (r : Fin 512) (l : Fin 64) : k0_pay80 (F := Ideal) (xT m c t) (ix2 r l) = dyx (args m c) (row t r) (col 0 l) :=
  (p80_at r l).trans (dyx_at t ha r _)
theorem p81_at' (t : Fin cfg0.N) (r : Fin 512) (l : Fin 64) : k0_pay81 (F := Ideal) (xT m c t) (ix2 r l) = dyx (args m c) (row t r) (col 1 l) :=
  (p81_at r l).trans (dyx_at t ha r _)
theorem p82_at' (t : Fin cfg0.N) (r : Fin 512) (l : Fin 64) : k0_pay82 (F := Ideal) (xT m c t) (ix2 r l) = dyx (args m c) (row t r) (col 2 l) :=
  (p82_at r l).trans (dyx_at t ha r _)
theorem p83_at' (t : Fin cfg0.N) (r : Fin 512) (l : Fin 64) : k0_pay83 (F := Ideal) (xT m c t) (ix2 r l) = dyx (args m c) (row t r) (col 3 l) :=
  (p83_at r l).trans (dyx_at t ha r _)

set_option maxHeartbeats 40000000 in
theorem firstK (t : Fin cfg0.N) (e : t.val % 8 = 0) (j : S256x512.Idx) : (outsAt0 m c t.val t.isLt).2.2.2.2.1 j = 0 + ∑ r, rowK (args m c) (row t r) j := by
  rw [outsAt0_A m c t e]
  frame_out
  rw [Cert.InProjIdeal.Value.canon_take 8 _ j (View.cover_of_tiledBy _ ![256, 64] (by sl_kernel_rfl) j)]
  simp only [List.take_succ_cons, List.take_zero]
  canon_tiles x h using (View.cover_of_tiledBy _ ![256, 64] (by sl_kernel_rfl) j)
  all_goals
    idx_vars x
  · exact (p3_at (row t) (w3_at m c t) (p83_at' ha t) _ x0 x1).trans (step (g := fun i => rowK (args m c) i j) (by simp (decide := true) only [↓View.readCov_skip]; exact read5 _ _ _) fun r => rowK_w 3 (by omega) (by simp only []; omega))
  · exact (p2_at (row t) (q_at m c t) (s3_at t ha) _ x0 x1).trans (step (g := fun i => rowK (args m c) i j) (by simp (decide := true) only [↓View.readCov_skip]; exact read5 _ _ _) fun r => rowK_q 3 (by omega) (by simp only []; omega))
  · exact (p99_at (row t) (w2_at m c t) (p82_at' ha t) _ x0 x1).trans (step (g := fun i => rowK (args m c) i j) (by simp (decide := true) only [↓View.readCov_skip]; exact read5 _ _ _) fun r => rowK_w 2 (by omega) (by simp only []; omega))
  · exact (p98_at (row t) (q_at m c t) (s2_at t ha) _ x0 x1).trans (step (g := fun i => rowK (args m c) i j) (by simp (decide := true) only [↓View.readCov_skip]; exact read5 _ _ _) fun r => rowK_q 2 (by omega) (by simp only []; omega))
  · exact (p96_at (row t) (w1_at m c t) (p81_at' ha t) _ x0 x1).trans (step (g := fun i => rowK (args m c) i j) (by simp (decide := true) only [↓View.readCov_skip]; exact read5 _ _ _) fun r => rowK_w 1 (by omega) (by simp only []; omega))
  · exact (p95_at (row t) (q_at m c t) (s1_at' ha t) _ x0 x1).trans (step (g := fun i => rowK (args m c) i j) (by simp (decide := true) only [↓View.readCov_skip]; exact read5 _ _ _) fun r => rowK_q 1 (by omega) (by simp only []; omega))
  · exact (p93_at (row t) (w0_at m c t) (p80_at' ha t) _ x0 x1).trans (step (g := fun i => rowK (args m c) i j) (by simp (decide := true) only [↓View.readCov_skip]; exact read5 _ _ _) fun r => rowK_w 0 (by omega) (by simp only []; omega))
  · exact (p92_at (row t) (q_at m c t) (s0_at t ha) _ x0 x1).trans (step (g := fun i => rowK (args m c) i j) (read5 _ _ _) fun r => rowK_q 0 (by omega) (by simp only []; omega))

set_option maxHeartbeats 4000000 in
theorem nextK (t : Fin cfg0.N) (e : ¬t.val % 8 = 0) (j : S256x512.Idx) :
    (outsAt0 m c t.val t.isLt).2.2.2.2.1 j = (outsAt0 m c (t.val - 1) (by omega)).2.2.2.2.1 j + ∑ r, rowK (args m c) (row t r) j := by
  rw [outsAt0_B m c t e]
  frame_out
  canon_tiles x h using (View.cover_of_tiledBy _ ![256, 64] (by sl_kernel_rfl) j)
  all_goals
    idx_vars x
  · exact (p3_at (row t) (w3_at m c t) (p83_at' ha t) _ x0 x1).trans (step (g := fun i => rowK (args m c) i j) (ld2 _ (by omega) (by omega)) fun r => rowK_w 3 (by omega) (by simp only []; omega))
  · exact (p2_at (row t) (q_at m c t) (s3_at t ha) _ x0 x1).trans (step (g := fun i => rowK (args m c) i j) (ld2 _ (by omega) (by omega)) fun r => rowK_q 3 (by omega) (by simp only []; omega))
  · exact (p99_at (row t) (w2_at m c t) (p82_at' ha t) _ x0 x1).trans (step (g := fun i => rowK (args m c) i j) (ld2 _ (by omega) (by omega)) fun r => rowK_w 2 (by omega) (by simp only []; omega))
  · exact (p98_at (row t) (q_at m c t) (s2_at t ha) _ x0 x1).trans (step (g := fun i => rowK (args m c) i j) (ld2 _ (by omega) (by omega)) fun r => rowK_q 2 (by omega) (by simp only []; omega))
  · exact (p96_at (row t) (w1_at m c t) (p81_at' ha t) _ x0 x1).trans (step (g := fun i => rowK (args m c) i j) (ld2 _ (by omega) (by omega)) fun r => rowK_w 1 (by omega) (by simp only []; omega))
  · exact (p95_at (row t) (q_at m c t) (s1_at' ha t) _ x0 x1).trans (step (g := fun i => rowK (args m c) i j) (ld2 _ (by omega) (by omega)) fun r => rowK_q 1 (by omega) (by simp only []; omega))
  · exact (p93_at (row t) (w0_at m c t) (p80_at' ha t) _ x0 x1).trans (step (g := fun i => rowK (args m c) i j) (ld2 _ (by omega) (by omega)) fun r => rowK_w 0 (by omega) (by simp only []; omega))
  · exact (p92_at (row t) (q_at m c t) (s0_at t ha) _ x0 x1).trans (step (g := fun i => rowK (args m c) i j) (ld2 _ (by omega) (by omega)) fun r => rowK_q 0 (by omega) (by simp only []; omega))

theorem final17 : (dats m 0 c).arrAt 17 (cfgs 0).N = DKV (args m c) := by
  refine (dats m 0 c).arrAt_eq_of_after_last 17 t0_7 (by decide +kernel) _ fun j => ?_
  blk_simp
  rw [after0_17]
  exact (sum_back (fun n h => (outsAt0 m c n h).2.2.2.2.1) (rowK (args m c)) (firstK ha) (nextK ha) j).trans (sum_rowK _ j)

end Cert.MixerIdeal.Value
-- ==== Proof.MixerSumC.lean ====
module

public import proofs.«01_k».proof.Proof.MixerSums
public import Idealize.ShloMosaic.Lib.Claim
public import Idealize.ShloMosaic.Lib.Quiescent

@[expose] public section

set_option maxRecDepth 16384

noncomputable section

open Idealize.ShloMosaic Idealize.ShloMosaic.TcCoe Idealize.SL.Sem Cert.Reals

namespace Cert.MixerIdeal.Value

open Cert.MixerIdeal Cert.MixerIdeal.Gen Cert.MixerSpec

variable (m : (ℓ : Loc nD τ sig) → Buf (Elt Ideal) ℓ)

variable {m} {c : Dev nD} (ha : (args m c).Real)
include ha

set_option maxHeartbeats 40000000 in
theorem firstC (t : Fin cfg0.N) (e : t.val % 8 = 0) (j : S3x256.Idx) : (outsAt0 m c t.val t.isLt).2.2.2.2.2.1 j = 0 + ∑ r, rowC (args m c) (row t r) j := by
  rw [outsAt0_A m c t e]
  frame_out
  rw [Cert.InProjIdeal.Value.canon_take 3 _ j (View.cover_of_tiledBy _ ![1, 256] (by sl_kernel_rfl) j)]
  simp only [List.take_succ_cons, List.take_zero]
  canon_tiles x h using (View.cover_of_tiledBy _ ![1, 256] (by sl_kernel_rfl) j)
  all_goals
    idx_vars x
    obtain rfl : x0 = 0 := Subsingleton.elim _ _
    simp only [Fin.val_zero, Nat.add_zero] at h0
  · exact (p58_at ..).trans (step (g := fun i => rowC (args m c) i j) (by simp (decide := true) only [↓View.readCov_skip]; exact read6 _ _ _) fun r => rowC_at 0 (dcv_at t ha r _) (zs0_at m c t r _) (by omega) (by omega))
  · exact (p58_at ..).trans (step (g := fun i => rowC (args m c) i j) (by simp (decide := true) only [↓View.readCov_skip]; exact read6 _ _ _) fun r => rowC_at 1 (dcv_at t ha r _) (zs1_at m c t r _) (by omega) (by omega))
  · exact (p58_at ..).trans (step (g := fun i => rowC (args m c) i j) (read6 _ _ _) fun r => rowC_at 2 (dcv_at t ha r _) (zs2_at m c t r _) (by omega) (by omega))

set_option maxHeartbeats 4000000 in
theorem nextC (t : Fin cfg0.N) (e : ¬t.val % 8 = 0) (j : S3x256.Idx) :
    (outsAt0 m c t.val t.isLt).2.2.2.2.2.1 j = (outsAt0 m c (t.val - 1) (by omega)).2.2.2.2.2.1 j + ∑ r, rowC (args m c) (row t r) j := by
  rw [outsAt0_B m c t e]
  frame_out
  canon_tiles x h using (View.cover_of_tiledBy _ ![1, 256] (by sl_kernel_rfl) j)
  all_goals
    idx_vars x
    obtain rfl : x0 = 0 := Subsingleton.elim _ _
    simp only [Fin.val_zero, Nat.add_zero] at h0
  · exact (p58_at ..).trans (step (g := fun i => rowC (args m c) i j) (ld2 _ (by simp only [Fin.val_zero]; omega) (by omega)) fun r => rowC_at 0 (dcv_at t ha r _) (zs0_at m c t r _) (by omega) (by omega))
  · exact (p58_at ..).trans (step (g := fun i => rowC (args m c) i j) (ld2 _ (by simp only [Fin.val_zero]; omega) (by omega)) fun r => rowC_at 1 (dcv_at t ha r _) (zs1_at m c t r _) (by omega) (by omega))
  · exact (p58_at ..).trans (step (g := fun i => rowC (args m c) i j) (ld2 _ (by simp only [Fin.val_zero]; omega) (by omega)) fun r => rowC_at 2 (dcv_at t ha r _) (zs2_at m c t r _) (by omega) (by omega))

theorem final18 : (dats m 0 c).arrAt 18 (cfgs 0).N = DCW (args m c) := by
  refine (dats m 0 c).arrAt_eq_of_after_last 18 t0_7 (by decide +kernel) _ fun j => ?_
  blk_simp
  rw [after0_18]
  exact (sum_back (fun n h => (outsAt0 m c n h).2.2.2.2.2.1) (rowC (args m c)) (firstC ha) (nextC ha) j).trans (sum_rowC _ j)

end Cert.MixerIdeal.Value
-- ==== Proof.MixerSumP.lean ====
module

public import proofs.«01_k».proof.Proof.MixerSums
public import Idealize.ShloMosaic.Lib.Claim
public import Idealize.ShloMosaic.Lib.Quiescent

@[expose] public section

set_option maxRecDepth 16384

noncomputable section

open Idealize.ShloMosaic Idealize.ShloMosaic.TcCoe Idealize.SL.Sem Cert.Reals

namespace Cert.MixerIdeal.Value

open Cert.MixerIdeal Cert.MixerIdeal.Gen Cert.MixerSpec

variable (m : (ℓ : Loc nD τ sig) → Buf (Elt Ideal) ℓ)

variable {m} {c : Dev nD} (ha : (args m c).Real)
include ha

theorem firstP (t : Fin cfg0.N) (e : t.val % 8 = 0) (j : S1x1024.Idx) : (outsAt0 m c t.val t.isLt).2.2.2.2.2.2.1 j = 0 + ∑ r, rowP (args m c) (row t r) j := by
  rw [outsAt0_A m c t e]
  frame_out
  idx_vars j
  exact (p13_at (row t) (blkDx m c t) (blkY2 ha t) _ j0 j1).trans (step (g := fun i => rowP (args m c) i (ix2 j0 j1)) (fill7 _) fun r => rfl)
theorem nextP (t : Fin cfg0.N) (e : ¬t.val % 8 = 0) (j : S1x1024.Idx) :
    (outsAt0 m c t.val t.isLt).2.2.2.2.2.2.1 j = (outsAt0 m c (t.val - 1) (by omega)).2.2.2.2.2.2.1 j + ∑ r, rowP (args m c) (row t r) j := by
  rw [outsAt0_B m c t e]
  frame_out
  idx_vars j
  exact (p13_at (row t) (blkDx m c t) (blkY2 ha t) _ j0 j1).trans (step (g := fun i => rowP (args m c) i (ix2 j0 j1)) rfl fun r => rfl)

theorem final19 : (dats m 0 c).arrAt 19 (cfgs 0).N = DGP (args m c) := by
  refine (dats m 0 c).arrAt_eq_of_after_last 19 t0_7 (by decide +kernel) _ fun j => ?_
  blk_simp
  rw [after0_19]
  exact (sum_back (fun n h => (outsAt0 m c n h).2.2.2.2.2.2.1) (rowP (args m c)) (firstP ha) (nextP ha) j).trans (sum_rowP _ j)

end Cert.MixerIdeal.Value
-- ==== Proof.MixerSumG.lean ====
module

public import proofs.«01_k».proof.Proof.MixerSums
public import Idealize.ShloMosaic.Lib.Claim
public import Idealize.ShloMosaic.Lib.Quiescent

@[expose] public section

set_option maxRecDepth 16384

noncomputable section

open Idealize.ShloMosaic Idealize.ShloMosaic.TcCoe Idealize.SL.Sem Cert.Reals

namespace Cert.MixerIdeal.Value

open Cert.MixerIdeal Cert.MixerIdeal.Gen Cert.MixerSpec

variable (m : (ℓ : Loc nD τ sig) → Buf (Elt Ideal) ℓ)

variable {m} {c : Dev nD} (ha : (args m c).Real)
include ha

set_option maxHeartbeats 40000000 in
theorem firstG (t : Fin cfg0.N) (e : t.val % 8 = 0) (j : S1x1024.Idx) : (outsAt0 m c t.val t.isLt).2.2.2.2.2.2.2.1 j = 0 + ∑ r, rowG (args m c) (row t r) j := by
  rw [outsAt0_A m c t e]
  frame_out
  rw [Cert.InProjIdeal.Value.canon_take 3 _ j (View.cover_of_tiledBy _ ![1, 256] (by sl_kernel_rfl) j)]
  simp only [List.take_succ_cons, List.take_zero]
  canon_tiles x h using (View.cover_of_tiledBy _ ![1, 256] (by sl_kernel_rfl) j)
  all_goals
    idx_vars x
    obtain rfl : x0 = 0 := Subsingleton.elim _ _
    simp only [Fin.val_zero, Nat.add_zero] at h0
  · exact (p68_at (row t) (blkYx ha t) (dcat_at t ha) _ 0 x1).trans (step (g := fun i => rowG (args m c) i j) (by simp (decide := true) only [↓View.readCov_skip]; exact read8 _ _ _) fun r => rowG_x (by omega))
  · exact (p48_at (row t) (blkCw m c t) (dcat_at t ha) (row_eq t) (z_at m c t) (h6_at m c t) (h7_at m c t) (b_at m c t) _ 0 x1).trans (step (g := fun i => rowG (args m c) i j) (by simp (decide := true) only [↓View.readCov_skip]; exact read8 _ _ _) fun r => rowG_c (by omega))
  · exact (p29_at (row t) (blkYa m c t) (dcat_at t ha) _ 0 x1).trans (step (g := fun i => rowG (args m c) i j) (read8 _ _ _) fun r => rowG_a (by omega))

set_option maxHeartbeats 4000000 in
theorem nextG (t : Fin cfg0.N) (e : ¬t.val % 8 = 0) (j : S1x1024.Idx) :
    (outsAt0 m c t.val t.isLt).2.2.2.2.2.2.2.1 j = (outsAt0 m c (t.val - 1) (by omega)).2.2.2.2.2.2.2.1 j + ∑ r, rowG (args m c) (row t r) j := by
  rw [outsAt0_B m c t e]
  frame_out
  canon_tiles x h using (View.cover_of_tiledBy _ ![1, 256] (by sl_kernel_rfl) j)
  all_goals
    idx_vars x
    obtain rfl : x0 = 0 := Subsingleton.elim _ _
    simp only [Fin.val_zero, Nat.add_zero] at h0
  · exact (p68_at (row t) (blkYx ha t) (dcat_at t ha) _ 0 x1).trans (step (g := fun i => rowG (args m c) i j) (ld2 _ (by simp only [Fin.val_zero]; omega) (by omega)) fun r => rowG_x (by omega))
  · exact (p48_at (row t) (blkCw m c t) (dcat_at t ha) (row_eq t) (z_at m c t) (h6_at m c t) (h7_at m c t) (b_at m c t) _ 0 x1).trans (step (g := fun i => rowG (args m c) i j) (ld2 _ (by simp only [Fin.val_zero]; omega) (by omega)) fun r => rowG_c (by omega))
  · exact (p29_at (row t) (blkYa m c t) (dcat_at t ha) _ 0 x1).trans (step (g := fun i => rowG (args m c) i j) (ld2 _ (by simp only [Fin.val_zero]; omega) (by omega)) fun r => rowG_a (by omega))

theorem final20 : (dats m 0 c).arrAt 20 (cfgs 0).N = DG (args m c) := by
  refine (dats m 0 c).arrAt_eq_of_after_last 20 t0_7 (by decide +kernel) _ fun j => ?_
  blk_simp
  rw [after0_20]
  exact (sum_back (fun n h => (outsAt0 m c n h).2.2.2.2.2.2.2.1) (rowG (args m c)) (firstG ha) (nextG ha) j).trans (sum_rowG _ j)

end Cert.MixerIdeal.Value
-- ==== Proof.MixerRefRows.lean ====
module

public import proofs.«01_k».proof.Proof.Gen.MixerRefIdeal.Run
public import proofs.«01_k».proof.Proof.Gen.MixerRefIdeal.Read
public import proofs.«01_k».proof.Proof.MixerSpec
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Cert.Reals

/-! The derivative of the plain forward lines of the mixer half, read row by row. -/

namespace Cert.MixerRefIdeal.Value

open Cert.MixerRefIdeal Cert.MixerRefIdeal.Gen Cert.MixerRefIdeal.Read Cert.MixerSpec

variable (a : Args)

theorem v3_at (i : Fin 4096) (k : Fin 256) : val_main_v3 (F := Ideal) a.bcu (ix2 i k) = z a i k := by
  pointwise [val_main_v3, val_main_v1, val_main_v2, z, cg, ug]

theorem v5_at (j : Fin 4098) (k : Fin 256) : val_main_v5 (F := Ideal) a.bcu (ix2 j k) = if h : 2 ≤ j.val then z a ⟨j.val - 2, by omega⟩ k else 0 := by
  pointwise [val_main_v5, val_main_v4, val_main_cst, v3_at]
  by_cases h : j.val < 2
  · rw [dif_pos h, dif_neg (by omega)]
  · rw [dif_neg h, dif_pos (by omega)]

theorem v7_at (i : Fin 4096) (k : Fin 256) : val_main_v7 (F := Ideal) a.bcu (ix2 i k) = zs a 2 i k := by
  pointwise [val_main_v7, v5_at, zs]

theorem v13_at (i : Fin 4096) (k : Fin 256) : val_main_v13 (F := Ideal) a.bcu (ix2 i k) = zs a 1 i k := by
  pointwise [val_main_v13, v5_at, zs]
  by_cases h : 1 ≤ i.val
  · rw [dif_pos h, dif_pos (by omega)]
    exact congrArg (fun j => z a j k) (Fin.ext (by show 1 + i.val - 2 = i.val - 1; omega))
  · rw [dif_neg h, dif_neg (by omega)]

theorem v20_at (i : Fin 4096) (k : Fin 256) : val_main_v20 (F := Ideal) a.bcu (ix2 i k) = z a i k := by
  pointwise [val_main_v20, v5_at]

theorem v26_at (i : Fin 4096) (k : Fin 256) : val_main_v26 (F := Ideal) a.bcu a.cw (ix2 i k) = cv a i k := by
  rw [cv, mul_comm (a.cw (ix2 0 k)), mul_comm (a.cw (ix2 1 k)), mul_comm (a.cw (ix2 2 k))]
  pointwise [val_main_v26, val_main_v25, val_main_v24, val_main_v23, val_main_v22, val_main_v21, val_main_v19, val_main_v18, val_main_v17,
    val_main_v16, val_main_v15, val_main_v14, val_main_v12, val_main_v11, val_main_v10, val_main_v9, val_main_v8, v7_at, v13_at, v20_at]

theorem v27_at (i : Fin 4096) (k : Fin 256) : val_main_v27 (F := Ideal) a.bcu a.cw (ix2 i k) = yc a i k := by
  pointwise [val_main_v27, val_main_v0, v26_at, yc, bg]

theorem v31_at (n : Fin 256) (h : Fin 4) (l : Fin 64) : val_main_v31 (F := Ideal) a.kv (ix3 n h l) = mk a n (col h l) := by
  pointwise [val_main_v31, val_main_v29, mk]

theorem v32_at (n : Fin 256) (h : Fin 4) (l : Fin 64) : val_main_v32 (F := Ideal) a.kv (ix3 n h l) = mv a n (col h l) := by
  pointwise [val_main_v32, val_main_v30, mv]

theorem v28_at (i : Fin 4096) (h : Fin 4) (l : Fin 64) : val_main_v28 (F := Ideal) a.qx (ix3 i h l) = a.qx (ix2 i (col h l)) := by
  pointwise [val_main_v28]

theorem v35_at (h : Fin 4) (i : Fin 4096) (n : Fin 256) : val_main_v35 (F := Ideal) a.qx a.kv (ix3 h i n) = sc a h i n := by
  pointwise [val_main_v35, val_main_v34, val_main_v33, val_main_cst_1, v28_at, v31_at, sc]

theorem v36_at (h : Fin 4) (i : Fin 4096) : val_main_v36 (F := Ideal) a.qx a.kv (ix2 h i) = Softmax.greatest (sc a h i) := by
  pointwise [val_main_v36, val_main_cst_2, v35_at]

theorem v43_at (h : Fin 4) (i : Fin 4096) : val_main_v43 (F := Ideal) a.qx a.kv (ix2 h i) = Softmax.greatest (sc a h i) := by
  have e := Softmax.max_greatest (sc a h i)
  rw [val_main_v43_apply, v36_at, val_main_v42_apply]
  generalize Softmax.greatest (sc a h i) = g at e ⊢
  exact e

theorem v54_at (h : Fin 4) (i : Fin 4096) (n : Fin 256) : val_main_v54 (F := Ideal) a.qx a.kv (ix3 h i n) = Softmax.greatest (sc a h i) := by
  pointwise [val_main_v54, val_main_v53, v43_at]

theorem v56_at (h : Fin 4) (i : Fin 4096) (n : Fin 256) : val_main_v56 (F := Ideal) a.qx a.kv (ix3 h i n) = ex a h i n := by
  pointwise [val_main_v56, val_main_v55, v54_at, v35_at, ex, Softmax.ex]

theorem v58_at (h : Fin 4) (i : Fin 4096) (n : Fin 1) : val_main_v58 (F := Ideal) a.qx a.kv (ix3 h i n) = ∑ n, ex a h i n := by
  pointwise [val_main_v58, val_main_v57, val_main_cst_10, v56_at]

theorem v60_at (h : Fin 4) (i : Fin 4096) (n : Fin 256) : val_main_v60 (F := Ideal) a.qx a.kv (ix3 h i n) = wt a h i n := by
  pointwise [val_main_v60, val_main_v59, v58_at, v56_at, wt, Softmax.weight, ex]

theorem v66_at (i : Fin 4096) (c : Fin 256) : val_main_v66 (F := Ideal) a.qx a.kv (ix2 i c) = yx a i c := by
  pointwise [val_main_v66, val_main_v65, val_main_v64, v60_at, v32_at, yx]
  refine Finset.sum_congr rfl fun n _ => (mul_comm _ _).trans ?_
  exact congrArg (fun j => wt a (head c) i n * mv a n j) (Fin.ext (by show c.val / 64 * 64 + c.val % 64 = c.val; omega))

theorem v74_at (i : Fin 4096) (o : Fin 1) : val_main_v74 (F := Ideal) a.ya (ix2 i o) = rr w512 eps (yar a i) := by
  pointwise [val_main_v74, val_main_v73, val_main_v72, val_main_v71, val_main_v70, val_main_v69, val_main_v68, val_main_v67, val_main_cst_12, val_main_cst_13,
    val_main_cst_14, rr, yar]

theorem v79_at (i : Fin 4096) (k : Fin 512) : val_main_v79 (F := Ideal) a.ya (ix2 i k) = hat w512 eps (yar a i) k := by
  pointwise [val_main_v79, val_main_v78, v74_at, hat, yar]

theorem v89_at (i : Fin 4096) (o : Fin 1) : val_main_v89 (F := Ideal) a.bcu a.cw (ix2 i o) = rr w256 eps (yc a i) := by
  pointwise [val_main_v89, val_main_v88, val_main_v87, val_main_v86, val_main_v85, val_main_v84, val_main_v83, val_main_v82, val_main_cst_16, val_main_cst_17,
    val_main_cst_18, v27_at, rr]

theorem v94_at (i : Fin 4096) (k : Fin 256) : val_main_v94 (F := Ideal) a.bcu a.cw (ix2 i k) = hat w256 eps (yc a i) k := by
  pointwise [val_main_v94, val_main_v93, v89_at, v27_at, hat]

theorem v104_at (i : Fin 4096) (o : Fin 1) : val_main_v104 (F := Ideal) a.qx a.kv (ix2 i o) = rr w256 eps (yx a i) := by
  pointwise [val_main_v104, val_main_v103, val_main_v102, val_main_v101, val_main_v100, val_main_v99, val_main_v98, val_main_v97, val_main_cst_20, val_main_cst_21,
    val_main_cst_22, v66_at, rr]

theorem v109_at (i : Fin 4096) (k : Fin 256) : val_main_v109 (F := Ideal) a.qx a.kv (ix2 i k) = hat w256 eps (yx a i) k := by
  pointwise [val_main_v109, val_main_v108, v104_at, v66_at, hat]

theorem v112_at (i : Fin 4096) (e : Fin 1024) :
    val_main_v112 (F := Ideal) a.ya a.bcu a.qx a.kv a.cw a.ga a.gc a.gx (ix2 i e) = ycat a i e := by
  pointwise [val_main_v112, val_main_v81, val_main_v80, val_main_v96, val_main_v95, val_main_v111, val_main_v110, v79_at, v94_at, v109_at, ycat]
  by_cases h : e.val < 512
  · rw [dif_pos h, dif_pos h]
  · rw [dif_neg h, dif_neg h]
    by_cases h' : e.val < 768
    · rw [dif_pos h', dif_pos (by omega)]
    · rw [dif_neg h', dif_neg (by omega)]
      exact congrArg (fun j => hat w256 eps (yx a i) j * a.gx (ix2 0 j)) (Fin.ext (by show e.val - 512 - 256 = e.val - 768; omega))

theorem v113_at (i : Fin 4096) (d : Fin 1024) :
    val_main_v113 (F := Ideal) a.ya a.bcu a.qx a.kv a.cw a.ga a.gc a.gx a.wo (ix2 i d) = y2 a i d := by
  pointwise [val_main_v113, v112_at, y2]

theorem v121_at (i : Fin 4096) (o : Fin 1) :
    val_main_v121 (F := Ideal) a.ya a.bcu a.qx a.kv a.cw a.ga a.gc a.gx a.wo (ix2 i o) = rr w1024 eps (y2 a i) := by
  pointwise [val_main_v121, val_main_v120, val_main_v119, val_main_v118, val_main_v117, val_main_v116, val_main_v115, val_main_v114, val_main_cst_24,
    val_main_cst_25, val_main_cst_26, v113_at, rr]

theorem v126_at (i : Fin 4096) (k : Fin 1024) :
    val_main_v126 (F := Ideal) a.ya a.bcu a.qx a.kv a.cw a.ga a.gc a.gx a.wo (ix2 i k) = hat w1024 eps (y2 a i) k := by
  pointwise [val_main_v126, val_main_v125, v121_at, v113_at, hat]

theorem out_dgp : val_main_v131 (F := Ideal) a.ya a.bcu a.qx a.kv a.cw a.ga a.gc a.gx a.wo a.dx = DGP a := by
  funext y; idx_vars y
  pointwise [val_main_v131, val_main_v130, val_main_v129, val_main_cst_28, v126_at, DGP]
  exact Finset.sum_congr rfl fun _ _ => mul_comm _ _

end Cert.MixerRefIdeal.Value

end
-- ==== Proof.MixerRefValue.lean ====
module

public import proofs.«01_k».proof.Proof.MixerRefRows

@[expose] public section

set_option maxRecDepth 16384

noncomputable section

open Idealize.ShloMosaic Idealize.ShloMosaic.TcCoe Idealize.SL.Sem Cert.Reals

/-! The cotangents of the mixer half as the derivative hands them back, up to the eight results. -/

namespace Cert.MixerRefIdeal.Value

open Cert.MixerRefIdeal Cert.MixerRefIdeal.Gen Cert.MixerRefIdeal.Read Cert.MixerSpec

/-- An operation of all eleven arguments. -/
abbrev of {α : Type} (a : Args) (f : FVec Ideal ⟨2, ![4096, 512]⟩ .f32 → FVec Ideal ⟨2, ![4096, 768]⟩ .f32 → FVec Ideal ⟨2, ![4096, 256]⟩ .f32
    → FVec Ideal ⟨2, ![256, 512]⟩ .f32 → FVec Ideal ⟨2, ![3, 256]⟩ .f32 → FVec Ideal ⟨2, ![1, 512]⟩ .f32 → FVec Ideal ⟨2, ![1, 256]⟩ .f32
    → FVec Ideal ⟨2, ![1, 256]⟩ .f32 → FVec Ideal ⟨2, ![1024, 1024]⟩ .f32 → FVec Ideal ⟨2, ![1, 1024]⟩ .f32 → FVec Ideal ⟨2, ![4096, 1024]⟩ .f32 → α) : α :=
  f a.ya a.bcu a.qx a.kv a.cw a.ga a.gc a.gx a.wo a.gp a.dx

theorem col_at (c : Fin 256) (h : c.val / 64 < 4) (h' : c.val % 64 < 64) : col ⟨c.val / 64, h⟩ ⟨c.val % 64, h'⟩ = c := Fin.ext (Nat.div_add_mod' _ _)
theorem zs_zero (a : Args) (i : Fin 4096) (k : Fin 256) : zs a 0 i k = z a i k := by simp [zs]

variable {a : Args} (ha : a.Real)
include ha

theorem v143_at (i : Fin 4096) (k : Fin 1024) :
    of a (val_main_v143 (F := Ideal)) (ix2 i k) = gradMean w1024 eps (y2 a i) (fun k => a.dx (ix2 i k) * a.gp (ix2 0 k)) := by
  pointwise [val_main_v143, val_main_v142, val_main_v141, val_main_v140, val_main_v139, val_main_v136, val_main_v135, val_main_v134, val_main_v133, val_main_v132,
    val_main_v124, val_main_v123, val_main_v122, val_main_v120, val_main_v119, val_main_v118, val_main_v117, val_main_v116, val_main_v115, val_main_v114,
    val_main_cst_24, val_main_cst_25, val_main_cst_26, val_main_cst_27, val_main_cst_29, val_main_cst_30, val_main_cst_31, v113_at, v121_at,
    gradMean, Fin.sum_univ_one]

theorem v147_at (i : Fin 4096) (k : Fin 1024) : of a (val_main_v147 (F := Ideal)) (ix2 i k) = dy2 a i k := by
  rw [dy2, ← back_eq w1024_pos bits_eps (re_y2 ha i) (fun _ => (ha.dx _).mul (ha.gp _))]
  pointwise [val_main_v147, val_main_v146, val_main_v145, val_main_v144, val_main_v138, val_main_v137, val_main_v133, val_main_v132, v113_at, v121_at, v143_at ha]

theorem out_gwo : of a (val_main_v285 (F := Ideal)) = GWO a := by
  funext y; idx_vars y
  have e : ((y1.val * 2 + y0.val) * 128 + y2.val) = y1.val * 256 + y0.val * 128 + y2.val := by omega
  pointwise [val_main_v285, val_main_v284, val_main_v149, val_main_v148, v147_at ha, v112_at, GWO, gwo]
  simp only [e]
  exact Finset.sum_congr rfl fun _ _ => mul_comm _ _

theorem v150_at (i : Fin 4096) (e : Fin 1024) : of a (val_main_v150 (F := Ideal)) (ix2 i e) = dcat a i e := by
  pointwise [val_main_v150, v147_at ha, dcat]

theorem v151_at (i : Fin 4096) (k : Fin 512) : of a (val_main_v151 (F := Ideal)) (ix2 i k) = dna a i k := by
  pointwise [val_main_v151, v150_at ha, dna]
theorem v152_at (i : Fin 4096) (k : Fin 256) : of a (val_main_v152 (F := Ideal)) (ix2 i k) = dnc a i k := by
  pointwise [val_main_v152, v150_at ha, dnc]
theorem v153_at (i : Fin 4096) (k : Fin 256) : of a (val_main_v153 (F := Ideal)) (ix2 i k) = dnx a i k := by
  pointwise [val_main_v153, v150_at ha, dnx]

theorem v168_at (i : Fin 4096) (k : Fin 256) :
    of a (val_main_v168 (F := Ideal)) (ix2 i k) = gradMean w256 eps (yx a i) (fun k => dnx a i k * a.gx (ix2 0 k)) := by
  pointwise [val_main_v168, val_main_v167, val_main_v166, val_main_v165, val_main_v164, val_main_v161, val_main_v160, val_main_v159, val_main_v158, val_main_v157,
    val_main_v107, val_main_v106, val_main_v105, val_main_v103, val_main_v102, val_main_v101, val_main_v100, val_main_v99, val_main_v98, val_main_v97,
    val_main_cst_20, val_main_cst_21, val_main_cst_22, val_main_cst_23, val_main_cst_33, val_main_cst_34, val_main_cst_35, v66_at, v104_at, v153_at ha,
    gradMean, Fin.sum_univ_one]

theorem v172_at (i : Fin 4096) (k : Fin 256) : of a (val_main_v172 (F := Ideal)) (ix2 i k) = dyx a i k := by
  rw [dyx, ← back_eq w256_pos bits_eps (x := yx a i) (d := fun k => dnx a i k * a.gx (ix2 0 k)) (re_yx ha i) (fun _ => (re_dcat ha _ _).mul (ha.gx _))]
  pointwise [val_main_v172, val_main_v171, val_main_v170, val_main_v169, val_main_v163, val_main_v162, val_main_v158, val_main_v157, v66_at, v104_at, v153_at ha,
    v168_at ha]

theorem v187_at (i : Fin 4096) (k : Fin 256) :
    of a (val_main_v187 (F := Ideal)) (ix2 i k) = gradMean w256 eps (yc a i) (fun k => dnc a i k * a.gc (ix2 0 k)) := by
  pointwise [val_main_v187, val_main_v186, val_main_v185, val_main_v184, val_main_v183, val_main_v180, val_main_v179, val_main_v178, val_main_v177, val_main_v176,
    val_main_v92, val_main_v91, val_main_v90, val_main_v88, val_main_v87, val_main_v86, val_main_v85, val_main_v84, val_main_v83, val_main_v82,
    val_main_cst_16, val_main_cst_17, val_main_cst_18, val_main_cst_19, val_main_cst_37, val_main_cst_38, val_main_cst_39, v27_at, v89_at, v152_at ha,
    gradMean, Fin.sum_univ_one]

theorem v191_at (i : Fin 4096) (k : Fin 256) : of a (val_main_v191 (F := Ideal)) (ix2 i k) = dyc a i k := by
  rw [dyc, ← back_eq w256_pos bits_eps (x := yc a i) (d := fun k => dnc a i k * a.gc (ix2 0 k)) (re_yc ha i) (fun _ => (re_dcat ha _ _).mul (ha.gc _))]
  pointwise [val_main_v191, val_main_v190, val_main_v189, val_main_v188, val_main_v182, val_main_v181, val_main_v177, val_main_v176, v27_at, v89_at, v152_at ha,
    v187_at ha]

theorem v206_at (i : Fin 4096) (k : Fin 512) :
    of a (val_main_v206 (F := Ideal)) (ix2 i k) = gradMean w512 eps (yar a i) (fun k => dna a i k * a.ga (ix2 0 k)) := by
  pointwise [val_main_v206, val_main_v205, val_main_v204, val_main_v203, val_main_v202, val_main_v199, val_main_v198, val_main_v197, val_main_v196, val_main_v195,
    val_main_v77, val_main_v76, val_main_v75, val_main_v73, val_main_v72, val_main_v71, val_main_v70, val_main_v69, val_main_v68, val_main_v67,
    val_main_cst_12, val_main_cst_13, val_main_cst_14, val_main_cst_15, val_main_cst_41, val_main_cst_42, val_main_cst_43, v74_at, v151_at ha,
    gradMean, Fin.sum_univ_one, yar]

theorem v210_at (i : Fin 4096) (k : Fin 512) : of a (val_main_v210 (F := Ideal)) (ix2 i k) = dya a i k := by
  rw [dya, ← back_eq w512_pos bits_eps (x := yar a i) (d := fun k => dna a i k * a.ga (ix2 0 k)) (fun _ => ha.ya _) (fun _ => (re_dcat ha _ _).mul (ha.ga _))]
  pointwise [val_main_v210, val_main_v209, val_main_v208, val_main_v207, val_main_v201, val_main_v200, val_main_v196, val_main_v195, v74_at, v151_at ha,
    v206_at ha, yar]

theorem out_dya : of a (val_main_v210 (F := Ideal)) = DYA a := by
  funext y; idx_vars y
  exact v210_at ha _ _

theorem out_delta : of a (val_main_v287 (F := Ideal)) = DELTA a := by
  funext y; idx_vars y
  pointwise [val_main_v287, val_main_v286, val_main_v283, val_main_v282, val_main_v281, val_main_v280, val_main_cst_62, v210_at ha, DELTA, delta, yar]

theorem out_dg : of a (val_main_v290 (F := Ideal)) = DG a := by
  funext y; idx_vars y
  pointwise [val_main_v290, val_main_v194, val_main_v193, val_main_v192, val_main_v175, val_main_v174, val_main_v173, val_main_v156, val_main_v155, val_main_v154,
    val_main_cst_32, val_main_cst_36, val_main_cst_40, v79_at, v94_at, v109_at, v151_at ha, v152_at ha, v153_at ha, DG, dg]
  rcases lt_or_ge y1.val 512 with h | h
  · rw [dif_pos h, dif_pos h]
    exact Finset.sum_congr rfl fun _ _ => mul_comm _ _
  · rw [dif_neg (c := y1.val < 512) (by omega), dif_neg (c := y1.val < 512) (by omega)]
    rcases lt_or_ge y1.val 768 with h' | h'
    · rw [dif_pos (c := y1.val - 512 < 256) (by omega), dif_pos h']
      exact Finset.sum_congr rfl fun _ _ => mul_comm _ _
    · rw [dif_neg (c := y1.val - 512 < 256) (by omega), dif_neg (c := y1.val < 768) (by omega)]
      simp only [Nat.sub_sub, Nat.reduceAdd]
      exact Finset.sum_congr rfl fun _ _ => mul_comm _ _

theorem v213_at (h : Fin 4) (i : Fin 4096) (n : Fin 256) : of a (val_main_v213 (F := Ideal)) (ix3 h i n) = dwt a h i n := by
  pointwise [val_main_v213, val_main_v212, val_main_v211, v172_at ha, v32_at, dwt]

theorem v225_at (h : Fin 4) (i : Fin 4096) (n : Fin 256) : of a (val_main_v225 (F := Ideal)) (ix3 h i n)
    = -(∑ j, dwt a h i j * Ideal.div (Ideal.ofBits .f32 0x3F800000#32) ((∑ j, ex a h i j) * (∑ j, ex a h i j)) * ex a h i j) := by
  pointwise [val_main_v225, val_main_v224, val_main_v221, val_main_v220, val_main_v219, val_main_v218, val_main_v217, val_main_v216, val_main_v63, val_main_v62,
    val_main_v61, val_main_cst_11, val_main_cst_44, val_main_cst_45, v58_at, v56_at, v213_at ha, Fin.sum_univ_one]

theorem v229_at (h : Fin 4) (i : Fin 4096) (n : Fin 256) : of a (val_main_v229 (F := Ideal)) (ix3 h i n) = dsc a h i n := by
  refine Eq.trans ?_ (Softmax.back_eq (re_sc ha h i) (re_dwt ha h i) scale n)
  pointwise [val_main_v229, val_main_v228, val_main_v227, val_main_v226, val_main_v223, val_main_v222, val_main_cst_46, v58_at, v56_at, v213_at ha, v225_at ha, ex]

theorem v234_at (n c : Fin 256) : of a (val_main_v234 (F := Ideal)) (ix2 n c) = ∑ i, wt a (head c) i n * dyx a i c := by
  pointwise [val_main_v234, val_main_v215, val_main_v214, val_main_v212, val_main_v211, v172_at ha, v60_at]
  exact Finset.sum_congr rfl fun _ _ => mul_comm _ _

theorem v235_at (n c : Fin 256) : of a (val_main_v235 (F := Ideal)) (ix2 n c) = ∑ i, dsc a (head c) i n * a.qx (ix2 i c) := by
  pointwise [val_main_v235, val_main_v231, val_main_v230, v229_at ha, v28_at]
  simp only [col_at]

theorem out_dkv : of a (val_main_v236 (F := Ideal)) = DKV a := by
  funext y; idx_vars y
  pointwise [val_main_v236, v234_at ha, v235_at ha, DKV, dkv]

theorem v237_at (i : Fin 4096) (c : Fin 256) : of a (val_main_v237 (F := Ideal)) (ix2 i c) = dqx a i c := by
  pointwise [val_main_v237, val_main_v233, val_main_v232, v229_at ha, v31_at, dqx]
  simp only [col_at]

theorem v238_at (i : Fin 4096) (k : Fin 256) : of a (val_main_v238 (F := Ideal)) (ix2 i k) = dcv a i k := by
  rw [dcv, mul_comm]
  pointwise [val_main_v238, val_main_v0, v191_at ha, bg]

theorem out_dcw : of a (val_main_v268 (F := Ideal)) = DCW a := by
  funext y; idx_vars y
  pointwise [val_main_v268, val_main_v267, val_main_v266, val_main_v265, val_main_v262, val_main_v261, val_main_v260, val_main_v257, val_main_v256, val_main_v255,
    val_main_v254, val_main_v251, val_main_v250, val_main_v249, val_main_v247, val_main_v246, val_main_v245, val_main_v242, val_main_v241, val_main_v240,
    val_main_cst_47, val_main_cst_48, val_main_cst_49, val_main_cst_51, val_main_cst_52, val_main_cst_53, val_main_cst_55, val_main_cst_56, val_main_cst_57,
    v7_at, v13_at, v20_at, v238_at ha, Fin.sum_univ_one, DCW, dcw]
  rcases (by omega : y0.val = 0 ∨ y0.val = 1 ∨ y0.val = 2) with h | h | h <;> simp [h, mul_comm, zs_zero]

theorem v272_at (i : Fin 4096) (k : Fin 256) : of a (val_main_v272 (F := Ideal)) (ix2 i k) = dz a i k := by
  pointwise [val_main_v272, val_main_v270, val_main_v269, val_main_v264, val_main_v263, val_main_v259, val_main_v258, val_main_v253, val_main_v252, val_main_v248,
    val_main_v244, val_main_v243, val_main_v23, val_main_v22, val_main_v21, val_main_v16, val_main_v15, val_main_v14, val_main_v10, val_main_v9, val_main_v8,
    val_main_cst_50, val_main_cst_54, val_main_cst_58, v238_at ha, dz, dcvs]
  have e (j : ℕ) (w : EReal) : (if h : j < 4096 then dcv a ⟨j, h⟩ k * w else 0) = w * (if h : j < 4096 then dcv a ⟨j, h⟩ k else 0) := by
    split
    · exact mul_comm _ _
    · exact (mul_zero _).symm
  simp only [show 2 + i.val - 1 = i.val + 1 by omega, show 2 + i.val = i.val + 2 by omega, show i.val + 2 - 1 = i.val + 1 by omega, show 1 ≤ i.val + 2 by omega, true_and, e]
  rw [mul_comm (dcv a i k)]

theorem v279_at (i : Fin 4096) (e : Fin 768) : of a (val_main_v279 (F := Ideal)) (ix2 i e) = tail a i ⟨e.val, by omega⟩ := by
  pointwise [val_main_v279, val_main_v278, val_main_v277, val_main_v276, val_main_v275, val_main_v274, val_main_v273, val_main_v239, val_main_v1, val_main_v2,
    val_main_cst_59, val_main_cst_60, val_main_cst_61, v272_at ha, v191_at ha, v26_at, tail, cg, ug]
  rcases lt_or_ge e.val 256 with h | h
  · rw [dif_neg (by omega), dif_neg (by omega), dif_pos h, dif_pos h, zero_add, zero_add]
  · rw [dif_neg (c := e.val < 256) (by omega), dif_neg (c := e.val < 256) (by omega)]
    rcases lt_or_ge e.val 512 with h' | h'
    · rw [dif_neg (by omega), dif_pos (by omega), dif_pos h', zero_add, add_zero]
    · rw [dif_pos (by omega), dif_neg (by omega), dif_neg (by omega), add_zero, add_zero, mul_comm]

theorem out_tail : of a (val_main_v289 (F := Ideal)) = TAIL a := by
  funext y; idx_vars y
  pointwise [val_main_v289, val_main_v288, v279_at ha, v237_at ha, TAIL]
  split
  · rfl
  · rw [tail, dif_neg (by omega), dif_neg (by omega), dif_neg (by omega)]

/-- The arguments as the memory holds them on a device. -/
abbrev argsOf (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10)⟩

set_option maxHeartbeats 4000000 in
omit ha in
/-- The run, with the eight results as the specification's arrays, where the arguments are real. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      ((argsOf m c).Real →
        r.2.mem ((c.tc : Thread nD τ).loc main_v285) = GWO (argsOf m c)
        ∧ r.2.mem ((c.tc : Thread nD τ).loc main_v210) = DYA (argsOf m c)
        ∧ r.2.mem ((c.tc : Thread nD τ).loc main_v287) = DELTA (argsOf m c)
        ∧ r.2.mem ((c.tc : Thread nD τ).loc main_v289) = TAIL (argsOf m c)
        ∧ r.2.mem ((c.tc : Thread nD τ).loc main_v236) = DKV (argsOf m c)
        ∧ r.2.mem ((c.tc : Thread nD τ).loc main_v268) = DCW (argsOf m c)
        ∧ r.2.mem ((c.tc : Thread nD τ).loc main_v131) = DGP (argsOf m c)
        ∧ r.2.mem ((c.tc : Thread nD τ).loc main_v290) = DG (argsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ⟨fun ha => ?_, (h c).2.2.2.2.2.2.2.2⟩) (run m ρ)
  obtain ⟨k0, k1, k2, k3, k4, k5, k6, k7, -⟩ := h c
  have e0 := k0.trans (val_main_v285_eq (StableHlo.launchContents m c))
  have e1 := k1.trans (val_main_v210_eq (StableHlo.launchContents m c))
  have e2 := k2.trans (val_main_v287_eq (StableHlo.launchContents m c))
  have e3 := k3.trans (val_main_v289_eq (StableHlo.launchContents m c))
  have e4 := k4.trans (val_main_v236_eq (StableHlo.launchContents m c))
  have e5 := k5.trans (val_main_v268_eq (StableHlo.launchContents m c))
  have e6 := k6.trans (val_main_v131_eq (StableHlo.launchContents m c))
  have e7 := k7.trans (val_main_v290_eq (StableHlo.launchContents m c))
  have f0 := out_gwo ha
  have f1 := out_dya ha
  have f2 := out_delta ha
  have f3 := out_tail ha
  have f4 := out_dkv ha
  have f5 := out_dcw ha
  have f6 := out_dgp (argsOf m c)
  have f7 := out_dg ha
  exact ⟨e0.trans f0, e1.trans f1, e2.trans f2, e3.trans f3, e4.trans f4, e5.trans f5, e6.trans f6, e7.trans f7⟩

end Cert.MixerRefIdeal.Value

end
-- ==== Proof.MixerValue.lean ====
module

public import proofs.«01_k».proof.Proof.MixerTail
public import proofs.«01_k».proof.Proof.MixerSumO
public import proofs.«01_k».proof.Proof.MixerSumK
public import proofs.«01_k».proof.Proof.MixerSumC
public import proofs.«01_k».proof.Proof.MixerSumP
public import proofs.«01_k».proof.Proof.MixerSumG
public import proofs.«01_k».proof.Proof.MixerRefValue
public import proofs.«01_k».proof.Proof.Gen.Pre_mixer_finite
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL Idealize.SL.RA Cert.Reals Cert.MixerSpec

/-! The backward pass of the three mixers: the call and the derivative of the plain lines. -/

namespace Cert.Proof

theorem mixerRef_quiescent : Cert.quiescent_MixerRefIdeal := fun m g _ =>
  (θ_run _ _ _).mono (fun r h => ⟨fun c => (h c).2, sem_eq_zero_of_no_sems rfl _⟩) (Cert.MixerRefIdeal.Value.run_read m g)

/-- The precondition says that the arguments are real numbers. -/
theorem mixer_real (m : (ℓ : Loc Cert.MixerIdeal.nD Cert.MixerIdeal.τ Cert.MixerIdeal.sig) → Buf (Elt Ideal) ℓ) (h : Cert.Pre_MixerIdeal_mixer_finite m)
    (c : Dev Cert.MixerIdeal.nD) : (Cert.MixerIdeal.Value.args m c).Real := by
  obtain ⟨h0, h1, h2, h3, h4, h5, h6, h7, h8, h9, h10⟩ := h c
  exact ⟨fun i => re_of_abs_lt (congrFun h0 i), fun i => re_of_abs_lt (congrFun h1 i), fun i => re_of_abs_lt (congrFun h2 i),
    fun i => re_of_abs_lt (congrFun h3 i), fun i => re_of_abs_lt (congrFun h4 i), fun i => re_of_abs_lt (congrFun h5 i), fun i => re_of_abs_lt (congrFun h6 i),
    fun i => re_of_abs_lt (congrFun h7 i), fun i => re_of_abs_lt (congrFun h8 i), fun i => re_of_abs_lt (congrFun h9 i), fun i => re_of_abs_lt (congrFun h10 i)⟩

theorem mixer_args {ya ya' bcu bcu' qx qx' kv kv' cw cw' ga ga' gc gc' gx gx' wo wo' gp gp' dx dx'} (h0 : ya' = ya) (h1 : bcu' = bcu) (h2 : qx' = qx) (h3 : kv' = kv)
    (h4 : cw' = cw) (h5 : ga' = ga) (h6 : gc' = gc) (h7 : gx' = gx) (h8 : wo' = wo) (h9 : gp' = gp) (h10 : dx' = dx) :
    Args.mk ya' bcu' qx' kv' cw' ga' gc' gx' wo' gp' dx' = Args.mk ya bcu qx kv cw ga gc gx wo gp dx := by
  subst h0 h1 h2 h3 h4 h5 h6 h7 h8 h9 h10
  rfl

set_option maxHeartbeats 4000000 in
/-- The call and the derivative of the plain lines end with the same eight arrays, when the arguments are real numbers. -/
theorem mixer_algebraic : Cert.algebraic_MixerIdeal_MixerRefIdeal_pre_mixer_finite := by
  intro m g m' g' hpre hagree
  refine ⟨_, _, _, _, _, _, _, _, (θ_run _ _ _).mono (fun r h c => by
    have ha := mixer_real m hpre c
    obtain ⟨k13, k14, k15, k16, k17, k18, k19, k20, k⟩ := h c
    exact ⟨k13.trans (Cert.MixerIdeal.Value.final13 ha), k14.trans (Cert.MixerIdeal.Value.final14 ha), k15.trans (Cert.MixerIdeal.Value.final15 ha),
      k16.trans (Cert.MixerIdeal.Value.final16 ha), k17.trans (Cert.MixerIdeal.Value.final17 ha), k18.trans (Cert.MixerIdeal.Value.final18 ha),
      k19.trans (Cert.MixerIdeal.Value.final19 ha), k20.trans (Cert.MixerIdeal.Value.final20 ha), k⟩) (Cert.MixerIdeal.Value.run_blocks m g), ?_⟩
  refine (θ_run _ _ _).mono (fun r h c => ?_) (Cert.MixerRefIdeal.Value.run_read m' g')
  obtain ⟨h0, h1, h2, h3, h4, h5, h6, h7, h8, h9, h10⟩ := hagree c
  have e : Cert.MixerRefIdeal.Value.argsOf m' c = Cert.MixerIdeal.Value.args m c := mixer_args h0 h1 h2 h3 h4 h5 h6 h7 h8 h9 h10
  have ha := mixer_real m hpre c
  obtain ⟨k, kept⟩ := h c
  obtain ⟨k0, k1, k2, k3, k4, k5, k6, k7⟩ := k (e ▸ ha)
  exact ⟨k0.trans (congrArg GWO e), k1.trans (congrArg DYA e), k2.trans (congrArg DELTA e), k3.trans (congrArg TAIL e), k4.trans (congrArg DKV e),
    k5.trans (congrArg DCW e), k6.trans (congrArg DGP e), k7.trans (congrArg DG e), kept⟩

end Cert.Proof

end
-- ==== Proof.MixFwdTiles.lean ====
module

public import proofs.«01_k».proof.Proof.Gen.MixFwdIdeal.Value
public import proofs.«01_k».proof.Proof.MixerHeads
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Cert.Reals

/-! The mixers' forward call, one payload at a time: over blocks of 512 rows of the arguments each is the specification's rows. -/

namespace Cert.MixerSpec

/-! Dividing after the product with the values is dividing before it, when the queries and the memory are real numbers. -/

section
variable {a : Args} (hq : ∀ i, Re (a.qx i)) (hkv : ∀ i, Re (a.kv i))
include hq hkv

theorem head_out (h : Fin 4) (i : Fin 4096) (l : Fin 64) :
    Ideal.div (∑ n, ex a h i n * mv a n (col h l)) (∑ n, ex a h i n) = yx a i (col h l) := by
  have hc : head (col h l) = h := Fin.ext (by show (h.val * 64 + l.val) / 64 = h.val; omega)
  rw [yx, hc]
  exact Softmax.out_eq (f := sc a h i) (fun n => (Re.sum _ fun l => (hq _).mul (hkv _)).mul ⟨_, Softmax.bits_eighth⟩) fun n => hkv _

end

end Cert.MixerSpec

namespace Cert.MixFwdIdeal.Value

open Cert.MixFwdIdeal Cert.MixFwdIdeal.Gen Cert.MixerSpec
open Cert.MixerIdeal.Value (p38_at p39_at p40_at col0 col1 col2 col3)

variable {a : Args} (row : Fin 512 → Fin 4096)

/-! ### The normed parts and the projection -/

section Parts
variable {x0 : FVec Ideal S512x512 .f32} {ga : FVec Ideal S1x512 .f32} {gc gx : FVec Ideal S1x256 .f32} {c x h : FVec Ideal S512x256 .f32}
  {y : FVec Ideal S512x1024 .bf16} {wo : FVec Ideal S1024x1024 .bf16} {x11 : FVec Ideal S512x1024 .f32} {gp : FVec Ideal S1x1024 .f32}
  (hya : ∀ r k, x0 (ix2 r k) = yar a (row r) k) (hga : ∀ k, ga (ix2 0 k) = a.ga (ix2 0 k)) (hgc : ∀ k, gc (ix2 0 k) = a.gc (ix2 0 k))
  (hgx : ∀ k, gx (ix2 0 k) = a.gx (ix2 0 k)) (hyc : ∀ r k, c (ix2 r k) = yc a (row r) k) (hyx : ∀ r k, x (ix2 r k) = yx a (row r) k)
  (hh : ∀ r k, h (ix2 r k) = hat w256 eps (yx a (row r)) k) (hy : ∀ r e, y (ix2 r e) = ycat a (row r) e) (hwo : ∀ e d, wo (ix2 e d) = a.wo (ix2 e d))
  (hx : ∀ r k, x11 (ix2 r k) = a.dx (ix2 (row r) k)) (hgp : ∀ k, gp (ix2 0 k) = a.gp (ix2 0 k))

include hya hga in
theorem p21_at (r : Fin 512) (k : Fin 512) : k0_pay21 (F := Ideal) x0 ga (ix2 r k) = hat w512 eps (yar a (row r)) k * a.ga (ix2 0 k) := by
  pointwise [k0_pay21, hya, hga, hat, rr]

include hyc hgc in
theorem p22_at (r : Fin 512) (k : Fin 256) : k0_pay22 (F := Ideal) c gc (ix2 r k) = hat w256 eps (yc a (row r)) k * a.gc (ix2 0 k) := by
  pointwise [k0_pay22, hyc, hgc, hat, rr]

include hyx in
theorem p20_at (r : Fin 512) (k : Fin 256) : k0_pay20 (F := Ideal) x (ix2 r k) = yx a (row r) k := by
  pointwise [k0_pay20, hyx]

include hyx in
theorem p23_at (r : Fin 512) (k : Fin 256) : k0_pay23 (F := Ideal) x (ix2 r k) = hat w256 eps (yx a (row r)) k := by
  pointwise [k0_pay23, hyx, hat, rr]

include hh hgx in
theorem p1_at (r : Fin 512) (k : Fin 256) : k0_pay1 (F := Ideal) h gx (ix2 r k) = hat w256 eps (yx a (row r)) k * a.gx (ix2 0 k) := by
  pointwise [k0_pay1, hh, hgx]

include hy hwo in
theorem p2_at (r : Fin 512) (d : Fin 1024) : k0_pay2 (F := Ideal) y wo (ix2 r d) = y2 a (row r) d := by
  pointwise [k0_pay2, hy, hwo, y2]

include hy hwo hx hgp in
theorem p3_at (r : Fin 512) (d : Fin 1024) :
    k0_pay3 (F := Ideal) y wo x11 gp (ix2 r d) = a.dx (ix2 (row r) d) + hat w1024 eps (y2 a (row r)) d * a.gp (ix2 0 d) := by
  pointwise [k0_pay3, p2_at row hy hwo, hx, hgp, hat, rr]

end Parts

/-! ### The convolution -/

section Conv
variable {x1 : FVec Ideal S512x768 .f32} {x2 : FVec Ideal S8x768 .f32} {w : FVec Ideal S3x256 .f32} (i : grid0.Coords)
  (hbcu : ∀ r k, x1 (ix2 r k) = a.bcu (ix2 (row r) k)) (hw : ∀ d k, w (ix2 d k) = a.cw (ix2 d k))

/-- The last eight rows before the tile, as the backward pass takes them. -/
abbrev haloT (i : grid0.Coords) (x2 : FVec Ideal S8x768 .f32) : FVec Ideal S8x256 .f32 :=
  Cert.MixerIdeal.Gen.k0_pay38 (F := Ideal) (Scalar.cmpi CmpIPredicate.eq (BitVec.ofNat 32 (i 0).val) 0#32) x2

theorem p6_eq : k0_pay6 (F := Ideal) i x1 x2 w = addf
    (mulf (broadcastTo S512x256 (extractStridedSlice S1x256 ![0, 0] w slices_S3x256_o0_0_S1x256) broadcasts_S1x256_S512x256)
      (Cert.MixerIdeal.Gen.k0_pay40 (F := Ideal) (k0_pay5 x1) (haloT i x2)))
    (mulf (broadcastTo S512x256 (extractStridedSlice S1x256 ![1, 0] w slices_S3x256_o1_0_S1x256) broadcasts_S1x256_S512x256)
      (Cert.MixerIdeal.Gen.k0_pay39 (F := Ideal) (k0_pay5 x1) (haloT i x2))) := rfl

include hbcu in
theorem p4_at (r : Fin 512) (k : Fin 256) : k0_pay4 (F := Ideal) x1 (ix2 r k) = bg a (row r) k := by pointwise [k0_pay4, hbcu, bg]
include hbcu in
theorem p5_at (r : Fin 512) (k : Fin 256) : k0_pay5 (F := Ideal) x1 (ix2 r k) = z a (row r) k := by pointwise [k0_pay5, hbcu, z, cg, ug]

variable {b : ℕ} (hrow : ∀ r, (row r).val = b * 512 + r.val)
  (h6 : ∀ k, haloT i x2 (ix2 6 k) = zs a 2 (row 0) k) (h7 : ∀ k, haloT i x2 (ix2 7 k) = zs a 1 (row 0) k)

include hbcu hw hrow h6 h7 in
theorem p6_at (r : Fin 512) (k : Fin 256) : k0_pay6 (F := Ideal) i x1 x2 w (ix2 r k)
    = a.cw (ix2 0 k) * zs a 2 (row r) k + a.cw (ix2 1 k) * zs a 1 (row r) k := by
  have e1 (r k) := p39_at row hrow (p5_at row hbcu) h7 r k
  have e2 (r k) := p40_at row hrow (p5_at row hbcu) h6 h7 r k
  rw [p6_eq]
  pointwise [e1, e2, hw]

include hbcu hw hrow h6 h7 in
theorem p8_at (r : Fin 512) (k : Fin 256) :
    k0_pay8 (F := Ideal) (k0_pay4 x1) (k0_pay5 x1) (k0_pay6 i x1 x2 w) (k0_pay7 w) (ix2 r k) = yc a (row r) k := by
  pointwise [k0_pay8, k0_pay7, p4_at row hbcu, p5_at row hbcu, p6_at row i hbcu hw hrow h6 h7, hw, yc, cv]

end Conv

/-! ### The cross attention -/

section Heads
variable {q : FVec Ideal S512x256 .bf16} {kv : FVec Ideal S256x512 .bf16}
  (hq : ∀ r c, q (ix2 r c) = a.qx (ix2 (row r) c)) (hkv : ∀ n e, kv (ix2 n e) = a.kv (ix2 n e))

theorem p10_at (x : FVec Ideal S256x512 .bf16) (n : Fin 256) (e : Fin 512) : k0_pay10 (F := Ideal) x (ix2 n e) = x (ix2 n e) := by pointwise [k0_pay10]

include hq hkv in
theorem p13_at (r : Fin 512) (n : Fin 256) : k0_pay13 (F := Ideal) q kv (ix2 r n) = ex a 0 (row r) n := by
  pointwise [k0_pay13, k0_pay9, k0_pay10, hq, hkv, ex, Softmax.ex, Softmax.greatest, sc, mk, col0]
include hq hkv in
theorem p14_at (r : Fin 512) (n : Fin 256) : k0_pay14 (F := Ideal) q kv (ix2 r n) = ex a 1 (row r) n := by
  pointwise [k0_pay14, k0_pay9, k0_pay10, hq, hkv, ex, Softmax.ex, Softmax.greatest, sc, mk, col1]
include hq hkv in
theorem p15_at (r : Fin 512) (n : Fin 256) : k0_pay15 (F := Ideal) q kv (ix2 r n) = sc a 2 (row r) n - Softmax.greatest (sc a 2 (row r)) := by
  pointwise [k0_pay15, k0_pay9, k0_pay10, hq, hkv, Softmax.greatest, sc, mk, col2]
include hq hkv in
theorem p11_at (r : Fin 512) (n : Fin 256) : k0_pay11 (F := Ideal) q kv (ix2 r n) = sc a 3 (row r) n := by
  pointwise [k0_pay11, k0_pay9, k0_pay10, hq, hkv, sc, mk, col3]
include hq hkv in
theorem p12_at (r : Fin 512) (o : Fin 1) : k0_pay12 (F := Ideal) q kv (ix2 r o) = Softmax.greatest (sc a 3 (row r)) := by
  pointwise [k0_pay12, p11_at row hq hkv, Softmax.greatest]

theorem mv0 (n : Fin 256) (l : Fin 64) : mv a n (col 0 l) = a.kv (ix2 n ⟨256 + l.val, by omega⟩) :=
  congrArg (fun j => a.kv (ix2 n j)) (Fin.ext (by show 256 + (0 * 64 + l.val) = 256 + l.val; omega))
theorem mv1 (n : Fin 256) (l : Fin 64) : mv a n (col 1 l) = a.kv (ix2 n ⟨320 + l.val, by omega⟩) :=
  congrArg (fun j => a.kv (ix2 n j)) (Fin.ext (by show 256 + (1 * 64 + l.val) = 320 + l.val; omega))
theorem mv2 (n : Fin 256) (l : Fin 64) : mv a n (col 2 l) = a.kv (ix2 n ⟨384 + l.val, by omega⟩) :=
  congrArg (fun j => a.kv (ix2 n j)) (Fin.ext (by show 256 + (2 * 64 + l.val) = 384 + l.val; omega))
theorem mv3 (n : Fin 256) (l : Fin 64) : mv a n (col 3 l) = a.kv (ix2 n ⟨448 + l.val, by omega⟩) :=
  congrArg (fun j => a.kv (ix2 n j)) (Fin.ext (by show 256 + (3 * 64 + l.val) = 448 + l.val; omega))

variable (rq : ∀ i, Re (a.qx i)) (rkv : ∀ i, Re (a.kv i))

include hq hkv rq rkv in
theorem o0_at (r : Fin 512) (l : Fin 64) : k0_pay16 (F := Ideal) (k0_pay10 kv) (k0_pay13 q kv) (ix2 r l) = yx a (row r) (col 0 l) := by
  rw [← head_out rq rkv]
  pointwise [k0_pay16, p10_at, p13_at row hq hkv, hkv, mv0]
include hq hkv rq rkv in
theorem o1_at (r : Fin 512) (l : Fin 64) : k0_pay17 (F := Ideal) (k0_pay10 kv) (k0_pay14 q kv) (ix2 r l) = yx a (row r) (col 1 l) := by
  rw [← head_out rq rkv]
  pointwise [k0_pay17, p10_at, p14_at row hq hkv, hkv, mv1]
include hq hkv rq rkv in
theorem o2_at (r : Fin 512) (l : Fin 64) : k0_pay18 (F := Ideal) (k0_pay10 kv) (k0_pay15 q kv) (ix2 r l) = yx a (row r) (col 2 l) := by
  rw [← head_out rq rkv]
  pointwise [k0_pay18, p10_at, p15_at row hq hkv, hkv, mv2, ex, Softmax.ex]
include hq hkv rq rkv in
theorem o3_at (r : Fin 512) (l : Fin 64) : k0_pay19 (F := Ideal) (k0_pay10 kv) (k0_pay11 q kv) (k0_pay12 q kv) (ix2 r l) = yx a (row r) (col 3 l) := by
  rw [← head_out rq rkv]
  pointwise [k0_pay19, p10_at, p11_at row hq hkv, p12_at row hq hkv, hkv, mv3, ex, Softmax.ex]

end Heads

end Cert.MixFwdIdeal.Value

end
-- ==== Proof.MixFwdRefRows.lean ====
module

public import proofs.«01_k».proof.Proof.Gen.MixFwdRefIdeal.Read
public import proofs.«01_k».proof.Proof.MixerSpec
public import Idealize.ShloMosaic.Lib.Pointwise

@[expose] public section

set_option maxRecDepth 16384

noncomputable section

open Idealize.ShloMosaic Idealize.ShloMosaic.TcCoe Idealize.SL.Sem Cert.Reals

/-! The plain forward lines of the mixer half, read row by row. -/

namespace Cert.MixFwdRefIdeal.Value

open Cert.MixFwdRefIdeal Cert.MixFwdRefIdeal.Gen Cert.MixFwdRefIdeal.Read Cert.MixerSpec

variable (a : Args)

theorem v3_at (i : Fin 4096) (k : Fin 256) : val_main_v3 (F := Ideal) a.bcu (ix2 i k) = z a i k := by
  pointwise [val_main_v3, val_main_v1, val_main_v2, z, cg, ug]

theorem v5_at (j : Fin 4098) (k : Fin 256) : val_main_v5 (F := Ideal) a.bcu (ix2 j k) = if h : 2 ≤ j.val then z a ⟨j.val - 2, by omega⟩ k else 0 := by
  pointwise [val_main_v5, val_main_v4, val_main_cst, v3_at]
  by_cases h : j.val < 2
  · rw [dif_pos h, dif_neg (by omega)]
  · rw [dif_neg h, dif_pos (by omega)]

theorem v6_at (i : Fin 4096) (k : Fin 256) : val_main_v6 (F := Ideal) a.bcu (ix2 i k) = zs a 2 i k := by
  pointwise [val_main_v6, v5_at, zs]

theorem v12_at (i : Fin 4096) (k : Fin 256) : val_main_v12 (F := Ideal) a.bcu (ix2 i k) = zs a 1 i k := by
  pointwise [val_main_v12, v5_at, zs]
  by_cases h : 1 ≤ i.val
  · rw [dif_pos h, dif_pos (by omega)]
    exact congrArg (fun j => z a j k) (Fin.ext (by show 1 + i.val - 2 = i.val - 1; omega))
  · rw [dif_neg h, dif_neg (by omega)]

theorem v19_at (i : Fin 4096) (k : Fin 256) : val_main_v19 (F := Ideal) a.bcu (ix2 i k) = z a i k := by
  pointwise [val_main_v19, v5_at]

theorem v25_at (i : Fin 4096) (k : Fin 256) : val_main_v25 (F := Ideal) a.bcu a.cw (ix2 i k) = cv a i k := by
  rw [cv, mul_comm (a.cw (ix2 0 k)), mul_comm (a.cw (ix2 1 k)), mul_comm (a.cw (ix2 2 k))]
  pointwise [val_main_v25, val_main_v24, val_main_v23, val_main_v22, val_main_v21, val_main_v20, val_main_v18, val_main_v17, val_main_v16,
    val_main_v15, val_main_v14, val_main_v13, val_main_v11, val_main_v10, val_main_v9, val_main_v8, val_main_v7, v6_at, v12_at, v19_at]

theorem v26_at (i : Fin 4096) (k : Fin 256) : val_main_v26 (F := Ideal) a.bcu a.cw (ix2 i k) = yc a i k := by
  pointwise [val_main_v26, val_main_v0, v25_at, yc, bg]

theorem v30_at (n : Fin 256) (h : Fin 4) (l : Fin 64) : val_main_v30 (F := Ideal) a.kv (ix3 n h l) = mk a n (col h l) := by
  pointwise [val_main_v30, val_main_v28, mk]

theorem v31_at (n : Fin 256) (h : Fin 4) (l : Fin 64) : val_main_v31 (F := Ideal) a.kv (ix3 n h l) = mv a n (col h l) := by
  pointwise [val_main_v31, val_main_v29, mv]

theorem v27_at (i : Fin 4096) (h : Fin 4) (l : Fin 64) : val_main_v27 (F := Ideal) a.qx (ix3 i h l) = a.qx (ix2 i (col h l)) := by
  pointwise [val_main_v27]

theorem v34_at (h : Fin 4) (i : Fin 4096) (n : Fin 256) : val_main_v34 (F := Ideal) a.qx a.kv (ix3 h i n) = sc a h i n := by
  pointwise [val_main_v34, val_main_v33, val_main_v32, val_main_cst_0, v27_at, v30_at, sc]

theorem v35_at (h : Fin 4) (i : Fin 4096) : val_main_v35 (F := Ideal) a.qx a.kv (ix2 h i) = Softmax.greatest (sc a h i) := by
  pointwise [val_main_v35, val_main_cst_1, v34_at]

theorem v37_at (h : Fin 4) (i : Fin 4096) : val_main_v37 (F := Ideal) a.qx a.kv (ix2 h i) = Softmax.greatest (sc a h i) := by
  have e := Softmax.max_greatest (sc a h i)
  rw [val_main_v37_apply, v35_at, val_main_v36_apply]
  generalize Softmax.greatest (sc a h i) = g at e ⊢
  exact e

theorem v39_at (h : Fin 4) (i : Fin 4096) (n : Fin 256) : val_main_v39 (F := Ideal) a.qx a.kv (ix3 h i n) = Softmax.greatest (sc a h i) := by
  pointwise [val_main_v39, val_main_v38, v37_at]

theorem v41_at (h : Fin 4) (i : Fin 4096) (n : Fin 256) : val_main_v41 (F := Ideal) a.qx a.kv (ix3 h i n) = ex a h i n := by
  pointwise [val_main_v41, val_main_v40, v39_at, v34_at, ex, Softmax.ex]

theorem v43_at (h : Fin 4) (i : Fin 4096) (n : Fin 1) : val_main_v43 (F := Ideal) a.qx a.kv (ix3 h i n) = ∑ n, ex a h i n := by
  pointwise [val_main_v43, val_main_v42, val_main_cst_3, v41_at]

theorem v45_at (h : Fin 4) (i : Fin 4096) (n : Fin 256) : val_main_v45 (F := Ideal) a.qx a.kv (ix3 h i n) = wt a h i n := by
  pointwise [val_main_v45, val_main_v44, v43_at, v41_at, wt, Softmax.weight, ex]

theorem v48_at (i : Fin 4096) (c : Fin 256) : val_main_v48 (F := Ideal) a.qx a.kv (ix2 i c) = yx a i c := by
  pointwise [val_main_v48, val_main_v47, val_main_v46, v45_at, v31_at, yx]
  refine Finset.sum_congr rfl fun n _ => (mul_comm _ _).trans ?_
  exact congrArg (fun j => wt a (head c) i n * mv a n j) (Fin.ext (by show c.val / 64 * 64 + c.val % 64 = c.val; omega))

theorem v56_at (i : Fin 4096) (o : Fin 1) : val_main_v56 (F := Ideal) a.ya (ix2 i o) = rr w512 eps (yar a i) := by
  pointwise [val_main_v56, val_main_v55, val_main_v54, val_main_v53, val_main_v52, val_main_v51, val_main_v50, val_main_v49, val_main_cst_4, val_main_cst_5,
    val_main_cst_6, rr, yar]

theorem v58_at (i : Fin 4096) (k : Fin 512) : val_main_v58 (F := Ideal) a.ya (ix2 i k) = hat w512 eps (yar a i) k := by
  pointwise [val_main_v58, val_main_v57, v56_at, hat, yar]

theorem v68_at (i : Fin 4096) (o : Fin 1) : val_main_v68 (F := Ideal) a.bcu a.cw (ix2 i o) = rr w256 eps (yc a i) := by
  pointwise [val_main_v68, val_main_v67, val_main_v66, val_main_v65, val_main_v64, val_main_v63, val_main_v62, val_main_v61, val_main_cst_7, val_main_cst_8,
    val_main_cst_9, v26_at, rr]

theorem v70_at (i : Fin 4096) (k : Fin 256) : val_main_v70 (F := Ideal) a.bcu a.cw (ix2 i k) = hat w256 eps (yc a i) k := by
  pointwise [val_main_v70, val_main_v69, v68_at, v26_at, hat]

theorem v80_at (i : Fin 4096) (o : Fin 1) : val_main_v80 (F := Ideal) a.qx a.kv (ix2 i o) = rr w256 eps (yx a i) := by
  pointwise [val_main_v80, val_main_v79, val_main_v78, val_main_v77, val_main_v76, val_main_v75, val_main_v74, val_main_v73, val_main_cst_10, val_main_cst_11,
    val_main_cst_12, v48_at, rr]

theorem v82_at (i : Fin 4096) (k : Fin 256) : val_main_v82 (F := Ideal) a.qx a.kv (ix2 i k) = hat w256 eps (yx a i) k := by
  pointwise [val_main_v82, val_main_v81, v80_at, v48_at, hat]

theorem v85_at (i : Fin 4096) (e : Fin 1024) :
    val_main_v85 (F := Ideal) a.ya a.bcu a.qx a.kv a.cw a.ga a.gc a.gx (ix2 i e) = ycat a i e := by
  pointwise [val_main_v85, val_main_v60, val_main_v59, val_main_v72, val_main_v71, val_main_v84, val_main_v83, v58_at, v70_at, v82_at, ycat]
  by_cases h : e.val < 512
  · rw [dif_pos h, dif_pos h]
  · rw [dif_neg h, dif_neg h]
    by_cases h' : e.val < 768
    · rw [dif_pos h', dif_pos (by omega)]
    · rw [dif_neg h', dif_neg (by omega)]
      exact congrArg (fun j => hat w256 eps (yx a i) j * a.gx (ix2 0 j)) (Fin.ext (by show e.val - 512 - 256 = e.val - 768; omega))

theorem v86_at (i : Fin 4096) (d : Fin 1024) :
    val_main_v86 (F := Ideal) a.ya a.bcu a.qx a.kv a.cw a.ga a.gc a.gx a.wo (ix2 i d) = y2 a i d := by
  pointwise [val_main_v86, v85_at, y2]

theorem v95_at (i : Fin 4096) (o : Fin 1) :
    val_main_v95 (F := Ideal) a.ya a.bcu a.qx a.kv a.cw a.ga a.gc a.gx a.wo (ix2 i o) = rr w1024 eps (y2 a i) := by
  pointwise [val_main_v95, val_main_v94, val_main_v93, val_main_v92, val_main_v91, val_main_v90, val_main_v89, val_main_v88, val_main_cst_13,
    val_main_cst_14, val_main_cst_15, v86_at, rr]

theorem v97_at (i : Fin 4096) (k : Fin 1024) :
    val_main_v97 (F := Ideal) a.ya a.bcu a.qx a.kv a.cw a.ga a.gc a.gx a.wo (ix2 i k) = hat w1024 eps (y2 a i) k := by
  pointwise [val_main_v97, val_main_v96, v95_at, v86_at, hat]

/-! The four results. -/

def YX : FVec Ideal S4096x256 .f32 := fun y => yx a (y 0) (y 1)
def YCAT : FVec Ideal S4096x1024 .bf16 := fun y => ycat a (y 0) (y 1)
def Y2 : FVec Ideal S4096x1024 .f32 := fun y => y2 a (y 0) (y 1)
/-- The eleventh argument, here the layer's input, and the normed projection with its gain. -/
def X1 : FVec Ideal S4096x1024 .f32 := fun y => a.dx (ix2 (y 0) (y 1)) + hat w1024 eps (y2 a (y 0)) (y 1) * a.gp (ix2 0 (y 1))

theorem out_yx : val_main_v48 (F := Ideal) a.qx a.kv = YX a := by
  funext y; idx_vars y
  exact v48_at a _ _

theorem out_ycat : val_main_v87 (F := Ideal) a.ya a.bcu a.qx a.kv a.cw a.ga a.gc a.gx = YCAT a := by
  funext y; idx_vars y
  pointwise [val_main_v87, v85_at, YCAT]

theorem out_y2 : val_main_v86 (F := Ideal) a.ya a.bcu a.qx a.kv a.cw a.ga a.gc a.gx a.wo = Y2 a := by
  funext y; idx_vars y
  exact v86_at a _ _

theorem out_x1 : val_main_v100 (F := Ideal) a.ya a.bcu a.qx a.kv a.cw a.ga a.gc a.gx a.wo a.gp a.dx = X1 a := by
  funext y; idx_vars y
  pointwise [val_main_v100, val_main_v99, val_main_v98, v97_at, X1]

end Cert.MixFwdRefIdeal.Value

end
-- ==== Proof.MixFwdValue.lean ====
module

public import proofs.«01_k».proof.Proof.MixFwdTiles
public import proofs.«01_k».proof.Proof.MixFwdRefRows
public import proofs.«01_k».proof.Proof.Gen.MixFwdRefIdeal.Run
public import proofs.«01_k».proof.Proof.Gen.Pre_mix_fwd_finite
public import proofs.«01_k».proof.Defs
public import Idealize.ShloMosaic.Lib.Pipeline.ReadBack
public import Idealize.ShloMosaic.Lib.Claim
public import Idealize.ShloMosaic.Lib.Quiescent

@[expose] public section

set_option maxRecDepth 16384

noncomputable section

open Idealize.ShloMosaic Idealize.ShloMosaic.TcCoe Idealize.SL Idealize.SL.RA Idealize.SL.Sem Cert.Reals Cert.MixerSpec

/-! The mixers' forward call: its four results, block by block, and the plain forward lines. -/

namespace Cert.MixFwdIdeal.Value

open Cert.MixFwdIdeal Cert.MixFwdIdeal.Gen
open Cert.MixFwdRefIdeal.Value (YX YCAT Y2 X1)

variable (m : (ℓ : Loc nD τ sig) → Buf (Elt Ideal) ℓ)

theorem idx : ∀ t : Fin cfg0.N, win0_0.index t = ![t.val, 0] ∧ win0_1.index t = ![t.val, 0] ∧ win0_2.index t = ![t.val * 64 - 1, 0]
    ∧ win0_3.index t = ![t.val, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N, _)

/-- The eleven arguments of device `c`; the last is the layer's input. -/
abbrev args (c : Dev nD) : Args := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5), m ((c : Thread nD τ).loc main_arg6),
  m ((c : Thread nD τ).loc main_arg7), m ((c : Thread nD τ).loc main_arg8), m ((c : Thread nD τ).loc main_arg9), m ((c : Thread nD τ).loc main_arg10)⟩

/-- Row `r` of the block at point `t`. -/
abbrev row (t : Fin cfg0.N) (r : Fin 512) : Fin 4096 := ⟨t.val * 512 + r.val, by have h : t.val < 8 := t.isLt; omega⟩

/-! ### The blocks -/

variable (c : Dev nD) (t : Fin cfg0.N)

theorem blkYa (r : Fin 512) (k : Fin 512) : iblk m c 0 t (ix2 r k) = yar (args m c) (row t r) k := by
  unfold yar
  blk_point [iblk, V, idx t]
theorem blkBcu (r : Fin 512) (k : Fin 768) : iblk m c 1 t (ix2 r k) = (args m c).bcu (ix2 (row t r) k) := by
  blk_point [iblk, V, idx t]
theorem blkHalo (r : Fin 8) (k : Fin 768) :
    iblk m c 2 t (ix2 r k) = (args m c).bcu (ix2 ⟨(t.val * 64 - 1) * 8 + r.val, by have h : t.val < 8 := t.isLt; omega⟩ k) := by
  blk_point [iblk, V, idx t]
theorem blkCw (d : Fin 3) (k : Fin 256) : iblk m c 5 t (ix2 d k) = (args m c).cw (ix2 d k) := by
  blk_point [iblk, V, idx t]
theorem blkGa (z : Fin 1) (k : Fin 512) : iblk m c 6 t (ix2 z k) = (args m c).ga (ix2 z k) := by
  blk_point [iblk, V, idx t]
theorem blkGc (z : Fin 1) (k : Fin 256) : iblk m c 7 t (ix2 z k) = (args m c).gc (ix2 z k) := by
  blk_point [iblk, V, idx t]
theorem blkGx (z : Fin 1) (k : Fin 256) : iblk m c 8 t (ix2 z k) = (args m c).gx (ix2 z k) := by
  blk_point [iblk, V, idx t]
theorem blkGp (z : Fin 1) (k : Fin 1024) : iblk m c 10 t (ix2 z k) = (args m c).gp (ix2 z k) := by
  blk_point [iblk, V, idx t]
theorem blkX (r : Fin 512) (k : Fin 1024) : iblk m c 11 t (ix2 r k) = (args m c).dx (ix2 (row t r) k) := by
  blk_point [iblk, V, idx t]

theorem V_q : V m c main_v0 = (truncf .bf16 (args m c).qx bitsLt_bf16_f32 : FVec Ideal S4096x256 .bf16) := by
  unfold V; after_results
theorem V_kv : V m c main_v1 = (truncf .bf16 (args m c).kv bitsLt_bf16_f32 : FVec Ideal S256x512 .bf16) := by
  unfold V; after_results
theorem V_wo : V m c main_v2 = (truncf .bf16 (args m c).wo bitsLt_bf16_f32 : FVec Ideal S1024x1024 .bf16) := by
  unfold V; after_results

theorem blkQ (r : Fin 512) (k : Fin 256) : iblk m c 3 t (ix2 r k) = (args m c).qx (ix2 (row t r) k) := by
  refine Eq.trans ?_ (congrFun (V_q m c) _)
  blk_point [iblk, idx t]
theorem blkKv (n : Fin 256) (e : Fin 512) : iblk m c 4 t (ix2 n e) = (args m c).kv (ix2 n e) := by
  refine Eq.trans ?_ (congrFun (V_kv m c) _)
  blk_point [iblk, idx t]
theorem blkWo (e : Fin 1024) (d : Fin 1024) : iblk m c 9 t (ix2 e d) = (args m c).wo (ix2 e d) := by
  refine Eq.trans ?_ (congrFun (V_wo m c) _)
  blk_point [iblk, idx t]

theorem first_iff : ∀ t : Fin cfg0.N, Scalar.cmpi CmpIPredicate.eq (BitVec.ofNat 32 (grid0.coords t 0).val) 0#32 = 1#1 ↔ t.val = 0 :=
  (by decide +kernel : ∀ t : Fin grid0.N, _)

/-- Row `8 - d` of the eight rows before the tile is `d` rows before the tile's first. -/
theorem halo_at (d : ℕ) (hd : 1 ≤ d) (hd' : d ≤ 8) (j : Fin 8) (hj : j.val = 8 - d) (k : Fin 256) :
    haloT (grid0.coords t) (iblk m c 2 t) (ix2 j k) = zs (args m c) d (row t 0) k := by
  have ht : t.val < 8 := t.isLt
  refine (MixerIdeal.Value.p38_at _ j k).trans ?_
  rw [zs]
  by_cases h : t.val = 0
  · rw [if_pos ((first_iff t).2 h), dif_neg (by show ¬ d ≤ t.val * 512 + 0; omega)]
  · rw [if_neg (fun e => h ((first_iff t).1 e)), dif_pos (by show d ≤ t.val * 512 + 0; omega)]
    unfold z cg ug
    have e (p : Fin 768) : iblk m c 2 t (ix2 j p) = (args m c).bcu (ix2 ⟨(row t 0).val - d, by omega⟩ p) :=
      (blkHalo m c t j p).trans (congrArg (fun i => (args m c).bcu (ix2 i p)) (Fin.ext (by
        show (t.val * 64 - 1) * 8 + j.val = t.val * 512 + 0 - d; omega)))
    exact congrArg₂ (· * ·) (e _) (e _)

theorem emb12 (r : Fin 512) (k : Fin 256) : ((View.whole main_v3_0).slice (win0_12.rect t)).emb (ix2 r k) = ix2 (row t r) k := by
  blk_ext [idx t]
theorem emb13 (r : Fin 512) (k : Fin 1024) : ((View.whole main_v3_1).slice (win0_13.rect t)).emb (ix2 r k) = ix2 (row t r) k := by
  blk_ext [idx t]
theorem emb14 (r : Fin 512) (k : Fin 1024) : ((View.whole main_v3_2).slice (win0_14.rect t)).emb (ix2 r k) = ix2 (row t r) k := by
  blk_ext [idx t]
theorem emb15 (r : Fin 512) (k : Fin 1024) : ((View.whole main_v3_3).slice (win0_15.rect t)).emb (ix2 r k) = ix2 (row t r) k := by
  blk_ext [idx t]

/-! ### What the call stores -/

/-- The four stores of the attention's output, the last first. -/
abbrev xPieces : List (View.Piece (Elt Ideal) S512x256 .f32) :=
  [⟨Rect.unit ![0, 192] ![512, 64] inb_S512x256_S512x64_0_192,
    k0_pay19 (k0_pay10 (iblk m c 4 t)) (k0_pay11 (iblk m c 3 t) (iblk m c 4 t)) (k0_pay12 (iblk m c 3 t) (iblk m c 4 t))⟩,
   ⟨Rect.unit ![0, 128] ![512, 64] inb_S512x256_S512x64_0_128, k0_pay18 (k0_pay10 (iblk m c 4 t)) (k0_pay15 (iblk m c 3 t) (iblk m c 4 t))⟩,
   ⟨Rect.unit ![0, 64] ![512, 64] inb_S512x256_S512x64_0_64, k0_pay17 (k0_pay10 (iblk m c 4 t)) (k0_pay14 (iblk m c 3 t) (iblk m c 4 t))⟩,
   ⟨Rect.unit ![0, 0] ![512, 64] inb_S512x256_S512x64_0_0, k0_pay16 (k0_pay10 (iblk m c 4 t)) (k0_pay13 (iblk m c 3 t) (iblk m c 4 t))⟩]

abbrev xRect : LoadRect S512x256 := (Rect.unit ![0, 0] ![512, 256] inb_S512x256_S512x256_0_0).toLoadRect

/-- The attention's output as it is read back. -/
abbrev xBack : FVec Ideal S512x256 .f32 := (ms0_12 t).view.readCov (xPieces m c t) xRect

/-- The convolution's output. -/
abbrev cT : FVec Ideal S512x256 .f32 :=
  k0_pay8 (k0_pay4 (iblk m c 1 t)) (k0_pay5 (iblk m c 1 t)) (k0_pay6 (grid0.coords t) (iblk m c 1 t) (iblk m c 2 t) (iblk m c 5 t)) (k0_pay7 (iblk m c 5 t))

/-- The three stores of the normed parts side by side, the last first. -/
abbrev catPieces : List (View.Piece (Elt Ideal) S512x1024 .bf16) :=
  [⟨Rect.unit ![0, 768] ![512, 256] inb_S512x1024_S512x256_0_768, k0_pay1 (k0_pay23 (k0_pay20 (xBack m c t))) (iblk m c 8 t)⟩,
   ⟨Rect.unit ![0, 512] ![512, 256] inb_S512x1024_S512x256_0_512, k0_pay22 (cT m c t) (iblk m c 7 t)⟩,
   ⟨Rect.unit ![0, 0] ![512, 512] inb_S512x1024_S512x512_0_0, k0_pay21 (iblk m c 0 t) (iblk m c 6 t)⟩]

abbrev catRect : LoadRect S512x1024 := (Rect.unit ![0, 0] ![512, 1024] inb_S512x1024_S512x1024_0_0).toLoadRect

/-- The normed parts as they are read back. -/
abbrev catBack : FVec Ideal S512x1024 .bf16 := (ms0_13 t).view.readCov (catPieces m c t) catRect

theorem cT_at (r : Fin 512) (k : Fin 256) : cT m c t (ix2 r k) = yc (args m c) (row t r) k :=
  p8_at (row t) (grid0.coords t) (blkBcu m c t) (blkCw m c t) (b := t.val) (fun _ => rfl) (halo_at m c t 2 (by norm_num) (by norm_num) 6 rfl)
    (halo_at m c t 1 (by norm_num) (by norm_num) 7 rfl) r k

theorem yx_row {r r' : Fin 512} {k k' : Fin 256} (h : r.val = r'.val) (h' : k.val = k'.val) : yx (args m c) (row t r) k = yx (args m c) (row t r') k' := by
  rw [Fin.ext h, Fin.ext h']

variable {m c} (rq : ∀ i, Re ((args m c).qx i)) (rkv : ∀ i, Re ((args m c).kv i))
include rq rkv

theorem xcanon (y : S512x256.Idx) : View.canon (xPieces m c t) y = yx (args m c) (row t (y 0)) (y 1) := by
  canon_tiles x h
  all_goals idx_vars x
  · exact (o3_at (row t) (blkQ m c t) (blkKv m c t) rq rkv _ _).trans (yx_row m c t (by omega) (by show 3 * 64 + _ = _; omega))
  · exact (o2_at (row t) (blkQ m c t) (blkKv m c t) rq rkv _ _).trans (yx_row m c t (by omega) (by show 2 * 64 + _ = _; omega))
  · exact (o1_at (row t) (blkQ m c t) (blkKv m c t) rq rkv _ _).trans (yx_row m c t (by omega) (by show 1 * 64 + _ = _; omega))
  · exact (o0_at (row t) (blkQ m c t) (blkKv m c t) rq rkv _ _).trans (yx_row m c t (by omega) (by show 0 * 64 + _ = _; omega))

theorem xBack_at (r : Fin 512) (k : Fin 256) : xBack m c t (ix2 r k) = yx (args m c) (row t r) k := by
  rw [xBack, View.readCov_eq_canon']
  refine (xcanon t rq rkv _).trans (yx_row m c t ?_ ?_)
  all_goals rw [Rect.idx_unit_val]; simp

theorem catcanon (y : S512x1024.Idx) : View.canon (catPieces m c t) y = ycat (args m c) (row t (y 0)) (y 1) := by
  have hr {r : Fin 512} (h : (y 0).val = r.val) : row t (y 0) = row t r := congrArg (row t) (Fin.ext h)
  canon_tiles x h using (View.cover_of_tiledBy (catPieces m c t) ![512, 256] (by sl_kernel_rfl) y)
  all_goals idx_vars x
  · refine (p1_at (row t) (fun k => blkGx m c t 0 k) (p23_at (row t) (p20_at (row t) (xBack_at t rq rkv))) _ _).trans ?_
    rw [hr (r := x0) (by omega)]
    unfold ycat
    rw [dif_neg (by omega), dif_neg (by omega)]
    exact congrArg (fun j => hat w256 eps (yx (args m c) (row t x0)) j * (args m c).gx (ix2 0 j)) (Fin.ext (by simp; omega))
  · refine (p22_at (row t) (fun k => blkGc m c t 0 k) (cT_at m c t) _ _).trans ?_
    rw [hr (r := x0) (by omega)]
    unfold ycat
    rw [dif_neg (by omega), dif_pos (by omega)]
    exact congrArg (fun j => hat w256 eps (yc (args m c) (row t x0)) j * (args m c).gc (ix2 0 j)) (Fin.ext (by simp; omega))
  · refine (p21_at (row t) (blkYa m c t) (fun k => blkGa m c t 0 k) _ _).trans ?_
    rw [hr (r := x0) (by omega)]
    unfold ycat
    rw [dif_pos (by omega)]
    exact congrArg (fun j => hat w512 eps (yar (args m c) (row t x0)) j * (args m c).ga (ix2 0 j)) (Fin.ext (by simp; omega))

theorem catBack_at (r : Fin 512) (e : Fin 1024) : catBack m c t (ix2 r e) = ycat (args m c) (row t r) e := by
  rw [catBack, View.readCov_eq_canon']
  refine (catcanon t rq rkv _).trans (congrArg₂ (fun r e => ycat (args m c) (row t r) e) (Fin.ext ?_) (Fin.ext ?_))
  all_goals rw [Rect.idx_unit_val]; simp

theorem final12 : (dats m 0 c).arrAt 12 (cfgs 0).N = YX (args m c) := by
  refine (dats m 0 c).arrAt_eq_of_covers 12 _ (by decide +kernel) fun t hf y => ?_
  blk_simp
  rw [after0_12]
  simp only [outsAt0]
  idx_vars y
  rw [emb12]
  frame_out
  exact xcanon t rq rkv _

set_option maxHeartbeats 1000000 in
theorem final13 : (dats m 0 c).arrAt 13 (cfgs 0).N = YCAT (args m c) := by
  refine (dats m 0 c).arrAt_eq_of_covers 13 _ (by decide +kernel) fun t hf y => ?_
  blk_simp
  rw [after0_13]
  simp only [outsAt0]
  idx_vars y
  rw [emb13]
  frame_out
  exact catcanon t rq rkv _

theorem final14 : (dats m 0 c).arrAt 14 (cfgs 0).N = Y2 (args m c) := by
  refine (dats m 0 c).arrAt_eq_of_covers 14 _ (by decide +kernel) fun t hf y => ?_
  blk_simp
  rw [after0_14]
  simp only [outsAt0]
  idx_vars y
  rw [emb14]
  frame_out
  exact p2_at (row t) (catBack_at t rq rkv) (blkWo m c t) _ _

theorem final15 : (dats m 0 c).arrAt 15 (cfgs 0).N = X1 (args m c) := by
  refine (dats m 0 c).arrAt_eq_of_covers 15 _ (by decide +kernel) fun t hf y => ?_
  blk_simp
  rw [after0_15]
  simp only [outsAt0]
  idx_vars y
  rw [emb15]
  frame_out
  exact p3_at (row t) (catBack_at t rq rkv) (blkWo m c t) (blkX m c t) (fun k => blkGp m c t 0 k) _ _

end Cert.MixFwdIdeal.Value

namespace Cert.MixFwdRefIdeal.Value

open Cert.MixFwdRefIdeal Cert.MixFwdRefIdeal.Gen Cert.MixFwdRefIdeal.Read

/-- The eleven arguments of device `c`, as the reference takes them. -/
abbrev argsOf (m : (ℓ : Loc nD τ sig) → Buf (Elt Ideal) ℓ) (c : Dev nD) : Args := ⟨m ((c.tc : Thread nD τ).loc main_arg0), m ((c.tc : Thread nD τ).loc main_arg1),
  m ((c.tc : Thread nD τ).loc main_arg2), m ((c.tc : Thread nD τ).loc main_arg3), m ((c.tc : Thread nD τ).loc main_arg4), m ((c.tc : Thread nD τ).loc main_arg5),
  m ((c.tc : Thread nD τ).loc main_arg6), m ((c.tc : Thread nD τ).loc main_arg7), m ((c.tc : Thread nD τ).loc main_arg8), m ((c.tc : Thread nD τ).loc main_arg9),
  m ((c.tc : Thread nD τ).loc main_arg10)⟩

/-- The run, with the four results as the specification's arrays. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v48) = YX (argsOf m c)
        ∧ r.2.mem ((c.tc : Thread nD τ).loc main_v87) = YCAT (argsOf m c)
        ∧ r.2.mem ((c.tc : Thread nD τ).loc main_v86) = Y2 (argsOf m c)
        ∧ r.2.mem ((c.tc : Thread nD τ).loc main_v100) = X1 (argsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ⟨?_, (h c).2.2.2.2⟩) (run m ρ)
  obtain ⟨k0, k1, k2, k3, -⟩ := h c
  have e0 := k0.trans (val_main_v48_eq (m ((c.tc : Thread nD τ).loc main_arg2)) (m ((c.tc : Thread nD τ).loc main_arg3)))
  have e1 := k1.trans (val_main_v87_eq m c)
  have e2 := k2.trans (val_main_v86_eq m c)
  have e3 := k3.trans (val_main_v100_eq m c)
  exact ⟨e0.trans (out_yx (argsOf m c)), e1.trans (out_ycat (argsOf m c)), e2.trans (out_y2 (argsOf m c)), e3.trans (out_x1 (argsOf m c))⟩

end Cert.MixFwdRefIdeal.Value

namespace Cert.Proof

open Cert.MixFwdRefIdeal.Value (YX YCAT Y2 X1)

theorem mixFwdRef_quiescent : Cert.quiescent_MixFwdRefIdeal := fun m g _ =>
  (θ_run _ _ _).mono (fun r h => ⟨fun c => (h c).2, sem_eq_zero_of_no_sems rfl _⟩) (Cert.MixFwdRefIdeal.Value.run_read m g)

theorem mixFwd_args {ya ya' bcu bcu' qx qx' kv kv' cw cw' ga ga' gc gc' gx gx' wo wo' gp gp' x x'} (h0 : ya' = ya) (h1 : bcu' = bcu) (h2 : qx' = qx) (h3 : kv' = kv)
    (h4 : cw' = cw) (h5 : ga' = ga) (h6 : gc' = gc) (h7 : gx' = gx) (h8 : wo' = wo) (h9 : gp' = gp) (h10 : x' = x) :
    Args.mk ya' bcu' qx' kv' cw' ga' gc' gx' wo' gp' x' = Args.mk ya bcu qx kv cw ga gc gx wo gp x := by
  subst h0 h1 h2 h3 h4 h5 h6 h7 h8 h9 h10
  rfl

/-- The call and the plain forward lines end with the same four arrays, when the queries and the memory's projection are real numbers. -/
theorem mixFwd_algebraic : Cert.algebraic_MixFwdIdeal_MixFwdRefIdeal_pre_mix_fwd_finite := by
  intro m g m' g' hpre hagree
  refine ⟨_, _, _, _, (θ_run _ _ _).mono (fun r h c => by
    obtain ⟨h2, h3⟩ := hpre c
    have rq : ∀ i, Re ((Cert.MixFwdIdeal.Value.args m c).qx i) := fun i => re_of_abs_lt (congrFun h2 i)
    have rkv : ∀ i, Re ((Cert.MixFwdIdeal.Value.args m c).kv i) := fun i => re_of_abs_lt (congrFun h3 i)
    obtain ⟨k12, k13, k14, k15, k⟩ := h c
    exact ⟨k12.trans (Cert.MixFwdIdeal.Value.final12 rq rkv), k13.trans (Cert.MixFwdIdeal.Value.final13 rq rkv),
      k14.trans (Cert.MixFwdIdeal.Value.final14 rq rkv), k15.trans (Cert.MixFwdIdeal.Value.final15 rq rkv), k⟩) (Cert.MixFwdIdeal.Value.run_blocks m g), ?_⟩
  refine (θ_run _ _ _).mono (fun r h c => ?_) (Cert.MixFwdRefIdeal.Value.run_read m' g')
  obtain ⟨h0, h1, h2, h3, h4, h5, h6, h7, h8, h9, h10⟩ := hagree c
  have e : Cert.MixFwdRefIdeal.Value.argsOf m' c = Cert.MixFwdIdeal.Value.args m c := mixFwd_args h0 h1 h2 h3 h4 h5 h6 h7 h8 h9 h10
  obtain ⟨⟨k0, k1, k2, k3⟩, kept⟩ := h c
  exact ⟨k0.trans (congrArg YX e), k1.trans (congrArg YCAT e), k2.trans (congrArg Y2 e), k3.trans (congrArg X1 e), kept⟩

end Cert.Proof

end
-- ==== Proof.MemKvFwdValue.lean ====
module

public import proofs.«01_k».proof.Proof.MemKvValue
public import proofs.«01_k».proof.Proof.Gen.MemKvFwdIdeal.Value
public import proofs.«01_k».proof.Proof.Gen.MemKvFwdRefIdeal.Run
public import proofs.«01_k».proof.Defs
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.MemKvFwdIdeal.Value

open Cert.MemKvFwdIdeal Cert.MemKvFwdIdeal.Gen
open Cert.MemKvIdeal.Value (hat)

variable (m : (ℓ : Loc nD τ sig) → Buf (Elt Ideal) ℓ)

/-- The normalised memory with its gain. -/
def MN (X : FVec Ideal S256x1024 .f32) (G : FVec Ideal S1x1024 .f32) : FVec Ideal S256x1024 .bf16 :=
  fun y => hat X (y 0) (y 1) * G (ix2 0 (y 1))

/-- The memory's keys and values side by side: `∑ k, (hat r k · g k) · w k e`. -/
def KV (X : FVec Ideal S256x1024 .f32) (G : FVec Ideal S1x1024 .f32) (W : FVec Ideal S1024x512 .f32) : FVec Ideal S256x512 .bf16 :=
  fun y => ∑ k : Fin 1024, (hat X (y 0) k * G (ix2 0 k)) * W (ix2 k (y 1))

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

theorem final3 (c : Dev nD) : (dats m 0 c).arrAt 3 (cfgs 0).N
    = MN (m ((c : Thread nD τ).loc main_arg0)) (m ((c : Thread nD τ).loc main_arg1)) := by
  refine (dats m 0 c).arrAt_eq_of_after_last 3 t0_0 (by decide +kernel) _ fun j => ?_
  blk_simp
  rw [after0_3]
  simp only [outsAt0]
  frame_out
  pointwise [k0_pay1, MN, hat]
  simp only [read_unread_whole]
  blk_point [iblk, V, idx t0_0]

theorem final4 (c : Dev nD) : (dats m 0 c).arrAt 4 (cfgs 0).N
    = KV (m ((c : Thread nD τ).loc main_arg0)) (m ((c : Thread nD τ).loc main_arg1)) (m ((c : Thread nD τ).loc main_arg2)) := by
  refine (dats m 0 c).arrAt_eq_of_after_last 4 t0_0 (by decide +kernel) _ fun j => ?_
  blk_simp
  rw [after0_4]
  simp only [outsAt0]
  frame_out
  pointwise [k0_pay1, k0_pay2, KV, hat]
  simp only [read_unread_whole]
  blk_point [iblk, V, idx t0_0]

end Cert.MemKvFwdIdeal.Value

namespace Cert.MemKvFwdRefIdeal.Value

open Cert.MemKvFwdRefIdeal Cert.MemKvFwdRefIdeal.Gen

/-- The reference's run with both results read index by index. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = Cert.MemKvFwdIdeal.Value.MN (m ((c.tc : Thread nD τ).loc main_arg0)) (m ((c.tc : Thread nD τ).loc main_arg1))
      ∧ r.2.mem ((c.tc : Thread nD τ).loc main_v26) = Cert.MemKvFwdIdeal.Value.KV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (run m ρ)
  · generalize m ((c.tc : Thread nD τ).loc main_arg0) = X
    generalize m ((c.tc : Thread nD τ).loc main_arg1) = G
    funext y
    pointwise [Cert.MemKvFwdIdeal.Value.MN, Cert.MemKvIdeal.Value.hat]
  · generalize m ((c.tc : Thread nD τ).loc main_arg0) = X
    generalize m ((c.tc : Thread nD τ).loc main_arg1) = G
    generalize m ((c.tc : Thread nD τ).loc main_arg2) = W
    funext y
    pointwise [Cert.MemKvFwdIdeal.Value.KV, Cert.MemKvIdeal.Value.hat]

end Cert.MemKvFwdRefIdeal.Value

namespace Cert.Proof

/-- The plain program runs to the end, leaves its arguments and declares no counter. -/
theorem memkvFwdRef_quiescent : Cert.quiescent_MemKvFwdRefIdeal := fun m g _ =>
  (θ_run _ _ _).mono (fun r h => ⟨fun c => (h c).2.2, sem_eq_zero_of_no_sems rfl _⟩) (Cert.MemKvFwdRefIdeal.Value.run_read m g)

/-- The memory projection's forward call and the plain norm and projection end with the same two arrays. -/
theorem memkvFwd_algebraic : Cert.algebraic_MemKvFwdIdeal_MemKvFwdRefIdeal := by
  intro m g m' g' _ hagree
  refine ⟨_, _, (θ_run _ _ _).mono (fun r h c => ⟨(h c).1.trans (Cert.MemKvFwdIdeal.Value.final3 m c), (h c).2.1.trans (Cert.MemKvFwdIdeal.Value.final4 m c), (h c).2.2⟩)
      (Cert.MemKvFwdIdeal.Value.run_blocks m g), ?_⟩
  refine (θ_run _ _ _).mono (fun r h c => ?_) (Cert.MemKvFwdRefIdeal.Value.run_read m' g')
  obtain ⟨h0, h1, h2⟩ := hagree c
  obtain ⟨k0, k1, k⟩ := h c
  rw [h0, h1] at k0
  rw [h0, h1, h2] at k1
  exact ⟨k0, k1, k⟩

end Cert.Proof

end
-- ==== Proof.lean ====
module

public import proofs.«01_k».proof.Defs
public import proofs.«01_k».proof.Proof.PreNormValue
public import proofs.«01_k».proof.Proof.WeightGradValue
public import proofs.«01_k».proof.Proof.InProjFwdValue
public import proofs.«01_k».proof.Proof.MemKvValue
public import proofs.«01_k».proof.Proof.MlpValue
public import proofs.«01_k».proof.Proof.InProjValue
public import proofs.«01_k».proof.Proof.MixerValue
public import proofs.«01_k».proof.Proof.MixFwdValue
public import proofs.«01_k».proof.Proof.MemKvFwdValue
public import proofs.«01_k».proof.Proof.Gen.MemKvIdeal.Value
public import proofs.«01_k».proof.Proof.Gen.MemKvRefIdeal.Run
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.MixerIdeal.Value
public import proofs.«01_k».proof.Proof.Gen.MixerRefIdeal.Run
public import proofs.«01_k».proof.Proof.Gen.MixerRefIdeal.Read
public import proofs.«01_k».proof.Proof.Gen.MixFwdIdeal.Value
public import proofs.«01_k».proof.Proof.Gen.MixFwdRefIdeal.Run
public import proofs.«01_k».proof.Proof.Gen.MixFwdRefIdeal.Read
public import proofs.«01_k».proof.Proof.Gen.MemKvFwdIdeal.Value
public import proofs.«01_k».proof.Proof.Gen.MemKvFwdRefIdeal.Run
public import proofs.«01_k».proof.Proof.Gen.MemKvFwdRefIdeal.Read
public import proofs.«01_k».proof.Proof.Gen.PreNormIdeal.Value
public import proofs.«01_k».proof.Proof.Gen.PreNormRefIdeal.Run
public import proofs.«01_k».proof.Proof.Gen.PreNormRefIdeal.Read
public import proofs.«01_k».proof.Proof.Gen.InProjFwdIdeal.Value
public import proofs.«01_k».proof.Proof.Gen.InProjFwdRefIdeal.Run
public import proofs.«01_k».proof.Proof.Gen.InProjFwdRefIdeal.Read
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerRefIdeal
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdRefIdeal
public import proofs.«01_k».proof.Proof.Gen.MemKvFwd
public import proofs.«01_k».proof.Proof.Gen.MemKvFwd.Skeleton
public import proofs.«01_k».proof.Proof.Gen.MemKvFwd.Launch
public import proofs.«01_k».proof.Proof.Gen.MemKvFwd.Points
public import proofs.«01_k».proof.Proof.Gen.MemKvFwd.Frame
public import proofs.«01_k».proof.Proof.Gen.MemKvFwdIdeal
public import proofs.«01_k».proof.Proof.Gen.MemKvFwdIdeal.Skeleton
public import proofs.«01_k».proof.Proof.Gen.MemKvFwdIdeal.Launch
public import proofs.«01_k».proof.Proof.Gen.MemKvFwdIdeal.Points
public import proofs.«01_k».proof.Proof.Gen.MemKvFwdIdeal.Frame
public import proofs.«01_k».proof.Proof.Gen.MemKvFwdRefIdeal
public import proofs.«01_k».proof.Proof.Gen.PreNorm
public import proofs.«01_k».proof.Proof.Gen.PreNorm.Skeleton
public import proofs.«01_k».proof.Proof.Gen.PreNorm.Launch
public import proofs.«01_k».proof.Proof.Gen.PreNorm.Points
public import proofs.«01_k».proof.Proof.Gen.PreNorm.Frame
public import proofs.«01_k».proof.Proof.Gen.PreNormIdeal
public import proofs.«01_k».proof.Proof.Gen.PreNormIdeal.Skeleton
public import proofs.«01_k».proof.Proof.Gen.PreNormIdeal.Launch
public import proofs.«01_k».proof.Proof.Gen.PreNormIdeal.Points
public import proofs.«01_k».proof.Proof.Gen.PreNormIdeal.Frame
public import proofs.«01_k».proof.Proof.Gen.PreNormRefIdeal
public import proofs.«01_k».proof.Proof.Gen.InProjFwd
public import proofs.«01_k».proof.Proof.Gen.InProjFwd.Skeleton
public import proofs.«01_k».proof.Proof.Gen.InProjFwd.Launch
public import proofs.«01_k».proof.Proof.Gen.InProjFwd.Points
public import proofs.«01_k».proof.Proof.Gen.InProjFwd.Frame
public import proofs.«01_k».proof.Proof.Gen.InProjFwdIdeal
public import proofs.«01_k».proof.Proof.Gen.InProjFwdIdeal.Skeleton
public import proofs.«01_k».proof.Proof.Gen.InProjFwdIdeal.Launch
public import proofs.«01_k».proof.Proof.Gen.InProjFwdIdeal.Points
public import proofs.«01_k».proof.Proof.Gen.InProjFwdIdeal.Frame
public import proofs.«01_k».proof.Proof.Gen.InProjFwdRefIdeal
public import proofs.«01_k».proof.Proof.Gen.WeightGradIdeal.Value
public import proofs.«01_k».proof.Proof.Gen.WeightGradRefIdeal.Run
public import proofs.«01_k».proof.Proof.Gen.WeightGrad
public import proofs.«01_k».proof.Proof.Gen.WeightGrad.Skeleton
public import proofs.«01_k».proof.Proof.Gen.WeightGrad.Launch
public import proofs.«01_k».proof.Proof.Gen.WeightGrad.Points
public import proofs.«01_k».proof.Proof.Gen.WeightGrad.Frame
public import proofs.«01_k».proof.Proof.Gen.WeightGradIdeal
public import proofs.«01_k».proof.Proof.Gen.WeightGradIdeal.Skeleton
public import proofs.«01_k».proof.Proof.Gen.WeightGradIdeal.Launch
public import proofs.«01_k».proof.Proof.Gen.WeightGradIdeal.Points
public import proofs.«01_k».proof.Proof.Gen.WeightGradIdeal.Frame
public import proofs.«01_k».proof.Proof.Gen.WeightGradRefIdeal
public import proofs.«01_k».proof.Proof.Gen.Pre_mlp_finite
public import proofs.«01_k».proof.Proof.Gen.Pre_in_proj_finite
public import proofs.«01_k».proof.Proof.Gen.Pre_mixer_finite
public import proofs.«01_k».proof.Proof.Gen.Pre_mix_fwd_finite
public import Idealize.ShloMosaic.Adequacy
public import Idealize.ShloMosaic.Init

@[expose] public section

noncomputable section

namespace Cert.Proof

open Idealize.ShloMosaic Idealize.SL.Sem Cert.MemKv

theorem claim : Cert.Claim := ⟨Cert.MemKv.Gen.facts, Cert.MemKvIdeal.Gen.facts, Cert.MemKvRefIdeal.Gen.facts, Cert.Mlp.Gen.facts, Cert.MlpIdeal.Gen.facts, Cert.MlpRefIdeal.Gen.facts,
  Cert.InProj.Gen.facts, Cert.InProjIdeal.Gen.facts, Cert.InProjRefIdeal.Gen.facts, Cert.Mixer.Gen.facts, Cert.MixerIdeal.Gen.facts, Cert.MixerRefIdeal.Gen.facts,
  Cert.MixFwd.Gen.facts, Cert.MixFwdIdeal.Gen.facts, Cert.MixFwdRefIdeal.Gen.facts,
  Cert.MemKvFwd.Gen.facts, Cert.MemKvFwdIdeal.Gen.facts, Cert.MemKvFwdRefIdeal.Gen.facts,
  Cert.PreNorm.Gen.facts, Cert.PreNormIdeal.Gen.facts, Cert.PreNormRefIdeal.Gen.facts,
  Cert.InProjFwd.Gen.facts, Cert.InProjFwdIdeal.Gen.facts, Cert.InProjFwdRefIdeal.Gen.facts,
  Cert.WeightGrad.Gen.facts, Cert.WeightGradIdeal.Gen.facts, Cert.WeightGradRefIdeal.Gen.facts,
  Cert.Pre_mlp_finite.Gen.facts, Cert.Pre_in_proj_finite.Gen.facts, Cert.Pre_mixer_finite.Gen.facts, Cert.Pre_mix_fwd_finite.Gen.facts,
  fun m g _ => Cert.MemKv.Gen.frame m g, fun m g _ => Cert.MemKvIdeal.Gen.frame m g, memkvRef_quiescent,
  fun m g _ => Cert.Mlp.Gen.frame m g, fun m g _ => Cert.MlpIdeal.Gen.frame m g, fun m g _ => Cert.MlpIdeal.Gen.frame m g,
  mlpRef_quiescent, fun m g _ => mlpRef_quiescent m g trivial,
  fun m g _ => Cert.InProj.Gen.frame m g, fun m g _ => Cert.InProjIdeal.Gen.frame m g, fun m g _ => Cert.InProjIdeal.Gen.frame m g,
  inProjRef_quiescent, fun m g _ => inProjRef_quiescent m g trivial,
  fun m g _ => Cert.Mixer.Gen.frame m g, fun m g _ => Cert.MixerIdeal.Gen.frame m g, fun m g _ => Cert.MixerIdeal.Gen.frame m g,
  mixerRef_quiescent, fun m g _ => mixerRef_quiescent m g trivial,
  fun m g _ => Cert.MixFwd.Gen.frame m g, fun m g _ => Cert.MixFwdIdeal.Gen.frame m g, fun m g _ => Cert.MixFwdIdeal.Gen.frame m g,
  mixFwdRef_quiescent, fun m g _ => mixFwdRef_quiescent m g trivial,
  fun m g _ => Cert.MemKvFwd.Gen.frame m g, fun m g _ => Cert.MemKvFwdIdeal.Gen.frame m g, memkvFwdRef_quiescent,
  fun m g _ => Cert.PreNorm.Gen.frame m g, fun m g _ => Cert.PreNormIdeal.Gen.frame m g, preNormRef_quiescent,
  fun m g _ => Cert.InProjFwd.Gen.frame m g, fun m g _ => Cert.InProjFwdIdeal.Gen.frame m g, inProjFwdRef_quiescent,
  fun m g _ => Cert.WeightGrad.Gen.frame m g, fun m g _ => Cert.WeightGradIdeal.Gen.frame m g, weightGradRef_quiescent,
  trivial, memkv_algebraic, trivial, mlp_algebraic, trivial, inProj_algebraic, trivial, mixer_algebraic,
  trivial, mixFwd_algebraic, trivial, memkvFwd_algebraic, trivial, preNorm_algebraic, trivial, inProjFwd_algebraic, trivial, weightGrad_algebraic⟩

end Cert.Proof

end
